-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6)
      ∧ r.2.mem ((c.tc : Thread Cert.Kernel26.nD Cert.Kernel26.τ).loc Cert.Kernel26.main_arg7) = m ((c.tc : Thread Cert.Kernel26.nD Cert.Kernel26.τ).loc Cert.Kernel26.main_arg7))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
      ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_v132) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  IdealRules.named_const.Statement Cert.Kernel23Ideal.κ "mask" .f32 0xF149F2CA#32 ⊥

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v61) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v12) = v0 c
          ∧ r.2.mem ((c.tc : Thread Cert.Reference24Ideal.nD Cert.Reference24Ideal.τ).loc Cert.Reference24Ideal.main_v14) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v30) = v0 c
          ∧ r.2.mem ((c.tc : Thread Cert.Reference25Ideal.nD Cert.Reference25Ideal.τ).loc Cert.Reference25Ideal.main_v31) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)
      ∧ m' ((c.tc : Thread Cert.Reference26Ideal.nD Cert.Reference26Ideal.τ).loc Cert.Reference26Ideal.main_arg7) = m ((c.tc : Thread Cert.Kernel26Ideal.nD Cert.Kernel26Ideal.τ).loc Cert.Kernel26Ideal.main_arg7)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)) (v4 : (c : Dev Cert.Kernel26Ideal.nD) → Buf (Elt Ideal) ((c.tc : Thread Cert.Kernel26Ideal.nD Cert.Kernel26Ideal.τ).loc Cert.Kernel26Ideal.main_v0_4)) (v5 : (c : Dev Cert.Kernel26Ideal.nD) → Buf (Elt Ideal) ((c.tc : Thread Cert.Kernel26Ideal.nD Cert.Kernel26Ideal.τ).loc Cert.Kernel26Ideal.main_v0_5)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_v0_4) = v4 c
          ∧ r.2.mem ((c.tc : Thread Cert.Kernel26Ideal.nD Cert.Kernel26Ideal.τ).loc Cert.Kernel26Ideal.main_v0_5) = v5 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
          ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v48) = v0 c
          ∧ r.2.mem ((c.tc : Thread Cert.Reference26Ideal.nD Cert.Reference26Ideal.τ).loc Cert.Reference26Ideal.main_v49) = v1 c
          ∧ r.2.mem ((c.tc : Thread Cert.Reference26Ideal.nD Cert.Reference26Ideal.τ).loc Cert.Reference26Ideal.main_v50) = v2 c
          ∧ r.2.mem ((c.tc : Thread Cert.Reference26Ideal.nD Cert.Reference26Ideal.τ).loc Cert.Reference26Ideal.main_v43) = v3 c
          ∧ r.2.mem ((c.tc : Thread Cert.Reference26Ideal.nD Cert.Reference26Ideal.τ).loc Cert.Reference26Ideal.main_v45) = v4 c
          ∧ r.2.mem ((c.tc : Thread Cert.Reference26Ideal.nD Cert.Reference26Ideal.τ).loc Cert.Reference26Ideal.main_v47) = v5 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6)
          ∧ r.2.mem ((c.tc : Thread Cert.Reference26Ideal.nD Cert.Reference26Ideal.τ).loc Cert.Reference26Ideal.main_arg7) = m' ((c.tc : Thread Cert.Reference26Ideal.nD Cert.Reference26Ideal.τ).loc Cert.Reference26Ideal.main_arg7))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v14) = v0 c
          ∧ r.2.mem ((c.tc : Thread Cert.Reference27Ideal.nD Cert.Reference27Ideal.τ).loc Cert.Reference27Ideal.main_v15) = v1 c
          ∧ r.2.mem ((c.tc : Thread Cert.Reference27Ideal.nD Cert.Reference27Ideal.τ).loc Cert.Reference27Ideal.main_v16) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v21) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v34) = v0 c
          ∧ r.2.mem ((c.tc : Thread Cert.Reference29Ideal.nD Cert.Reference29Ideal.τ).loc Cert.Reference29Ideal.main_v37) = v1 c
          ∧ r.2.mem ((c.tc : Thread Cert.Reference29Ideal.nD Cert.Reference29Ideal.τ).loc Cert.Reference29Ideal.main_v40) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite_scores.lean ====
abbrev S8192x2048 : Shape := ⟨2, ![8192, 2048]⟩
abbrev S8704x2048 : Shape := ⟨2, ![8704, 2048]⟩
abbrev S16x64x576 : Shape := ⟨3, ![16, 64, 576]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S8704x2048 : S_.BroadcastsInDim S8704x2048 (![] : Fin 0 → Fin S8704x2048.rank)
  bcast_S_S16x64x576 : S_.BroadcastsInDim S16x64x576 (![] : Fin 0 → Fin S16x64x576.rank)

variable [Facts]

def fn {F : FTy → Type} [FloatOps F] (main_arg0 : FVec F S8192x2048 .bf16) (main_arg1 : FVec F S8704x2048 .bf16) (main_arg2 : FVec F S8704x2048 .bf16) (main_arg3 : FVec F S16x64x576 .f32) (main_arg4 : FVec F S8192x2048 .bf16) : IVec S8192x2048 1 × IVec S8704x2048 1 × IVec S16x64x576 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8704x2048 .f32 := (extf .f32 · bitsLt_bf16_f32) main_arg1
  let main_v5 : FVec F S8704x2048 .f32 := Host.absf main_v4
  let main_cst_0 : FVec F S_ .f32 := constant S_ .f32 0x7F800000#32
  let main_v6 : FVec F S8704x2048 .f32 := broadcastInDim S8704x2048 ![] bcast_S_S8704x2048 main_cst_0
  let main_v7 : IVec S8704x2048 1 := cmpf .olt main_v5 main_v6
  let main_v8 : FVec F S16x64x576 .f32 := Host.absf main_arg3
  let main_cst_1 : FVec F S_ .f32 := constant S_ .f32 0x7F800000#32
  let main_v9 : FVec F S16x64x576 .f32 := broadcastInDim S16x64x576 ![] bcast_S_S16x64x576 main_cst_1
  let main_v10 : IVec S16x64x576 1 := cmpf .olt main_v8 main_v9
  (main_v3, main_v7, main_v10)
-- ==== Kernel.lean ====
abbrev S8192x2048 : Shape := ⟨2, ![8192, 2048]⟩
abbrev S8704x2048 : Shape := ⟨2, ![8704, 2048]⟩
abbrev S16x64x576 : Shape := ⟨3, ![16, 64, 576]⟩
abbrev S1024x128 : Shape := ⟨2, ![1024, 128]⟩
abbrev S8704x128 : Shape := ⟨2, ![8704, 128]⟩
abbrev S1x64x576 : Shape := ⟨3, ![1, 64, 576]⟩
abbrev S576x128 : Shape := ⟨2, ![576, 128]⟩
abbrev S1x576x128 : Shape := ⟨3, ![1, 576, 128]⟩
abbrev S16x576x128 : Shape := ⟨3, ![16, 576, 128]⟩
abbrev S16x64x128 : Shape := ⟨3, ![16, 64, 128]⟩
abbrev S64x576 : Shape := ⟨2, ![64, 576]⟩
abbrev S16x64 : Shape := ⟨2, ![16, 64]⟩
abbrev S16x64x1 : Shape := ⟨3, ![16, 64, 1]⟩
abbrev S1536x128 : Shape := ⟨2, ![1536, 128]⟩
abbrev S960x128 : Shape := ⟨2, ![960, 128]⟩
abbrev S64x128 : Shape := ⟨2, ![64, 128]⟩
abbrev S896x128 : Shape := ⟨2, ![896, 128]⟩
abbrev S128x128 : Shape := ⟨2, ![128, 128]⟩
abbrev S832x128 : Shape := ⟨2, ![832, 128]⟩
abbrev S192x128 : Shape := ⟨2, ![192, 128]⟩
abbrev S768x128 : Shape := ⟨2, ![768, 128]⟩
abbrev S256x128 : Shape := ⟨2, ![256, 128]⟩
abbrev S704x128 : Shape := ⟨2, ![704, 128]⟩
abbrev S320x128 : Shape := ⟨2, ![320, 128]⟩
abbrev S640x128 : Shape := ⟨2, ![640, 128]⟩
abbrev S384x128 : Shape := ⟨2, ![384, 128]⟩
abbrev S448x128 : Shape := ⟨2, ![448, 128]⟩
abbrev S512x128 : Shape := ⟨2, ![512, 128]⟩

abbrev nBuf : Space → Nat
  | .hbm => 9
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8704x2048, .bf16⟩
  | .hbm, ⟨2, _⟩ => ⟨S8704x2048, .bf16⟩
  | .hbm, ⟨3, _⟩ => ⟨S16x64x576, .f32⟩
  | .hbm, ⟨4, _⟩ => ⟨S8192x2048, .bf16⟩
  | .hbm, ⟨5, _⟩ => ⟨S8192x2048, .f32⟩
  | .hbm, ⟨6, _⟩ => ⟨S8704x2048, .f32⟩
  | .hbm, ⟨7, _⟩ => ⟨S8704x2048, .f32⟩
  | .hbm, ⟨8, _⟩ => ⟨S16x64x576, .f32⟩
  | .local _ .vmem, ⟨0, _⟩ => ⟨S1024x128, .bf16⟩
  | .local _ .vmem, ⟨1, _⟩ => ⟨S1024x128, .bf16⟩
  | .local _ .vmem, ⟨2, _⟩ => ⟨S8704x128, .bf16⟩
  | .local _ .vmem, ⟨3, _⟩ => ⟨S8704x128, .bf16⟩
  | .local _ .vmem, ⟨4, _⟩ => ⟨S8704x128, .bf16⟩
  | .local _ .vmem, ⟨5, _⟩ => ⟨S8704x128, .bf16⟩
  | .local _ .vmem, ⟨6, _⟩ => ⟨S1x64x576, .f32⟩
  | .local _ .vmem, ⟨7, _⟩ => ⟨S1x64x576, .f32⟩
  | .local _ .vmem, ⟨8, _⟩ => ⟨S1024x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S8704x128, .f32⟩
  | .local _ .vmem, ⟨13, _⟩ => ⟨S8704x128, .f32⟩
  | .local _ .vmem, ⟨14, _⟩ => ⟨S8704x128, .f32⟩
  | .local _ .vmem, ⟨15, _⟩ => ⟨S8704x128, .f32⟩
  | .local _ .vmem, ⟨16, _⟩ => ⟨S1x64x576, .f32⟩
  | .local _ .vmem, ⟨17, _⟩ => ⟨S1x64x576, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c16_i32 : BitVec 32 := 16#32
  let v3 : BitVec 32 := Scalar.muli arg1 c16_i32
  let c0_i32_1 : BitVec 32 := 0#32
  let v4 : BitVec 32 := Scalar.addi v3 c0_i32_1
  let c64_i32 : BitVec 32 := 64#32
  let v5 : BitVec 32 := Scalar.muli v4 c64_i32
  v5
def k0_mult2 (i : grid0.Coords) : BitVec 32 :=
  let arg1 : BitVec 32 := BitVec.ofNat 32 (i 1).val
  let c16_i32 : BitVec 32 := 16#32
  let v3 : BitVec 32 := Scalar.muli arg1 c16_i32
  let c1_i32 : BitVec 32 := 1#32
  let v7 : BitVec 32 := Scalar.addi v3 c1_i32
  let c64_i32_2 : BitVec 32 := 64#32
  let v8 : BitVec 32 := Scalar.muli v7 c64_i32_2
  v8
def k0_mult3 (i : grid0.Coords) : BitVec 32 :=
  let arg1 : BitVec 32 := BitVec.ofNat 32 (i 1).val
  let c16_i32 : BitVec 32 := 16#32
  let v3 : BitVec 32 := Scalar.muli arg1 c16_i32
  let c2_i32 : BitVec 32 := 2#32
  let v10 : BitVec 32 := Scalar.addi v3 c2_i32
  let c64_i32_3 : BitVec 32 := 64#32
  let v11 : BitVec 32 := Scalar.muli v10 c64_i32_3
  v11
def k0_mult4 (i : grid0.Coords) : BitVec 32 :=
  let arg1 : BitVec 32 := BitVec.ofNat 32 (i 1).val
  let c16_i32 : BitVec 32 := 16#32
  let v3 : BitVec 32 := Scalar.muli arg1 c16_i32
  let c3_i32 : BitVec 32 := 3#32
  let v13 : BitVec 32 := Scalar.addi v3 c3_i32
  let c64_i32_4 : BitVec 32 := 64#32
  let v14 : BitVec 32 := Scalar.muli v13 c64_i32_4
  v14
def k0_mult5 (i : grid0.Coords) : BitVec 32 :=
  let arg1 : BitVec 32 := BitVec.ofNat 32 (i 1).val
  let c16_i32 : BitVec 32 := 16#32
  let v3 : BitVec 32 := Scalar.muli arg1 c16_i32
  let c4_i32 : BitVec 32 := 4#32
  let v16 : BitVec 32 := Scalar.addi v3 c4_i32
  let c64_i32_5 : BitVec 32 := 64#32
  let v17 : BitVec 32 := Scalar.muli v16 c64_i32_5
  v17
def k0_mult6 (i : grid0.Coords) : BitVec 32 :=
  let arg1 : BitVec 32 := BitVec.ofNat 32 (i 1).val
  let c16_i32 : BitVec 32 := 16#32
  let v3 : BitVec 32 := Scalar.muli arg1 c16_i32
  let c5_i32 : BitVec 32 := 5#32
  let v19 : BitVec 32 := Scalar.addi v3 c5_i32
  let c64_i32_6 : BitVec 32 := 64#32
  let v20 : BitVec 32 := Scalar.muli v19 c64_i32_6
  v20
def k0_mult7 (i : grid0.Coords) : BitVec 32 :=
  let arg1 : BitVec 32 := BitVec.ofNat 32 (i 1).val
  let c16_i32 : BitVec 32 := 16#32
  let v3 : BitVec 32 := Scalar.muli arg1 c16_i32
  let c6_i32 : BitVec 32 := 6#32
  let v22 : BitVec 32 := Scalar.addi v3 c6_i32
  let c64_i32_7 : BitVec 32 := 64#32
  let v23 : BitVec 32 := Scalar.muli v22 c64_i32_7
  v23
def k0_mult8 (i : grid0.Coords) : BitVec 32 :=
  let arg1 : BitVec 32 := BitVec.ofNat 32 (i 1).val
  let c16_i32 : BitVec 32 := 16#32
  let v3 : BitVec 32 := Scalar.muli arg1 c16_i32
  let c7_i32 : BitVec 32 := 7#32
  let v25 : BitVec 32 := Scalar.addi v3 c7_i32
  let c64_i32_8 : BitVec 32 := 64#32
  let v26 : BitVec 32 := Scalar.muli v25 c64_i32_8
  v26
def k0_mult9 (i : grid0.Coords) : BitVec 32 :=
  let arg1 : BitVec 32 := BitVec.ofNat 32 (i 1).val
  let c16_i32 : BitVec 32 := 16#32
  let v3 : BitVec 32 := Scalar.muli arg1 c16_i32
  let c8_i32 : BitVec 32 := 8#32
  let v28 : BitVec 32 := Scalar.addi v3 c8_i32
  let c64_i32_9 : BitVec 32 := 64#32
  let v29 : BitVec 32 := Scalar.muli v28 c64_i32_9
  v29
def k0_mult10 (i : grid0.Coords) : BitVec 32 :=
  let arg1 : BitVec 32 := BitVec.ofNat 32 (i 1).val
  let c16_i32 : BitVec 32 := 16#32
  let v3 : BitVec 32 := Scalar.muli arg1 c16_i32
  let c9_i32 : BitVec 32 := 9#32
  let v31 : BitVec 32 := Scalar.addi v3 c9_i32
  let c64_i32_10 : BitVec 32 := 64#32
  let v32 : BitVec 32 := Scalar.muli v31 c64_i32_10
  v32
def k0_mult11 (i : grid0.Coords) : BitVec 32 :=
  let arg1 : BitVec 32 := BitVec.ofNat 32 (i 1).val
  let c16_i32 : BitVec 32 := 16#32
  let v3 : BitVec 32 := Scalar.muli arg1 c16_i32
  let c10_i32 : BitVec 32 := 10#32
  let v34 : BitVec 32 := Scalar.addi v3 c10_i32
  let c64_i32_11 : BitVec 32 := 64#32
  let v35 : BitVec 32 := Scalar.muli v34 c64_i32_11
  v35
def k0_mult12 (i : grid0.Coords) : BitVec 32 :=
  let arg1 : BitVec 32 := BitVec.ofNat 32 (i 1).val
  let c16_i32 : BitVec 32 := 16#32
  let v3 : BitVec 32 := Scalar.muli arg1 c16_i32
  let c11_i32 : BitVec 32 := 11#32
  let v37 : BitVec 32 := Scalar.addi v3 c11_i32
  let c64_i32_12 : BitVec 32 := 64#32
  let v38 : BitVec 32 := Scalar.muli v37 c64_i32_12
  v38
def k0_mult13 (i : grid0.Coords) : BitVec 32 :=
  let arg1 : BitVec 32 := BitVec.ofNat 32 (i 1).val
  let c16_i32 : BitVec 32 := 16#32
  let v3 : BitVec 32 := Scalar.muli arg1 c16_i32
  let c12_i32 : BitVec 32 := 12#32
  let v40 : BitVec 32 := Scalar.addi v3 c12_i32
  let c64_i32_13 : BitVec 32 := 64#32
  let v41 : BitVec 32 := Scalar.muli v40 c64_i32_13
  v41
def k0_mult14 (i : grid0.Coords) : BitVec 32 :=
  let arg1 : BitVec 32 := BitVec.ofNat 32 (i 1).val
  let c16_i32 : BitVec 32 := 16#32
  let v3 : BitVec 32 := Scalar.muli arg1 c16_i32
  let c13_i32 : BitVec 32 := 13#32
  let v43 : BitVec 32 := Scalar.addi v3 c13_i32
  let c64_i32_14 : BitVec 32 := 64#32
  let v44 : BitVec 32 := Scalar.muli v43 c64_i32_14
  v44
def k0_mult15 (i : grid0.Coords) : BitVec 32 :=
  let arg1 : BitVec 32 := BitVec.ofNat 32 (i 1).val
  let c16_i32 : BitVec 32 := 16#32
  let v3 : BitVec 32 := Scalar.muli arg1 c16_i32
  let c14_i32 : BitVec 32 := 14#32
  let v46 : BitVec 32 := Scalar.addi v3 c14_i32
  let c64_i32_15 : BitVec 32 := 64#32
  let v47 : BitVec 32 := Scalar.muli v46 c64_i32_15
  v47
def k0_mult16 (i : grid0.Coords) : BitVec 32 :=
  let arg1 : BitVec 32 := BitVec.ofNat 32 (i 1).val
  let c16_i32 : BitVec 32 := 16#32
  let v3 : BitVec 32 := Scalar.muli arg1 c16_i32
  let c15_i32 : BitVec 32 := 15#32
  let v49 : BitVec 32 := Scalar.addi v3 c15_i32
  let c64_i32_16 : BitVec 32 := 64#32
  let v50 : BitVec 32 := Scalar.muli v49 c64_i32_16
  v50
def k0_off1 (i : grid0.Coords) (c0_i32_1 : BitVec 32) : Fin 2 → Nat :=
  let arg1 : BitVec 32 := BitVec.ofNat 32 (i 1).val
  let c16_i32 : BitVec 32 := 16#32
  let v3 : BitVec 32 := Scalar.muli arg1 c16_i32
  let v4 : BitVec 32 := Scalar.addi v3 c0_i32_1
  let c64_i32 : BitVec 32 := 64#32
  let v5 : BitVec 32 := Scalar.muli v4 c64_i32
  let v6 : BitVec 32 := v5
  let v52 : Index := Scalar.indexCast v6
  let c0 : Index := 0#32
  ![v52.toNat, 0]
def k0_mult17 (i : grid0.Coords) : BitVec 32 :=
  let arg1 : BitVec 32 := BitVec.ofNat 32 (i 1).val
  let c16_i32 : BitVec 32 := 16#32
  let v3 : BitVec 32 := Scalar.muli arg1 c16_i32
  let c64_i32_73 : BitVec 32 := 64#32
  let v202 : BitVec 32 := Scalar.muli v3 c64_i32_73
  v202
def k0_off2 (i : grid0.Coords) : Fin 2 → Nat :=
  let arg1 : BitVec 32 := BitVec.ofNat 32 (i 1).val
  let c16_i32 : BitVec 32 := 16#32
  let v3 : BitVec 32 := Scalar.muli arg1 c16_i32
  let c64_i32_73 : BitVec 32 := 64#32
  let v202 : BitVec 32 := Scalar.muli v3 c64_i32_73
  let v203 : BitVec 32 := v202
  let v204 : Index := Scalar.indexCast v203
  let c0_74 : Index := 0#32
  ![v204.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8704x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8704x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S8704x2048 : Shape := ⟨2, ![8704, 2048]⟩
abbrev S16x64x576 : Shape := ⟨3, ![16, 64, 576]⟩
abbrev S128x64x16x128 : Shape := ⟨4, ![128, 64, 16, 128]⟩
abbrev S136x64x16x128 : Shape := ⟨4, ![136, 64, 16, 128]⟩
abbrev S128x576x16x128 : Shape := ⟨4, ![128, 576, 16, 128]⟩
abbrev S128x16x64x576 : Shape := ⟨4, ![128, 16, 64, 576]⟩
abbrev S_ : Shape := ⟨0, ![]⟩
abbrev S1x16x64x576 : Shape := ⟨4, ![1, 16, 64, 576]⟩
abbrev S128 : Shape := ⟨1, ![128]⟩
abbrev S128x1 : Shape := ⟨2, ![128, 1]⟩
abbrev S576 : Shape := ⟨1, ![576]⟩
abbrev S1x576 : Shape := ⟨2, ![1, 576]⟩
abbrev S128x576 : Shape := ⟨2, ![128, 576]⟩
abbrev S128x1x1x576 : Shape := ⟨4, ![128, 1, 1, 576]⟩
abbrev S128x16x64 : Shape := ⟨3, ![128, 16, 64]⟩
abbrev S128x16x64x1 : Shape := ⟨4, ![128, 16, 64, 1]⟩
abbrev S128x16x128x64 : Shape := ⟨4, ![128, 16, 128, 64]⟩
abbrev S128x16x128x576 : Shape := ⟨4, ![128, 16, 128, 576]⟩
abbrev S128x16x576x128 : Shape := ⟨4, ![128, 16, 576, 128]⟩
abbrev S128x16x64x128 : Shape := ⟨4, ![128, 16, 64, 128]⟩

abbrev nBuf : Space → Nat
  | .hbm => 211
  | .vmem => 0
  | .smem => 0
  | _ => 0

abbrev hbmTy0_0 (i : Nat) : BufTy := match i % 128 with
  | 0 => ⟨S8192x2048, .bf16⟩
  | 1 => ⟨S8704x2048, .bf16⟩
  | 2 => ⟨S8704x2048, .bf16⟩
  | 3 => ⟨S16x64x576, .f32⟩
  | 4 => ⟨S8192x2048, .bf16⟩
  | 5 => ⟨S8192x2048, .f32⟩
  | 6 => ⟨S8704x2048, .f32⟩
  | 7 => ⟨S8704x2048, .f32⟩
  | 8 => ⟨S128x64x16x128, .f32⟩
  | 9 => ⟨S136x64x16x128, .f32⟩
  | 10 => ⟨S128x64x16x128, .f32⟩
  | 11 => ⟨S128x64x16x128, .f32⟩
  | 12 => ⟨S128x64x16x128, .f32⟩
  | 13 => ⟨S128x64x16x128, .f32⟩
  | 14 => ⟨S128x64x16x128, .f32⟩
  | 15 => ⟨S128x64x16x128, .f32⟩
  | 16 => ⟨S128x64x16x128, .f32⟩
  | 17 => ⟨S128x64x16x128, .f32⟩
  | 18 => ⟨S128x64x16x128, .f32⟩
  | 19 => ⟨S128x576x16x128, .f32⟩
  | 20 => ⟨S136x64x16x128, .f32⟩
  | 21 => ⟨S128x64x16x128, .f32⟩
  | 22 => ⟨S128x64x16x128, .f32⟩
  | 23 => ⟨S128x64x16x128, .f32⟩
  | 24 => ⟨S128x64x16x128, .f32⟩
  | 25 => ⟨S128x64x16x128, .f32⟩
  | 26 => ⟨S128x64x16x128, .f32⟩
  | 27 => ⟨S128x64x16x128, .f32⟩
  | 28 => ⟨S128x64x16x128, .f32⟩
  | 29 => ⟨S128x64x16x128, .f32⟩
  | 30 => ⟨S128x576x16x128, .f32⟩
  | 31 => ⟨S128x16x64x576, .f32⟩
  | 32 => ⟨S_, .f32⟩
  | 33 => ⟨S128x16x64x576, .f32⟩
  | 34 => ⟨S128x16x64x576, .f32⟩
  | 35 => ⟨S1x16x64x576, .f32⟩
  | 36 => ⟨S128x16x64x576, .f32⟩
  | 37 => ⟨S128x16x64x576, .f32⟩
  | 38 => ⟨S128, .i32⟩
  | 39 => ⟨S128x1, .i32⟩
  | 40 => ⟨S_, .i32⟩
  | 41 => ⟨S128x1, .i32⟩
  | 42 => ⟨S128x1, .i32⟩
  | 43 => ⟨S_, .i32⟩
  | 44 => ⟨S128x1, .i32⟩
  | 45 => ⟨S128x1, .i32⟩
  | 46 => ⟨S576, .i32⟩
  | 47 => ⟨S1x576, .i32⟩
  | 48 => ⟨S128x576, .i32⟩
  | 49 => ⟨S128x576, .i32⟩
  | 50 => ⟨S128x576, .i32⟩
  | 51 => ⟨S_, .i32⟩
  | 52 => ⟨S128x576, .i32⟩
  | 53 => ⟨S128x576, .i1⟩
  | 54 => ⟨S128x1x1x576, .i1⟩
  | 55 => ⟨S_, .f32⟩
  | 56 => ⟨S_, .f32⟩
  | 57 => ⟨S128x16x64x576, .i1⟩
  | 58 => ⟨S128x16x64x576, .f32⟩
  | 59 => ⟨S128x16x64x576, .f32⟩
  | 60 => ⟨S_, .f32⟩
  | 61 => ⟨S128x16x64x576, .f32⟩
  | 62 => ⟨S_, .f32⟩
  | 63 => ⟨S128x16x64, .f32⟩
  | 64 => ⟨S128x16x64x1, .f32⟩
  | 65 => ⟨S128x16x64x576, .f32⟩
  | 66 => ⟨S128x16x64x576, .i1⟩
  | 67 => ⟨S128x16x64x576, .f32⟩
  | 68 => ⟨S_, .f32⟩
  | 69 => ⟨S128x16x64, .f32⟩
  | 70 => ⟨S_, .f32⟩
  | 71 => ⟨S128x16x64, .f32⟩
  | 72 => ⟨S128x16x64, .f32⟩
  | 73 => ⟨S_, .f32⟩
  | 74 => ⟨S128x16x64, .f32⟩
  | 75 => ⟨S128x16x64, .i1⟩
  | 76 => ⟨S_, .f32⟩
  | 77 => ⟨S128x16x64, .f32⟩
  | 78 => ⟨S128x16x64, .i1⟩
  | 79 => ⟨S_, .f32⟩
  | 80 => ⟨S128x16x64, .f32⟩
  | 81 => ⟨S_, .f32⟩
  | 82 => ⟨S128x16x64, .f32⟩
  | 83 => ⟨S_, .f32⟩
  | 84 => ⟨S128x16x64, .f32⟩
  | 85 => ⟨S128x16x64, .f32⟩
  | 86 => ⟨S128x16x64, .f32⟩
  | 87 => ⟨S128x16x64x1, .f32⟩
  | 88 => ⟨S128x16x64x576, .f32⟩
  | 89 => ⟨S128x16x64x576, .f32⟩
  | 90 => ⟨S128x16x64x576, .f32⟩
  | 91 => ⟨S_, .f32⟩
  | 92 => ⟨S128x16x64, .f32⟩
  | 93 => ⟨S128x16x64x1, .f32⟩
  | 94 => ⟨S128x16x64x576, .f32⟩
  | 95 => ⟨S128x16x64x576, .f32⟩
  | 96 => ⟨S128x16x64x1, .f32⟩
  | 97 => ⟨S_, .f32⟩
  | 98 => ⟨S128x16x64x1, .f32⟩
  | 99 => ⟨S128x16x64x1, .f32⟩
  | 100 => ⟨S128x16x128x64, .f32⟩
  | 101 => ⟨S128x64x16x128, .f32⟩
  | 102 => ⟨S8192x2048, .f32⟩
  | 103 => ⟨S8192x2048, .f32⟩
  | 104 => ⟨S128x64x16x128, .f32⟩
  | 105 => ⟨S128x16x128x64, .f32⟩
  | 106 => ⟨S128x16x64x576, .f32⟩
  | 107 => ⟨S128x16x128x576, .f32⟩
  | 108 => ⟨S128x576x16x128, .f32⟩
  | 109 => ⟨S128x16x64x576, .f32⟩
  | 110 => ⟨S128x16x64x576, .f32⟩
  | 111 => ⟨S128x16x64x576, .f32⟩
  | 112 => ⟨S_, .f32⟩
  | 113 => ⟨S128x16x64, .f32⟩
  | 114 => ⟨S128x16x64x1, .f32⟩
  | 115 => ⟨S128x16x64x1, .f32⟩
  | 116 => ⟨S128x16x64x576, .f32⟩
  | 117 => ⟨S128x16x64x576, .f32⟩
  | 118 => ⟨S_, .f32⟩
  | 119 => ⟨S128x16x64, .f32⟩
  | 120 => ⟨S128x16x64x576, .f32⟩
  | 121 => ⟨S128x16x64x576, .f32⟩
  | 122 => ⟨S128x16x64x576, .f32⟩
  | 123 => ⟨S_, .f32⟩
  | 124 => ⟨S128x16x64x576, .f32⟩
  | 125 => ⟨S128x16x64x576, .f32⟩
  | 126 => ⟨S_, .f32⟩
  | 127 => ⟨S16x64x576, .f32⟩
  | _ => ⟨S8192x2048, .bf16⟩

abbrev hbmTy0_1 (i : Nat) : BufTy := match i % 128 with
  | 0 => ⟨S1x16x64x576, .f32⟩
  | 1 => ⟨S_, .f32⟩
  | 2 => ⟨S16x64x576, .f32⟩
  | 3 => ⟨S_, .f32⟩
  | 4 => ⟨S128x16x64x576, .f32⟩
  | 5 => ⟨S128x16x64x576, .f32⟩
  | 6 => ⟨S128x16x576x128, .f32⟩
  | 7 => ⟨S128x576x16x128, .f32⟩
  | 8 => ⟨S128x16x64x128, .f32⟩
  | 9 => ⟨S128x64x16x128, .f32⟩
  | 10 => ⟨S128x64x16x128, .f32⟩
  | 11 => ⟨S128x64x16x128, .f32⟩
  | 12 => ⟨S128x64x16x128, .f32⟩
  | 13 => ⟨S128x64x16x128, .f32⟩
  | 14 => ⟨S128x64x16x128, .f32⟩
  | 15 => ⟨S128x64x16x128, .f32⟩
  | 16 => ⟨S128x64x16x128, .f32⟩
  | 17 => ⟨S128x64x16x128, .f32⟩
  | 18 => ⟨S128x64x16x128, .f32⟩
  | 19 => ⟨S_, .f32⟩
  | 20 => ⟨S136x64x16x128, .f32⟩
  | 21 => ⟨S_, .f32⟩
  | 22 => ⟨S136x64x16x128, .f32⟩
  | 23 => ⟨S136x64x16x128, .f32⟩
  | 24 => ⟨S_, .f32⟩
  | 25 => ⟨S136x64x16x128, .f32⟩
  | 26 => ⟨S136x64x16x128, .f32⟩
  | 27 => ⟨S_, .f32⟩
  | 28 => ⟨S136x64x16x128, .f32⟩
  | 29 => ⟨S136x64x16x128, .f32⟩
  | 30 => ⟨S_, .f32⟩
  | 31 => ⟨S136x64x16x128, .f32⟩
  | 32 => ⟨S136x64x16x128, .f32⟩
  | 33 => ⟨S_, .f32⟩
  | 34 => ⟨S136x64x16x128, .f32⟩
  | 35 => ⟨S136x64x16x128, .f32⟩
  | 36 => ⟨S_, .f32⟩
  | 37 => ⟨S136x64x16x128, .f32⟩
  | 38 => ⟨S136x64x16x128, .f32⟩
  | 39 => ⟨S_, .f32⟩
  | 40 => ⟨S136x64x16x128, .f32⟩
  | 41 => ⟨S136x64x16x128, .f32⟩
  | 42 => ⟨S_, .f32⟩
  | 43 => ⟨S136x64x16x128, .f32⟩
  | 44 => ⟨S136x64x16x128, .f32⟩
  | 45 => ⟨S8704x2048, .f32⟩
  | 46 => ⟨S128x64x16x128, .f32⟩
  | 47 => ⟨S128x64x16x128, .f32⟩
  | 48 => ⟨S128x64x16x128, .f32⟩
  | 49 => ⟨S128x64x16x128, .f32⟩
  | 50 => ⟨S128x64x16x128, .f32⟩
  | 51 => ⟨S128x64x16x128, .f32⟩
  | 52 => ⟨S128x64x16x128, .f32⟩
  | 53 => ⟨S128x64x16x128, .f32⟩
  | 54 => ⟨S128x64x16x128, .f32⟩
  | 55 => ⟨S_, .f32⟩
  | 56 => ⟨S136x64x16x128, .f32⟩
  | 57 => ⟨S_, .f32⟩
  | 58 => ⟨S136x64x16x128, .f32⟩
  | 59 => ⟨S136x64x16x128, .f32⟩
  | 60 => ⟨S_, .f32⟩
  | 61 => ⟨S136x64x16x128, .f32⟩
  | 62 => ⟨S136x64x16x128, .f32⟩
  | 63 => ⟨S_, .f32⟩
  | 64 => ⟨S136x64x16x128, .f32⟩
  | 65 => ⟨S136x64x16x128, .f32⟩
  | 66 => ⟨S_, .f32⟩
  | 67 => ⟨S136x64x16x128, .f32⟩
  | 68 => ⟨S136x64x16x128, .f32⟩
  | 69 => ⟨S_, .f32⟩
  | 70 => ⟨S136x64x16x128, .f32⟩
  | 71 => ⟨S136x64x16x128, .f32⟩
  | 72 => ⟨S_, .f32⟩
  | 73 => ⟨S136x64x16x128, .f32⟩
  | 74 => ⟨S136x64x16x128, .f32⟩
  | 75 => ⟨S_, .f32⟩
  | 76 => ⟨S136x64x16x128, .f32⟩
  | 77 => ⟨S136x64x16x128, .f32⟩
  | 78 => ⟨S_, .f32⟩
  | 79 => ⟨S136x64x16x128, .f32⟩
  | 80 => ⟨S136x64x16x128, .f32⟩
  | 81 => ⟨S8704x2048, .f32⟩
  | 82 => ⟨S8192x2048, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c : Ref sig .tc := ⟨.hbm, 40, rfl⟩
abbrev main_v34 : Ref sig .tc := ⟨.hbm, 41, rfl⟩
abbrev main_v35 : Ref sig .tc := ⟨.hbm, 42, rfl⟩
abbrev main_c_0 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_c_1 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_2 : Ref sig .tc := ⟨.hbm, 55, rfl⟩
abbrev main_call0_v0 : Ref sig .tc := ⟨.hbm, 56, rfl⟩
abbrev main_v46_1 : Ref sig .tc := ⟨.hbm, 57, rfl⟩
abbrev main_call0_v2 : Ref sig .tc := ⟨.hbm, 58, rfl⟩
abbrev main_v46_0 : Ref sig .tc := ⟨.hbm, 59, rfl⟩
abbrev main_call0_cst : Ref sig .tc := ⟨.hbm, 60, rfl⟩
abbrev main_v46_2 : Ref sig .tc := ⟨.hbm, 61, rfl⟩
abbrev main_cst_3 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_4 : Ref sig .tc := ⟨.hbm, 68, rfl⟩
abbrev main_v52 : Ref sig .tc := ⟨.hbm, 69, rfl⟩
abbrev main_cst_5 : Ref sig .tc := ⟨.hbm, 70, rfl⟩
abbrev main_v53 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_12 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_13 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_14 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_call1_cst : Ref sig .tc := ⟨.hbm, 123, rfl⟩
abbrev main_call1_v0 : Ref sig .tc := ⟨.hbm, 124, rfl⟩
abbrev main_v96 : Ref sig .tc := ⟨.hbm, 125, rfl⟩
abbrev main_cst_15 : Ref sig .tc := ⟨.hbm, 126, rfl⟩
abbrev main_v97 : Ref sig .tc := ⟨.hbm, 127, rfl⟩
abbrev main_v98 : Ref sig .tc := ⟨.hbm, 128, rfl⟩
abbrev main_cst_16 : Ref sig .tc := ⟨.hbm, 129, rfl⟩
abbrev main_v99 : Ref sig .tc := ⟨.hbm, 130, rfl⟩
abbrev main_cst_17 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_18 : Ref sig .tc := ⟨.hbm, 147, rfl⟩
abbrev main_v115 : Ref sig .tc := ⟨.hbm, 148, rfl⟩
abbrev main_cst_19 : Ref sig .tc := ⟨.hbm, 149, rfl⟩
abbrev main_v116 : Ref sig .tc := ⟨.hbm, 150, rfl⟩
abbrev main_v117 : Ref sig .tc := ⟨.hbm, 151, rfl⟩
abbrev main_cst_20 : Ref sig .tc := ⟨.hbm, 152, rfl⟩
abbrev main_v118 : Ref sig .tc := ⟨.hbm, 153, rfl⟩
abbrev main_v119 : Ref sig .tc := ⟨.hbm, 154, rfl⟩
abbrev main_cst_21 : Ref sig .tc := ⟨.hbm, 155, rfl⟩
abbrev main_v120 : Ref sig .tc := ⟨.hbm, 156, rfl⟩
abbrev main_v121 : Ref sig .tc := ⟨.hbm, 157, rfl⟩
abbrev main_cst_22 : Ref sig .tc := ⟨.hbm, 158, rfl⟩
abbrev main_v122 : Ref sig .tc := ⟨.hbm, 159, rfl⟩
abbrev main_v123 : Ref sig .tc := ⟨.hbm, 160, rfl⟩
abbrev main_cst_23 : Ref sig .tc := ⟨.hbm, 161, rfl⟩
abbrev main_v124 : Ref sig .tc := ⟨.hbm, 162, rfl⟩
abbrev main_v125 : Ref sig .tc := ⟨.hbm, 163, rfl⟩
abbrev main_cst_24 : Ref sig .tc := ⟨.hbm, 164, rfl⟩
abbrev main_v126 : Ref sig .tc := ⟨.hbm, 165, rfl⟩
abbrev main_v127 : Ref sig .tc := ⟨.hbm, 166, rfl⟩
abbrev main_cst_25 : Ref sig .tc := ⟨.hbm, 167, rfl⟩
abbrev main_v128 : Ref sig .tc := ⟨.hbm, 168, rfl⟩
abbrev main_v129 : Ref sig .tc := ⟨.hbm, 169, rfl⟩
abbrev main_cst_26 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_27 : Ref sig .tc := ⟨.hbm, 183, rfl⟩
abbrev main_v142 : Ref sig .tc := ⟨.hbm, 184, rfl⟩
abbrev main_cst_28 : Ref sig .tc := ⟨.hbm, 185, rfl⟩
abbrev main_v143 : Ref sig .tc := ⟨.hbm, 186, rfl⟩
abbrev main_v144 : Ref sig .tc := ⟨.hbm, 187, rfl⟩
abbrev main_cst_29 : Ref sig .tc := ⟨.hbm, 188, rfl⟩
abbrev main_v145 : Ref sig .tc := ⟨.hbm, 189, rfl⟩
abbrev main_v146 : Ref sig .tc := ⟨.hbm, 190, rfl⟩
abbrev main_cst_30 : Ref sig .tc := ⟨.hbm, 191, rfl⟩
abbrev main_v147 : Ref sig .tc := ⟨.hbm, 192, rfl⟩
abbrev main_v148 : Ref sig .tc := ⟨.hbm, 193, rfl⟩
abbrev main_cst_31 : Ref sig .tc := ⟨.hbm, 194, rfl⟩
abbrev main_v149 : Ref sig .tc := ⟨.hbm, 195, rfl⟩
abbrev main_v150 : Ref sig .tc := ⟨.hbm, 196, rfl⟩
abbrev main_cst_32 : Ref sig .tc := ⟨.hbm, 197, rfl⟩
abbrev main_v151 : Ref sig .tc := ⟨.hbm, 198, rfl⟩
abbrev main_v152 : Ref sig .tc := ⟨.hbm, 199, rfl⟩
abbrev main_cst_33 : Ref sig .tc := ⟨.hbm, 200, rfl⟩
abbrev main_v153 : Ref sig .tc := ⟨.hbm, 201, rfl⟩
abbrev main_v154 : Ref sig .tc := ⟨.hbm, 202, rfl⟩
abbrev main_cst_34 : Ref sig .tc := ⟨.hbm, 203, rfl⟩
abbrev main_v155 : Ref sig .tc := ⟨.hbm, 204, rfl⟩
abbrev main_v156 : Ref sig .tc := ⟨.hbm, 205, rfl⟩
abbrev main_cst_35 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩

abbrev nD : Nat := 1
abbrev τ : Topo := Topo.v7x

variable {F : FTy → Type} [FloatOps F]
-- ==== Kernel2.lean ====
abbrev S8192x5632 : Shape := ⟨2, ![8192, 5632]⟩
abbrev S2048x5632 : Shape := ⟨2, ![2048, 5632]⟩
abbrev S8192x2048 : Shape := ⟨2, ![8192, 2048]⟩
abbrev S512x5632 : Shape := ⟨2, ![512, 5632]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x5632, .bf16⟩
  | .hbm, ⟨3, _⟩ => ⟨S2048x5632, .bf16⟩
  | .hbm, ⟨4, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S512x5632, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S512x5632, .bf16⟩
  | .local _ .vmem, ⟨7, _⟩ => ⟨S512x5632, .bf16⟩
  | .local _ .vmem, ⟨8, _⟩ => ⟨S512x512, .f32⟩
  | .local _ .vmem, ⟨9, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x5632 : Shape := ⟨2, ![8192, 5632]⟩
abbrev S2048x5632 : Shape := ⟨2, ![2048, 5632]⟩
abbrev S_ : Shape := ⟨0, ![]⟩
abbrev S8192x2048 : Shape := ⟨2, ![8192, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x5632, .bf16⟩
  | .hbm, ⟨3, _⟩ => ⟨S2048x5632, .bf16⟩
  | .hbm, ⟨4, _⟩ => ⟨S_, .f32⟩
  | .hbm, ⟨5, _⟩ => ⟨S8192x2048, .f32⟩
  | .hbm, ⟨6, _⟩ => ⟨S2048x5632, .f32⟩
  | .hbm, ⟨7, _⟩ => ⟨S8192x5632, .f32⟩
  | .hbm, ⟨8, _⟩ => ⟨S2048x5632, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x2048, .f32⟩
  | .hbm, ⟨13, _⟩ => ⟨S8192x2048, .f32⟩
  | .hbm, ⟨14, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel3.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | .hbm, ⟨8, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S5632x8192 : Shape := ⟨2, ![5632, 8192]⟩
abbrev S8192x2048 : Shape := ⟨2, ![8192, 2048]⟩
abbrev S5632x2048 : Shape := ⟨2, ![5632, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S5632x8192, .bf16⟩
  | .hbm, ⟨1, _⟩ => ⟨S8192x2048, .bf16⟩
  | .hbm, ⟨2, _⟩ => ⟨S5632x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S5632x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S5632x8192 : Shape := ⟨2, ![5632, 8192]⟩
abbrev S8192x2048 : Shape := ⟨2, ![8192, 2048]⟩
abbrev S_ : Shape := ⟨0, ![]⟩
abbrev S5632x2048 : Shape := ⟨2, ![5632, 2048]⟩
abbrev S8192x5632 : Shape := ⟨2, ![8192, 5632]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S5632x8192, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S5632x8192, .f32⟩
  | .hbm, ⟨5, _⟩ => ⟨S8192x5632, .f32⟩
  | .hbm, ⟨6, _⟩ => ⟨S8192x2048, .f32⟩
  | .hbm, ⟨7, _⟩ => ⟨S8192x2048, .f32⟩
  | .hbm, ⟨8, _⟩ => ⟨S2048x5632, .f32⟩
  | .hbm, ⟨9, _⟩ => ⟨S5632x2048, .f32⟩
  | _, _ => ⟨S5632x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x8192 : Shape := ⟨2, ![2048, 8192]⟩
abbrev S8192x5632 : Shape := ⟨2, ![8192, 5632]⟩
abbrev S2048x5632 : Shape := ⟨2, ![2048, 5632]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x5632, .bf16⟩
  | .hbm, ⟨2, _⟩ => ⟨S2048x5632, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x8192 : Shape := ⟨2, ![2048, 8192]⟩
abbrev S8192x5632 : Shape := ⟨2, ![8192, 5632]⟩
abbrev S_ : Shape := ⟨0, ![]⟩
abbrev S2048x5632 : Shape := ⟨2, ![2048, 5632]⟩
abbrev S8192x2048 : Shape := ⟨2, ![8192, 2048]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x5632, .bf16⟩
  | .hbm, ⟨2, _⟩ => ⟨S_, .f32⟩
  | .hbm, ⟨3, _⟩ => ⟨S2048x5632, .f32⟩
  | .hbm, ⟨4, _⟩ => ⟨S2048x8192, .f32⟩
  | .hbm, ⟨5, _⟩ => ⟨S8192x2048, .f32⟩
  | .hbm, ⟨6, _⟩ => ⟨S8192x5632, .f32⟩
  | .hbm, ⟨7, _⟩ => ⟨S8192x5632, .f32⟩
  | .hbm, ⟨8, _⟩ => ⟨S5632x2048, .f32⟩
  | .hbm, ⟨9, _⟩ => ⟨S2048x5632, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x2048, .f32⟩
  | .hbm, ⟨3, _⟩ => ⟨S2048x5632, .f32⟩
  | .hbm, ⟨4, _⟩ => ⟨S8192x5632, .f32⟩
  | .hbm, ⟨5, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x6144 : Shape := ⟨2, ![8192, 6144]⟩
abbrev S2048x6144 : Shape := ⟨2, ![2048, 6144]⟩
abbrev S8192x2048 : Shape := ⟨2, ![8192, 2048]⟩
abbrev S512x6144 : Shape := ⟨2, ![512, 6144]⟩
abbrev S1024x6144 : Shape := ⟨2, ![1024, 6144]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x2048, .f32⟩
  | .local _ .vmem, ⟨0, _⟩ => ⟨S512x6144, .bf16⟩
  | .local _ .vmem, ⟨1, _⟩ => ⟨S512x6144, .bf16⟩
  | .local _ .vmem, ⟨2, _⟩ => ⟨S1024x6144, .bf16⟩
  | .local _ .vmem, ⟨3, _⟩ => ⟨S1024x6144, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x6144 : Shape := ⟨2, ![8192, 6144]⟩
abbrev S2048x6144 : Shape := ⟨2, ![2048, 6144]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S_, .f32⟩
  | .hbm, ⟨3, _⟩ => ⟨S8192x2048, .f32⟩
  | .hbm, ⟨4, _⟩ => ⟨S2048x6144, .f32⟩
  | .hbm, ⟨5, _⟩ => ⟨S8192x6144, .f32⟩
  | .hbm, ⟨6, _⟩ => ⟨S8192x6144, .f32⟩
  | .hbm, ⟨7, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2048x8192 : Shape := ⟨2, ![2048, 8192]⟩
abbrev S8192x6144 : Shape := ⟨2, ![8192, 6144]⟩
abbrev S2048x6144 : Shape := ⟨2, ![2048, 6144]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x6144, .bf16⟩
  | .hbm, ⟨2, _⟩ => ⟨S2048x6144, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x8192 : Shape := ⟨2, ![2048, 8192]⟩
abbrev S8192x6144 : Shape := ⟨2, ![8192, 6144]⟩
abbrev S_ : Shape := ⟨0, ![]⟩
abbrev S2048x6144 : Shape := ⟨2, ![2048, 6144]⟩
abbrev S8192x2048 : Shape := ⟨2, ![8192, 2048]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x6144, .bf16⟩
  | .hbm, ⟨2, _⟩ => ⟨S_, .f32⟩
  | .hbm, ⟨3, _⟩ => ⟨S2048x6144, .f32⟩
  | .hbm, ⟨4, _⟩ => ⟨S2048x8192, .f32⟩
  | .hbm, ⟨5, _⟩ => ⟨S8192x2048, .f32⟩
  | .hbm, ⟨6, _⟩ => ⟨S8192x6144, .f32⟩
  | .hbm, ⟨7, _⟩ => ⟨S8192x6144, .f32⟩
  | .hbm, ⟨8, _⟩ => ⟨S6144x2048, .f32⟩
  | .hbm, ⟨9, _⟩ => ⟨S2048x6144, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x2048, .f32⟩
  | .hbm, ⟨3, _⟩ => ⟨S2048x6144, .f32⟩
  | .hbm, ⟨4, _⟩ => ⟨S8192x6144, .f32⟩
  | .hbm, ⟨5, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8192x12288 : Shape := ⟨2, ![8192, 12288]⟩
abbrev S2048x12288 : Shape := ⟨2, ![2048, 12288]⟩
abbrev S8192x2048 : Shape := ⟨2, ![8192, 2048]⟩
abbrev S512x6144 : Shape := ⟨2, ![512, 6144]⟩
abbrev S1024x6144 : Shape := ⟨2, ![1024, 6144]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x12288, .bf16⟩
  | .hbm, ⟨1, _⟩ => ⟨S2048x12288, .bf16⟩
  | .hbm, ⟨2, _⟩ => ⟨S8192x2048, .f32⟩
  | .local _ .vmem, ⟨0, _⟩ => ⟨S512x6144, .bf16⟩
  | .local _ .vmem, ⟨1, _⟩ => ⟨S512x6144, .bf16⟩
  | .local _ .vmem, ⟨2, _⟩ => ⟨S1024x6144, .bf16⟩
  | .local _ .vmem, ⟨3, _⟩ => ⟨S1024x6144, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x12288 : Shape := ⟨2, ![8192, 12288]⟩
abbrev S2048x12288 : Shape := ⟨2, ![2048, 12288]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S2048x12288, .bf16⟩
  | .hbm, ⟨2, _⟩ => ⟨S_, .f32⟩
  | .hbm, ⟨3, _⟩ => ⟨S8192x2048, .f32⟩
  | .hbm, ⟨4, _⟩ => ⟨S2048x12288, .f32⟩
  | .hbm, ⟨5, _⟩ => ⟨S8192x12288, .f32⟩
  | .hbm, ⟨6, _⟩ => ⟨S8192x12288, .f32⟩
  | .hbm, ⟨7, _⟩ => ⟨S8192x2048, .f32⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x256 : Shape := ⟨2, ![8192, 256]⟩
abbrev S2048x256 : Shape := ⟨2, ![2048, 256]⟩
abbrev S8192x2048 : Shape := ⟨2, ![8192, 2048]⟩
abbrev S1024x256 : Shape := ⟨2, ![1024, 256]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S2048x256, .bf16⟩
  | .hbm, ⟨2, _⟩ => ⟨S8192x2048, .f32⟩
  | .hbm, ⟨3, _⟩ => ⟨S8192x2048, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S8192x256 : Shape := ⟨2, ![8192, 256]⟩
abbrev S2048x256 : Shape := ⟨2, ![2048, 256]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2048x256, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x256, .f32⟩
  | .hbm, ⟨6, _⟩ => ⟨S8192x256, .f32⟩
  | .hbm, ⟨7, _⟩ => ⟨S8192x2048, .f32⟩
  | .hbm, ⟨8, _⟩ => ⟨S8192x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel16.lean ====
abbrev S2048x8192 : Shape := ⟨2, ![2048, 8192]⟩
abbrev S8192x12288 : Shape := ⟨2, ![8192, 12288]⟩
abbrev S2048x12288 : Shape := ⟨2, ![2048, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x12288, .bf16⟩
  | .hbm, ⟨2, _⟩ => ⟨S2048x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x8192 : Shape := ⟨2, ![2048, 8192]⟩
abbrev S8192x12288 : Shape := ⟨2, ![8192, 12288]⟩
abbrev S_ : Shape := ⟨0, ![]⟩
abbrev S2048x12288 : Shape := ⟨2, ![2048, 12288]⟩
abbrev S8192x2048 : Shape := ⟨2, ![8192, 2048]⟩
abbrev S12288x2048 : Shape := ⟨2, ![12288, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x12288, .bf16⟩
  | .hbm, ⟨2, _⟩ => ⟨S_, .f32⟩
  | .hbm, ⟨3, _⟩ => ⟨S2048x12288, .f32⟩
  | .hbm, ⟨4, _⟩ => ⟨S2048x8192, .f32⟩
  | .hbm, ⟨5, _⟩ => ⟨S8192x2048, .f32⟩
  | .hbm, ⟨6, _⟩ => ⟨S8192x12288, .f32⟩
  | .hbm, ⟨7, _⟩ => ⟨S8192x12288, .f32⟩
  | .hbm, ⟨8, _⟩ => ⟨S12288x2048, .f32⟩
  | .hbm, ⟨9, _⟩ => ⟨S2048x12288, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S2048x8192 : Shape := ⟨2, ![2048, 8192]⟩
abbrev S8192x256 : Shape := ⟨2, ![8192, 256]⟩
abbrev S2048x256 : Shape := ⟨2, ![2048, 256]⟩
abbrev S1024x2048 : Shape := ⟨2, ![1024, 2048]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x256, .f32⟩
  | .hbm, ⟨2, _⟩ => ⟨S2048x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S2048x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x8192 : Shape := ⟨2, ![2048, 8192]⟩
abbrev S8192x256 : Shape := ⟨2, ![8192, 256]⟩
abbrev S_ : Shape := ⟨0, ![]⟩
abbrev S2048x256 : Shape := ⟨2, ![2048, 256]⟩
abbrev S8192x2048 : Shape := ⟨2, ![8192, 2048]⟩
abbrev S256x2048 : Shape := ⟨2, ![256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x256, .f32⟩
  | .hbm, ⟨2, _⟩ => ⟨S_, .f32⟩
  | .hbm, ⟨3, _⟩ => ⟨S2048x256, .f32⟩
  | .hbm, ⟨4, _⟩ => ⟨S2048x8192, .f32⟩
  | .hbm, ⟨5, _⟩ => ⟨S8192x2048, .f32⟩
  | .hbm, ⟨6, _⟩ => ⟨S8192x256, .f32⟩
  | .hbm, ⟨7, _⟩ => ⟨S256x2048, .f32⟩
  | .hbm, ⟨8, _⟩ => ⟨S2048x256, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S4096x2048 : Shape := ⟨2, ![4096, 2048]⟩
abbrev S_ : Shape := ⟨0, ![]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S_, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S8192x4096 : Shape := ⟨2, ![8192, 4096]⟩
abbrev S8192x2048 : Shape := ⟨2, ![8192, 2048]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S_, .f32⟩
  | .hbm, ⟨3, _⟩ => ⟨S4096x2048, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S2048x4096, .f32⟩
  | .hbm, ⟨8, _⟩ => ⟨S4096x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S8192x2048 : Shape := ⟨2, ![8192, 2048]⟩
abbrev S2048x12288 : Shape := ⟨2, ![2048, 12288]⟩
abbrev S8192x12288 : Shape := ⟨2, ![8192, 12288]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .bf16⟩
  | .hbm, ⟨2, _⟩ => ⟨S8192x12288, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x2048 : Shape := ⟨2, ![8192, 2048]⟩
abbrev S2048x12288 : Shape := ⟨2, ![2048, 12288]⟩
abbrev S8192x12288 : Shape := ⟨2, ![8192, 12288]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .bf16⟩
  | .hbm, ⟨2, _⟩ => ⟨S8192x2048, .f32⟩
  | .hbm, ⟨3, _⟩ => ⟨S2048x12288, .f32⟩
  | .hbm, ⟨4, _⟩ => ⟨S8192x12288, .f32⟩
  | .hbm, ⟨5, _⟩ => ⟨S8192x12288, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S8192x2048 : Shape := ⟨2, ![8192, 2048]⟩
abbrev S2048x256 : Shape := ⟨2, ![2048, 256]⟩
abbrev S8192x256 : Shape := ⟨2, ![8192, 256]⟩
abbrev S1024x2048 : Shape := ⟨2, ![1024, 2048]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x256, .bf16⟩
  | .hbm, ⟨2, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x2048 : Shape := ⟨2, ![8192, 2048]⟩
abbrev S2048x256 : Shape := ⟨2, ![2048, 256]⟩
abbrev S8192x256 : Shape := ⟨2, ![8192, 256]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x256, .bf16⟩
  | .hbm, ⟨2, _⟩ => ⟨S8192x2048, .f32⟩
  | .hbm, ⟨3, _⟩ => ⟨S2048x256, .f32⟩
  | .hbm, ⟨4, _⟩ => ⟨S8192x256, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S8192x4096 : Shape := ⟨2, ![8192, 4096]⟩
abbrev S4096x2048 : Shape := ⟨2, ![4096, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S8192x2048 : Shape := ⟨2, ![8192, 2048]⟩
abbrev S8704x2048 : Shape := ⟨2, ![8704, 2048]⟩
abbrev S16x64x576 : Shape := ⟨3, ![16, 64, 576]⟩
abbrev S1024x128 : Shape := ⟨2, ![1024, 128]⟩
abbrev S8704x128 : Shape := ⟨2, ![8704, 128]⟩
abbrev S1x64x576 : Shape := ⟨3, ![1, 64, 576]⟩
abbrev S576x128 : Shape := ⟨2, ![576, 128]⟩
abbrev S1x576x128 : Shape := ⟨3, ![1, 576, 128]⟩
abbrev S16x576x128 : Shape := ⟨3, ![16, 576, 128]⟩
abbrev S16x64x128 : Shape := ⟨3, ![16, 64, 128]⟩
abbrev S64x576 : Shape := ⟨2, ![64, 576]⟩
abbrev S16x64 : Shape := ⟨2, ![16, 64]⟩
abbrev S16x64x1 : Shape := ⟨3, ![16, 64, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8704x2048, .bf16⟩
  | .hbm, ⟨2, _⟩ => ⟨S8704x2048, .bf16⟩
  | .hbm, ⟨3, _⟩ => ⟨S16x64x576, .f32⟩
  | .hbm, ⟨4, _⟩ => ⟨S8192x2048, .bf16⟩
  | .local _ .vmem, ⟨0, _⟩ => ⟨S1024x128, .bf16⟩
  | .local _ .vmem, ⟨1, _⟩ => ⟨S1024x128, .bf16⟩
  | .local _ .vmem, ⟨2, _⟩ => ⟨S8704x128, .bf16⟩
  | .local _ .vmem, ⟨3, _⟩ => ⟨S8704x128, .bf16⟩
  | .local _ .vmem, ⟨4, _⟩ => ⟨S8704x128, .bf16⟩
  | .local _ .vmem, ⟨5, _⟩ => ⟨S8704x128, .bf16⟩
  | .local _ .vmem, ⟨6, _⟩ => ⟨S1x64x576, .f32⟩
  | .local _ .vmem, ⟨7, _⟩ => ⟨S1x64x576, .f32⟩
  | .local _ .vmem, ⟨8, _⟩ => ⟨S1024x128, .bf16⟩
  | .local _ .vmem, ⟨9, _⟩ => ⟨S1024x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c16_i32 : BitVec 32 := 16#32
  let v0 : BitVec 32 := Scalar.muli arg1 c16_i32
  let c0_i32 : BitVec 32 := 0#32
  let v1 : BitVec 32 := Scalar.addi v0 c0_i32
  let c64_i32 : BitVec 32 := 64#32
  let v2 : BitVec 32 := Scalar.muli v1 c64_i32
  v2
def k0_mult2 (i : grid0.Coords) : BitVec 32 :=
  let arg1 : BitVec 32 := BitVec.ofNat 32 (i 1).val
  let c16_i32 : BitVec 32 := 16#32
  let v0 : BitVec 32 := Scalar.muli arg1 c16_i32
  let c1_i32 : BitVec 32 := 1#32
  let v4 : BitVec 32 := Scalar.addi v0 c1_i32
  let c64_i32_0 : BitVec 32 := 64#32
  let v5 : BitVec 32 := Scalar.muli v4 c64_i32_0
  v5
def k0_mult3 (i : grid0.Coords) : BitVec 32 :=
  let arg1 : BitVec 32 := BitVec.ofNat 32 (i 1).val
  let c16_i32 : BitVec 32 := 16#32
  let v0 : BitVec 32 := Scalar.muli arg1 c16_i32
  let c2_i32 : BitVec 32 := 2#32
  let v7 : BitVec 32 := Scalar.addi v0 c2_i32
  let c64_i32_1 : BitVec 32 := 64#32
  let v8 : BitVec 32 := Scalar.muli v7 c64_i32_1
  v8
def k0_mult4 (i : grid0.Coords) : BitVec 32 :=
  let arg1 : BitVec 32 := BitVec.ofNat 32 (i 1).val
  let c16_i32 : BitVec 32 := 16#32
  let v0 : BitVec 32 := Scalar.muli arg1 c16_i32
  let c3_i32 : BitVec 32 := 3#32
  let v10 : BitVec 32 := Scalar.addi v0 c3_i32
  let c64_i32_2 : BitVec 32 := 64#32
  let v11 : BitVec 32 := Scalar.muli v10 c64_i32_2
  v11
def k0_mult5 (i : grid0.Coords) : BitVec 32 :=
  let arg1 : BitVec 32 := BitVec.ofNat 32 (i 1).val
  let c16_i32 : BitVec 32 := 16#32
  let v0 : BitVec 32 := Scalar.muli arg1 c16_i32
  let c4_i32 : BitVec 32 := 4#32
  let v13 : BitVec 32 := Scalar.addi v0 c4_i32
  let c64_i32_3 : BitVec 32 := 64#32
  let v14 : BitVec 32 := Scalar.muli v13 c64_i32_3
  v14
def k0_mult6 (i : grid0.Coords) : BitVec 32 :=
  let arg1 : BitVec 32 := BitVec.ofNat 32 (i 1).val
  let c16_i32 : BitVec 32 := 16#32
  let v0 : BitVec 32 := Scalar.muli arg1 c16_i32
  let c5_i32 : BitVec 32 := 5#32
  let v16 : BitVec 32 := Scalar.addi v0 c5_i32
  let c64_i32_4 : BitVec 32 := 64#32
  let v17 : BitVec 32 := Scalar.muli v16 c64_i32_4
  v17
def k0_mult7 (i : grid0.Coords) : BitVec 32 :=
  let arg1 : BitVec 32 := BitVec.ofNat 32 (i 1).val
  let c16_i32 : BitVec 32 := 16#32
  let v0 : BitVec 32 := Scalar.muli arg1 c16_i32
  let c6_i32 : BitVec 32 := 6#32
  let v19 : BitVec 32 := Scalar.addi v0 c6_i32
  let c64_i32_5 : BitVec 32 := 64#32
  let v20 : BitVec 32 := Scalar.muli v19 c64_i32_5
  v20
def k0_mult8 (i : grid0.Coords) : BitVec 32 :=
  let arg1 : BitVec 32 := BitVec.ofNat 32 (i 1).val
  let c16_i32 : BitVec 32 := 16#32
  let v0 : BitVec 32 := Scalar.muli arg1 c16_i32
  let c7_i32 : BitVec 32 := 7#32
  let v22 : BitVec 32 := Scalar.addi v0 c7_i32
  let c64_i32_6 : BitVec 32 := 64#32
  let v23 : BitVec 32 := Scalar.muli v22 c64_i32_6
  v23
def k0_mult9 (i : grid0.Coords) : BitVec 32 :=
  let arg1 : BitVec 32 := BitVec.ofNat 32 (i 1).val
  let c16_i32 : BitVec 32 := 16#32
  let v0 : BitVec 32 := Scalar.muli arg1 c16_i32
  let c8_i32 : BitVec 32 := 8#32
  let v25 : BitVec 32 := Scalar.addi v0 c8_i32
  let c64_i32_7 : BitVec 32 := 64#32
  let v26 : BitVec 32 := Scalar.muli v25 c64_i32_7
  v26
def k0_mult10 (i : grid0.Coords) : BitVec 32 :=
  let arg1 : BitVec 32 := BitVec.ofNat 32 (i 1).val
  let c16_i32 : BitVec 32 := 16#32
  let v0 : BitVec 32 := Scalar.muli arg1 c16_i32
  let c9_i32 : BitVec 32 := 9#32
  let v28 : BitVec 32 := Scalar.addi v0 c9_i32
  let c64_i32_8 : BitVec 32 := 64#32
  let v29 : BitVec 32 := Scalar.muli v28 c64_i32_8
  v29
def k0_mult11 (i : grid0.Coords) : BitVec 32 :=
  let arg1 : BitVec 32 := BitVec.ofNat 32 (i 1).val
  let c16_i32 : BitVec 32 := 16#32
  let v0 : BitVec 32 := Scalar.muli arg1 c16_i32
  let c10_i32 : BitVec 32 := 10#32
  let v31 : BitVec 32 := Scalar.addi v0 c10_i32
  let c64_i32_9 : BitVec 32 := 64#32
  let v32 : BitVec 32 := Scalar.muli v31 c64_i32_9
  v32
def k0_mult12 (i : grid0.Coords) : BitVec 32 :=
  let arg1 : BitVec 32 := BitVec.ofNat 32 (i 1).val
  let c16_i32 : BitVec 32 := 16#32
  let v0 : BitVec 32 := Scalar.muli arg1 c16_i32
  let c11_i32 : BitVec 32 := 11#32
  let v34 : BitVec 32 := Scalar.addi v0 c11_i32
  let c64_i32_10 : BitVec 32 := 64#32
  let v35 : BitVec 32 := Scalar.muli v34 c64_i32_10
  v35
def k0_mult13 (i : grid0.Coords) : BitVec 32 :=
  let arg1 : BitVec 32 := BitVec.ofNat 32 (i 1).val
  let c16_i32 : BitVec 32 := 16#32
  let v0 : BitVec 32 := Scalar.muli arg1 c16_i32
  let c12_i32 : BitVec 32 := 12#32
  let v37 : BitVec 32 := Scalar.addi v0 c12_i32
  let c64_i32_11 : BitVec 32 := 64#32
  let v38 : BitVec 32 := Scalar.muli v37 c64_i32_11
  v38
def k0_mult14 (i : grid0.Coords) : BitVec 32 :=
  let arg1 : BitVec 32 := BitVec.ofNat 32 (i 1).val
  let c16_i32 : BitVec 32 := 16#32
  let v0 : BitVec 32 := Scalar.muli arg1 c16_i32
  let c13_i32 : BitVec 32 := 13#32
  let v40 : BitVec 32 := Scalar.addi v0 c13_i32
  let c64_i32_12 : BitVec 32 := 64#32
  let v41 : BitVec 32 := Scalar.muli v40 c64_i32_12
  v41
def k0_mult15 (i : grid0.Coords) : BitVec 32 :=
  let arg1 : BitVec 32 := BitVec.ofNat 32 (i 1).val
  let c16_i32 : BitVec 32 := 16#32
  let v0 : BitVec 32 := Scalar.muli arg1 c16_i32
  let c14_i32 : BitVec 32 := 14#32
  let v43 : BitVec 32 := Scalar.addi v0 c14_i32
  let c64_i32_13 : BitVec 32 := 64#32
  let v44 : BitVec 32 := Scalar.muli v43 c64_i32_13
  v44
def k0_mult16 (i : grid0.Coords) : BitVec 32 :=
  let arg1 : BitVec 32 := BitVec.ofNat 32 (i 1).val
  let c16_i32 : BitVec 32 := 16#32
  let v0 : BitVec 32 := Scalar.muli arg1 c16_i32
  let c15_i32 : BitVec 32 := 15#32
  let v46 : BitVec 32 := Scalar.addi v0 c15_i32
  let c64_i32_14 : BitVec 32 := 64#32
  let v47 : BitVec 32 := Scalar.muli v46 c64_i32_14
  v47
def k0_off1 (i : grid0.Coords) (c0_i32 : BitVec 32) : Fin 2 → Nat :=
  let arg1 : BitVec 32 := BitVec.ofNat 32 (i 1).val
  let c16_i32 : BitVec 32 := 16#32
  let v0 : BitVec 32 := Scalar.muli arg1 c16_i32
  let v1 : BitVec 32 := Scalar.addi v0 c0_i32
  let c64_i32 : BitVec 32 := 64#32
  let v2 : BitVec 32 := Scalar.muli v1 c64_i32
  let v3 : BitVec 32 := v2
  let v49 : Index := Scalar.indexCast v3
  let c0 : Index := 0#32
  ![v49.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel23Ideal.lean ====
variable {F : FTy → Type} [FloatOps F] [Named F]
def κ : String → Option EReal := fun
  | "mask" => some ⊥
  | _ => none
-- ==== Reference23Ideal.lean ====
abbrev S8192x2048 : Shape := ⟨2, ![8192, 2048]⟩
abbrev S8704x2048 : Shape := ⟨2, ![8704, 2048]⟩
abbrev S16x64x576 : Shape := ⟨3, ![16, 64, 576]⟩
abbrev S128x64x16x128 : Shape := ⟨4, ![128, 64, 16, 128]⟩
abbrev S136x64x16x128 : Shape := ⟨4, ![136, 64, 16, 128]⟩
abbrev S128x576x16x128 : Shape := ⟨4, ![128, 576, 16, 128]⟩
abbrev S128x16x64x576 : Shape := ⟨4, ![128, 16, 64, 576]⟩
abbrev S_ : Shape := ⟨0, ![]⟩
abbrev S1x16x64x576 : Shape := ⟨4, ![1, 16, 64, 576]⟩
abbrev S128 : Shape := ⟨1, ![128]⟩
abbrev S128x1 : Shape := ⟨2, ![128, 1]⟩
abbrev S576 : Shape := ⟨1, ![576]⟩
abbrev S1x576 : Shape := ⟨2, ![1, 576]⟩
abbrev S128x576 : Shape := ⟨2, ![128, 576]⟩
abbrev S128x1x1x576 : Shape := ⟨4, ![128, 1, 1, 576]⟩
abbrev S128x16x64 : Shape := ⟨3, ![128, 16, 64]⟩
abbrev S128x16x64x1 : Shape := ⟨4, ![128, 16, 64, 1]⟩
abbrev S128x16x128x64 : Shape := ⟨4, ![128, 16, 128, 64]⟩

abbrev nBuf : Space → Nat
  | .hbm => 77
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8704x2048, .bf16⟩
  | .hbm, ⟨2, _⟩ => ⟨S8704x2048, .bf16⟩
  | .hbm, ⟨3, _⟩ => ⟨S16x64x576, .f32⟩
  | .hbm, ⟨4, _⟩ => ⟨S8192x2048, .f32⟩
  | .hbm, ⟨5, _⟩ => ⟨S8704x2048, .f32⟩
  | .hbm, ⟨6, _⟩ => ⟨S8704x2048, .f32⟩
  | .hbm, ⟨7, _⟩ => ⟨S128x64x16x128, .f32⟩
  | .hbm, ⟨8, _⟩ => ⟨S136x64x16x128, .f32⟩
  | .hbm, ⟨9, _⟩ => ⟨S128x64x16x128, .f32⟩
  | .hbm, ⟨10, _⟩ => ⟨S128x64x16x128, .f32⟩
  | .hbm, ⟨11, _⟩ => ⟨S128x64x16x128, .f32⟩
  | .hbm, ⟨12, _⟩ => ⟨S128x64x16x128, .f32⟩
  | .hbm, ⟨13, _⟩ => ⟨S128x64x16x128, .f32⟩
  | .hbm, ⟨14, _⟩ => ⟨S128x64x16x128, .f32⟩
  | .hbm, ⟨15, _⟩ => ⟨S128x64x16x128, .f32⟩
  | .hbm, ⟨16, _⟩ => ⟨S128x64x16x128, .f32⟩
  | .hbm, ⟨17, _⟩ => ⟨S128x64x16x128, .f32⟩
  | .hbm, ⟨18, _⟩ => ⟨S128x576x16x128, .f32⟩
  | .hbm, ⟨19, _⟩ => ⟨S136x64x16x128, .f32⟩
  | .hbm, ⟨20, _⟩ => ⟨S128x64x16x128, .f32⟩
  | .hbm, ⟨21, _⟩ => ⟨S128x64x16x128, .f32⟩
  | .hbm, ⟨22, _⟩ => ⟨S128x64x16x128, .f32⟩
  | .hbm, ⟨23, _⟩ => ⟨S128x64x16x128, .f32⟩
  | .hbm, ⟨24, _⟩ => ⟨S128x64x16x128, .f32⟩
  | .hbm, ⟨25, _⟩ => ⟨S128x64x16x128, .f32⟩
  | .hbm, ⟨26, _⟩ => ⟨S128x64x16x128, .f32⟩
  | .hbm, ⟨27, _⟩ => ⟨S128x64x16x128, .f32⟩
  | .hbm, ⟨28, _⟩ => ⟨S128x64x16x128, .f32⟩
  | .hbm, ⟨29, _⟩ => ⟨S128x576x16x128, .f32⟩
  | .hbm, ⟨30, _⟩ => ⟨S128x16x64x576, .f32⟩
  | .hbm, ⟨31, _⟩ => ⟨S_, .f32⟩
  | .hbm, ⟨32, _⟩ => ⟨S128x16x64x576, .f32⟩
  | .hbm, ⟨33, _⟩ => ⟨S128x16x64x576, .f32⟩
  | .hbm, ⟨34, _⟩ => ⟨S1x16x64x576, .f32⟩
  | .hbm, ⟨35, _⟩ => ⟨S128x16x64x576, .f32⟩
  | .hbm, ⟨36, _⟩ => ⟨S128x16x64x576, .f32⟩
  | .hbm, ⟨37, _⟩ => ⟨S128, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S_, .i32⟩
  | .hbm, ⟨43, _⟩ => ⟨S128x1, .i32⟩
  | .hbm, ⟨44, _⟩ => ⟨S128x1, .i32⟩
  | .hbm, ⟨45, _⟩ => ⟨S576, .i32⟩
  | .hbm, ⟨46, _⟩ => ⟨S1x576, .i32⟩
  | .hbm, ⟨47, _⟩ => ⟨S128x576, .i32⟩
  | .hbm, ⟨48, _⟩ => ⟨S128x576, .i32⟩
  | .hbm, ⟨49, _⟩ => ⟨S128x576, .i32⟩
  | .hbm, ⟨50, _⟩ => ⟨S_, .i32⟩
  | .hbm, ⟨51, _⟩ => ⟨S128x576, .i32⟩
  | .hbm, ⟨52, _⟩ => ⟨S128x576, .i1⟩
  | .hbm, ⟨53, _⟩ => ⟨S128x1x1x576, .i1⟩
  | .hbm, ⟨54, _⟩ => ⟨S_, .f32⟩
  | .hbm, ⟨55, _⟩ => ⟨S_, .f32⟩
  | .hbm, ⟨56, _⟩ => ⟨S128x16x64x576, .i1⟩
  | .hbm, ⟨57, _⟩ => ⟨S128x16x64x576, .f32⟩
  | .hbm, ⟨58, _⟩ => ⟨S128x16x64x576, .f32⟩
  | .hbm, ⟨59, _⟩ => ⟨S_, .f32⟩
  | .hbm, ⟨60, _⟩ => ⟨S128x16x64, .f32⟩
  | .hbm, ⟨61, _⟩ => ⟨S_, .f32⟩
  | .hbm, ⟨62, _⟩ => ⟨S128x16x64, .f32⟩
  | .hbm, ⟨63, _⟩ => ⟨S128x16x64, .f32⟩
  | .hbm, ⟨64, _⟩ => ⟨S128x16x64x1, .f32⟩
  | .hbm, ⟨65, _⟩ => ⟨S128x16x64x576, .f32⟩
  | .hbm, ⟨66, _⟩ => ⟨S128x16x64x576, .f32⟩
  | .hbm, ⟨67, _⟩ => ⟨S128x16x64x576, .f32⟩
  | .hbm, ⟨68, _⟩ => ⟨S_, .f32⟩
  | .hbm, ⟨69, _⟩ => ⟨S128x16x64, .f32⟩
  | .hbm, ⟨70, _⟩ => ⟨S128x16x64x1, .f32⟩
  | .hbm, ⟨71, _⟩ => ⟨S128x16x64x576, .f32⟩
  | .hbm, ⟨72, _⟩ => ⟨S128x16x64x576, .f32⟩
  | .hbm, ⟨73, _⟩ => ⟨S128x16x128x64, .f32⟩
  | .hbm, ⟨74, _⟩ => ⟨S128x64x16x128, .f32⟩
  | .hbm, ⟨75, _⟩ => ⟨S8192x2048, .f32⟩
  | .hbm, ⟨76, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_c : Ref sig .tc := ⟨.hbm, 39, rfl⟩
abbrev main_v34 : Ref sig .tc := ⟨.hbm, 40, rfl⟩
abbrev main_v35 : Ref sig .tc := ⟨.hbm, 41, rfl⟩
abbrev main_c_0 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_c_1 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_2 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩

abbrev nD : Nat := 1
abbrev τ : Topo := Topo.v7x

variable {F : FTy → Type} [FloatOps F]
-- ==== Kernel24.lean ====
abbrev S8192x2048 : Shape := ⟨2, ![8192, 2048]⟩
abbrev S1x2048 : Shape := ⟨2, ![1, 2048]⟩
abbrev S2048x8192 : Shape := ⟨2, ![2048, 8192]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S2048x8192, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x256, .bf16⟩
  | .local _ .vmem, ⟨6, _⟩ => ⟨S2048x256, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference24Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | .hbm, ⟨18, _⟩ => ⟨S2048x8192, .f32⟩
  | .hbm, ⟨19, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel25.lean ====
abbrev S8192x4096 : Shape := ⟨2, ![8192, 4096]⟩
abbrev S8192x2048 : Shape := ⟨2, ![8192, 2048]⟩
abbrev S32x128x128x128 : Shape := ⟨4, ![32, 128, 128, 128]⟩
abbrev S128x2048 : Shape := ⟨2, ![128, 2048]⟩
abbrev S128x1024 : Shape := ⟨2, ![128, 1024]⟩
abbrev S16x2x128x128 : Shape := ⟨4, ![16, 2, 128, 128]⟩
abbrev S16x128x128 : Shape := ⟨3, ![16, 128, 128]⟩
abbrev S64x128 : Shape := ⟨2, ![64, 128]⟩
abbrev S1x64x128 : Shape := ⟨3, ![1, 64, 128]⟩
abbrev S16x64x128 : Shape := ⟨3, ![16, 64, 128]⟩
abbrev S64x64 : Shape := ⟨2, ![64, 64]⟩
abbrev S1x64x64 : Shape := ⟨3, ![1, 64, 64]⟩
abbrev S16x64x64 : Shape := ⟨3, ![16, 64, 64]⟩
abbrev S16x1x128 : Shape := ⟨3, ![16, 1, 128]⟩
abbrev S16x1x1 : Shape := ⟨3, ![16, 1, 1]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 8
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x4096, .f32⟩
  | .hbm, ⟨6, _⟩ => ⟨S8192x4096, .bf16⟩
  | .hbm, ⟨7, _⟩ => ⟨S32x128x128x128, .f32⟩
  | .local _ .vmem, ⟨0, _⟩ => ⟨S128x2048, .f32⟩
  | .local _ .vmem, ⟨1, _⟩ => ⟨S128x2048, .f32⟩
  | .local _ .vmem, ⟨2, _⟩ => ⟨S128x2048, .bf16⟩
  | .local _ .vmem, ⟨3, _⟩ => ⟨S128x2048, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x2048, .f32⟩
  | .local _ .vmem, ⟨11, _⟩ => ⟨S128x2048, .f32⟩
  | .local _ .vmem, ⟨12, _⟩ => ⟨S128x2048, .bf16⟩
  | .local _ .vmem, ⟨13, _⟩ => ⟨S128x2048, .bf16⟩
  | .local _ .vmem, ⟨14, _⟩ => ⟨S16x2x128x128, .f32⟩
  | .local _ .vmem, ⟨15, _⟩ => ⟨S16x2x128x128, .f32⟩
  | .local _ .vmem, ⟨16, _⟩ => ⟨S16x128x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference25Ideal.lean ====
abbrev S8192x4096 : Shape := ⟨2, ![8192, 4096]⟩
abbrev S8192x2048 : Shape := ⟨2, ![8192, 2048]⟩
abbrev S_ : Shape := ⟨0, ![]⟩
abbrev S32x128x128 : Shape := ⟨3, ![32, 128, 128]⟩
abbrev S8192x16x128 : Shape := ⟨3, ![8192, 16, 128]⟩
abbrev S8192x16x2x128 : Shape := ⟨4, ![8192, 16, 2, 128]⟩
abbrev S8192x32x128 : Shape := ⟨3, ![8192, 32, 128]⟩
abbrev S128x64x32x128 : Shape := ⟨4, ![128, 64, 32, 128]⟩
abbrev S128x32x64x128 : Shape := ⟨4, ![128, 32, 64, 128]⟩
abbrev S128x64x32x64 : Shape := ⟨4, ![128, 64, 32, 64]⟩
abbrev S128x32x64x64 : Shape := ⟨4, ![128, 32, 64, 64]⟩
abbrev S128x32x128x128 : Shape := ⟨4, ![128, 32, 128, 128]⟩
abbrev S1x32x64x128 : Shape := ⟨4, ![1, 32, 64, 128]⟩
abbrev S32x64x128 : Shape := ⟨3, ![32, 64, 128]⟩
abbrev S1x32x64x64 : Shape := ⟨4, ![1, 32, 64, 64]⟩
abbrev S32x64x64 : Shape := ⟨3, ![32, 64, 64]⟩
abbrev S32x1x128 : Shape := ⟨3, ![32, 1, 128]⟩
abbrev S32x1x1 : Shape := ⟨3, ![32, 1, 1]⟩
abbrev S1x32x128x128 : Shape := ⟨4, ![1, 32, 128, 128]⟩
abbrev S32x128x128x128 : Shape := ⟨4, ![32, 128, 128, 128]⟩

abbrev nBuf : Space → Nat
  | .hbm => 113
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x4096, .f32⟩
  | .hbm, ⟨6, _⟩ => ⟨S_, .f32⟩
  | .hbm, ⟨7, _⟩ => ⟨S32x128x128, .f32⟩
  | .hbm, ⟨8, _⟩ => ⟨S8192x16x128, .bf16⟩
  | .hbm, ⟨9, _⟩ => ⟨S8192x16x2x128, .bf16⟩
  | .hbm, ⟨10, _⟩ => ⟨S8192x32x128, .bf16⟩
  | .hbm, ⟨11, _⟩ => ⟨S8192x4096, .bf16⟩
  | .hbm, ⟨12, _⟩ => ⟨S8192x16x128, .bf16⟩
  | .hbm, ⟨13, _⟩ => ⟨S8192x16x2x128, .bf16⟩
  | .hbm, ⟨14, _⟩ => ⟨S8192x32x128, .bf16⟩
  | .hbm, ⟨15, _⟩ => ⟨S8192x4096, .bf16⟩
  | .hbm, ⟨16, _⟩ => ⟨S128x64x32x128, .f32⟩
  | .hbm, ⟨17, _⟩ => ⟨S128x32x64x128, .f32⟩
  | .hbm, ⟨18, _⟩ => ⟨S8192x4096, .f32⟩
  | .hbm, ⟨19, _⟩ => ⟨S128x64x32x128, .f32⟩
  | .hbm, ⟨20, _⟩ => ⟨S128x32x64x128, .f32⟩
  | .hbm, ⟨21, _⟩ => ⟨S8192x2048, .f32⟩
  | .hbm, ⟨22, _⟩ => ⟨S128x64x32x64, .f32⟩
  | .hbm, ⟨23, _⟩ => ⟨S128x32x64x64, .f32⟩
  | .hbm, ⟨24, _⟩ => ⟨S8192x4096, .f32⟩
  | .hbm, ⟨25, _⟩ => ⟨S128x64x32x128, .f32⟩
  | .hbm, ⟨26, _⟩ => ⟨S128x32x64x128, .f32⟩
  | .hbm, ⟨27, _⟩ => ⟨S8192x4096, .f32⟩
  | .hbm, ⟨28, _⟩ => ⟨S128x64x32x128, .f32⟩
  | .hbm, ⟨29, _⟩ => ⟨S128x32x64x128, .f32⟩
  | .hbm, ⟨30, _⟩ => ⟨S128x64x32x128, .f32⟩
  | .hbm, ⟨31, _⟩ => ⟨S128x32x64x128, .f32⟩
  | .hbm, ⟨32, _⟩ => ⟨S_, .f32⟩
  | .hbm, ⟨33, _⟩ => ⟨S128x32x64x128, .f32⟩
  | .hbm, ⟨34, _⟩ => ⟨S_, .f32⟩
  | .hbm, ⟨35, _⟩ => ⟨S128x32x128x128, .f32⟩
  | .hbm, ⟨36, _⟩ => ⟨S_, .i32⟩
  | .hbm, ⟨37, _⟩ => ⟨S128x32x64x128, .f32⟩
  | .hbm, ⟨38, _⟩ => ⟨S128x32x64x128, .f32⟩
  | .hbm, ⟨39, _⟩ => ⟨S128x32x64x64, .f32⟩
  | .hbm, ⟨40, _⟩ => ⟨S128x32x64x128, .f32⟩
  | .hbm, ⟨41, _⟩ => ⟨S128x32x64x128, .f32⟩
  | .hbm, ⟨42, _⟩ => ⟨S128x32x64x128, .f32⟩
  | .hbm, ⟨43, _⟩ => ⟨S_, .i32⟩
  | .hbm, ⟨44, _⟩ => ⟨S32x128x128, .f32⟩
  | .hbm, ⟨45, _⟩ => ⟨S128x32x64x128, .f32⟩
  | .hbm, ⟨46, _⟩ => ⟨S128x32x128x128, .f32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x32x64x128, .f32⟩
  | .hbm, ⟨53, _⟩ => ⟨S32x64x128, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x32x64x128, .f32⟩
  | .hbm, ⟨58, _⟩ => ⟨S32x64x128, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x32x64x64, .f32⟩
  | .hbm, ⟨63, _⟩ => ⟨S32x64x64, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x32x64x128, .f32⟩
  | .hbm, ⟨68, _⟩ => ⟨S32x64x128, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1x32x64x128, .f32⟩
  | .hbm, ⟨73, _⟩ => ⟨S32x64x128, .f32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S1x32x64x128, .f32⟩
  | .hbm, ⟨78, _⟩ => ⟨S32x64x128, .f32⟩
  | .hbm, ⟨79, _⟩ => ⟨S32x64x128, .f32⟩
  | .hbm, ⟨80, _⟩ => ⟨S32x64x128, .f32⟩
  | .hbm, ⟨81, _⟩ => ⟨S32x64x128, .f32⟩
  | .hbm, ⟨82, _⟩ => ⟨S32x64x128, .f32⟩
  | .hbm, ⟨83, _⟩ => ⟨S32x64x128, .f32⟩
  | .hbm, ⟨84, _⟩ => ⟨S32x64x128, .f32⟩
  | .hbm, ⟨85, _⟩ => ⟨S32x64x128, .f32⟩
  | .hbm, ⟨86, _⟩ => ⟨S32x1x128, .f32⟩
  | .hbm, ⟨87, _⟩ => ⟨S32x1x1, .f32⟩
  | .hbm, ⟨88, _⟩ => ⟨S32x1x1, .f32⟩
  | .hbm, ⟨89, _⟩ => ⟨S32x128x128, .f32⟩
  | .hbm, ⟨90, _⟩ => ⟨S32x128x128, .f32⟩
  | .hbm, ⟨91, _⟩ => ⟨S32x64x128, .f32⟩
  | .hbm, ⟨92, _⟩ => ⟨S32x64x128, .f32⟩
  | .hbm, ⟨93, _⟩ => ⟨S32x64x128, .f32⟩
  | .hbm, ⟨94, _⟩ => ⟨S32x64x128, .f32⟩
  | .hbm, ⟨95, _⟩ => ⟨S32x128x128, .f32⟩
  | .hbm, ⟨96, _⟩ => ⟨S32x128x128, .f32⟩
  | .hbm, ⟨97, _⟩ => ⟨S1x32x64x128, .f32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S128x32x64x128, .f32⟩
  | .hbm, ⟨102, _⟩ => ⟨S1x32x128x128, .f32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S128x32x128x128, .f32⟩
  | .hbm, ⟨107, _⟩ => ⟨S_, .i32⟩
  | .hbm, ⟨108, _⟩ => ⟨S_, .i32⟩
  | .hbm, ⟨109, _⟩ => ⟨S128x64x32x128, .f32⟩
  | .hbm, ⟨110, _⟩ => ⟨S8192x4096, .f32⟩
  | .hbm, ⟨111, _⟩ => ⟨S8192x4096, .bf16⟩
  | .hbm, ⟨112, _⟩ => ⟨S32x128x128x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_c : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev main_v27_3 : Ref sig .tc := ⟨.hbm, 40, rfl⟩
abbrev main_v27_4 : Ref sig .tc := ⟨.hbm, 41, rfl⟩
abbrev main_v27_5 : Ref sig .tc := ⟨.hbm, 42, rfl⟩
abbrev main_v27_6 : Ref sig .tc := ⟨.hbm, 43, rfl⟩
abbrev main_v27_7 : Ref sig .tc := ⟨.hbm, 44, rfl⟩
abbrev main_v27_8 : Ref sig .tc := ⟨.hbm, 45, rfl⟩
abbrev main_v27_9 : Ref sig .tc := ⟨.hbm, 46, rfl⟩
abbrev main_while0c_c_11 : Ref sig .tc := ⟨.hbm, 47, rfl⟩
abbrev main_while0c_v32 : Ref sig .tc := ⟨.hbm, 48, rfl⟩
abbrev main_while0b_call0_c : Ref sig .tc := ⟨.hbm, 49, rfl⟩
abbrev main_while0b_call0_c_0 : Ref sig .tc := ⟨.hbm, 50, rfl⟩
abbrev main_while0b_call0_c_1 : Ref sig .tc := ⟨.hbm, 51, rfl⟩
abbrev main_while0b_call0_v0 : Ref sig .tc := ⟨.hbm, 52, rfl⟩
abbrev main_while0b_v32 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_c_1 : Ref sig .tc := ⟨.hbm, 56, rfl⟩
abbrev main_while0b_call1_v0 : Ref sig .tc := ⟨.hbm, 57, rfl⟩
abbrev main_while0b_v33 : Ref sig .tc := ⟨.hbm, 58, rfl⟩
abbrev main_while0b_call2_c : Ref sig .tc := ⟨.hbm, 59, rfl⟩
abbrev main_while0b_call2_c_0 : Ref sig .tc := ⟨.hbm, 60, rfl⟩
abbrev main_while0b_call2_c_1 : Ref sig .tc := ⟨.hbm, 61, rfl⟩
abbrev main_while0b_call2_v0 : Ref sig .tc := ⟨.hbm, 62, rfl⟩
abbrev main_while0b_v34 : Ref sig .tc := ⟨.hbm, 63, rfl⟩
abbrev main_while0b_call3_c : Ref sig .tc := ⟨.hbm, 64, rfl⟩
abbrev main_while0b_call3_c_0 : Ref sig .tc := ⟨.hbm, 65, rfl⟩
abbrev main_while0b_call3_c_1 : Ref sig .tc := ⟨.hbm, 66, rfl⟩
abbrev main_while0b_call3_v0 : Ref sig .tc := ⟨.hbm, 67, rfl⟩
abbrev main_while0b_v35 : Ref sig .tc := ⟨.hbm, 68, rfl⟩
abbrev main_while0b_call4_c : Ref sig .tc := ⟨.hbm, 69, rfl⟩
abbrev main_while0b_call4_c_0 : Ref sig .tc := ⟨.hbm, 70, rfl⟩
abbrev main_while0b_call4_c_1 : Ref sig .tc := ⟨.hbm, 71, rfl⟩
abbrev main_while0b_call4_v0 : Ref sig .tc := ⟨.hbm, 72, rfl⟩
abbrev main_while0b_v36 : Ref sig .tc := ⟨.hbm, 73, rfl⟩
abbrev main_while0b_call5_c : Ref sig .tc := ⟨.hbm, 74, rfl⟩
abbrev main_while0b_call5_c_0 : Ref sig .tc := ⟨.hbm, 75, rfl⟩
abbrev main_while0b_call5_c_1 : Ref sig .tc := ⟨.hbm, 76, rfl⟩
abbrev main_while0b_call5_v0 : Ref sig .tc := ⟨.hbm, 77, rfl⟩
abbrev main_while0b_v37 : Ref sig .tc := ⟨.hbm, 78, rfl⟩
abbrev main_while0b_v38 : Ref sig .tc := ⟨.hbm, 79, rfl⟩
abbrev main_while0b_v39 : Ref sig .tc := ⟨.hbm, 80, rfl⟩
abbrev main_while0b_v40 : Ref sig .tc := ⟨.hbm, 81, rfl⟩
abbrev main_while0b_v41 : Ref sig .tc := ⟨.hbm, 82, rfl⟩
abbrev main_while0b_v42 : Ref sig .tc := ⟨.hbm, 83, rfl⟩
abbrev main_while0b_v43 : Ref sig .tc := ⟨.hbm, 84, rfl⟩
abbrev main_while0b_v44 : Ref sig .tc := ⟨.hbm, 85, rfl⟩
abbrev main_while0b_v45 : Ref sig .tc := ⟨.hbm, 86, rfl⟩
abbrev main_while0b_v46 : Ref sig .tc := ⟨.hbm, 87, rfl⟩
abbrev main_while0b_v47 : Ref sig .tc := ⟨.hbm, 88, rfl⟩
abbrev main_while0b_v48 : Ref sig .tc := ⟨.hbm, 89, rfl⟩
abbrev main_while0b_v49 : Ref sig .tc := ⟨.hbm, 90, rfl⟩
abbrev main_while0b_v50 : Ref sig .tc := ⟨.hbm, 91, rfl⟩
abbrev main_while0b_v51 : Ref sig .tc := ⟨.hbm, 92, rfl⟩
abbrev main_while0b_v52 : Ref sig .tc := ⟨.hbm, 93, rfl⟩
abbrev main_while0b_v53 : Ref sig .tc := ⟨.hbm, 94, rfl⟩
abbrev main_while0b_v54 : Ref sig .tc := ⟨.hbm, 95, rfl⟩
abbrev main_while0b_v55 : Ref sig .tc := ⟨.hbm, 96, rfl⟩
abbrev main_while0b_call6_v0 : Ref sig .tc := ⟨.hbm, 97, rfl⟩
abbrev main_while0b_call6_c : Ref sig .tc := ⟨.hbm, 98, rfl⟩
abbrev main_while0b_call6_c_0 : Ref sig .tc := ⟨.hbm, 99, rfl⟩
abbrev main_while0b_call6_c_1 : Ref sig .tc := ⟨.hbm, 100, rfl⟩
abbrev main_while0b_v56 : Ref sig .tc := ⟨.hbm, 101, rfl⟩
abbrev main_while0b_call7_v0 : Ref sig .tc := ⟨.hbm, 102, rfl⟩
abbrev main_while0b_call7_c : Ref sig .tc := ⟨.hbm, 103, rfl⟩
abbrev main_while0b_call7_c_0 : Ref sig .tc := ⟨.hbm, 104, rfl⟩
abbrev main_while0b_call7_c_1 : Ref sig .tc := ⟨.hbm, 105, rfl⟩
abbrev main_while0b_v57 : Ref sig .tc := ⟨.hbm, 106, rfl⟩
abbrev main_while0b_c_11 : Ref sig .tc := ⟨.hbm, 107, rfl⟩
abbrev main_while0b_v58 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩

abbrev nD : Nat := 1
abbrev τ : Topo := Topo.v7x

variable {F : FTy → Type} [FloatOps F]

abbrev main_while0_count : Scf.Loop 32 := ⟨0#32, 128#32, 1#32⟩
-- ==== Kernel26.lean ====
abbrev S8192x4096 : Shape := ⟨2, ![8192, 4096]⟩
abbrev S8192x2048 : Shape := ⟨2, ![8192, 2048]⟩
abbrev S32x128x128x128 : Shape := ⟨4, ![32, 128, 128, 128]⟩
abbrev S128x2048 : Shape := ⟨2, ![128, 2048]⟩
abbrev S128x1024 : Shape := ⟨2, ![128, 1024]⟩
abbrev S16x2x128x128 : Shape := ⟨4, ![16, 2, 128, 128]⟩
abbrev S16x128x128 : Shape := ⟨3, ![16, 128, 128]⟩
abbrev S1x1x128x128 : Shape := ⟨4, ![1, 1, 128, 128]⟩
abbrev S128x128 : Shape := ⟨2, ![128, 128]⟩
abbrev S1x128x128 : Shape := ⟨3, ![1, 128, 128]⟩
abbrev S64x128 : Shape := ⟨2, ![64, 128]⟩
abbrev S1x64x128 : Shape := ⟨3, ![1, 64, 128]⟩
abbrev S16x64x128 : Shape := ⟨3, ![16, 64, 128]⟩
abbrev S64x64 : Shape := ⟨2, ![64, 64]⟩
abbrev S1x64x64 : Shape := ⟨3, ![1, 64, 64]⟩
abbrev S16x64x64 : Shape := ⟨3, ![16, 64, 64]⟩
abbrev S16x1x128 : Shape := ⟨3, ![16, 1, 128]⟩
abbrev S16x1x1 : Shape := ⟨3, ![16, 1, 1]⟩
abbrev S16x128x64 : Shape := ⟨3, ![16, 128, 64]⟩
abbrev S16 : Shape := ⟨1, ![16]⟩
abbrev S16x1x127 : Shape := ⟨3, ![16, 1, 127]⟩
abbrev S16x128 : Shape := ⟨2, ![16, 128]⟩
abbrev S16x63x128 : Shape := ⟨3, ![16, 63, 128]⟩

abbrev nBuf : Space → Nat
  | .hbm => 14
  | .vmem => 29
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x4096, .f32⟩
  | .hbm, ⟨6, _⟩ => ⟨S32x128x128x128, .f32⟩
  | .hbm, ⟨7, _⟩ => ⟨S8192x4096, .bf16⟩
  | .hbm, ⟨8, _⟩ => ⟨S8192x4096, .bf16⟩
  | .hbm, ⟨9, _⟩ => ⟨S8192x4096, .bf16⟩
  | .hbm, ⟨10, _⟩ => ⟨S8192x2048, .bf16⟩
  | .hbm, ⟨11, _⟩ => ⟨S8192x4096, .f32⟩
  | .hbm, ⟨12, _⟩ => ⟨S8192x4096, .f32⟩
  | .hbm, ⟨13, _⟩ => ⟨S8192x4096, .f32⟩
  | .local _ .vmem, ⟨0, _⟩ => ⟨S128x2048, .f32⟩
  | .local _ .vmem, ⟨1, _⟩ => ⟨S128x2048, .f32⟩
  | .local _ .vmem, ⟨2, _⟩ => ⟨S128x2048, .bf16⟩
  | .local _ .vmem, ⟨3, _⟩ => ⟨S128x2048, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x2048, .f32⟩
  | .local _ .vmem, ⟨11, _⟩ => ⟨S128x2048, .f32⟩
  | .local _ .vmem, ⟨12, _⟩ => ⟨S16x2x128x128, .f32⟩
  | .local _ .vmem, ⟨13, _⟩ => ⟨S16x2x128x128, .f32⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x1024, .bf16⟩
  | .local _ .vmem, ⟨21, _⟩ => ⟨S128x1024, .bf16⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S16x128x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_6 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference26Ideal.lean ====
abbrev S8192x4096 : Shape := ⟨2, ![8192, 4096]⟩
abbrev S8192x2048 : Shape := ⟨2, ![8192, 2048]⟩
abbrev S32x128x128x128 : Shape := ⟨4, ![32, 128, 128, 128]⟩
abbrev S128x32x128x128 : Shape := ⟨4, ![128, 32, 128, 128]⟩
abbrev S8192x16x128 : Shape := ⟨3, ![8192, 16, 128]⟩
abbrev S8192x16x2x128 : Shape := ⟨4, ![8192, 16, 2, 128]⟩
abbrev S8192x32x128 : Shape := ⟨3, ![8192, 32, 128]⟩
abbrev S128x64x32x128 : Shape := ⟨4, ![128, 64, 32, 128]⟩
abbrev S128x32x64x128 : Shape := ⟨4, ![128, 32, 64, 128]⟩
abbrev S128x64x32x64 : Shape := ⟨4, ![128, 64, 32, 64]⟩
abbrev S128x32x64x64 : Shape := ⟨4, ![128, 32, 64, 64]⟩
abbrev S_ : Shape := ⟨0, ![]⟩
abbrev S32x128x128 : Shape := ⟨3, ![32, 128, 128]⟩
abbrev S1x32x128x128 : Shape := ⟨4, ![1, 32, 128, 128]⟩
abbrev S1x32x64x128 : Shape := ⟨4, ![1, 32, 64, 128]⟩
abbrev S32x64x128 : Shape := ⟨3, ![32, 64, 128]⟩
abbrev S1x32x64x64 : Shape := ⟨4, ![1, 32, 64, 64]⟩
abbrev S32x64x64 : Shape := ⟨3, ![32, 64, 64]⟩
abbrev S32x1x128 : Shape := ⟨3, ![32, 1, 128]⟩
abbrev S32x1x1 : Shape := ⟨3, ![32, 1, 1]⟩
abbrev S32x128x64 : Shape := ⟨3, ![32, 128, 64]⟩
abbrev S32x128 : Shape := ⟨2, ![32, 128]⟩
abbrev S32 : Shape := ⟨1, ![32]⟩

abbrev nBuf : Space → Nat
  | .hbm => 219
  | .vmem => 0
  | .smem => 0
  | _ => 0

abbrev hbmTy0_0 (i : Nat) : BufTy := match i % 128 with
  | 0 => ⟨S8192x4096, .f32⟩
  | 1 => ⟨S8192x4096, .bf16⟩
  | 2 => ⟨S8192x2048, .bf16⟩
  | 3 => ⟨S8192x2048, .bf16⟩
  | 4 => ⟨S8192x2048, .bf16⟩
  | 5 => ⟨S8192x4096, .f32⟩
  | 6 => ⟨S32x128x128x128, .f32⟩
  | 7 => ⟨S8192x4096, .bf16⟩
  | 8 => ⟨S128x32x128x128, .f32⟩
  | 9 => ⟨S8192x16x128, .bf16⟩
  | 10 => ⟨S8192x16x2x128, .bf16⟩
  | 11 => ⟨S8192x32x128, .bf16⟩
  | 12 => ⟨S8192x4096, .bf16⟩
  | 13 => ⟨S8192x16x128, .bf16⟩
  | 14 => ⟨S8192x16x2x128, .bf16⟩
  | 15 => ⟨S8192x32x128, .bf16⟩
  | 16 => ⟨S8192x4096, .bf16⟩
  | 17 => ⟨S8192x4096, .f32⟩
  | 18 => ⟨S128x64x32x128, .f32⟩
  | 19 => ⟨S128x32x64x128, .f32⟩
  | 20 => ⟨S128x64x32x128, .f32⟩
  | 21 => ⟨S128x32x64x128, .f32⟩
  | 22 => ⟨S8192x4096, .f32⟩
  | 23 => ⟨S128x64x32x128, .f32⟩
  | 24 => ⟨S128x32x64x128, .f32⟩
  | 25 => ⟨S8192x2048, .f32⟩
  | 26 => ⟨S128x64x32x64, .f32⟩
  | 27 => ⟨S128x32x64x64, .f32⟩
  | 28 => ⟨S8192x4096, .f32⟩
  | 29 => ⟨S128x64x32x128, .f32⟩
  | 30 => ⟨S128x32x64x128, .f32⟩
  | 31 => ⟨S8192x4096, .f32⟩
  | 32 => ⟨S128x64x32x128, .f32⟩
  | 33 => ⟨S128x32x64x128, .f32⟩
  | 34 => ⟨S128x64x32x128, .f32⟩
  | 35 => ⟨S128x32x64x128, .f32⟩
  | 36 => ⟨S_, .f32⟩
  | 37 => ⟨S32x128x128, .f32⟩
  | 38 => ⟨S_, .f32⟩
  | 39 => ⟨S128x32x64x128, .f32⟩
  | 40 => ⟨S_, .f32⟩
  | 41 => ⟨S128x32x64x128, .f32⟩
  | 42 => ⟨S_, .f32⟩
  | 43 => ⟨S128x32x64x64, .f32⟩
  | 44 => ⟨S_, .f32⟩
  | 45 => ⟨S128x32x64x128, .f32⟩
  | 46 => ⟨S_, .f32⟩
  | 47 => ⟨S128x32x64x128, .f32⟩
  | 48 => ⟨S_, .f32⟩
  | 49 => ⟨S128x32x64x128, .f32⟩
  | 50 => ⟨S_, .i32⟩
  | 51 => ⟨S128x32x128x128, .f32⟩
  | 52 => ⟨S128x32x64x128, .f32⟩
  | 53 => ⟨S128x32x64x128, .f32⟩
  | 54 => ⟨S128x32x64x128, .f32⟩
  | 55 => ⟨S128x32x64x64, .f32⟩
  | 56 => ⟨S128x32x64x128, .f32⟩
  | 57 => ⟨S128x32x64x128, .f32⟩
  | 58 => ⟨S128x32x64x128, .f32⟩
  | 59 => ⟨S_, .i32⟩
  | 60 => ⟨S32x128x128, .f32⟩
  | 61 => ⟨S128x32x64x128, .f32⟩
  | 62 => ⟨S128x32x64x128, .f32⟩
  | 63 => ⟨S128x32x64x64, .f32⟩
  | 64 => ⟨S128x32x64x128, .f32⟩
  | 65 => ⟨S128x32x64x128, .f32⟩
  | 66 => ⟨S128x32x64x128, .f32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S1x32x128x128, .f32⟩
  | 77 => ⟨S32x128x128, .f32⟩
  | 78 => ⟨S_, .i32⟩
  | 79 => ⟨S_, .i32⟩
  | 80 => ⟨S_, .i32⟩
  | 81 => ⟨S1x32x64x128, .f32⟩
  | 82 => ⟨S32x64x128, .f32⟩
  | 83 => ⟨S_, .i32⟩
  | 84 => ⟨S_, .i32⟩
  | 85 => ⟨S_, .i32⟩
  | 86 => ⟨S1x32x64x128, .f32⟩
  | 87 => ⟨S32x64x128, .f32⟩
  | 88 => ⟨S_, .i32⟩
  | 89 => ⟨S_, .i32⟩
  | 90 => ⟨S_, .i32⟩
  | 91 => ⟨S1x32x64x128, .f32⟩
  | 92 => ⟨S32x64x128, .f32⟩
  | 93 => ⟨S_, .i32⟩
  | 94 => ⟨S_, .i32⟩
  | 95 => ⟨S_, .i32⟩
  | 96 => ⟨S1x32x64x64, .f32⟩
  | 97 => ⟨S32x64x64, .f32⟩
  | 98 => ⟨S_, .i32⟩
  | 99 => ⟨S_, .i32⟩
  | 100 => ⟨S_, .i32⟩
  | 101 => ⟨S1x32x64x128, .f32⟩
  | 102 => ⟨S32x64x128, .f32⟩
  | 103 => ⟨S_, .i32⟩
  | 104 => ⟨S_, .i32⟩
  | 105 => ⟨S_, .i32⟩
  | 106 => ⟨S1x32x64x128, .f32⟩
  | 107 => ⟨S32x64x128, .f32⟩
  | 108 => ⟨S_, .i32⟩
  | 109 => ⟨S_, .i32⟩
  | 110 => ⟨S_, .i32⟩
  | 111 => ⟨S1x32x64x128, .f32⟩
  | 112 => ⟨S32x64x128, .f32⟩
  | 113 => ⟨S32x64x128, .f32⟩
  | 114 => ⟨S32x64x128, .f32⟩
  | 115 => ⟨S32x64x128, .f32⟩
  | 116 => ⟨S32x64x128, .f32⟩
  | 117 => ⟨S32x64x128, .f32⟩
  | 118 => ⟨S32x64x128, .f32⟩
  | 119 => ⟨S32x64x128, .f32⟩
  | 120 => ⟨S32x1x128, .f32⟩
  | 121 => ⟨S32x1x1, .f32⟩
  | 122 => ⟨S32x1x1, .f32⟩
  | 123 => ⟨S32x128x128, .f32⟩
  | 124 => ⟨S32x128x128, .f32⟩
  | 125 => ⟨S32x64x128, .f32⟩
  | 126 => ⟨S32x64x128, .f32⟩
  | 127 => ⟨S32x64x128, .f32⟩
  | _ => ⟨S8192x4096, .f32⟩

abbrev hbmTy0_1 (i : Nat) : BufTy := match i % 128 with
  | 0 => ⟨S32x64x128, .f32⟩
  | 1 => ⟨S32x128x128, .f32⟩
  | 2 => ⟨S32x128x128, .f32⟩
  | 3 => ⟨S32x128x64, .f32⟩
  | 4 => ⟨S32x64x128, .f32⟩
  | 5 => ⟨S32x128x64, .f32⟩
  | 6 => ⟨S32x64x128, .f32⟩
  | 7 => ⟨S32x64x128, .f32⟩
  | 8 => ⟨S32x64x128, .f32⟩
  | 9 => ⟨S32x64x128, .f32⟩
  | 10 => ⟨S_, .f32⟩
  | 11 => ⟨S32x128, .f32⟩
  | 12 => ⟨S32x1x128, .f32⟩
  | 13 => ⟨S32x64x128, .f32⟩
  | 14 => ⟨S32x128x128, .f32⟩
  | 15 => ⟨S_, .f32⟩
  | 16 => ⟨S32, .f32⟩
  | 17 => ⟨S32x1x1, .f32⟩
  | 18 => ⟨S32x128x128, .f32⟩
  | 19 => ⟨S32x128x128, .f32⟩
  | 20 => ⟨S32x1x1, .f32⟩
  | 21 => ⟨S_, .f32⟩
  | 22 => ⟨S32x1x128, .f32⟩
  | 23 => ⟨S32x1x128, .f32⟩
  | 24 => ⟨S_, .f32⟩
  | 25 => ⟨S32x64x128, .f32⟩
  | 26 => ⟨S32x64x128, .f32⟩
  | 27 => ⟨S32x128x64, .f32⟩
  | 28 => ⟨S32x64x128, .f32⟩
  | 29 => ⟨S32x64x128, .f32⟩
  | 30 => ⟨S32x64x64, .f32⟩
  | 31 => ⟨S32x128x128, .f32⟩
  | 32 => ⟨S32x128x128, .f32⟩
  | 33 => ⟨S32x128x128, .f32⟩
  | 34 => ⟨S32x64x128, .f32⟩
  | 35 => ⟨S32x64x128, .f32⟩
  | 36 => ⟨S32x64x128, .f32⟩
  | 37 => ⟨S32x64x128, .f32⟩
  | 38 => ⟨S32x64x128, .f32⟩
  | 39 => ⟨S32x64x128, .f32⟩
  | 40 => ⟨S32x128x128, .f32⟩
  | 41 => ⟨S32x128x128, .f32⟩
  | 42 => ⟨S32x128x128, .f32⟩
  | 43 => ⟨S32x64x128, .f32⟩
  | 44 => ⟨S1x32x64x128, .f32⟩
  | 45 => ⟨S_, .i32⟩
  | 46 => ⟨S_, .i32⟩
  | 47 => ⟨S_, .i32⟩
  | 48 => ⟨S128x32x64x128, .f32⟩
  | 49 => ⟨S1x32x64x128, .f32⟩
  | 50 => ⟨S_, .i32⟩
  | 51 => ⟨S_, .i32⟩
  | 52 => ⟨S_, .i32⟩
  | 53 => ⟨S128x32x64x128, .f32⟩
  | 54 => ⟨S1x32x64x64, .f32⟩
  | 55 => ⟨S_, .i32⟩
  | 56 => ⟨S_, .i32⟩
  | 57 => ⟨S_, .i32⟩
  | 58 => ⟨S128x32x64x64, .f32⟩
  | 59 => ⟨S1x32x64x128, .f32⟩
  | 60 => ⟨S_, .i32⟩
  | 61 => ⟨S_, .i32⟩
  | 62 => ⟨S_, .i32⟩
  | 63 => ⟨S128x32x64x128, .f32⟩
  | 64 => ⟨S1x32x64x128, .f32⟩
  | 65 => ⟨S_, .i32⟩
  | 66 => ⟨S_, .i32⟩
  | 67 => ⟨S_, .i32⟩
  | 68 => ⟨S128x32x64x128, .f32⟩
  | 69 => ⟨S1x32x64x128, .f32⟩
  | 70 => ⟨S_, .i32⟩
  | 71 => ⟨S_, .i32⟩
  | 72 => ⟨S_, .i32⟩
  | 73 => ⟨S128x32x64x128, .f32⟩
  | 74 => ⟨S_, .i32⟩
  | 75 => ⟨S_, .i32⟩
  | 76 => ⟨S128x64x32x128, .f32⟩
  | 77 => ⟨S8192x4096, .f32⟩
  | 78 => ⟨S128x64x32x128, .f32⟩
  | 79 => ⟨S8192x4096, .f32⟩
  | 80 => ⟨S128x64x32x64, .f32⟩
  | 81 => ⟨S8192x2048, .f32⟩
  | 82 => ⟨S128x64x32x128, .f32⟩
  | 83 => ⟨S8192x4096, .f32⟩
  | 84 => ⟨S128x64x32x128, .f32⟩
  | 85 => ⟨S8192x4096, .f32⟩
  | 86 => ⟨S128x64x32x128, .f32⟩
  | 87 => ⟨S8192x4096, .f32⟩
  | 88 => ⟨S8192x4096, .bf16⟩
  | 89 => ⟨S8192x4096, .bf16⟩
  | 90 => ⟨S8192x2048, .bf16⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_c : Ref sig .tc := ⟨.hbm, 50, rfl⟩
abbrev main_v35_0 : Ref sig .tc := ⟨.hbm, 51, rfl⟩
abbrev main_v35_1 : Ref sig .tc := ⟨.hbm, 52, rfl⟩
abbrev main_v35_2 : Ref sig .tc := ⟨.hbm, 53, rfl⟩
abbrev main_v35_3 : Ref sig .tc := ⟨.hbm, 54, rfl⟩
abbrev main_v35_4 : Ref sig .tc := ⟨.hbm, 55, rfl⟩
abbrev main_v35_5 : Ref sig .tc := ⟨.hbm, 56, rfl⟩
abbrev main_v35_6 : Ref sig .tc := ⟨.hbm, 57, rfl⟩
abbrev main_v35_7 : Ref sig .tc := ⟨.hbm, 58, rfl⟩
abbrev main_v35_8 : Ref sig .tc := ⟨.hbm, 59, rfl⟩
abbrev main_v35_9 : Ref sig .tc := ⟨.hbm, 60, rfl⟩
abbrev main_v35_10 : Ref sig .tc := ⟨.hbm, 61, rfl⟩
abbrev main_v35_11 : Ref sig .tc := ⟨.hbm, 62, rfl⟩
abbrev main_v35_12 : Ref sig .tc := ⟨.hbm, 63, rfl⟩
abbrev main_v35_13 : Ref sig .tc := ⟨.hbm, 64, rfl⟩
abbrev main_v35_14 : Ref sig .tc := ⟨.hbm, 65, rfl⟩
abbrev main_v35_15 : Ref sig .tc := ⟨.hbm, 66, rfl⟩
abbrev main_while0c_c_21 : Ref sig .tc := ⟨.hbm, 67, rfl⟩
abbrev main_while0c_v51 : Ref sig .tc := ⟨.hbm, 68, rfl⟩
abbrev main_while0b_c_21 : Ref sig .tc := ⟨.hbm, 69, rfl⟩
abbrev main_while0b_v51 : Ref sig .tc := ⟨.hbm, 70, rfl⟩
abbrev main_while0b_c_22 : Ref sig .tc := ⟨.hbm, 71, rfl⟩
abbrev main_while0b_v52 : Ref sig .tc := ⟨.hbm, 72, rfl⟩
abbrev main_while0b_call0_c : Ref sig .tc := ⟨.hbm, 73, rfl⟩
abbrev main_while0b_call0_c_0 : Ref sig .tc := ⟨.hbm, 74, rfl⟩
abbrev main_while0b_call0_c_1 : Ref sig .tc := ⟨.hbm, 75, rfl⟩
abbrev main_while0b_call0_v0 : Ref sig .tc := ⟨.hbm, 76, rfl⟩
abbrev main_while0b_v53 : Ref sig .tc := ⟨.hbm, 77, rfl⟩
abbrev main_while0b_call1_c : Ref sig .tc := ⟨.hbm, 78, rfl⟩
abbrev main_while0b_call1_c_0 : Ref sig .tc := ⟨.hbm, 79, rfl⟩
abbrev main_while0b_call1_c_1 : Ref sig .tc := ⟨.hbm, 80, rfl⟩
abbrev main_while0b_call1_v0 : Ref sig .tc := ⟨.hbm, 81, rfl⟩
abbrev main_while0b_v54 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_call2_c_1 : Ref sig .tc := ⟨.hbm, 85, rfl⟩
abbrev main_while0b_call2_v0 : Ref sig .tc := ⟨.hbm, 86, rfl⟩
abbrev main_while0b_v55 : Ref sig .tc := ⟨.hbm, 87, rfl⟩
abbrev main_while0b_call3_c : Ref sig .tc := ⟨.hbm, 88, rfl⟩
abbrev main_while0b_call3_c_0 : Ref sig .tc := ⟨.hbm, 89, rfl⟩
abbrev main_while0b_call3_c_1 : Ref sig .tc := ⟨.hbm, 90, rfl⟩
abbrev main_while0b_call3_v0 : Ref sig .tc := ⟨.hbm, 91, rfl⟩
abbrev main_while0b_v56 : Ref sig .tc := ⟨.hbm, 92, rfl⟩
abbrev main_while0b_call4_c : Ref sig .tc := ⟨.hbm, 93, rfl⟩
abbrev main_while0b_call4_c_0 : Ref sig .tc := ⟨.hbm, 94, rfl⟩
abbrev main_while0b_call4_c_1 : Ref sig .tc := ⟨.hbm, 95, rfl⟩
abbrev main_while0b_call4_v0 : Ref sig .tc := ⟨.hbm, 96, rfl⟩
abbrev main_while0b_v57 : Ref sig .tc := ⟨.hbm, 97, rfl⟩
abbrev main_while0b_call5_c : Ref sig .tc := ⟨.hbm, 98, rfl⟩
abbrev main_while0b_call5_c_0 : Ref sig .tc := ⟨.hbm, 99, rfl⟩
abbrev main_while0b_call5_c_1 : Ref sig .tc := ⟨.hbm, 100, rfl⟩
abbrev main_while0b_call5_v0 : Ref sig .tc := ⟨.hbm, 101, rfl⟩
abbrev main_while0b_v58 : Ref sig .tc := ⟨.hbm, 102, rfl⟩
abbrev main_while0b_call6_c : Ref sig .tc := ⟨.hbm, 103, rfl⟩
abbrev main_while0b_call6_c_0 : Ref sig .tc := ⟨.hbm, 104, rfl⟩
abbrev main_while0b_call6_c_1 : Ref sig .tc := ⟨.hbm, 105, rfl⟩
abbrev main_while0b_call6_v0 : Ref sig .tc := ⟨.hbm, 106, rfl⟩
abbrev main_while0b_v59 : Ref sig .tc := ⟨.hbm, 107, rfl⟩
abbrev main_while0b_call7_c : Ref sig .tc := ⟨.hbm, 108, rfl⟩
abbrev main_while0b_call7_c_0 : Ref sig .tc := ⟨.hbm, 109, rfl⟩
abbrev main_while0b_call7_c_1 : Ref sig .tc := ⟨.hbm, 110, rfl⟩
abbrev main_while0b_call7_v0 : Ref sig .tc := ⟨.hbm, 111, rfl⟩
abbrev main_while0b_v60 : Ref sig .tc := ⟨.hbm, 112, rfl⟩
abbrev main_while0b_v61 : Ref sig .tc := ⟨.hbm, 113, rfl⟩
abbrev main_while0b_v62 : Ref sig .tc := ⟨.hbm, 114, rfl⟩
abbrev main_while0b_v63 : Ref sig .tc := ⟨.hbm, 115, rfl⟩
abbrev main_while0b_v64 : Ref sig .tc := ⟨.hbm, 116, rfl⟩
abbrev main_while0b_v65 : Ref sig .tc := ⟨.hbm, 117, rfl⟩
abbrev main_while0b_v66 : Ref sig .tc := ⟨.hbm, 118, rfl⟩
abbrev main_while0b_v67 : Ref sig .tc := ⟨.hbm, 119, rfl⟩
abbrev main_while0b_v68 : Ref sig .tc := ⟨.hbm, 120, rfl⟩
abbrev main_while0b_v69 : Ref sig .tc := ⟨.hbm, 121, rfl⟩
abbrev main_while0b_v70 : Ref sig .tc := ⟨.hbm, 122, rfl⟩
abbrev main_while0b_v71 : Ref sig .tc := ⟨.hbm, 123, rfl⟩
abbrev main_while0b_v72 : Ref sig .tc := ⟨.hbm, 124, rfl⟩
abbrev main_while0b_v73 : Ref sig .tc := ⟨.hbm, 125, rfl⟩
abbrev main_while0b_v74 : Ref sig .tc := ⟨.hbm, 126, rfl⟩
abbrev main_while0b_v75 : Ref sig .tc := ⟨.hbm, 127, rfl⟩
abbrev main_while0b_v76 : Ref sig .tc := ⟨.hbm, 128, rfl⟩
abbrev main_while0b_v77 : Ref sig .tc := ⟨.hbm, 129, rfl⟩
abbrev main_while0b_v78 : Ref sig .tc := ⟨.hbm, 130, rfl⟩
abbrev main_while0b_v79 : Ref sig .tc := ⟨.hbm, 131, rfl⟩
abbrev main_while0b_v80 : Ref sig .tc := ⟨.hbm, 132, rfl⟩
abbrev main_while0b_v81 : Ref sig .tc := ⟨.hbm, 133, rfl⟩
abbrev main_while0b_v82 : Ref sig .tc := ⟨.hbm, 134, rfl⟩
abbrev main_while0b_v83 : Ref sig .tc := ⟨.hbm, 135, rfl⟩
abbrev main_while0b_v84 : Ref sig .tc := ⟨.hbm, 136, rfl⟩
abbrev main_while0b_v85 : Ref sig .tc := ⟨.hbm, 137, rfl⟩
abbrev main_while0b_cst_23 : Ref sig .tc := ⟨.hbm, 138, rfl⟩
abbrev main_while0b_v86 : Ref sig .tc := ⟨.hbm, 139, rfl⟩
abbrev main_while0b_v87 : Ref sig .tc := ⟨.hbm, 140, rfl⟩
abbrev main_while0b_v88 : Ref sig .tc := ⟨.hbm, 141, rfl⟩
abbrev main_while0b_v89 : Ref sig .tc := ⟨.hbm, 142, rfl⟩
abbrev main_while0b_cst_24 : Ref sig .tc := ⟨.hbm, 143, rfl⟩
abbrev main_while0b_v90 : Ref sig .tc := ⟨.hbm, 144, rfl⟩
abbrev main_while0b_v91 : Ref sig .tc := ⟨.hbm, 145, rfl⟩
abbrev main_while0b_v92 : Ref sig .tc := ⟨.hbm, 146, rfl⟩
abbrev main_while0b_v93 : Ref sig .tc := ⟨.hbm, 147, rfl⟩
abbrev main_while0b_v94 : Ref sig .tc := ⟨.hbm, 148, rfl⟩
abbrev main_while0b_cst_25 : Ref sig .tc := ⟨.hbm, 149, rfl⟩
abbrev main_while0b_v95 : Ref sig .tc := ⟨.hbm, 150, rfl⟩
abbrev main_while0b_v96 : Ref sig .tc := ⟨.hbm, 151, rfl⟩
abbrev main_while0b_cst_26 : Ref sig .tc := ⟨.hbm, 152, rfl⟩
abbrev main_while0b_v97 : Ref sig .tc := ⟨.hbm, 153, rfl⟩
abbrev main_while0b_v98 : Ref sig .tc := ⟨.hbm, 154, rfl⟩
abbrev main_while0b_v99 : Ref sig .tc := ⟨.hbm, 155, rfl⟩
abbrev main_while0b_v100 : Ref sig .tc := ⟨.hbm, 156, rfl⟩
abbrev main_while0b_v101 : Ref sig .tc := ⟨.hbm, 157, rfl⟩
abbrev main_while0b_v102 : Ref sig .tc := ⟨.hbm, 158, rfl⟩
abbrev main_while0b_v103 : Ref sig .tc := ⟨.hbm, 159, rfl⟩
abbrev main_while0b_v104 : Ref sig .tc := ⟨.hbm, 160, rfl⟩
abbrev main_while0b_v105 : Ref sig .tc := ⟨.hbm, 161, rfl⟩
abbrev main_while0b_v106 : Ref sig .tc := ⟨.hbm, 162, rfl⟩
abbrev main_while0b_v107 : Ref sig .tc := ⟨.hbm, 163, rfl⟩
abbrev main_while0b_v108 : Ref sig .tc := ⟨.hbm, 164, rfl⟩
abbrev main_while0b_v109 : Ref sig .tc := ⟨.hbm, 165, rfl⟩
abbrev main_while0b_v110 : Ref sig .tc := ⟨.hbm, 166, rfl⟩
abbrev main_while0b_v111 : Ref sig .tc := ⟨.hbm, 167, rfl⟩
abbrev main_while0b_v112 : Ref sig .tc := ⟨.hbm, 168, rfl⟩
abbrev main_while0b_v113 : Ref sig .tc := ⟨.hbm, 169, rfl⟩
abbrev main_while0b_v114 : Ref sig .tc := ⟨.hbm, 170, rfl⟩
abbrev main_while0b_v115 : Ref sig .tc := ⟨.hbm, 171, rfl⟩
abbrev main_while0b_call8_v0 : Ref sig .tc := ⟨.hbm, 172, rfl⟩
abbrev main_while0b_call8_c : Ref sig .tc := ⟨.hbm, 173, rfl⟩
abbrev main_while0b_call8_c_0 : Ref sig .tc := ⟨.hbm, 174, rfl⟩
abbrev main_while0b_call8_c_1 : Ref sig .tc := ⟨.hbm, 175, rfl⟩
abbrev main_while0b_v116 : Ref sig .tc := ⟨.hbm, 176, rfl⟩
abbrev main_while0b_call9_v0 : Ref sig .tc := ⟨.hbm, 177, rfl⟩
abbrev main_while0b_call9_c : Ref sig .tc := ⟨.hbm, 178, rfl⟩
abbrev main_while0b_call9_c_0 : Ref sig .tc := ⟨.hbm, 179, rfl⟩
abbrev main_while0b_call9_c_1 : Ref sig .tc := ⟨.hbm, 180, rfl⟩
abbrev main_while0b_v117 : Ref sig .tc := ⟨.hbm, 181, rfl⟩
abbrev main_while0b_call10_v0 : Ref sig .tc := ⟨.hbm, 182, rfl⟩
abbrev main_while0b_call10_c : Ref sig .tc := ⟨.hbm, 183, rfl⟩
abbrev main_while0b_call10_c_0 : Ref sig .tc := ⟨.hbm, 184, rfl⟩
abbrev main_while0b_call10_c_1 : Ref sig .tc := ⟨.hbm, 185, rfl⟩
abbrev main_while0b_v118 : Ref sig .tc := ⟨.hbm, 186, rfl⟩
abbrev main_while0b_call11_v0 : Ref sig .tc := ⟨.hbm, 187, rfl⟩
abbrev main_while0b_call11_c : Ref sig .tc := ⟨.hbm, 188, rfl⟩
abbrev main_while0b_call11_c_0 : Ref sig .tc := ⟨.hbm, 189, rfl⟩
abbrev main_while0b_call11_c_1 : Ref sig .tc := ⟨.hbm, 190, rfl⟩
abbrev main_while0b_v119 : Ref sig .tc := ⟨.hbm, 191, rfl⟩
abbrev main_while0b_call12_v0 : Ref sig .tc := ⟨.hbm, 192, rfl⟩
abbrev main_while0b_call12_c : Ref sig .tc := ⟨.hbm, 193, rfl⟩
abbrev main_while0b_call12_c_0 : Ref sig .tc := ⟨.hbm, 194, rfl⟩
abbrev main_while0b_call12_c_1 : Ref sig .tc := ⟨.hbm, 195, rfl⟩
abbrev main_while0b_v120 : Ref sig .tc := ⟨.hbm, 196, rfl⟩
abbrev main_while0b_call13_v0 : Ref sig .tc := ⟨.hbm, 197, rfl⟩
abbrev main_while0b_call13_c : Ref sig .tc := ⟨.hbm, 198, rfl⟩
abbrev main_while0b_call13_c_0 : Ref sig .tc := ⟨.hbm, 199, rfl⟩
abbrev main_while0b_call13_c_1 : Ref sig .tc := ⟨.hbm, 200, rfl⟩
abbrev main_while0b_v121 : Ref sig .tc := ⟨.hbm, 201, rfl⟩
abbrev main_while0b_c_27 : Ref sig .tc := ⟨.hbm, 202, rfl⟩
abbrev main_while0b_v122 : Ref sig .tc := ⟨.hbm, 203, rfl⟩
abbrev main_v36 : Ref sig .tc := ⟨.hbm, 204, rfl⟩
abbrev main_v37 : Ref sig .tc := ⟨.hbm, 205, rfl⟩
abbrev main_v38 : Ref sig .tc := ⟨.hbm, 206, rfl⟩
abbrev main_v39 : Ref sig .tc := ⟨.hbm, 207, rfl⟩
abbrev main_v40 : Ref sig .tc := ⟨.hbm, 208, rfl⟩
abbrev main_v41 : Ref sig .tc := ⟨.hbm, 209, rfl⟩
abbrev main_v42 : Ref sig .tc := ⟨.hbm, 210, rfl⟩
abbrev main_v43 : Ref sig .tc := ⟨.hbm, 211, rfl⟩
abbrev main_v44 : Ref sig .tc := ⟨.hbm, 212, rfl⟩
abbrev main_v45 : Ref sig .tc := ⟨.hbm, 213, rfl⟩
abbrev main_v46 : Ref sig .tc := ⟨.hbm, 214, rfl⟩
abbrev main_v47 : Ref sig .tc := ⟨.hbm, 215, rfl⟩
abbrev main_v48 : Ref sig .tc := ⟨.hbm, 216, rfl⟩
abbrev main_v49 : Ref sig .tc := ⟨.hbm, 217, rfl⟩
abbrev main_v50 : Ref sig .tc := ⟨.hbm, 218, rfl⟩

abbrev nD : Nat := 1
abbrev τ : Topo := Topo.v7x

variable {F : FTy → Type} [FloatOps F]

abbrev main_while0_count : Scf.Loop 32 := ⟨0#32, 128#32, 1#32⟩
-- ==== Kernel27.lean ====
abbrev S8192x2048 : Shape := ⟨2, ![8192, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v22 : BitVec 1 := Scalar.cmpi .eq arg0 c0_i32
  let v23 : BitVec 32 := Scalar.extui v22
  let c0_i32_13 : BitVec 32 := 0#32
  let v24 : BitVec 1 := Scalar.cmpi .ne v23 c0_i32_13
  v24

def k0_cond2 (i : grid0.Coords) : BitVec 1 :=
  let arg0 : BitVec 32 := BitVec.ofNat 32 (i 0).val
  let c0_i32_14 : BitVec 32 := 0#32
  let v25 : BitVec 1 := Scalar.cmpi .sgt arg0 c0_i32_14
  let v26 : BitVec 32 := Scalar.extui v25
  let c0_i32_15 : BitVec 32 := 0#32
  let v27 : BitVec 1 := Scalar.cmpi .ne v26 c0_i32_15
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference27Ideal.lean ====
abbrev S8192x2048 : Shape := ⟨2, ![8192, 2048]⟩
abbrev S_ : Shape := ⟨0, ![]⟩
abbrev S8192 : Shape := ⟨1, ![8192]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S8192x2048, .bf16⟩
  | .hbm, ⟨26, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel28.lean ====
abbrev S8192x4096 : Shape := ⟨2, ![8192, 4096]⟩
abbrev S8192x12288 : Shape := ⟨2, ![8192, 12288]⟩
abbrev S1x128 : Shape := ⟨2, ![1, 128]⟩
abbrev S128x4096 : Shape := ⟨2, ![128, 4096]⟩
abbrev S128x128 : Shape := ⟨2, ![128, 128]⟩
abbrev S128 : Shape := ⟨1, ![128]⟩
abbrev S128x1 : Shape := ⟨2, ![128, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x12288, .bf16⟩
  | .hbm, ⟨2, _⟩ => ⟨S1x128, .f32⟩
  | .hbm, ⟨3, _⟩ => ⟨S8192x4096, .bf16⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S1x128, .f32⟩
  | .local _ .vmem, ⟨5, _⟩ => ⟨S128x4096, .bf16⟩
  | .local _ .vmem, ⟨6, _⟩ => ⟨S128x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference28Ideal.lean ====
abbrev S8192x4096 : Shape := ⟨2, ![8192, 4096]⟩
abbrev S8192x12288 : Shape := ⟨2, ![8192, 12288]⟩
abbrev S1x128 : Shape := ⟨2, ![1, 128]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S1x1x128 : Shape := ⟨3, ![1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x12288, .bf16⟩
  | .hbm, ⟨2, _⟩ => ⟨S1x128, .f32⟩
  | .hbm, ⟨3, _⟩ => ⟨S8192x4096, .f32⟩
  | .hbm, ⟨4, _⟩ => ⟨S8192x32x128, .f32⟩
  | .hbm, ⟨5, _⟩ => ⟨S8192x32x128, .f32⟩
  | .hbm, ⟨6, _⟩ => ⟨S_, .f32⟩
  | .hbm, ⟨7, _⟩ => ⟨S8192x32, .f32⟩
  | .hbm, ⟨8, _⟩ => ⟨S8192x32x1, .f32⟩
  | .hbm, ⟨9, _⟩ => ⟨S_, .f32⟩
  | .hbm, ⟨10, _⟩ => ⟨S8192x32x1, .f32⟩
  | .hbm, ⟨11, _⟩ => ⟨S8192x32x1, .f32⟩
  | .hbm, ⟨12, _⟩ => ⟨S_, .f32⟩
  | .hbm, ⟨13, _⟩ => ⟨S8192x32x1, .f32⟩
  | .hbm, ⟨14, _⟩ => ⟨S8192x32x1, .f32⟩
  | .hbm, ⟨15, _⟩ => ⟨S8192x32x1, .f32⟩
  | .hbm, ⟨16, _⟩ => ⟨S8192x32x128, .f32⟩
  | .hbm, ⟨17, _⟩ => ⟨S8192x32x128, .f32⟩
  | .hbm, ⟨18, _⟩ => ⟨S1x1x128, .f32⟩
  | .hbm, ⟨19, _⟩ => ⟨S8192x32x128, .f32⟩
  | .hbm, ⟨20, _⟩ => ⟨S8192x32x128, .f32⟩
  | .hbm, ⟨21, _⟩ => ⟨S8192x4096, .bf16⟩
  | .hbm, ⟨22, _⟩ => ⟨S8192x4096, .f32⟩
  | .hbm, ⟨23, _⟩ => ⟨S8192x32x128, .f32⟩
  | .hbm, ⟨24, _⟩ => ⟨S8192x32x128, .f32⟩
  | .hbm, ⟨25, _⟩ => ⟨S8192x32x128, .f32⟩
  | .hbm, ⟨26, _⟩ => ⟨S_, .f32⟩
  | .hbm, ⟨27, _⟩ => ⟨S8192x32x128, .f32⟩
  | .hbm, ⟨28, _⟩ => ⟨S8192x32x128, .f32⟩
  | .hbm, ⟨29, _⟩ => ⟨S_, .f32⟩
  | .hbm, ⟨30, _⟩ => ⟨S8192x32x128, .f32⟩
  | .hbm, ⟨31, _⟩ => ⟨S8192x32x128, .f32⟩
  | .hbm, ⟨32, _⟩ => ⟨S8192x32x128, .f32⟩
  | .hbm, ⟨33, _⟩ => ⟨S8192x32x128, .f32⟩
  | .hbm, ⟨34, _⟩ => ⟨S8192x4096, .f32⟩
  | .hbm, ⟨35, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== Kernel29.lean ====
abbrev S8192x6144 : Shape := ⟨2, ![8192, 6144]⟩
abbrev S1x128 : Shape := ⟨2, ![1, 128]⟩
abbrev S8192x2048 : Shape := ⟨2, ![8192, 2048]⟩
abbrev S8704x2048 : Shape := ⟨2, ![8704, 2048]⟩
abbrev S512x6144 : Shape := ⟨2, ![512, 6144]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x6144, .bf16⟩
  | .hbm, ⟨1, _⟩ => ⟨S1x128, .f32⟩
  | .hbm, ⟨2, _⟩ => ⟨S1x128, .f32⟩
  | .hbm, ⟨3, _⟩ => ⟨S8192x2048, .bf16⟩
  | .hbm, ⟨4, _⟩ => ⟨S8704x2048, .bf16⟩
  | .hbm, ⟨5, _⟩ => ⟨S8704x2048, .bf16⟩
  | .local _ .vmem, ⟨0, _⟩ => ⟨S512x6144, .bf16⟩
  | .local _ .vmem, ⟨1, _⟩ => ⟨S512x6144, .bf16⟩
  | .local _ .vmem, ⟨2, _⟩ => ⟨S1x128, .f32⟩
  | .local _ .vmem, ⟨3, _⟩ => ⟨S1x128, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference29Ideal.lean ====
abbrev S8192x6144 : Shape := ⟨2, ![8192, 6144]⟩
abbrev S1x128 : Shape := ⟨2, ![1, 128]⟩
abbrev S8192x2048 : Shape := ⟨2, ![8192, 2048]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S512x2048 : Shape := ⟨2, ![512, 2048]⟩
abbrev S8704x2048 : Shape := ⟨2, ![8704, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S1x128, .f32⟩
  | .hbm, ⟨2, _⟩ => ⟨S1x128, .f32⟩
  | .hbm, ⟨3, _⟩ => ⟨S8192x6144, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x16x128, .f32⟩
  | .hbm, ⟨8, _⟩ => ⟨S8192x16x128, .f32⟩
  | .hbm, ⟨9, _⟩ => ⟨S_, .f32⟩
  | .hbm, ⟨10, _⟩ => ⟨S8192x16, .f32⟩
  | .hbm, ⟨11, _⟩ => ⟨S8192x16x1, .f32⟩
  | .hbm, ⟨12, _⟩ => ⟨S_, .f32⟩
  | .hbm, ⟨13, _⟩ => ⟨S8192x16x1, .f32⟩
  | .hbm, ⟨14, _⟩ => ⟨S8192x16x1, .f32⟩
  | .hbm, ⟨15, _⟩ => ⟨S_, .f32⟩
  | .hbm, ⟨16, _⟩ => ⟨S8192x16x1, .f32⟩
  | .hbm, ⟨17, _⟩ => ⟨S8192x16x1, .f32⟩
  | .hbm, ⟨18, _⟩ => ⟨S8192x16x1, .f32⟩
  | .hbm, ⟨19, _⟩ => ⟨S8192x16x128, .f32⟩
  | .hbm, ⟨20, _⟩ => ⟨S8192x16x128, .f32⟩
  | .hbm, ⟨21, _⟩ => ⟨S1x1x128, .f32⟩
  | .hbm, ⟨22, _⟩ => ⟨S8192x16x128, .f32⟩
  | .hbm, ⟨23, _⟩ => ⟨S8192x16x128, .f32⟩
  | .hbm, ⟨24, _⟩ => ⟨S8192x2048, .f32⟩
  | .hbm, ⟨25, _⟩ => ⟨S8192x16x128, .f32⟩
  | .hbm, ⟨26, _⟩ => ⟨S8192x16x128, .f32⟩
  | .hbm, ⟨27, _⟩ => ⟨S_, .f32⟩
  | .hbm, ⟨28, _⟩ => ⟨S8192x16, .f32⟩
  | .hbm, ⟨29, _⟩ => ⟨S8192x16x1, .f32⟩
  | .hbm, ⟨30, _⟩ => ⟨S_, .f32⟩
  | .hbm, ⟨31, _⟩ => ⟨S8192x16x1, .f32⟩
  | .hbm, ⟨32, _⟩ => ⟨S8192x16x1, .f32⟩
  | .hbm, ⟨33, _⟩ => ⟨S_, .f32⟩
  | .hbm, ⟨34, _⟩ => ⟨S8192x16x1, .f32⟩
  | .hbm, ⟨35, _⟩ => ⟨S8192x16x1, .f32⟩
  | .hbm, ⟨36, _⟩ => ⟨S8192x16x1, .f32⟩
  | .hbm, ⟨37, _⟩ => ⟨S8192x16x128, .f32⟩
  | .hbm, ⟨38, _⟩ => ⟨S8192x16x128, .f32⟩
  | .hbm, ⟨39, _⟩ => ⟨S1x1x128, .f32⟩
  | .hbm, ⟨40, _⟩ => ⟨S8192x16x128, .f32⟩
  | .hbm, ⟨41, _⟩ => ⟨S8192x16x128, .f32⟩
  | .hbm, ⟨42, _⟩ => ⟨S8192x2048, .f32⟩
  | .hbm, ⟨43, _⟩ => ⟨S8192x2048, .bf16⟩
  | .hbm, ⟨44, _⟩ => ⟨S_, .f32⟩
  | .hbm, ⟨45, _⟩ => ⟨S512x2048, .f32⟩
  | .hbm, ⟨46, _⟩ => ⟨S8704x2048, .f32⟩
  | .hbm, ⟨47, _⟩ => ⟨S8704x2048, .bf16⟩
  | .hbm, ⟨48, _⟩ => ⟨S_, .f32⟩
  | .hbm, ⟨49, _⟩ => ⟨S512x2048, .f32⟩
  | .hbm, ⟨50, _⟩ => ⟨S8704x2048, .f32⟩
  | .hbm, ⟨51, _⟩ => ⟨S8704x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Proof.Spec.lean ====
module
public import Idealize.ShloMosaic.PureOps.Ideal
public import Idealize.ShloMosaic.Lib.Pointwise
@[expose] public section
noncomputable section
/-! The gradient of the chunk-causal band attention of one head, written over natural coordinates: the function both
    programs are shown to compute. -/
namespace Cert.BandAttention
open Idealize.ShloMosaic

/-- A matrix read at natural coordinates (zero outside). -/
def n2 {a b : ℕ} (x : (⟨2, ![a, b]⟩ : Shape).Idx → EReal) (r d : ℕ) : EReal :=
  if h : r < a ∧ d < b then x (ix2 ⟨r, h.1⟩ ⟨d, h.2⟩) else 0

/-- A box read at natural coordinates (zero outside). -/
def n3 {a b c : ℕ} (x : (⟨3, ![a, b, c]⟩ : Shape).Idx → EReal) (r s d : ℕ) : EReal :=
  if h : r < a ∧ s < b ∧ d < c then x (ix3 ⟨r, h.1⟩ ⟨s, h.2.1⟩ ⟨d, h.2.2⟩) else 0

theorem n2_ix {a b : ℕ} (x : (⟨2, ![a, b]⟩ : Shape).Idx → EReal) (r : Fin a) (d : Fin b) :
    x (ix2 r d) = n2 x r d := by simp [n2]

theorem n3_ix {a b c : ℕ} (x : (⟨3, ![a, b, c]⟩ : Shape).Idx → EReal) (r : Fin a) (s : Fin b) (d : Fin c) :
    x (ix3 r s d) = n3 x r s d := by simp [n3]

/-- One head's arrays: queries, padded keys, padded values, the cotangent (row, lane), and the bias (query, band lane). -/
structure Slab where
  q : ℕ → ℕ → EReal
  k : ℕ → ℕ → EReal
  v : ℕ → ℕ → EReal
  o : ℕ → ℕ → EReal
  b : ℕ → ℕ → EReal

/-- The head of five whole arrays. -/
def slab (q : (⟨2, ![8192, 2048]⟩ : Shape).Idx → EReal) (k v : (⟨2, ![8704, 2048]⟩ : Shape).Idx → EReal)
    (b : (⟨3, ![16, 64, 576]⟩ : Shape).Idx → EReal) (o : (⟨2, ![8192, 2048]⟩ : Shape).Idx → EReal) (h : ℕ) : Slab where
  q r d := n2 q r (128 * h + d)
  k r d := n2 k r (128 * h + d)
  v r d := n2 v r (128 * h + d)
  o r d := n2 o r (128 * h + d)
  b x j := n3 b h x j

/-- The scale of the scores (the word both programs multiply by). -/
abbrev scale : EReal := Ideal.ofBits .f32 1035273459#32

namespace Slab
variable (S : Slab)

/-- The score of query `a` of chunk `n` at lane `j` of its band: `−∞` before the sequence's start. -/
def score (n a j : ℕ) : EReal :=
  if 512 ≤ j + 64 * n then (∑ d : Fin 128, S.q (64 * n + a) d * S.k (64 * n + j) d) * scale + S.b a j else ⊥

def top (n a : ℕ) : EReal := Finset.univ.fold max ⊥ fun j : Fin 576 => S.score n a j
def num (n a j : ℕ) : EReal := Ideal.exp (S.score n a j - S.top n a)
def den (n a : ℕ) : EReal := ∑ j : Fin 576, S.num n a j
def prob (n a j : ℕ) : EReal := Ideal.div (S.num n a j) (S.den n a)
def dprob (n a j : ℕ) : EReal := ∑ d : Fin 128, S.o (64 * n + a) d * S.v (64 * n + j) d
def dscore (n a j : ℕ) : EReal :=
  S.prob n a j * (S.dprob n a j - ∑ x : Fin 576, S.prob n a x * S.dprob n a x)
def dscaled (n a j : ℕ) : EReal := S.dscore n a j * scale

/-- The gradient of the queries. -/
def dq (r d : ℕ) : EReal := ∑ j : Fin 576, S.dscaled (r / 64) (r % 64) j * S.k (64 * (r / 64) + j) d

/-- What chunk `n` adds to the gradient of the keys of its band, and of the values. -/
def dkc (n j d : ℕ) : EReal := ∑ a : Fin 64, S.dscaled n a j * S.q (64 * n + a) d
def dvc (n j d : ℕ) : EReal := ∑ a : Fin 64, S.prob n a j * S.o (64 * n + a) d

end Slab

/-- The rows of a band of a chunk, placed at its first row `lo`. -/
def place (lo : ℕ) (f : ℕ → ℕ → EReal) (r d : ℕ) : EReal := if lo ≤ r ∧ r < lo + 576 then f (r - lo) d else 0

/-- The bands of the first `n` chunks, each at its own first row, added. -/
def spread (f : ℕ → ℕ → ℕ → EReal) (n r d : ℕ) : EReal := ∑ x ∈ Finset.range n, place (64 * x) (f x) r d

namespace Slab
variable (S : Slab)
/-- The gradients of the padded keys, the padded values and the bias. -/
def dk (r d : ℕ) : EReal := spread S.dkc 128 r d
def dv (r d : ℕ) : EReal := spread S.dvc 128 r d
def db (a j : ℕ) : EReal := ∑ n ∈ Finset.range 128, S.dscore n a j
end Slab

end Cert.BandAttention
-- ==== Proof.Alg.lean ====
module
public import proofs.«01_k».proof.Proof.Spec
@[expose] public section
noncomputable section
/-! The gradient of the scores through the quotient's own rule is the kernel's, where queries, keys and bias are finite. -/
namespace Cert.BandAttention
open Idealize.ShloMosaic

theorem mul_sum_real {ι : Type} (s : Finset ι) (c : ℝ) (hc : 0 ≤ c) (f : ι → EReal) :
    (c : EReal) * ∑ x ∈ s, f x = ∑ x ∈ s, (c : EReal) * f x := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

theorem mul_sub_real (c : ℝ) (hc : 0 ≤ c) (x y : EReal) : (c : EReal) * (x - y) = c * x - c * y := by
  rw [sub_eq_add_neg, sub_eq_add_neg, EReal.left_distrib_of_nonneg_of_ne_top (by exact_mod_cast hc) (EReal.coe_ne_top c), mul_neg]

theorem coe_sum {ι : Type} (s : Finset ι) (g : ι → ℝ) : ((∑ x ∈ s, g x : ℝ) : EReal) = ∑ x ∈ s, (g x : EReal) := by
  classical
  induction s using Finset.induction_on with
  | empty => simp
  | insert a s ha ih => rw [Finset.sum_insert ha, Finset.sum_insert ha, EReal.coe_add, ih]

theorem sum_real {ι : Type} (s : Finset ι) (f : ι → EReal) (h : ∀ x, ∃ r : ℝ, f x = r) : ∃ r : ℝ, ∑ x ∈ s, f x = r := by
  choose g hg using h
  exact ⟨∑ x ∈ s, g x, by rw [coe_sum]; exact Finset.sum_congr rfl fun x _ => hg x⟩

theorem scale_real : ∃ r : ℝ, scale = r := by
  simp [scale, Ideal.ofBits, Ideal.ieee]
  exact ⟨_, rfl⟩

theorem div_real (x : EReal) (s : ℝ) (hs : s ≠ 0) : Ideal.div x s = x * ((s⁻¹ : ℝ) : EReal) := by
  unfold Ideal.div
  rw [if_neg (by exact_mod_cast hs), EReal.coe_inv]

/-- Queries, keys and bias are finite. -/
structure Slab.Finite (S : Slab) : Prop where
  q : ∀ r d, ∃ x : ℝ, S.q r d = x
  k : ∀ r d, ∃ x : ℝ, S.k r d = x
  b : ∀ r d, ∃ x : ℝ, S.b r d = x

namespace Slab
variable {S : Slab}

theorem Finite.score (h : S.Finite) (n a j : ℕ) (hj : 512 ≤ j + 64 * n) : ∃ x : ℝ, S.score n a j = x := by
  obtain ⟨p, hp⟩ := sum_real Finset.univ (fun d : Fin 128 => S.q (64 * n + a) d * S.k (64 * n + j) d) fun d => by
    obtain ⟨x, hx⟩ := h.q (64 * n + a) d
    obtain ⟨y, hy⟩ := h.k (64 * n + j) d
    exact ⟨x * y, by rw [hx, hy, EReal.coe_mul]⟩
  obtain ⟨c, hc⟩ := scale_real
  obtain ⟨b, hb⟩ := h.b a j
  exact ⟨p * c + b, by rw [Slab.score, if_pos hj, hp, hc, hb, EReal.coe_add, EReal.coe_mul]⟩

theorem Finite.top (h : S.Finite) (n a : ℕ) : ∃ j : Fin 576, ∃ t : ℝ, S.top n a = t ∧ S.score n a j = t := by
  have e : S.top n a = Finset.univ.sup fun j : Fin 576 => S.score n a j := rfl
  obtain ⟨j, -, hj⟩ := Finset.exists_mem_eq_sup (Finset.univ : Finset (Fin 576)) Finset.univ_nonempty fun j : Fin 576 => S.score n a j
  have hle : S.score n a (512 : Fin 576).val ≤ S.top n a := e ▸ Finset.le_sup (f := fun j : Fin 576 => S.score n a j) (Finset.mem_univ _)
  by_cases hv : 512 ≤ j.val + 64 * n
  · obtain ⟨t, ht⟩ := h.score n a j hv
    exact ⟨j, t, (e.trans hj).trans ht, ht⟩
  · obtain ⟨x, hx⟩ := h.score n a (512 : Fin 576).val (by show 512 ≤ 512 + 64 * n; omega)
    rw [e, hj, hx, Slab.score, if_neg hv] at hle
    exact absurd (le_bot_iff.mp hle) (EReal.coe_ne_bot x)

theorem Finite.num (h : S.Finite) (n a j : ℕ) : ∃ x : ℝ, 0 ≤ x ∧ S.num n a j = x := by
  obtain ⟨-, t, ht, -⟩ := h.top n a
  by_cases hv : 512 ≤ j + 64 * n
  · obtain ⟨x, hx⟩ := h.score n a j hv
    exact ⟨Real.exp (x - t), Real.exp_nonneg _, by rw [Slab.num, hx, ht, ← EReal.coe_sub]; rfl⟩
  · exact ⟨0, le_rfl, by rw [Slab.num, Slab.score, if_neg hv, ht, EReal.bot_sub]; rfl⟩

theorem Finite.den (h : S.Finite) (n a : ℕ) : ∃ x : ℝ, 0 < x ∧ S.den n a = x := by
  obtain ⟨j, t, ht, hj⟩ := h.top n a
  choose g hg hn using fun x => h.num n a x
  refine ⟨∑ x : Fin 576, g x, ?_, by rw [Slab.den, coe_sum]; exact Finset.sum_congr rfl fun x _ => hn x⟩
  refine lt_of_lt_of_le ?_ (Finset.single_le_sum (f := fun x : Fin 576 => g x) (fun x _ => hg x) (Finset.mem_univ j))
  have e : ((g j : ℝ) : EReal) = ((Real.exp (t - t) : ℝ) : EReal) := by
    rw [← hn, Slab.num, hj, ht, ← EReal.coe_sub]; rfl
  rw [EReal.coe_eq_coe_iff] at e
  rw [e]
  exact Real.exp_pos _

/-- The two forms of the scores' gradient. -/
theorem Finite.dscore (h : S.Finite) (n a j : ℕ) :
    (if 512 ≤ j + 64 * n then (Ideal.div (S.dprob n a j) (S.den n a)
        + -∑ x : Fin 576, S.dprob n a x * Ideal.div 1 (S.den n a * S.den n a) * S.num n a x) * S.num n a j else 0)
      = S.dscore n a j := by
  obtain ⟨s, hs, hd⟩ := h.den n a
  choose e he hn using fun x => h.num n a x
  have hi : 0 ≤ s⁻¹ := inv_nonneg.mpr hs.le
  have e1 : ∑ x : Fin 576, S.prob n a x * S.dprob n a x = ((s⁻¹ : ℝ) : EReal) * ∑ x : Fin 576, S.num n a x * S.dprob n a x := by
    rw [mul_sum_real _ _ hi]
    refine Finset.sum_congr rfl fun x _ => ?_
    rw [Slab.prob, hd, div_real _ _ hs.ne', mul_comm (S.num n a x), mul_assoc]
  have e2 : ∑ x : Fin 576, S.dprob n a x * Ideal.div 1 (S.den n a * S.den n a) * S.num n a x
      = ((s⁻¹ : ℝ) : EReal) * (((s⁻¹ : ℝ) : EReal) * ∑ x : Fin 576, S.num n a x * S.dprob n a x) := by
    rw [mul_sum_real _ _ hi, mul_sum_real _ _ hi]
    refine Finset.sum_congr rfl fun x _ => ?_
    rw [hd, ← EReal.coe_mul, div_real _ _ (mul_pos hs hs).ne', one_mul, mul_inv, EReal.coe_mul]
    ac_rfl
  rw [Slab.dscore, e1, e2, Slab.prob, hd, div_real _ _ hs.ne', div_real _ _ hs.ne']
  split_ifs with hv
  · rw [mul_comm (S.dprob n a j), ← sub_eq_add_neg, ← mul_sub_real _ hi, mul_comm (S.num n a j), mul_assoc, mul_assoc]
    exact congrArg _ (mul_comm _ _)
  · obtain ⟨-, t, ht, -⟩ := h.top n a
    have z : S.num n a j = 0 := by rw [Slab.num, Slab.score, if_neg hv, ht, EReal.bot_sub]; rfl
    rw [z, zero_mul, zero_mul]

end Slab
end Cert.BandAttention
-- ==== Proof.RefA.lean ====
module
public import proofs.«01_k».proof.Proof.Alg
public import proofs.«01_k».proof.Proof.Gen.ReferenceIdeal.Run
public import Idealize.ShloMosaic.Lib.Pointwise
@[expose] public section
noncomputable section
/-! The reference's composed terms read at an index. -/
namespace Cert.ReferenceIdeal.Hand
open Cert.ReferenceIdeal Cert.ReferenceIdeal.Gen Cert.ReferenceIdeal.Value Idealize.ShloMosaic Idealize.ShloMosaic.TcCoe Idealize.SL.Sem
open Cert.BandAttention

variable (V : Valuation τ sig (Elt Ideal))

/-- Head `h` of the argument arrays. -/
def head (h : ℕ) : Slab := slab (V (Proc.devRef .tc main_arg0)) (V (Proc.devRef .tc main_arg1))
  (V (Proc.devRef .tc main_arg2)) (V (Proc.devRef .tc main_arg3)) (V (Proc.devRef .tc main_arg4)) h

theorem nat2 {a b : ℕ} (x : (⟨2, ![a, b]⟩ : Shape).Idx → EReal) (r d r' d' : ℕ) (hr : r < a) (hd : d < b)
    (e : r = r') (f : d = d') : x (ix2 ⟨r, hr⟩ ⟨d, hd⟩) = n2 x r' d' := by
  subst e f; exact n2_ix x ⟨r, hr⟩ ⟨d, hd⟩

theorem v3_eq : res_main_v3 V = fun y => (head V (y 2).val).q (64 * (y 0).val + (y 1).val) (y 3).val := by
  funext y; idx_vars y
  pointwise [res_main_v3]
  exact nat2 _ _ _ _ _ _ _ (by omega) (by omega)

theorem v4_eq : res_main_v4 V = fun y => (head V (y 2).val).k (64 * (y 0).val + (y 1).val) (y 3).val := by
  funext y; idx_vars y
  pointwise [res_main_v4]
  exact nat2 _ _ _ _ _ _ _ (by omega) (by omega)

theorem v15_eq : res_main_v15 V = fun y => (head V (y 2).val).v (64 * (y 0).val + (y 1).val) (y 3).val := by
  funext y; idx_vars y
  pointwise [res_main_v15]
  exact nat2 _ _ _ _ _ _ _ (by omega) (by omega)

theorem v80_eq : res_main_v80 V = fun y => (head V (y 1).val).o (64 * (y 0).val + (y 3).val) (y 2).val := by
  funext y; idx_vars y
  pointwise [res_main_v80]
  exact nat2 _ _ _ _ _ _ _ (by omega) (by omega)

/-- Nine pieces of 64 rows each, read as one. -/
theorem ladder (f : ℕ → EReal) (n j : ℕ) (hj : j < 576) :
    (if _ : j < 64 then f (64 * n + j) else
      if _ : j - 64 < 64 then f (64 * (1 + n) + (j - 64)) else
      if _ : j - 64 - 64 < 64 then f (64 * (2 + n) + (j - 64 - 64)) else
      if _ : j - 64 - 64 - 64 < 64 then f (64 * (3 + n) + (j - 64 - 64 - 64)) else
      if _ : j - 64 - 64 - 64 - 64 < 64 then f (64 * (4 + n) + (j - 64 - 64 - 64 - 64)) else
      if _ : j - 64 - 64 - 64 - 64 - 64 < 64 then f (64 * (5 + n) + (j - 64 - 64 - 64 - 64 - 64)) else
      if _ : j - 64 - 64 - 64 - 64 - 64 - 64 < 64 then f (64 * (6 + n) + (j - 64 - 64 - 64 - 64 - 64 - 64)) else
      if _ : j - 64 - 64 - 64 - 64 - 64 - 64 - 64 < 64 then f (64 * (7 + n) + (j - 64 - 64 - 64 - 64 - 64 - 64 - 64)) else
        f (64 * (8 + n) + (j - 64 - 64 - 64 - 64 - 64 - 64 - 64 - 64))) = f (64 * n + j) := by
  split_ifs <;> first | rfl | exact congrArg f (by omega)

theorem v14_eq : res_main_v14 V = fun y => (head V (y 2).val).k (64 * (y 0).val + (y 1).val) (y 3).val := by
  funext y; idx_vars y
  pointwise [res_main_v14]
  rw [v4_eq]
  exact ladder (fun r => (head V y2.val).k r y3.val) y0.val y1.val y1.isLt

theorem v25_eq : res_main_v25 V = fun y => (head V (y 2).val).v (64 * (y 0).val + (y 1).val) (y 3).val := by
  funext y; idx_vars y
  pointwise [res_main_v25]
  rw [v15_eq]
  exact ladder (fun r => (head V y2.val).v r y3.val) y0.val y1.val y1.isLt

theorem mask_bit : ∀ (n : Fin 128) (j : Fin 576), IntOp.cmpi CmpIPredicate.sge
      (IntOp.addi (IntOp.subi (IntOp.muli (BitVec.ofNat 32 n) 64#32) 512#32) (BitVec.ofNat 32 j)) 0#32
    = if 512 ≤ j.val + 64 * n.val then 1#1 else 0#1 := by
  intro n j
  have e : IntOp.addi (IntOp.subi (IntOp.muli (BitVec.ofNat 32 n) 64#32) 512#32) (BitVec.ofNat 32 j)
      = BitVec.ofInt 32 ((j.val + 64 * n.val : ℤ) - 512) := by
    apply BitVec.eq_of_toNat_eq
    simp only [IntOp.addi, IntOp.subi, IntOp.muli, BitVec.toNat_add, BitVec.toNat_sub, BitVec.toNat_mul, BitVec.toNat_ofNat, BitVec.toNat_ofInt]
    omega
  rw [e]
  by_cases h : 512 ≤ j.val + 64 * n.val
  · have hs : (0#32 : BitVec 32).sle (BitVec.ofInt 32 ((j.val + 64 * n.val : ℤ) - 512)) = true := by
      rw [BitVec.sle_eq_decide, decide_eq_true_eq, BitVec.toInt_ofInt, Int.bmod_def, BitVec.toInt_zero]
      split_ifs <;> omega
    simp [IntOp.cmpi, hs, h]
  · have hs : (0#32 : BitVec 32).sle (BitVec.ofInt 32 ((j.val + 64 * n.val : ℤ) - 512)) = false := by
      rw [BitVec.sle_eq_decide, decide_eq_false_iff_not, BitVec.toInt_ofInt, Int.bmod_def, BitVec.toInt_zero]
      split_ifs <;> omega
    simp [IntOp.cmpi, hs, h]

theorem mask_eq : res_main_v46_1 V = fun y => if 512 ≤ (y 3).val + 64 * (y 0).val then 1#1 else 0#1 := by
  funext y; idx_vars y
  pointwise [res_main_v46_1]
  exact mask_bit y0 y3

theorem ofBits_bot : Ideal.ofBits .f32 4286578688#32 = ⊥ := by simp [Ideal.ofBits, Ideal.ieee]

theorem select_if (p : Prop) [Decidable p] (x y : EReal) :
    Scalar.select (if p then 1#1 else 0#1) x y = if p then x else y := by
  split_ifs <;> rfl

theorem sc_eq : res_main_v46_0 V = fun y => (head V (y 1).val).score (y 0).val (y 2).val (y 3).val := by
  funext y; idx_vars y
  pointwise [res_main_v46_0]
  rw [v3_eq, v14_eq, mask_eq]
  refine (select_if _ _ _).trans ?_
  rw [show id (constant (F := Ideal) S_ FTy.f32 4286578688#32) ix0 = (⊥ : EReal) from ofBits_bot]
  rw [show V (Proc.tc.devRef main_arg3) (ix3 y1 y2 y3) = (head V y1.val).b y2.val y3.val from n3_ix (V (Proc.tc.devRef main_arg3)) y1 y2 y3]
  rfl

theorem top_eq : res_main_v47 V = fun y => (head V (y 1).val).top (y 0).val (y 2).val := by
  funext y; idx_vars y
  pointwise [res_main_v47]
  rw [sc_eq, ofBits_bot]
  exact Shape.ReducesTo.fold_fiber_r4_a3 reducesTo_S128x16x64x576_S128x16x64_d3 (ix3 y0 y1 y2) (max : EReal → EReal → EReal) ⊥ _

theorem exp_max (a t : EReal) : Ideal.exp (a - max (Ideal.ofBits .f32 4286578688#32) t) = Ideal.exp (a - t) := by
  rw [ofBits_bot, max_eq_right bot_le]

theorem num_eq : res_main_v67 V = fun y => (head V (y 1).val).num (y 0).val (y 2).val (y 3).val := by
  rw [res_main_v67, sc_eq, top_eq]
  funext y; idx_vars y
  pointwise
  exact exp_max ((head V y1.val).score y0.val y2.val y3.val) ((head V y1.val).top y0.val y2.val)

theorem den_eq : res_main_v69 V = fun y => (head V (y 1).val).den (y 0).val (y 2).val := by
  funext y; idx_vars y
  pointwise [res_main_v69]
  rw [num_eq]
  rfl

theorem prob_eq : res_main_v71 V = fun y => (head V (y 1).val).prob (y 0).val (y 2).val (y 3).val := by
  funext y; idx_vars y
  pointwise [res_main_v71]
  rw [num_eq, den_eq]
  rfl

theorem dprob_eq : res_main_v81 V = fun y => (head V (y 1).val).dprob (y 0).val (y 2).val (y 3).val := by
  funext y; idx_vars y
  pointwise [res_main_v81]
  rw [v80_eq, v25_eq]
  rfl

theorem v83_eq : res_main_v83 V = fun y => (head V (y 2).val).dvc (y 0).val (y 1).val (y 3).val := by
  funext y; idx_vars y
  pointwise [res_main_v83]
  rw [v80_eq, prob_eq]
  exact Finset.sum_congr (M := EReal) rfl fun x _ => mul_comm ((head V y2.val).o (64 * y0.val + x.val) y3.val) ((head V y2.val).prob y0.val x.val y1.val)

theorem ds_eq (hf : ∀ h, (head V h).Finite) : res_main_v96 V = fun y => (head V (y 1).val).dscore (y 0).val (y 2).val (y 3).val := by
  funext y; idx_vars y
  pointwise [res_main_v96]
  rw [mask_eq, dprob_eq, den_eq, num_eq]
  refine (select_if _ _ _).trans ?_
  rw [Fin.sum_univ_one]
  exact (hf y1.val).dscore y0.val y2.val y3.val

theorem dscaled_eq (hf : ∀ h, (head V h).Finite) : res_main_v101 V = fun y => (head V (y 1).val).dscaled (y 0).val (y 2).val (y 3).val := by
  funext y; idx_vars y
  pointwise [res_main_v101]
  rw [ds_eq V hf]
  rfl

theorem v103_eq (hf : ∀ h, (head V h).Finite) : res_main_v103 V = fun y => (head V (y 2).val).dkc (y 0).val (y 1).val (y 3).val := by
  funext y; idx_vars y
  pointwise [res_main_v103]
  rw [dscaled_eq V hf, v3_eq]
  rfl
end Cert.ReferenceIdeal.Hand
-- ==== Proof.RefB.lean ====
module
public import proofs.«01_k».proof.Proof.RefA
@[expose] public section
noncomputable section
/-! The reference's four results. -/
namespace Cert.ReferenceIdeal.Hand
open Cert.ReferenceIdeal Cert.ReferenceIdeal.Gen Cert.ReferenceIdeal.Value Idealize.ShloMosaic Idealize.ShloMosaic.TcCoe Idealize.SL.Sem
open Cert.BandAttention

variable (V : Valuation τ sig (Elt Ideal))

theorem res_q (hf : ∀ h, (head V h).Finite) : shapeCast _ (transpose S128x64x16x128 [0, 2, 1, 3] (Host.dotGeneral (F := Ideal) (φ₁ := .f32) (φ₂ := .f32) dot_S128x16x64x576_S128x576x16x128_S128x16x64x128_3_1_2_3_01_02 none (res_main_v101 V) (res_main_v14 V)) transposes_S128x16x64x128_S128x64x16x128_0_2_1_3) shapeCasts_S128x64x16x128_S8192x2048
    = fun y => (head V ((y 1).val / 128)).dq (y 0).val ((y 1).val % 128) := by
  funext y; idx_vars y
  pointwise
  rw [dscaled_eq V hf, v14_eq]
  rfl

theorem res_b (hf : ∀ h, (head V h).Finite) : Host.reduceAdd (F := Ideal) (shapeCast _ (Host.reduceAdd (F := Ideal) (res_main_v96 V) (constant S_ .f32 0x00000000#32) reducesTo_S128x16x64x576_S16x64x576_d0 h_S_) shapeCasts_S16x64x576_S1x16x64x576) (constant S_ .f32 0x00000000#32) reducesTo_S1x16x64x576_S16x64x576_d0 h_S_
    = fun y => (head V (y 0).val).db (y 1).val (y 2).val := by
  funext y; idx_vars y
  pointwise
  rw [ds_eq V hf]
  rw [Fin.sum_univ_one]
  exact Fin.sum_univ_eq_sum_range (fun n => (head V y0.val).dscore n y1.val y2.val) 128

/-- Nine shifted pieces of a band, padded and added. -/
def pieces (x : FVec Ideal S128x576x16x128 .f32) : FVec Ideal S8704x2048 .f32 :=
  shapeCast _ (addf (addf (addf (addf (addf (addf (addf (addf (pad S136x64x16x128 ![8, 0, 0, 0] ![0, 0, 0, 0] ![0, 0, 0, 0] (extractStridedSlice S128x64x16x128 ![0, 512, 0, 0] x slices_S128x576x16x128_S128x64x16x128_0_512_0_0) (constant S_ .f32 0x00000000#32) pads_S128x64x16x128_S136x64x16x128_800_000_000_000 h_S_) (pad S136x64x16x128 ![7, 0, 0, 0] ![1, 0, 0, 0] ![0, 0, 0, 0] (extractStridedSlice S128x64x16x128 ![0, 448, 0, 0] x slices_S128x576x16x128_S128x64x16x128_0_448_0_0) (constant S_ .f32 0x00000000#32) pads_S128x64x16x128_S136x64x16x128_710_000_000_000 h_S_)) (pad S136x64x16x128 ![6, 0, 0, 0] ![2, 0, 0, 0] ![0, 0, 0, 0] (extractStridedSlice S128x64x16x128 ![0, 384, 0, 0] x slices_S128x576x16x128_S128x64x16x128_0_384_0_0) (constant S_ .f32 0x00000000#32) pads_S128x64x16x128_S136x64x16x128_620_000_000_000 h_S_)) (pad S136x64x16x128 ![5, 0, 0, 0] ![3, 0, 0, 0] ![0, 0, 0, 0] (extractStridedSlice S128x64x16x128 ![0, 320, 0, 0] x slices_S128x576x16x128_S128x64x16x128_0_320_0_0) (constant S_ .f32 0x00000000#32) pads_S128x64x16x128_S136x64x16x128_530_000_000_000 h_S_)) (pad S136x64x16x128 ![4, 0, 0, 0] ![4, 0, 0, 0] ![0, 0, 0, 0] (extractStridedSlice S128x64x16x128 ![0, 256, 0, 0] x slices_S128x576x16x128_S128x64x16x128_0_256_0_0) (constant S_ .f32 0x00000000#32) pads_S128x64x16x128_S136x64x16x128_440_000_000_000 h_S_)) (pad S136x64x16x128 ![3, 0, 0, 0] ![5, 0, 0, 0] ![0, 0, 0, 0] (extractStridedSlice S128x64x16x128 ![0, 192, 0, 0] x slices_S128x576x16x128_S128x64x16x128_0_192_0_0) (constant S_ .f32 0x00000000#32) pads_S128x64x16x128_S136x64x16x128_350_000_000_000 h_S_)) (pad S136x64x16x128 ![2, 0, 0, 0] ![6, 0, 0, 0] ![0, 0, 0, 0] (extractStridedSlice S128x64x16x128 ![0, 128, 0, 0] x slices_S128x576x16x128_S128x64x16x128_0_128_0_0) (constant S_ .f32 0x00000000#32) pads_S128x64x16x128_S136x64x16x128_260_000_000_000 h_S_)) (pad S136x64x16x128 ![1, 0, 0, 0] ![7, 0, 0, 0] ![0, 0, 0, 0] (extractStridedSlice S128x64x16x128 ![0, 64, 0, 0] x slices_S128x576x16x128_S128x64x16x128_0_64_0_0) (constant S_ .f32 0x00000000#32) pads_S128x64x16x128_S136x64x16x128_170_000_000_000 h_S_)) (pad S136x64x16x128 ![0, 0, 0, 0] ![8, 0, 0, 0] ![0, 0, 0, 0] (extractStridedSlice S128x64x16x128 ![0, 0, 0, 0] x slices_S128x576x16x128_S128x64x16x128_0_0_0_0) (constant S_ .f32 0x00000000#32) pads_S128x64x16x128_S136x64x16x128_080_000_000_000 h_S_)) shapeCasts_S136x64x16x128_S8704x2048

theorem one_chunk (h : ℕ → ℕ → EReal) (c t : ℕ) :
    (if t ≤ c ∧ c - t < 128 then h (c - t) t else 0) = ∑ n ∈ Finset.range 128, if n + t = c then h n t else 0 := by
  by_cases H : t ≤ c ∧ c - t < 128
  · rw [if_pos H, Finset.sum_eq_single (c - t) (fun n _ hn => if_neg (by omega)) (fun hn => absurd (Finset.mem_range.mpr H.2) hn),
      if_pos (by omega)]
  · rw [if_neg H]
    refine (Finset.sum_eq_zero fun n hn => if_neg ?_).symm
    have := Finset.mem_range.mp hn
    omega

theorem one_place (F : ℕ → ℕ → EReal) (n r d : ℕ) :
    (∑ t ∈ Finset.range 9, if n + t = r / 64 then F (64 * t + r % 64) d else 0) = place (64 * n) F r d := by
  unfold place
  by_cases H : 64 * n ≤ r ∧ r < 64 * n + 576
  · rw [if_pos H, Finset.sum_eq_single (r / 64 - n) (fun t _ ht => if_neg (by omega))
      (fun hn => absurd (Finset.mem_range.mpr (by omega)) hn), if_pos (by omega)]
    congr 1; omega
  · rw [if_neg H]
    refine Finset.sum_eq_zero fun t ht => if_neg ?_
    have := Finset.mem_range.mp ht
    omega

theorem shifted_sum (F : ℕ → ℕ → ℕ → EReal) (r d : ℕ) :
    (∑ t ∈ Finset.range 9, if t ≤ r / 64 ∧ r / 64 - t < 128 then F (r / 64 - t) (64 * t + r % 64) d else 0) = spread F 128 r d := by
  rw [Finset.sum_congr rfl fun t _ => one_chunk (fun n t => F n (64 * t + r % 64) d) (r / 64) t, Finset.sum_comm]
  exact Finset.sum_congr rfl fun n _ => one_place (F n) n r d

theorem pieces_eq (f : ℕ → ℕ → ℕ → ℕ → EReal) :
    pieces (fun y => f (y 2).val (y 0).val (y 1).val (y 3).val)
      = fun y => spread (f ((y 1).val / 128)) 128 (y 0).val ((y 1).val % 128) := by
  funext y; idx_vars y
  pointwise [pieces]
  rw [← shifted_sum]
  have h1 : y0.val % 64 < 64 := by omega
  have h2 : y1.val / 128 < 16 := by omega
  have h3 : y1.val % 128 < 128 := by omega
  simp only [Finset.sum_range_succ, Finset.sum_range_zero, zero_add, h1, h2, h3, and_true, dite_eq_ite, Nat.zero_le, true_and,
    Nat.sub_zero, Nat.mul_zero, Nat.mul_one, Nat.reduceMul]
  ac_rfl

theorem res_k (hf : ∀ h, (head V h).Finite) :
    pieces (res_main_v103 V) = fun y => (head V ((y 1).val / 128)).dk (y 0).val ((y 1).val % 128) := by
  rw [v103_eq V hf]
  exact pieces_eq fun h => (head V h).dkc

theorem res_v : pieces (res_main_v83 V) = fun y => (head V ((y 1).val / 128)).dv (y 0).val ((y 1).val % 128) := by
  rw [v83_eq V]
  exact pieces_eq fun h => (head V h).dvc

end Cert.ReferenceIdeal.Hand
-- ==== Proof.Point.lean ====
module
public import proofs.«01_k».proof.Proof.Gen.KernelIdeal.Value
public import proofs.«01_k».proof.Proof.Spec
public import Idealize.ShloMosaic.Lib.Pointwise
public import Idealize.ShloMosaic.Lib.WordCmp
@[expose] public section
noncomputable section
/-! What the kernel's body computes at one grid point, read at an index. -/
namespace Cert.KernelIdeal.Hand
open Cert.KernelIdeal Cert.KernelIdeal.Gen Idealize.ShloMosaic Idealize.ShloMosaic.TcCoe Idealize.SL.Sem
open Cert.BandAttention

/-- The blocks a grid point of row block `g` reads of a head. -/
def qBlk (S : Slab) (g : ℕ) : Vec Ideal S1024x128 .bf16 := fun y => S.q (1024 * g + (y 0).val) (y 1).val
def kBlk (S : Slab) : Vec Ideal S8704x128 .bf16 := fun y => S.k (y 0).val (y 1).val
def vBlk (S : Slab) : Vec Ideal S8704x128 .bf16 := fun y => S.v (y 0).val (y 1).val
def oBlk (S : Slab) (g : ℕ) : Vec Ideal S1024x128 .bf16 := fun y => S.o (1024 * g + (y 0).val) (y 1).val
def bBlk (S : Slab) : Vec Ideal S1x64x576 .f32 := fun y => S.b (y 1).val (y 2).val

/-- Sixteen bands of a row block, stacked: the rows of `f` that chunk `16 g + cc` sees. -/
def bands (f : ℕ → ℕ → EReal) (g : ℕ) : FVec Ideal S16x576x128 .bf16 :=
  fun y => f (64 * (16 * g + (y 0).val) + (y 1).val) (y 2).val

/-- The rows of a row block, chunk by chunk. -/
def rows (f : ℕ → ℕ → EReal) (g : ℕ) : FVec Ideal S16x64x128 .bf16 :=
  fun y => f (64 * (16 * g + (y 0).val) + (y 1).val) (y 2).val

/-- A function of (chunk, query, band lane) as the box of a row block. -/
def box {φ : FTy} (f : ℕ → ℕ → ℕ → EReal) (g : ℕ) : FVec Ideal S16x64x576 φ :=
  fun y => f (16 * g + (y 0).val) (y 1).val (y 2).val

/-- A load of 576 rows of a whole staging buffer at a chunk's first row. -/
theorem load_rows (i : grid0.Coords) (a : Memref sig .tc .vmem S8704x128 .bf16) (ha : a.IsWhole)
    (f : ℕ → ℕ → EReal) (r : Fin 16) (h) :
    View.readAt (Elt Ideal) a.view (Rect.unit (s := S8704x128) (k0_off1 i (BitVec.ofNat 32 r)) S576x128.size h).toLoadRect
      (ha.unread fun y => f (y 0).val (y 1).val)
      = fun y => f (64 * (16 * (i 1).val + r) + (y 0).val) (y 1).val := by
  rw [View.readAt_eq_ld, ha.read_unread]
  funext y
  show f (k0_off1 i (BitVec.ofNat 32 r) 0 + 1 * (y 0).val) (k0_off1 i (BitVec.ofNat 32 r) 1 + 1 * (y 1).val) = _
  have e := k0_off1_eq i r
  rw [congrFun e 0, congrFun e 1]
  congr 1
  · show 1024 * (i 1).val + 64 * r.val + 1 * (y 0).val = _
    omega
  · show 0 + 1 * (y 1).val = _
    omega

theorem stack_eq (x : Fin 16 → Vec Ideal S576x128 .bf16) :
    k0_pay5 (x 0) (x 1) (x 2) (x 3) (x 4) (x 5) (x 6) (x 7) (x 8) (x 9) (x 10) (x 11) (x 12) (x 13) (x 14) (x 15)
      = fun y => x (y 0) (ix2 (y 1) (y 2)) := by
  funext y
  idx_vars y
  pointwise [k0_pay5]
  fin_vals y0 with hk
  all_goals simp only [hk, Nat.reduceSub, Nat.reduceLT, ↓reduceDIte]
  all_goals exact congrArg (fun w => x w _) (Fin.ext hk.symm)

/-- The sixteen loads of the keys (or the values), stacked. -/
theorem stack_loads (i : grid0.Coords) (a : Memref sig .tc .vmem S8704x128 .bf16) (ha : a.IsWhole)
    (f : ℕ → ℕ → EReal) (x : Fin 16 → Vec Ideal S576x128 .bf16)
    (hx : ∀ r : Fin 16, x r = View.readAt (Elt Ideal) a.view
      (Rect.unit (s := S8704x128) (k0_off1 i (BitVec.ofNat 32 r)) S576x128.size (k0_off1_inb i r)).toLoadRect
      (ha.unread fun y => f (y 0).val (y 1).val)) :
    k0_pay5 (x 0) (x 1) (x 2) (x 3) (x 4) (x 5) (x 6) (x 7) (x 8) (x 9) (x 10) (x 11) (x 12) (x 13) (x 14) (x 15)
      = bands f (i 1).val := by
  rw [stack_eq]
  funext y
  exact (congrFun ((hx (y 0)).trans (load_rows i a ha f (y 0) _)) _).trans rfl

theorem q_eq (S : Slab) (g : ℕ) : k0_pay7 (qBlk S g) = rows S.q g := by
  funext y
  idx_vars y
  pointwise [k0_pay7, qBlk, rows]
  congr 1; omega

theorem o_eq (S : Slab) (g : ℕ) : k0_pay8 (oBlk S g) = rows S.o g := by
  funext y
  idx_vars y
  pointwise [k0_pay8, oBlk, rows]
  congr 1; omega

theorem b_eq (S : Slab) : k0_pay10 (bBlk S) = box (fun _ => S.b) 0 := by
  funext y
  idx_vars y
  pointwise [k0_pay10, bBlk, box]

theorem sc_eq (S : Slab) (g : ℕ) : k0_pay9 (bands S.k g) (qBlk S g)
    = box (fun n a j => (∑ d : Fin 128, S.q (64 * n + a) d * S.k (64 * n + j) d) * scale) g := by
  funext y
  idx_vars y
  pointwise [k0_pay9, bands, box]
  rw [q_eq]
  rfl

/-- The mask's comparison: the lane lies at or after the sequence's start. -/
theorem mask_bit (g cc j : ℕ) (hg : g < 8) (hc : cc < 16) (hj : j < 576) (x y : EReal) :
    Scalar.select (IntOp.cmpi CmpIPredicate.sge
      (IntOp.addi (BitVec.ofNat 32 j) (IntOp.muli (IntOp.addi (BitVec.ofNat 32 cc) (Scalar.muli (BitVec.ofNat 32 g) 16#32)) 64#32)) 512#32)
      x y = if 512 ≤ j + 64 * (16 * g + cc) then x else y := by
  have e : IntOp.addi (BitVec.ofNat 32 j) (IntOp.muli (IntOp.addi (BitVec.ofNat 32 cc)
      (Scalar.muli (BitVec.ofNat 32 g) 16#32)) 64#32) = BitVec.ofNat 32 (j + 64 * (16 * g + cc)) := by
    apply BitVec.eq_of_toNat_eq
    simp only [IntOp.addi, IntOp.muli, Scalar.muli, BitVec.toNat_add, BitVec.toNat_mul, BitVec.toNat_ofNat]
    omega
  rw [e, show (512#32 : BitVec 32) = BitVec.ofNat 32 512 from rfl, WordCmp.cmpi_sge_ofNat (by omega) (by omega)]
  by_cases h : 512 ≤ j + 64 * (16 * g + cc) <;> simp [Scalar.select, h]

theorem ofBits_bot : Ideal.ofBits .f32 4286578688#32 = ⊥ := by simp [Ideal.ofBits, Ideal.ieee]

theorem p_eq (S : Slab) (g : Fin 8) : k0_pay11 (Scalar.muli (BitVec.ofNat 32 g) 16#32)
    (box (fun n a j => (∑ d : Fin 128, S.q (64 * n + a) d * S.k (64 * n + j) d) * scale) g) (box (fun _ => S.b) 0)
    = box S.prob g := by
  funext y
  idx_vars y
  pointwise [k0_pay11, box]
  simp only [fun (x : Fin 576) => mask_bit g y0 x g.isLt y0.isLt x.isLt]
  rw [show Named.named (F := Ideal) (φ := .f32) κ "mask" 4048155338#32 = (⊥ : EReal) from rfl, ofBits_bot]
  rfl

theorem ds_eq (S : Slab) (g : ℕ) (w : BitVec 32) (s b) (hp : k0_pay11 w s b = box S.prob g) :
    k0_pay12 w (bands S.v g) (rows S.o g) s b = box S.dscore g := by
  funext y
  idx_vars y
  pointwise [k0_pay12]
  rw [hp]
  rfl

theorem dsb_eq (S : Slab) (g : ℕ) (w : BitVec 32) (s b) (hp : k0_pay11 w s b = box S.prob g) :
    k0_pay14 w (bands S.v g) (rows S.o g) s b = box S.dscaled g := by
  funext y
  idx_vars y
  pointwise [k0_pay14]
  rw [ds_eq S g w s b hp]
  rfl

theorem db_eq (S : Slab) (g : ℕ) (w : BitVec 32) (s b x) (hp : k0_pay11 w s b = box S.prob g) :
    k0_pay13 w (bands S.v g) (rows S.o g) s b x
      = fun y => x y + ∑ cc : Fin 16, S.dscore (16 * g + cc) (y 1).val (y 2).val := by
  funext y
  idx_vars y
  pointwise [k0_pay13]
  rw [ds_eq S g w s b hp]
  obtain rfl : y0 = 0 := Subsingleton.elim _ _
  rfl

theorem dq_eq (S : Slab) (g : ℕ) (w : BitVec 32) (s b) (hp : k0_pay11 w s b = box S.prob g) :
    k0_pay15 w (bands S.k g) (bands S.v g) (rows S.o g) s b
      = fun y => S.dq (1024 * g + (y 0).val) (y 1).val := by
  funext y
  idx_vars y
  pointwise [k0_pay15]
  rw [dsb_eq S g w s b hp]
  unfold Slab.dq
  rw [show (1024 * g + y0.val) / 64 = 16 * g + y0.val / 64 by omega,
    show (1024 * g + y0.val) % 64 = y0.val % 64 by omega]
  rfl

end Cert.KernelIdeal.Hand
-- ==== Proof.Union.lean ====
module
public import proofs.«01_k».proof.Proof.Point
public import Idealize.ShloMosaic.Lib.WritesUnit
@[expose] public section
noncomputable section
/-! The overlapping bands of a grid point, added into the accumulated gradients of the keys and the values. -/
namespace Cert.KernelIdeal.Hand
open Cert.KernelIdeal Cert.KernelIdeal.Gen Idealize.ShloMosaic Idealize.ShloMosaic.TcCoe Idealize.SL.Sem
open Cert.BandAttention

/-- A function of (chunk, band lane, head lane) as the box of a row block. -/
def tile (f : ℕ → ℕ → ℕ → EReal) (g : ℕ) : FVec Ideal S16x576x128 .f32 :=
  fun y => f (16 * g + (y 0).val) (y 1).val (y 2).val

theorem dkc_eq (S : Slab) (g : ℕ) : k0_pay17 (rows S.q g) (box S.dscaled g) = tile S.dkc g := by
  funext y
  idx_vars y
  pointwise [k0_pay17, rows, box, tile]
  rfl

theorem dvc_eq (S : Slab) (g : ℕ) : k0_pay25 (rows S.o g) (box S.prob g) = tile S.dvc g := by
  funext y
  idx_vars y
  pointwise [k0_pay25, rows, box, tile]
  rfl

theorem place_mid (F : ℕ → ℕ → ℕ → EReal) (g lo r : ℕ) (c : Fin 16) (d : Fin 128) :
    (if h : r < lo then 0 else if h' : r - lo < 576 then tile F g (ix3 c ⟨r - lo, h'⟩ d) else 0)
      = place lo (F (16 * g + c)) r d := by
  unfold place tile
  split_ifs <;> first | rfl | omega

theorem place_first (F : ℕ → ℕ → ℕ → EReal) (g r : ℕ) (c : Fin 16) (d : Fin 128) :
    (if h' : r < 576 then tile F g (ix3 c ⟨r, h'⟩ d) else 0) = place (64 * 0) (F (16 * g + c)) r d := by
  unfold place tile
  split_ifs <;> first | rfl | omega

theorem place_last (F : ℕ → ℕ → ℕ → EReal) (g r : ℕ) (c : Fin 16) (d : Fin 128) (hr : r < 1536) :
    (if h : r < 960 then 0 else tile F g (ix3 c ⟨r - 960, by omega⟩ d)) = place (64 * 15) (F (16 * g + c)) r d := by
  unfold place tile
  split_ifs <;> first | rfl | omega

/-- The sixteen bands of a row block, each from its own row of the row block's span. -/
def span (F : ℕ → ℕ → ℕ → EReal) (g r d : ℕ) : EReal := ∑ cc ∈ Finset.range 16, place (64 * cc) (F (16 * g + cc)) r d

theorem dk_union (S : Slab) (g : ℕ) (acc : FVec Ideal S1536x128 .f32) (q D) (hq : q = rows S.q g) (hD : D = box S.dscaled g) :
    k0_pay23 acc (k0_pay17 q D) (k0_pay21 (k0_pay17 q D) (k0_pay18 q D) (k0_pay19 q D) k0_pay20 (Scalar.ofBits .f32 0x00000000#32))
      (k0_pay22 (k0_pay17 q D)) = fun y => acc y + span S.dkc g (y 0).val (y 1).val := by
  subst hq hD
  funext y
  idx_vars y
  pointwise [k0_pay23, k0_pay18, k0_pay19, k0_pay20, k0_pay21, k0_pay22]
  rw [dkc_eq]
  simp only [span, Finset.sum_range_succ, Finset.range_zero, Finset.sum_empty, zero_add]
  have h := y0.isLt
  refine congrArg (acc (ix2 y0 y1) + ·) ?_
  repeat' refine congrArg₂ (· + ·) ?_ ?_
  all_goals first | exact place_mid S.dkc g _ _ _ _ | exact place_first S.dkc g _ _ _ | exact place_last S.dkc g _ _ _ h

theorem dv_union (S : Slab) (g : ℕ) (acc : FVec Ideal S1536x128 .f32) (o P) (ho : o = rows S.o g) (hP : P = box S.prob g) :
    k0_pay1 acc (k0_pay25 o P) (k0_pay30 (k0_pay25 o P) (k0_pay26 o P) (k0_pay27 o P) k0_pay28 k0_pay29) (k0_pay31 (k0_pay25 o P))
      = fun y => acc y + span S.dvc g (y 0).val (y 1).val := by
  subst ho hP
  funext y
  idx_vars y
  pointwise [k0_pay1, k0_pay26, k0_pay27, k0_pay28, k0_pay29, k0_pay30, k0_pay31]
  rw [dvc_eq]
  simp only [span, Finset.sum_range_succ, Finset.range_zero, Finset.sum_empty, zero_add]
  have h := y0.isLt
  refine congrArg (acc (ix2 y0 y1) + ·) ?_
  repeat' refine congrArg₂ (· + ·) ?_ ?_
  all_goals first | exact place_mid S.dvc g _ _ _ _ | exact place_first S.dvc g _ _ _ | exact place_last S.dvc g _ _ _ h

/-- What a grid point of row block `g` adds at row `r` of the padded array. -/
def added (F : ℕ → ℕ → ℕ → EReal) (g r d : ℕ) : EReal :=
  ∑ cc ∈ Finset.range 16, place (64 * (16 * g + cc)) (F (16 * g + cc)) r d

theorem added_in (F : ℕ → ℕ → ℕ → EReal) (g r d : ℕ) : added F g (1024 * g + r) d = span F g r d := by
  unfold added span
  refine Finset.sum_congr rfl fun cc _ => ?_
  unfold place
  have e : 1024 * g + r - 64 * (16 * g + cc) = r - 64 * cc := by omega
  rw [e]
  exact if_congr (by omega) rfl rfl

theorem added_out (F : ℕ → ℕ → ℕ → EReal) (g r d : ℕ) (h : r < 1024 * g ∨ 1024 * g + 1536 ≤ r) : added F g r d = 0 := by
  unfold added
  refine Finset.sum_eq_zero fun cc hc => ?_
  have := Finset.mem_range.mp hc
  unfold place
  exact if_neg (by omega)

/-- A store of `X + …` at a row block's span over the contents `X`. -/
theorem acc_rows (F : ℕ → ℕ → ℕ → EReal) (i : grid0.Coords) {sp : Space} (v : View sig .tc sp S8704x128 .f32) (f : v.ty.Contents (Elt Ideal))
    (L : List (View.Piece (Elt Ideal) S8704x128 .f32)) (X : Vec Ideal S8704x128 .f32) (hX : v.read (Elt Ideal) (v.writes (Elt Ideal) f L) = X)
    (w : FVec Ideal S1536x128 .f32)
    (hw : w = fun y => View.ld X (Rect.unit (s := S8704x128) (k0_off2 i) S1536x128.size (k0_off2_inb i)) y
      + span F (i 1).val (y 0).val (y 1).val) :
    v.read (Elt Ideal) (v.writes (Elt Ideal) f (⟨Rect.unit (s := S8704x128) (k0_off2 i) S1536x128.size (k0_off2_inb i), w⟩ :: L))
      = fun y => X y + added F (i 1).val (y 0).val (y 1).val := by
  funext y
  have e : k0_off2 i = ![1024 * (i 1).val, 0] := k0_off2_eq i
  by_cases h : (y 0).val < 1024 * (i 1).val ∨ 1024 * (i 1).val + 1536 ≤ (y 0).val
  · refine (View.read_writes_cons_unit_of_not_mem v f _ w L y e (0 : Fin 2) h).trans ?_
    rw [hX, added_out _ _ _ _ h, add_zero]
  · have hx : (y 0).val - 1024 * (i 1).val < 1536 := by omega
    refine (View.read_writes_cons_unit_of_mem v f _ w L y (ix2 ⟨(y 0).val - 1024 * (i 1).val, hx⟩ (y 1)) e
      (Fin.forall_fin_two.mpr ⟨?_, ?_⟩)).trans ?_
    · show (y 0).val = 1024 * (i 1).val + ((y 0).val - 1024 * (i 1).val)
      omega
    · show (y 1).val = 0 + (y 1).val
      omega
    rw [hw]
    refine congrArg₂ (· + ·) (congrArg X (funext fun a => Fin.ext ?_)) ?_
    · match a with
      | ⟨0, _⟩ =>
        show k0_off2 i 0 + 1 * ((y 0).val - 1024 * (i 1).val) = (y 0).val
        rw [congrFun e 0]
        show 1024 * (i 1).val + 1 * ((y 0).val - 1024 * (i 1).val) = (y 0).val
        omega
      | ⟨1, _⟩ =>
        show k0_off2 i 1 + 1 * (y 1).val = (y 1).val
        rw [congrFun e 1]
        show 0 + 1 * (y 1).val = (y 1).val
        omega
    · show span F (i 1).val ((y 0).val - 1024 * (i 1).val) (y 1).val = _
      rw [← added_in, show 1024 * (i 1).val + ((y 0).val - 1024 * (i 1).val) = (y 0).val by omega]
end Cert.KernelIdeal.Hand
-- ==== Proof.Out.lean ====
module
public import proofs.«01_k».proof.Proof.Union
public import Idealize.ShloMosaic.Lib.VecWindow
@[expose] public section
noncomputable section
/-! What one grid point leaves in the four output windows: at a head's first row block (case A) and at the others (case B). -/
namespace Cert.KernelIdeal.Hand
open Cert.KernelIdeal Cert.KernelIdeal.Gen Idealize.ShloMosaic Idealize.ShloMosaic.TcCoe Idealize.SL.Sem
open Cert.BandAttention

theorem hz2 : (![0, 0] : Fin 2 → Nat) = fun _ => 0 := funext fun a => by fin_cases a <;> rfl
theorem hz3 : (![0, 0, 0] : Fin 3 → Nat) = fun _ => 0 := funext fun a => by fin_cases a <;> rfl

variable (S : Slab) (c : Dev nD) (i : grid0.Coords) (arg2 : Memref sig .tc .vmem S1024x128 .bf16) (harg2 : arg2.IsWhole) (arg3 : Memref sig .tc .vmem S8704x128 .bf16) (harg3 : arg3.IsWhole) (arg4 : Memref sig .tc .vmem S8704x128 .bf16) (harg4 : arg4.IsWhole) (arg5 : Memref sig .tc .vmem S1x64x576 .f32) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S8704x128 .f32) (harg8 : arg8.IsWhole) (arg9 : Memref sig .tc .vmem S8704x128 .f32) (harg9 : arg9.IsWhole) (arg10 : Memref sig .tc .vmem S1x64x576 .f32) (harg10 : arg10.IsWhole)
  (hcB : ¬cond0_0 i) (hcA : cond0_0 i)
  (xo6 : Vec Ideal S8704x128 .f32) (xo7 : Vec Ideal S8704x128 .f32) (xo8 : Vec Ideal S1x64x576 .f32)

/-- The loads of a grid point, spelt once: keys, values, queries, cotangent, scores, bias. -/
abbrev ldK (x : Vec Ideal S8704x128 .bf16) (r : Fin 16) : Vec Ideal S576x128 .bf16 :=
  View.readAt (Elt Ideal) arg3.view
      (Rect.unit (s := S8704x128) (k0_off1 i (BitVec.ofNat 32 r)) S576x128.size (k0_off1_inb i r)).toLoadRect (harg3.unread x)

theorem K_eq : kernelRun0_B.sl.r_10 c i arg3 harg3 (kBlk S) = bands S.k (i 1).val :=
  stack_loads i arg3 harg3 S.k (ldK i arg3 harg3 (kBlk S)) fun _ => rfl

theorem V_eq : kernelRun0_B.sl.r_19 c i arg4 harg4 (vBlk S) = bands S.v (i 1).val :=
  stack_loads i arg4 harg4 S.v (ldK i arg4 harg4 (vBlk S)) fun _ => rfl

theorem ld2 (a : Memref sig .tc .vmem S1024x128 .bf16) (ha : a.IsWhole) (x : Vec Ideal S1024x128 .bf16) :
   View.readAt (Elt Ideal) a.view (Rect.unit (s := S1024x128) ![0, 0] S1024x128.size inb_S1024x128_S1024x128_0_0).toLoadRect (ha.unread x) = x := by
  rw [View.readAt_eq_ld, ha.read_unread]
  exact View.ld_unit_zero (S := S1024x128) hz2 _ x

theorem ld3 (a : Memref sig .tc .vmem S1x64x576 .f32) (ha : a.IsWhole) (x : Vec Ideal S1x64x576 .f32) :
   View.readAt (Elt Ideal) a.view (Rect.unit (s := S1x64x576) ![0, 0, 0] S1x64x576.size inb_S1x64x576_S1x64x576_0_0_0).toLoadRect (ha.unread x) = x := by
  rw [View.readAt_eq_ld, ha.read_unread]
  exact View.ld_unit_zero (S := S1x64x576) hz3 _ x

theorem Q_eq : kernelRun0_B.sl.r_20 c arg2 harg2 (qBlk S (i 1).val) = rows S.q (i 1).val := by
  unfold kernelRun0_B.sl.r_20
  rw [ld2, q_eq]

theorem O_eq : kernelRun0_B.sl.r_21 c arg6 harg6 (oBlk S (i 1).val) = rows S.o (i 1).val := by
  unfold kernelRun0_B.sl.r_21
  rw [ld2, o_eq]

theorem P_eq : k0_pay11 (kernelRun0_B.sl.v3 i) (kernelRun0_B.sl.r_22 c i arg2 harg2 arg3 harg3 (qBlk S (i 1).val) (kBlk S))
    (kernelRun0_B.sl.r_23 c arg5 harg5 (bBlk S)) = box S.prob (i 1).val := by
  unfold kernelRun0_B.sl.r_22 kernelRun0_B.sl.r_23
  rw [K_eq, ld2, ld3, sc_eq, b_eq]
  exact p_eq S (i 1)

theorem D_eq : kernelRun0_B.sl.r_25 c i arg2 harg2 arg3 harg3 arg4 harg4 arg5 harg5 arg6 harg6 (qBlk S (i 1).val) (kBlk S) (vBlk S) (bBlk S) (oBlk S (i 1).val)
    = box S.dscaled (i 1).val := by
  unfold kernelRun0_B.sl.r_25
  rw [V_eq, O_eq]
  exact dsb_eq S _ _ _ _ (P_eq ..)

theorem acc_eq (x : FVec Ideal S1536x128 .f32) : k0_pay16 x = x := by
  unfold k0_pay16; exact shapeCast_self ..

theorem out_B_6 : out0_B_6 c i arg2 harg2 arg3 harg3 arg4 harg4 arg5 harg5 arg6 harg6 arg7 harg7 arg8 harg8 arg9 harg9 arg10 harg10 hcB (qBlk S (i 1).val) (kBlk S) (vBlk S) (bBlk S) (oBlk S (i 1).val) xo6 xo7 xo8
    = fun y => xo6 y + added S.dkc (i 1).val (y 0).val (y 1).val := by
  unfold out0_B_6 kernelRun0_B
  refine acc_rows S.dkc i arg8.view (harg8.unread xo6) [] xo6 (harg8.read_unread xo6) _ ?_
  refine (dk_union S (i 1).val _ _ _ (Q_eq S c i arg2 harg2) (D_eq S c i arg2 harg2 arg3 harg3 arg4 harg4 arg5 harg5 arg6 harg6)).trans ?_
  unfold kernelRun0_B.sl.r_27
  rw [acc_eq, View.readAt_eq_ld, harg8.read_unread]
  rfl

theorem out_B_7 : out0_B_7 c i arg2 harg2 arg3 harg3 arg4 harg4 arg5 harg5 arg6 harg6 arg7 harg7 arg8 harg8 arg9 harg9 arg10 harg10 hcB (qBlk S (i 1).val) (kBlk S) (vBlk S) (bBlk S) (oBlk S (i 1).val) xo6 xo7 xo8
    = fun y => xo7 y + added S.dvc (i 1).val (y 0).val (y 1).val := by
  unfold out0_B_7 kernelRun0_B
  refine acc_rows S.dvc i arg9.view (harg9.unread xo7) [] xo7 (harg9.read_unread xo7) _ ?_
  refine (dv_union S (i 1).val _ _ _ (O_eq S c i arg6 harg6) (P_eq S c i arg2 harg2 arg3 harg3 arg5 harg5)).trans ?_
  unfold kernelRun0_B.sl.r_33
  rw [show ∀ x, k0_pay24 x = k0_pay16 x from fun _ => rfl, acc_eq, View.readAt_eq_ld, harg9.read_unread]
  rfl

theorem out_B_8 : out0_B_8 c i arg2 harg2 arg3 harg3 arg4 harg4 arg5 harg5 arg6 harg6 arg7 harg7 arg8 harg8 arg9 harg9 arg10 harg10 hcB (qBlk S (i 1).val) (kBlk S) (vBlk S) (bBlk S) (oBlk S (i 1).val) xo6 xo7 xo8
    = fun y => xo8 y + ∑ cc : Fin 16, S.dscore (16 * (i 1).val + cc) (y 1).val (y 2).val := by
  unfold out0_B_8 kernelRun0_B
  refine (View.read_writes_full _ _ _ _ _).trans ?_
  dsimp only
  rw [V_eq, O_eq]
  refine (db_eq S _ _ _ _ _ (P_eq ..)).trans ?_
  rw [ld3]

theorem out_B_5 : out0_B_5 c i arg2 harg2 arg3 harg3 arg4 harg4 arg5 harg5 arg6 harg6 arg7 harg7 arg8 harg8 arg9 harg9 arg10 harg10 hcB (qBlk S (i 1).val) (kBlk S) (vBlk S) (bBlk S) (oBlk S (i 1).val) xo6 xo7 xo8
    = fun y => S.dq (1024 * (i 1).val + (y 0).val) (y 1).val := by
  unfold out0_B_5 kernelRun0_B
  refine (View.read_writes_full _ _ _ _ _).trans ?_
  dsimp only
  unfold kernelRun0_B.sl.r_26
  rw [V_eq, O_eq, K_eq]
  exact dq_eq S _ _ _ _ (P_eq ..)

theorem zero6 {sp : Space} (v : View sig .tc sp S8704x128 .f32) :
    v.read (Elt Ideal) (v.writes (Elt Ideal) v.junk kernelRun0_A.sl.H6_1) = fun _ => (0 : EReal) := by
  unfold kernelRun0_A.sl.H6_1
  refine (View.read_writes_full _ _ _ _ _).trans ?_
  funext y
  pointwise [k0_pay2]

theorem zero7 {sp : Space} (v : View sig .tc sp S8704x128 .f32) :
    v.read (Elt Ideal) (v.writes (Elt Ideal) v.junk kernelRun0_A.sl.H7_1) = fun _ => (0 : EReal) := by
  unfold kernelRun0_A.sl.H7_1
  refine (View.read_writes_full _ _ _ _ _).trans ?_
  funext y
  pointwise [k0_pay3]

theorem out_A_6 : out0_A_6 c i arg2 harg2 arg3 harg3 arg4 harg4 arg5 harg5 arg6 harg6 arg7 harg7 arg8 harg8 arg9 harg9 arg10 harg10 hcA (qBlk S (i 1).val) (kBlk S) (vBlk S) (bBlk S) (oBlk S (i 1).val)
    = fun y => added S.dkc (i 1).val (y 0).val (y 1).val := by
  unfold out0_A_6 kernelRun0_A
  refine (acc_rows S.dkc i _ _ kernelRun0_A.sl.H6_1 _ (zero6 _) _ ?_).trans (funext fun y => zero_add _)
  refine (dk_union S (i 1).val _ _ _ (Q_eq S c i arg2 harg2) (D_eq S c i arg2 harg2 arg3 harg3 arg4 harg4 arg5 harg5 arg6 harg6)).trans ?_
  unfold kernelRun0_A.sl.r_27
  rw [acc_eq, View.readAt_eq_ld, zero6]
  rfl

theorem out_A_7 : out0_A_7 c i arg2 harg2 arg3 harg3 arg4 harg4 arg5 harg5 arg6 harg6 arg7 harg7 arg8 harg8 arg9 harg9 arg10 harg10 hcA (qBlk S (i 1).val) (kBlk S) (vBlk S) (bBlk S) (oBlk S (i 1).val)
    = fun y => added S.dvc (i 1).val (y 0).val (y 1).val := by
  unfold out0_A_7 kernelRun0_A
  refine (acc_rows S.dvc i _ _ kernelRun0_A.sl.H7_1 _ (zero7 _) _ ?_).trans (funext fun y => zero_add _)
  refine (dv_union S (i 1).val _ _ _ (O_eq S c i arg6 harg6) (P_eq S c i arg2 harg2 arg3 harg3 arg5 harg5)).trans ?_
  unfold kernelRun0_A.sl.r_33
  rw [show ∀ x, k0_pay24 x = k0_pay16 x from fun _ => rfl, acc_eq, View.readAt_eq_ld, zero7]
  rfl

theorem out_A_8 : out0_A_8 c i arg2 harg2 arg3 harg3 arg4 harg4 arg5 harg5 arg6 harg6 arg7 harg7 arg8 harg8 arg9 harg9 arg10 harg10 hcA (qBlk S (i 1).val) (kBlk S) (vBlk S) (bBlk S) (oBlk S (i 1).val)
    = fun y => ∑ cc : Fin 16, S.dscore (16 * (i 1).val + cc) (y 1).val (y 2).val := by
  unfold out0_A_8 kernelRun0_A
  refine (View.read_writes_full _ _ _ _ _).trans ?_
  refine (congrArg₂ (fun v o => k0_pay13 _ v o _ _ _) (V_eq S c i arg4 harg4) (O_eq S c i arg6 harg6)).trans ?_
  refine (db_eq S _ _ _ _ _ (P_eq S c i arg2 harg2 arg3 harg3 arg5 harg5)).trans ?_
  unfold kernelRun0_A.sl.v189 kernelRun0_A.sl.H8_1
  rw [View.readCov_full]
  funext y
  refine (congrArg (· + _) ?_).trans (zero_add _)
  pointwise [k0_pay4]

theorem out_A_5 : out0_A_5 c i arg2 harg2 arg3 harg3 arg4 harg4 arg5 harg5 arg6 harg6 arg7 harg7 arg8 harg8 arg9 harg9 arg10 harg10 hcA (qBlk S (i 1).val) (kBlk S) (vBlk S) (bBlk S) (oBlk S (i 1).val)
    = fun y => S.dq (1024 * (i 1).val + (y 0).val) (y 1).val := by
  unfold out0_A_5 kernelRun0_A
  refine (View.read_writes_full _ _ _ _ _).trans ?_
  refine Eq.trans ?_ (dq_eq S _ _ _ _ (P_eq S c i arg2 harg2 arg3 harg3 arg5 harg5))
  dsimp only
  unfold kernelRun0_A.sl.r_26
  rw [← V_eq S c i arg4 harg4, ← O_eq S c i arg6 harg6, ← K_eq S c i arg3 harg3]
  rfl

end Cert.KernelIdeal.Hand
-- ==== Proof.Acc.lean ====
module
public import proofs.«01_k».proof.Proof.Out
@[expose] public section
noncomputable section
/-! What the output windows hold after each grid point, and the four arrays the launch leaves. -/
namespace Cert.KernelIdeal.Hand
open Cert.KernelIdeal Cert.KernelIdeal.Gen Idealize.ShloMosaic Idealize.ShloMosaic.TcCoe Idealize.SL.Sem
open Cert.BandAttention

variable (m : (ℓ : Loc nD τ sig) → Buf (Elt Ideal) ℓ) (c : Dev nD)

/-- Head `h` of the argument arrays. -/
def head (h : ℕ) : Slab := slab (m ((c : Thread nD τ).loc main_arg0)) (m ((c : Thread nD τ).loc main_arg1))
  (m ((c : Thread nD τ).loc main_arg2)) (m ((c : Thread nD τ).loc main_arg3)) (m ((c : Thread nD τ).loc main_arg4)) h

theorem coord1 : ∀ t : Fin cfg0.N, ((grid0.coords t) 1).val = t.val % 8 :=
  (by decide +kernel : ∀ t : Fin grid0.N, ((grid0.coords t) 1).val = t.val % 8)

theorem ixQ : ∀ t : Fin cfg0.N, (win0_0.index t 0 = t.val % 8 ∧ win0_0.index t 1 = t.val / 8)
    ∧ (win0_4.index t 0 = t.val % 8 ∧ win0_4.index t 1 = t.val / 8) ∧ (win0_5.index t 0 = t.val % 8 ∧ win0_5.index t 1 = t.val / 8) :=
  (by decide +kernel : ∀ t : Fin grid0.N, (win0_0.index t 0 = t.val % 8 ∧ win0_0.index t 1 = t.val / 8)
    ∧ (win0_4.index t 0 = t.val % 8 ∧ win0_4.index t 1 = t.val / 8) ∧ (win0_5.index t 0 = t.val % 8 ∧ win0_5.index t 1 = t.val / 8))

theorem ixK : ∀ t : Fin cfg0.N, (win0_1.index t 0 = 0 ∧ win0_1.index t 1 = t.val / 8)
    ∧ (win0_2.index t 0 = 0 ∧ win0_2.index t 1 = t.val / 8) ∧ (win0_6.index t 0 = 0 ∧ win0_6.index t 1 = t.val / 8)
    ∧ (win0_7.index t 0 = 0 ∧ win0_7.index t 1 = t.val / 8) :=
  (by decide +kernel : ∀ t : Fin grid0.N, (win0_1.index t 0 = 0 ∧ win0_1.index t 1 = t.val / 8)
    ∧ (win0_2.index t 0 = 0 ∧ win0_2.index t 1 = t.val / 8) ∧ (win0_6.index t 0 = 0 ∧ win0_6.index t 1 = t.val / 8)
    ∧ (win0_7.index t 0 = 0 ∧ win0_7.index t 1 = t.val / 8))

theorem ixB : ∀ t : Fin cfg0.N, (win0_3.index t 0 = t.val / 8 ∧ win0_3.index t 1 = 0 ∧ win0_3.index t 2 = 0)
    ∧ (win0_8.index t 0 = t.val / 8 ∧ win0_8.index t 1 = 0 ∧ win0_8.index t 2 = 0) :=
  (by decide +kernel : ∀ t : Fin grid0.N, (win0_3.index t 0 = t.val / 8 ∧ win0_3.index t 1 = 0 ∧ win0_3.index t 2 = 0)
    ∧ (win0_8.index t 0 = t.val / 8 ∧ win0_8.index t 1 = 0 ∧ win0_8.index t 2 = 0))

/-- A matrix read at an index whose coordinates are known. -/
theorem at2 {a b : ℕ} (x : (⟨2, ![a, b]⟩ : Shape).Idx → EReal) (y : (⟨2, ![a, b]⟩ : Shape).Idx) (r d : ℕ)
    (h0 : (y 0).val = r) (h1 : (y 1).val = d) : x y = n2 x r d := by
  subst h0 h1
  conv_lhs => rw [eq_ix2 y]
  exact n2_ix x (y 0) (y 1)

theorem at3 {a b e : ℕ} (x : (⟨3, ![a, b, e]⟩ : Shape).Idx → EReal) (y : (⟨3, ![a, b, e]⟩ : Shape).Idx) (r s d : ℕ)
    (h0 : (y 0).val = r) (h1 : (y 1).val = s) (h2 : (y 2).val = d) : x y = n3 x r s d := by
  subst h0 h1 h2
  conv_lhs => rw [eq_ix3 y]
  exact n3_ix x (y 0) (y 1) (y 2)

theorem iblk0 (t : Fin cfg0.N) : iblk m c 0 t = qBlk (head m c (t.val / 8)) ((grid0.coords t) 1).val := by
  funext y
  unfold iblk
  rw [View.read_apply]
  refine at2 (m ((c : Thread nD τ).loc main_arg0)) _ _ _ ?_ ?_
  · show win0_0.index t 0 * 1024 + 1 * (y 0).val = _
    rw [(ixQ t).1.1, coord1 t]; omega
  · show win0_0.index t 1 * 128 + 1 * (y 1).val = _
    rw [(ixQ t).1.2]; omega

theorem iblk4 (t : Fin cfg0.N) : iblk m c 4 t = oBlk (head m c (t.val / 8)) ((grid0.coords t) 1).val := by
  funext y
  unfold iblk
  rw [View.read_apply]
  refine at2 (m ((c : Thread nD τ).loc main_arg4)) _ _ _ ?_ ?_
  · show win0_4.index t 0 * 1024 + 1 * (y 0).val = _
    rw [(ixQ t).2.1.1, coord1 t]; omega
  · show win0_4.index t 1 * 128 + 1 * (y 1).val = _
    rw [(ixQ t).2.1.2]; omega

theorem iblk1 (t : Fin cfg0.N) : iblk m c 1 t = kBlk (head m c (t.val / 8)) := by
  funext y
  unfold iblk
  rw [View.read_apply]
  refine at2 (m ((c : Thread nD τ).loc main_arg1)) _ _ _ ?_ ?_
  · show win0_1.index t 0 * 8704 + 1 * (y 0).val = _
    rw [(ixK t).1.1]; omega
  · show win0_1.index t 1 * 128 + 1 * (y 1).val = _
    rw [(ixK t).1.2]; omega

theorem iblk2 (t : Fin cfg0.N) : iblk m c 2 t = vBlk (head m c (t.val / 8)) := by
  funext y
  unfold iblk
  rw [View.read_apply]
  refine at2 (m ((c : Thread nD τ).loc main_arg2)) _ _ _ ?_ ?_
  · show win0_2.index t 0 * 8704 + 1 * (y 0).val = _
    rw [(ixK t).2.1.1]; omega
  · show win0_2.index t 1 * 128 + 1 * (y 1).val = _
    rw [(ixK t).2.1.2]; omega

theorem iblk3 (t : Fin cfg0.N) : iblk m c 3 t = bBlk (head m c (t.val / 8)) := by
  funext y
  have hy : (y 0).val < 1 := (y 0).isLt
  unfold iblk
  rw [View.read_apply]
  refine at3 (m ((c : Thread nD τ).loc main_arg3)) _ _ _ _ ?_ ?_ ?_
  · show win0_3.index t 0 * 1 + 1 * (y 0).val = _
    rw [(ixB t).1.1]; omega
  · show win0_3.index t 1 * 64 + 1 * (y 1).val = _
    rw [(ixB t).1.2.1]; omega
  · show win0_3.index t 2 * 576 + 1 * (y 2).val = _
    rw [(ixB t).1.2.2]; omega

theorem spread_step (F : ℕ → ℕ → ℕ → EReal) (g r d : ℕ) :
    spread F (16 * g) r d + added F g r d = spread F (16 * (g + 1)) r d := by
  unfold spread added
  rw [Nat.mul_add, Finset.sum_range_add]

theorem spread_zero (F : ℕ → ℕ → ℕ → EReal) (r d : ℕ) : spread F (16 * 0) r d = 0 := by
  unfold spread
  simp

/-- The gradient of the bias over the first `n` chunks. -/
def biasSum (S : Slab) (n a j : ℕ) : EReal := ∑ x ∈ Finset.range n, S.dscore x a j

theorem bias_step (S : Slab) (g a j : ℕ) :
    biasSum S (16 * g) a j + ∑ cc : Fin 16, S.dscore (16 * g + cc) a j = biasSum S (16 * (g + 1)) a j := by
  unfold biasSum
  rw [Nat.mul_add, Finset.sum_range_add, Finset.sum_range (n := 16 * 1)]

/-- After point `t` the windows hold the sums over the head's row blocks so far. -/
def held (S : Slab) (g : ℕ) : Vec Ideal S1024x128 .f32 × Vec Ideal S8704x128 .f32 × Vec Ideal S8704x128 .f32 × Vec Ideal S1x64x576 .f32 :=
  (fun y => S.dq (1024 * g + (y 0).val) (y 1).val, fun y => spread S.dkc (16 * (g + 1)) (y 0).val (y 1).val,
    fun y => spread S.dvc (16 * (g + 1)) (y 0).val (y 1).val, fun y => biasSum S (16 * (g + 1)) (y 1).val (y 2).val)

theorem outs_A (t : Fin cfg0.N) (h0 : t.val % 8 = 0) : outsAt0 m c t.val t.isLt = held (head m c (t.val / 8)) (t.val % 8) := by
  rw [outsAt0_A m c t h0, iblk0, iblk1, iblk2, iblk3, iblk4, out_A_5, out_A_6, out_A_7, out_A_8]
  unfold held
  simp only [← spread_step, ← bias_step, coord1, h0, spread_zero, zero_add]
  simp only [biasSum, Nat.mul_zero, Finset.range_zero, Finset.sum_empty, zero_add]

theorem outs_B (t : Fin cfg0.N) (h0 : ¬t.val % 8 = 0)
    (ih : outsAt0 m c (t.val - 1) (Nat.lt_of_le_of_lt (Nat.sub_le _ _) t.isLt) = held (head m c ((t.val - 1) / 8)) ((t.val - 1) % 8)) :
    outsAt0 m c t.val t.isLt = held (head m c (t.val / 8)) (t.val % 8) := by
  rw [outsAt0_B m c t h0, ih, iblk0, iblk1, iblk2, iblk3, iblk4, out_B_5, out_B_6, out_B_7, out_B_8]
  unfold held
  have e1 : (t.val - 1) / 8 = t.val / 8 := by omega
  have e2 : (t.val - 1) % 8 + 1 = t.val % 8 := by omega
  simp only [e1, e2, coord1, spread_step, bias_step]

theorem outs_eq : ∀ (n : ℕ) (h : n < cfg0.N), outsAt0 m c n h = held (head m c (n / 8)) (n % 8)
  | 0, h => outs_A m c ⟨0, h⟩ rfl
  | n + 1, h => by
    by_cases h0 : (n + 1) % 8 = 0
    · exact outs_A m c ⟨n + 1, h⟩ h0
    · exact outs_B m c ⟨n + 1, h⟩ h0 (outs_eq n (Nat.lt_of_succ_lt h))

/-- The four arrays the launch leaves. -/
def resQ : Buf (Elt Ideal) ((c : Thread nD τ).loc main_v0_0) := fun y => (head m c ((y 1).val / 128)).dq (y 0).val ((y 1).val % 128)
def resK : Buf (Elt Ideal) ((c : Thread nD τ).loc main_v0_1) := fun y => (head m c ((y 1).val / 128)).dk (y 0).val ((y 1).val % 128)
def resV : Buf (Elt Ideal) ((c : Thread nD τ).loc main_v0_2) := fun y => (head m c ((y 1).val / 128)).dv (y 0).val ((y 1).val % 128)
def resB : Buf (Elt Ideal) ((c : Thread nD τ).loc main_v0_3) := fun y => (head m c (y 0).val).db (y 1).val (y 2).val

theorem final_q : (dats m 0 c).arrAt 5 cfg0.N = resQ m c := by
  have hN : cfg0.N = 128 := N_0
  refine (dats m 0 c).arrAt_eq_of_cover 5 (resQ m c) (fun t hf => ?_) fun y => ?_
  · rw [Cert.KernelIdeal.Value.flushed5, outs_eq]
    funext y
    have h0 : (y 0).val < 1024 := (y 0).isLt
    have h1 : (y 1).val < 128 := (y 1).isLt
    rw [View.read_apply]
    show (head m c (t.val / 8)).dq (1024 * (t.val % 8) + (y 0).val) (y 1).val
      = (head m c ((win0_5.index t 1 * 128 + 1 * (y 1).val) / 128)).dq (win0_5.index t 0 * 1024 + 1 * (y 0).val)
          ((win0_5.index t 1 * 128 + 1 * (y 1).val) % 128)
    rw [(ixQ t).2.2.1, (ixQ t).2.2.2]
    congr 2 <;> omega
  · have h0 : (y 0).val < 8192 := (y 0).isLt
    have h1 : (y 1).val < 2048 := (y 1).isLt
    obtain ⟨t, ht⟩ : ∃ t : Fin cfg0.N, t.val = (y 1).val / 128 * 8 + (y 0).val / 1024 := ⟨⟨_, by omega⟩, rfl⟩
    refine ⟨t, flush0_5 t, ?_⟩
    show y ∈ ((View.whole main_v0_0).slice (win0_5.rect t)).set
    rw [View.set_slice_whole, Rect.mem_set_unit]
    refine Fin.forall_fin_two.mpr ⟨?_, ?_⟩
    · show win0_5.index t 0 * 1024 ≤ (y 0).val ∧ (y 0).val < win0_5.index t 0 * 1024 + 1024
      rw [(ixQ t).2.2.1]
      omega
    · show win0_5.index t 1 * 128 ≤ (y 1).val ∧ (y 1).val < win0_5.index t 1 * 128 + 128
      rw [(ixQ t).2.2.2]
      omega

theorem final_k : (dats m 0 c).arrAt 6 cfg0.N = resK m c := by
  have hN : cfg0.N = 128 := N_0
  refine (dats m 0 c).arrAt_eq_of_cover 6 (resK m c) (fun t hf => ?_) fun y => ?_
  · have h7 := (flush0_6 t).mp hf
    rw [Cert.KernelIdeal.Value.flushed6, outs_eq, h7]
    funext y
    have h1 : (y 1).val < 128 := (y 1).isLt
    rw [View.read_apply]
    show spread (head m c (t.val / 8)).dkc 128 (y 0).val (y 1).val
      = (head m c ((win0_6.index t 1 * 128 + 1 * (y 1).val) / 128)).dk (win0_6.index t 0 * 8704 + 1 * (y 0).val)
          ((win0_6.index t 1 * 128 + 1 * (y 1).val) % 128)
    rw [(ixK t).2.2.1.1, (ixK t).2.2.1.2, Slab.dk, show (t.val / 8 * 128 + 1 * (y 1).val) / 128 = t.val / 8 by omega]
    congr 1 <;> omega
  · have h0 : (y 0).val < 8704 := (y 0).isLt
    have h1 : (y 1).val < 2048 := (y 1).isLt
    obtain ⟨t, ht⟩ : ∃ t : Fin cfg0.N, t.val = (y 1).val / 128 * 8 + 7 := ⟨⟨_, by omega⟩, rfl⟩
    refine ⟨t, (flush0_6 _).mpr (by omega), ?_⟩
    show y ∈ ((View.whole main_v0_1).slice (win0_6.rect t)).set
    rw [View.set_slice_whole, Rect.mem_set_unit]
    refine Fin.forall_fin_two.mpr ⟨?_, ?_⟩
    · show win0_6.index t 0 * 8704 ≤ (y 0).val ∧ (y 0).val < win0_6.index t 0 * 8704 + 8704
      rw [(ixK t).2.2.1.1]
      omega
    · show win0_6.index t 1 * 128 ≤ (y 1).val ∧ (y 1).val < win0_6.index t 1 * 128 + 128
      rw [(ixK t).2.2.1.2]
      omega

theorem final_v : (dats m 0 c).arrAt 7 cfg0.N = resV m c := by
  have hN : cfg0.N = 128 := N_0
  refine (dats m 0 c).arrAt_eq_of_cover 7 (resV m c) (fun t hf => ?_) fun y => ?_
  · have h7 := (flush0_7 t).mp hf
    rw [Cert.KernelIdeal.Value.flushed7, outs_eq, h7]
    funext y
    have h1 : (y 1).val < 128 := (y 1).isLt
    rw [View.read_apply]
    show spread (head m c (t.val / 8)).dvc 128 (y 0).val (y 1).val
      = (head m c ((win0_7.index t 1 * 128 + 1 * (y 1).val) / 128)).dv (win0_7.index t 0 * 8704 + 1 * (y 0).val)
          ((win0_7.index t 1 * 128 + 1 * (y 1).val) % 128)
    rw [(ixK t).2.2.2.1, (ixK t).2.2.2.2, Slab.dv, show (t.val / 8 * 128 + 1 * (y 1).val) / 128 = t.val / 8 by omega]
    congr 1 <;> omega
  · have h0 : (y 0).val < 8704 := (y 0).isLt
    have h1 : (y 1).val < 2048 := (y 1).isLt
    obtain ⟨t, ht⟩ : ∃ t : Fin cfg0.N, t.val = (y 1).val / 128 * 8 + 7 := ⟨⟨_, by omega⟩, rfl⟩
    refine ⟨t, (flush0_7 _).mpr (by omega), ?_⟩
    show y ∈ ((View.whole main_v0_2).slice (win0_7.rect t)).set
    rw [View.set_slice_whole, Rect.mem_set_unit]
    refine Fin.forall_fin_two.mpr ⟨?_, ?_⟩
    · show win0_7.index t 0 * 8704 ≤ (y 0).val ∧ (y 0).val < win0_7.index t 0 * 8704 + 8704
      rw [(ixK t).2.2.2.1]
      omega
    · show win0_7.index t 1 * 128 ≤ (y 1).val ∧ (y 1).val < win0_7.index t 1 * 128 + 128
      rw [(ixK t).2.2.2.2]
      omega

theorem final_b : (dats m 0 c).arrAt 8 cfg0.N = resB m c := by
  have hN : cfg0.N = 128 := N_0
  refine (dats m 0 c).arrAt_eq_of_cover 8 (resB m c) (fun t hf => ?_) fun y => ?_
  · have h7 := (flush0_8 t).mp hf
    rw [Cert.KernelIdeal.Value.flushed8, outs_eq, h7]
    funext y
    have h0 : (y 0).val < 1 := (y 0).isLt
    rw [View.read_apply]
    show biasSum (head m c (t.val / 8)) 128 (y 1).val (y 2).val
      = (head m c (win0_8.index t 0 * 1 + 1 * (y 0).val)).db (win0_8.index t 1 * 64 + 1 * (y 1).val) (win0_8.index t 2 * 576 + 1 * (y 2).val)
    rw [(ixB t).2.1, (ixB t).2.2.1, (ixB t).2.2.2, show t.val / 8 * 1 + 1 * (y 0).val = t.val / 8 by omega, Slab.db, biasSum]
    simp only [Nat.zero_mul, Nat.zero_add, Nat.one_mul]
  · have h0 : (y 0).val < 16 := (y 0).isLt
    have h1 : (y 1).val < 64 := (y 1).isLt
    have h2 : (y 2).val < 576 := (y 2).isLt
    obtain ⟨t, ht⟩ : ∃ t : Fin cfg0.N, t.val = (y 0).val * 8 + 7 := ⟨⟨_, by omega⟩, rfl⟩
    refine ⟨t, (flush0_8 _).mpr (by omega), ?_⟩
    show y ∈ ((View.whole main_v0_3).slice (win0_8.rect t)).set
    rw [View.set_slice_whole, Rect.mem_set_unit]
    intro a
    match a with
    | ⟨0, _⟩ =>
      show win0_8.index t 0 * 1 ≤ (y 0).val ∧ (y 0).val < win0_8.index t 0 * 1 + 1
      rw [(ixB t).2.1]
      omega
    | ⟨1, _⟩ =>
      show win0_8.index t 1 * 64 ≤ (y 1).val ∧ (y 1).val < win0_8.index t 1 * 64 + 64
      rw [(ixB t).2.2.1]
      omega
    | ⟨2, _⟩ =>
      show win0_8.index t 2 * 576 ≤ (y 2).val ∧ (y 2).val < win0_8.index t 2 * 576 + 576
      rw [(ixB t).2.2.2]
      omega

end Cert.KernelIdeal.Hand
-- ==== Proof.Final.lean ====
module
public import proofs.«01_k».proof.Proof.RefB
public import proofs.«01_k».proof.Proof.Acc
public import proofs.«01_k».proof.Defs
@[expose] public section
noncomputable section
/-! The precondition read at an index, and the value claim. -/
namespace Cert.Joined
open Idealize.ShloMosaic Idealize.ShloMosaic.TcCoe Idealize.SL.Sem Cert.BandAttention Idealize.ShloMosaic.StableHlo

theorem preFacts : Cert.Pre_finite_scores.Facts := by
  constructor <;> decide

theorem real_of_bit (x : EReal) (h : BitVec.ofBool (decide (max x (-x) < Ideal.ofBits .f32 2139095040#32)) = 1#1) :
    ∃ r : ℝ, x = r := by
  have ht : Ideal.ofBits .f32 2139095040#32 = ⊤ := by simp [Ideal.ofBits, Ideal.ieee]
  rw [ht] at h
  have hl : max x (-x) < ⊤ := by
    by_contra hn
    rw [decide_eq_false hn] at h
    exact absurd h (by decide)
  induction x with
  | bot => simp at hl
  | coe r => exact ⟨r, rfl⟩
  | top => simp at hl

theorem n2_real {a b : ℕ} (x : (⟨2, ![a, b]⟩ : Shape).Idx → EReal) (h : ∀ i j, ∃ r : ℝ, x (ix2 i j) = r) (r d : ℕ) :
    ∃ z : ℝ, n2 x r d = z := by
  unfold n2
  split_ifs with hc
  · exact h _ _
  · exact ⟨0, rfl⟩

theorem n3_real {a b c : ℕ} (x : (⟨3, ![a, b, c]⟩ : Shape).Idx → EReal) (h : ∀ i j k, ∃ r : ℝ, x (ix3 i j k) = r) (r s d : ℕ) :
    ∃ z : ℝ, n3 x r s d = z := by
  unfold n3
  split_ifs with hc
  · exact h _ _ _
  · exact ⟨0, rfl⟩

open Cert.Pre_finite_scores in
theorem finite_of_pre [Cert.Pre_finite_scores.Facts] (q : FVec Ideal S8192x2048 .bf16) (k v : FVec Ideal S8704x2048 .bf16)
    (b : FVec Ideal S16x64x576 .f32) (o : FVec Ideal S8192x2048 .bf16)
    (h0 : (fn q k v b o).1 = fun _ => 1#1) (h1 : (fn q k v b o).2.1 = fun _ => 1#1) (h2 : (fn q k v b o).2.2 = fun _ => 1#1) (h : ℕ) :
    (slab q k v b o h).Finite where
  q r d := n2_real q (fun i j => real_of_bit _ (by
    have e := congrFun h0 (ix2 i j)
    pointwise [fn] at e
    exact e)) _ _
  k r d := n2_real k (fun i j => real_of_bit _ (by
    have e := congrFun h1 (ix2 i j)
    pointwise [fn] at e
    exact e)) _ _
  b r d := n3_real b (fun i j l => real_of_bit _ (by
    have e := congrFun h2 (ix3 i j l)
    pointwise [fn] at e
    exact e)) _ _ _

theorem slab_congr {q q' o o' : (⟨2, ![8192, 2048]⟩ : Shape).Idx → EReal} {k k' v v' : (⟨2, ![8704, 2048]⟩ : Shape).Idx → EReal}
    {b b' : (⟨3, ![16, 64, 576]⟩ : Shape).Idx → EReal} (hq : q = q') (hk : k = k') (hv : v = v') (hb : b = b') (ho : o = o') (h : ℕ) :
    slab q k v b o h = slab q' k' v' b' o' h := by
  rw [hq, hk, hv, hb, ho]

theorem algebraic : algebraic_KernelIdeal_ReferenceIdeal_pre_finite_scores (hKernelIdeal := Cert.KernelIdeal.Gen.facts)
    (hReferenceIdeal := Cert.ReferenceIdeal.Gen.facts) (hPre_finite_scores := preFacts) := by
  intro m g m' g' hpre harg
  have hhead (c) (h : ℕ) : Cert.ReferenceIdeal.Hand.head (launchContents m' c) h = Cert.KernelIdeal.Hand.head m c h := by
    obtain ⟨a0, a1, a2, a3, a4⟩ := harg c
    exact slab_congr a0 a1 a2 a3 a4 h
  have hfin (c) (h : ℕ) : (Cert.ReferenceIdeal.Hand.head (launchContents m' c) h).Finite := by
    obtain ⟨p0, p1, p2⟩ := hpre c
    rw [hhead]
    exact @finite_of_pre preFacts _ _ _ _ _ p0 p1 p2 h
  refine ⟨fun c => Cert.KernelIdeal.Hand.resQ m c, fun c => Cert.KernelIdeal.Hand.resK m c, fun c => Cert.KernelIdeal.Hand.resV m c,
    fun c => Cert.KernelIdeal.Hand.resB m c, ?_, ?_⟩
  · refine (θ_run Cert.KernelIdeal.defs _ _).mono (fun r h c => ?_) (Cert.KernelIdeal.Value.run_blocks m g)
    obtain ⟨e0, e1, e2, e3, ea⟩ := h c
    exact ⟨e0.trans (Cert.KernelIdeal.Hand.final_q m c), e1.trans (Cert.KernelIdeal.Hand.final_k m c),
      e2.trans (Cert.KernelIdeal.Hand.final_v m c), e3.trans (Cert.KernelIdeal.Hand.final_b m c), ea⟩
  · refine (θ_run Cert.ReferenceIdeal.defs _ _).mono (fun r h c => ?_) (Cert.ReferenceIdeal.Value.run (F := Ideal) m' g')
    obtain ⟨e0, e1, e2, e3, ea⟩ := h c
    refine ⟨e0.trans ((Cert.ReferenceIdeal.Hand.res_q _ (hfin c)).trans ?_), e1.trans ((Cert.ReferenceIdeal.Hand.res_k _ (hfin c)).trans ?_),
      e2.trans ((Cert.ReferenceIdeal.Hand.res_v _).trans ?_), e3.trans ((Cert.ReferenceIdeal.Hand.res_b _ (hfin c)).trans ?_), ea⟩
    all_goals
      funext y
      rw [hhead]
      rfl

end Cert.Joined
-- ==== Proof.Prod.lean ====
module
public import proofs.«01_k».proof.Proof.Spec
public import Idealize.ShloMosaic.Lib.VecWindow
public import Idealize.ShloMosaic.Lib.Exec
public import Idealize.ShloMosaic.Lib.Pointwise
public import Idealize.ShloMosaic.Lib.MatmulPlain
public import Idealize.ShloMosaic.Lib.KernelVsHost
public import Idealize.ShloMosaic.Lib.Pipeline.ValueKit.Geometry
@[expose] public section
noncomputable section
/-! What the products of the step share: matrices over natural coordinates, their blocks, and a row times a column. -/
namespace Cert.Product
open Idealize.ShloMosaic Cert.BandAttention
open Idealize.ShloMosaic.ValueIdx (contrEquiv1 contrEquiv1_symm_val)

theorem hz2 : (![0, 0] : Fin 2 → Nat) = fun _ => 0 := funext fun a => by fin_cases a <;> rfl

/-- A matrix read at an index whose coordinates are known. -/
theorem at2 {a b : ℕ} (x : (⟨2, ![a, b]⟩ : Shape).Idx → EReal) (y : (⟨2, ![a, b]⟩ : Shape).Idx) (r d : ℕ)
    (h0 : (y 0).val = r) (h1 : (y 1).val = d) : x y = n2 x r d := by
  subst h0 h1
  conv_lhs => rw [eq_ix2 y]
  exact n2_ix x (y 0) (y 1)

/-- A block of a matrix, its rows from `i * a` and its columns from `j * b`. -/
theorem tile {a b M N : ℕ} (x : (⟨2, ![M, N]⟩ : Shape).Idx → EReal) (v : (⟨2, ![a, b]⟩ : Shape).Idx → EReal)
    {e : (⟨2, ![a, b]⟩ : Shape).Idx → (⟨2, ![M, N]⟩ : Shape).Idx} (hv : ∀ y, v y = x (e y)) {i j : ℕ}
    (h0 : ∀ y, (e y 0).val = i * a + 1 * (y 0).val) (h1 : ∀ y, (e y 1).val = j * b + 1 * (y 1).val) {r d : ℕ} (hr : r < a) (hd : d < b) :
    n2 v r d = n2 x (i * a + r) (j * b + d) :=
  (n2_ix v ⟨r, hr⟩ ⟨d, hd⟩).symm.trans ((hv _).trans (at2 x _ _ _
    ((h0 _).trans (by rw [Nat.one_mul]; rfl)) ((h1 _).trans (by rw [Nat.one_mul]; rfl))))

/-- A whole load of a whole matrix buffer reads what it holds. -/
theorem load2 {sig : RefSig} {a b : ℕ} {e : EltTy} (r : Memref sig .tc .vmem ⟨2, ![a, b]⟩ e) (h : r.IsWhole)
    (x : Vec Ideal ⟨2, ![a, b]⟩ e) (hb) :
    View.readAt (Elt Ideal) r.view (Rect.unit (s := ⟨2, ![a, b]⟩) ![0, 0] (Shape.size ⟨2, ![a, b]⟩) hb).toLoadRect (h.unread x) = x := by
  rw [View.readAt_eq_ld, h.read_unread]
  exact View.ld_unit_zero (S := ⟨2, ![a, b]⟩) hz2 _ x

/-- Row `r` of the left matrix times column `d` of the right one, over `K` terms. -/
def dot (K : ℕ) (A B : ℕ → ℕ → EReal) (r d : ℕ) : EReal := ∑ k : Fin K, A r k * B k d

theorem dot_congr {K : ℕ} {A A' B B' : ℕ → ℕ → EReal} {r r' d d' : ℕ} (h : ∀ k < K, A r k = A' r' k ∧ B k d = B' k d') :
    dot K A B r d = dot K A' B' r' d' :=
  Finset.sum_congr (M := EReal) rfl fun k _ => by rw [(h k k.isLt).1, (h k k.isLt).2]

/-- The transposed matrix. -/
def tr (A : ℕ → ℕ → EReal) : ℕ → ℕ → EReal := fun r d => A d r

/-- The sum of two entries. -/
def plus (a b : EReal) : EReal := a + b

/-- Terms summed in two runs. -/
theorem dot_add (K L : ℕ) (A B : ℕ → ℕ → EReal) (r d : ℕ) :
    dot (K + L) A B r d = plus (dot K A B r d) (dot L (fun r k => A r (K + k)) (fun k d => B (K + k) d) r d) :=
  Fin.sum_univ_add (M := EReal) fun k : Fin (K + L) => A r k * B k d

/-! ## Products of blocks, as payloads and as the host's products -/

/-- A product that contracts the first axis of both its operands. -/
def transposedLhs (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, (by decide : ([1, 0] : List (Fin 2)).Perm (List.finRange 2)),
    (by decide : ([1, 0] : List (Fin 2)).Perm (List.finRange 2)), rfl, by show 0 < 2; decide, fun a => by fin_cases a <;> rfl⟩

section
variable {M K N : ℕ} {φ₁ φ₂ : FTy} (prec : Option ContractPrecision)

theorem matmul_nn {d : DotDims ⟨2, ![M, K]⟩ ⟨2, ![K, N]⟩ ⟨2, ![M, N]⟩} (hd : d = DotDims.plain M K N)
    (x : FVec Ideal ⟨2, ![M, K]⟩ φ₁) (w : FVec Ideal ⟨2, ![K, N]⟩ φ₂) :
    matmul d prec x w (constant _ .f32 0x00000000#32) = fun y => dot K (n2 x) (n2 w) (y 0).val (y 1).val := by
  subst hd
  funext y
  rw [Idealize.ShloMosaic.ValueIdx.eq_ix2 y]
  refine (Ideal.matmul_plain_apply prec x w _ _ _).trans ((congrArg (· + _) Ideal.ofBits_zero_f32).trans ((zero_add _).trans ?_))
  exact Finset.sum_congr (M := EReal) rfl fun k _ => congrArg₂ (· * ·) (at2 x _ _ _ rfl rfl) (at2 w _ _ _ rfl rfl)

theorem matmul_nt {d : DotDims ⟨2, ![M, K]⟩ ⟨2, ![N, K]⟩ ⟨2, ![M, N]⟩} (hd : d = DotDims.transposedRhs M K N)
    (x : FVec Ideal ⟨2, ![M, K]⟩ φ₁) (w : FVec Ideal ⟨2, ![N, K]⟩ φ₂) :
    matmul d prec x w (constant _ .f32 0x00000000#32) = fun y => dot K (n2 x) (tr (n2 w)) (y 0).val (y 1).val := by
  subst hd
  funext y
  rw [Idealize.ShloMosaic.ValueIdx.eq_ix2 y]
  refine (Ideal.matmul_transposedRhs_apply prec x w _ _ _).trans ((congrArg (· + _) Ideal.ofBits_zero_f32).trans ((zero_add _).trans ?_))
  exact Finset.sum_congr (M := EReal) rfl fun k _ => congrArg₂ (· * ·) (at2 x _ _ _ rfl rfl) (at2 w _ _ _ rfl rfl)

theorem matmul_tn {d : DotDims ⟨2, ![K, M]⟩ ⟨2, ![K, N]⟩ ⟨2, ![M, N]⟩} (hd : d = transposedLhs M K N)
    (x : FVec Ideal ⟨2, ![K, M]⟩ φ₁) (w : FVec Ideal ⟨2, ![K, N]⟩ φ₂) :
    matmul d prec x w (constant _ .f32 0x00000000#32) = fun y => dot K (tr (n2 x)) (n2 w) (y 0).val (y 1).val := by
  subst hd
  funext y
  have hr : (transposedLhs M K N).contr.rank = 1 := rfl
  have hs : (transposedLhs M K N).contr.size ⟨0, by rw [hr]; exact Nat.one_pos⟩ = K := rfl
  refine (Ideal.matmul_constant_zero_apply _ prec x w y).trans ?_
  rw [← Equiv.sum_comp (contrEquiv1 _ K hr hs).symm]
  refine Finset.sum_congr (M := EReal) rfl fun k _ => ?_
  have hk := contrEquiv1_symm_val _ K hr hs k
  exact congrArg₂ (· * ·) (at2 x _ _ _ hk rfl) (at2 w _ _ _ hk rfl)

theorem host_nn {d : DotDims ⟨2, ![M, K]⟩ ⟨2, ![K, N]⟩ ⟨2, ![M, N]⟩} (hd : d = DotDims.plain M K N)
    (x : FVec Ideal ⟨2, ![M, K]⟩ φ₁) (w : FVec Ideal ⟨2, ![K, N]⟩ φ₂) :
    Host.dotGeneral d prec x w = fun y => dot K (n2 x) (n2 w) (y 0).val (y 1).val :=
  (matmul_zero_eq_dotGeneral d prec x w).symm.trans (matmul_nn prec hd x w)

theorem host_nt {d : DotDims ⟨2, ![M, K]⟩ ⟨2, ![N, K]⟩ ⟨2, ![M, N]⟩} (hd : d = DotDims.transposedRhs M K N)
    (x : FVec Ideal ⟨2, ![M, K]⟩ φ₁) (w : FVec Ideal ⟨2, ![N, K]⟩ φ₂) :
    Host.dotGeneral d prec x w = fun y => dot K (n2 x) (tr (n2 w)) (y 0).val (y 1).val :=
  (matmul_zero_eq_dotGeneral d prec x w).symm.trans (matmul_nt prec hd x w)

theorem host_tn {d : DotDims ⟨2, ![K, M]⟩ ⟨2, ![K, N]⟩ ⟨2, ![M, N]⟩} (hd : d = transposedLhs M K N)
    (x : FVec Ideal ⟨2, ![K, M]⟩ φ₁) (w : FVec Ideal ⟨2, ![K, N]⟩ φ₂) :
    Host.dotGeneral d prec x w = fun y => dot K (tr (n2 x)) (n2 w) (y 0).val (y 1).val :=
  (matmul_zero_eq_dotGeneral d prec x w).symm.trans (matmul_tn prec hd x w)

/-- The factors of every term may change places. -/
theorem dot_comm (K : ℕ) (A B : ℕ → ℕ → EReal) (r d : ℕ) : dot K A B r d = dot K (tr B) (tr A) d r :=
  Finset.sum_congr (M := EReal) rfl fun _ _ => mul_comm (G := EReal) _ _

/-- A product with a matrix added, entry by entry. -/
theorem sum_entries {a b : ℕ} {x : FVec Ideal ⟨2, ![a, b]⟩ .f32} {A : ℕ → ℕ → EReal} (h : x = fun y => A (y 0).val (y 1).val) (s : FVec Ideal ⟨2, ![a, b]⟩ .f32) :
    addf x s = fun y => plus (A (y 0).val (y 1).val) (n2 s (y 0).val (y 1).val) :=
  funext fun y => congrArg₂ plus (congrFun h y) (at2 s y _ _ rfl rfl)

theorem add_first {S : Shape} (x s : FVec Ideal S .f32) : addf s x = addf x s := funext fun _ => add_comm (G := EReal) _ _

/-- The transpose of a product is the product of the transposes in the other order. -/
theorem turned {a b K : ℕ} (A B : ℕ → ℕ → EReal) (h) :
    transpose ⟨2, ![b, a]⟩ [1, 0] (fun y : (⟨2, ![a, b]⟩ : Shape).Idx => dot K A B (y 0).val (y 1).val) h
      = fun y => dot K (tr B) (tr A) (y 0).val (y 1).val := by
  funext y
  exact dot_comm _ _ _ _ _

/-- The product of the gradient with the transposed rows, turned, is the rows' matrix times the gradient. -/
theorem host_turned {M K N : ℕ} {φ₁ φ₂ : FTy} (prec : Option ContractPrecision) {d : DotDims ⟨2, ![K, N]⟩ ⟨2, ![K, M]⟩ ⟨2, ![N, M]⟩} (hd : d = transposedLhs N K M)
    (a : FVec Ideal ⟨2, ![M, K]⟩ φ₁) (b : FVec Ideal ⟨2, ![K, N]⟩ φ₂) (h h') :
    transpose ⟨2, ![M, N]⟩ [1, 0] (Host.dotGeneral d prec b (transpose (s := ⟨2, ![M, K]⟩) ⟨2, ![K, M]⟩ [1, 0] a h)) h'
      = fun y => dot K (n2 a) (n2 b) (y 0).val (y 1).val := by
  refine (congrArg (transpose (s := ⟨2, ![N, M]⟩) ⟨2, ![M, N]⟩ [1, 0] · h') (host_tn (φ₂ := φ₁) prec hd b _)).trans ((turned _ _ _).trans (funext fun y => ?_))
  refine dot_congr fun k hk => ⟨?_, rfl⟩
  exact (n2_ix (transpose (s := ⟨2, ![M, K]⟩) ⟨2, ![K, M]⟩ [1, 0] a h) ⟨k, hk⟩ (y 0)).symm.trans (at2 a _ _ _ rfl rfl)

/-! ## Grids of blocks -/

/-- A block of a matrix at known block indices. -/
theorem tileAt {a b M N : ℕ} (x : (⟨2, ![M, N]⟩ : Shape).Idx → EReal) (v : (⟨2, ![a, b]⟩ : Shape).Idx → EReal)
    {e : (⟨2, ![a, b]⟩ : Shape).Idx → (⟨2, ![M, N]⟩ : Shape).Idx} (hv : ∀ y, v y = x (e y)) {i' j' i j : ℕ}
    (h0 : ∀ y, (e y 0).val = i' * a + 1 * (y 0).val) (h1 : ∀ y, (e y 1).val = j' * b + 1 * (y 1).val) (hi : i' = i) (hj : j' = j)
    {r d : ℕ} (hr : r < a) (hd : d < b) : n2 v r d = n2 x (i * a + r) (j * b + d) := by
  subst hi hj
  exact tile x v hv h0 h1 hr hd

/-- A block that agrees with a matrix given by its coordinates is that matrix's block. -/
theorem placed {a b M N : ℕ} (V : ℕ → ℕ → EReal) (G : (⟨2, ![M, N]⟩ : Shape).Idx → EReal) (hG : ∀ z, G z = V (z 0).val (z 1).val)
    {e : (⟨2, ![a, b]⟩ : Shape).Idx → (⟨2, ![M, N]⟩ : Shape).Idx} {i' j' i j : ℕ}
    (h0 : ∀ y, (e y 0).val = i' * a + 1 * (y 0).val) (h1 : ∀ y, (e y 1).val = j' * b + 1 * (y 1).val) (hi : i' = i) (hj : j' = j)
    {v : (⟨2, ![a, b]⟩ : Shape).Idx → EReal} (hv : ∀ y, v y = V (i * a + (y 0).val) (j * b + (y 1).val)) : v = fun y => G (e y) := by
  funext y
  rw [hv, hG, h0, h1, hi, hj, Nat.one_mul, Nat.one_mul]

/-- Run `q` of the terms of a row times a column, in runs of `K`. -/
def piece (K q : ℕ) (A B : ℕ → ℕ → EReal) (r d : ℕ) : EReal := dot K (fun r k => A r (q * K + k)) (fun k d => B (q * K + k) d) r d

theorem piece_zero (K : ℕ) (A B : ℕ → ℕ → EReal) (r d : ℕ) : piece K 0 A B r d = dot K A B r d :=
  dot_congr fun k _ => by simp only [Nat.zero_mul, Nat.zero_add, and_self]

/-- Sums kept in a scratch block over runs of `J` points: the last point of a run adds its own terms to all before. -/
theorem run {N J K L a b : ℕ} (hL : J * K = L) (f : (n : ℕ) → n < N → (⟨2, ![a, b]⟩ : Shape).Idx → EReal) (A B : ℕ → ℕ → EReal) (i j : ℕ → ℕ)
    (hi : ∀ n, (n + 1) % J ≠ 0 → i (n + 1) = i n) (hj : ∀ n, (n + 1) % J ≠ 0 → j (n + 1) = j n)
    (first : ∀ t : Fin N, t.val % J = 0 → t.val % J ≠ J - 1 → ∀ y, f t.val t.isLt y = piece K (t.val % J) A B (i t.val * a + (y 0).val) (j t.val * b + (y 1).val))
    (next : ∀ t : Fin N, t.val % J ≠ 0 → t.val % J ≠ J - 1 → ∀ y, f t.val t.isLt y
      = plus (f (t.val - 1) (Nat.lt_of_le_of_lt (Nat.sub_le _ _) t.isLt) y) (piece K (t.val % J) A B (i t.val * a + (y 0).val) (j t.val * b + (y 1).val)))
    (t : Fin N) (ht : t.val % J = J - 1) (hJ : 2 ≤ J) (y : (⟨2, ![a, b]⟩ : Shape).Idx) :
    plus (f (t.val - 1) (Nat.lt_of_le_of_lt (Nat.sub_le _ _) t.isLt) y) (piece K (t.val % J) A B (i t.val * a + (y 0).val) (j t.val * b + (y 1).val))
      = dot L A B (i t.val * a + (y 0).val) (j t.val * b + (y 1).val) := by
  have add : ∀ q r d, plus (dot (q * K) A B r d) (piece K q A B r d) = dot ((q + 1) * K) A B r d := fun q r d => by
    rw [Nat.succ_mul]; exact (dot_add _ _ _ _ _ _).symm
  have mods : ∀ n, (n + 1) % J ≠ 0 → n % J + 1 = (n + 1) % J := fun n h => by
    have h1 : n % J < J := Nat.mod_lt _ (by omega)
    rw [Nat.add_mod, Nat.mod_eq_of_lt (a := 1) (by omega)] at h ⊢
    rcases Nat.lt_or_ge (n % J + 1) J with h2 | h2
    · exact (Nat.mod_eq_of_lt h2).symm
    · rw [show n % J + 1 = J by omega, Nat.mod_self] at h; exact absurd rfl h
  have acc : ∀ n (h : n < N), n % J ≠ J - 1 → f n h y = dot ((n % J + 1) * K) A B (i n * a + (y 0).val) (j n * b + (y 1).val) := by
    intro n
    induction n with
    | zero =>
      intro h hl
      refine (first ⟨0, h⟩ (Nat.zero_mod _) hl y).trans ?_
      rw [← add]
      simp only [Nat.zero_mod, Nat.zero_mul]
      exact (zero_add (M := EReal) _).symm.trans (congrArg (· + _) (by simp [dot]))
    | succ n ih =>
      intro h hl
      by_cases hz : (n + 1) % J = 0
      · refine (first ⟨n + 1, h⟩ hz hl y).trans ?_
        rw [← add]
        simp only [hz, Nat.zero_mul]
        exact (zero_add (M := EReal) _).symm.trans (congrArg (· + _) (by simp [dot]))
      · refine (next ⟨n + 1, h⟩ hz hl y).trans ?_
        have := mods n hz
        have h1 := Nat.mod_lt (n + 1) (show J > 0 by omega)
        refine (congrArg (plus · _) (ih (Nat.lt_of_succ_lt h) (by omega))).trans ?_
        rw [this, ← hi n hz, ← hj n hz]
        exact add _ _ _
  obtain ⟨n, h⟩ := t
  cases n with
  | zero => rw [Nat.zero_mod] at ht; omega
  | succ n =>
    have hz : (n + 1) % J ≠ 0 := by show ¬ _; intro e; have : (n + 1) % J = J - 1 := ht; omega
    have := mods n hz
    have h1 := Nat.mod_lt (n + 1) (show J > 0 by omega)
    refine (congrArg (plus · _) (acc n (Nat.lt_of_succ_lt h) (by omega))).trans ?_
    rw [this, ← hi n hz, ← hj n hz]
    refine (add _ _ _).trans ?_
    have ht' : (n + 1) % J = J - 1 := ht
    rw [ht', show J - 1 + 1 = J by omega, hL]

end

end Cert.Product
-- ==== Proof.FfnDh.lean ====
module
public import proofs.«01_k».proof.Proof.Prod
public import proofs.«01_k».proof.Proof.Gen.Kernel2Ideal.Value
public import proofs.«01_k».proof.Proof.Gen.Reference2Ideal.Run
public import proofs.«01_k».proof.Defs
@[expose] public section
noncomputable section
/-! The up products backward: the sum of two products with transposed weights, one block of it at every grid point. -/
namespace Cert.Kernel2Ideal.Hand
open Cert.Kernel2Ideal Cert.Kernel2Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val % 16 ∧ win0_0.index t 1 = 0) ∧ (win0_1.index t 0 = t.val / 16 ∧ win0_1.index t 1 = 0)
  ∧ (win0_2.index t 0 = t.val % 16 ∧ win0_2.index t 1 = 0) ∧ (win0_3.index t 0 = t.val / 16 ∧ win0_3.index t 1 = 0)
  ∧ win0_4.index t 0 = t.val % 16 ∧ win0_4.index t 1 = t.val / 16
theorem ix (t : Fin cfg0.N) : At t := (by unfold At; decide +kernel : ∀ t : Fin grid0.N, At t) t

@[irreducible] def val : ℕ → ℕ → EReal := fun r d =>
  plus (dot 5632 (n2 (m ((c : Thread nD τ).loc main_arg0))) (tr (n2 (m ((c : Thread nD τ).loc main_arg1)))) r d)
    (dot 5632 (n2 (m ((c : Thread nD τ).loc main_arg2))) (tr (n2 (m ((c : Thread nD τ).loc main_arg3)))) r d)
/-- What the launch leaves. -/
def res : Buf (Elt Ideal) ((c : Thread nD τ).loc main_v0) := fun y => val m c (y 0).val (y 1).val

theorem block (x w x' w' : Vec Ideal S512x5632 .bf16) : out0_4 x w x' w'
    = fun y => plus (dot 5632 (n2 x) (tr (n2 w)) (y 0).val (y 1).val) (dot 5632 (n2 x') (tr (n2 w')) (y 0).val (y 1).val) := by
  unfold out0_4
  exact (View.canon_unit_zero hz2 _ _).trans ((congr (congr (congrArg₂ k0_pay1 (View.ld_unit_zero hz2 _ x) (View.ld_unit_zero hz2 _ w)) (View.ld_unit_zero hz2 _ x'))
    (View.ld_unit_zero hz2 _ w')).trans (congrArg₂ (fun a b => addf a b) (matmul_nt (φ₁ := .bf16) (φ₂ := .bf16) none rfl x w)
      (matmul_nt (φ₁ := .bf16) (φ₂ := .bf16) none rfl x' w')))

theorem final : (dats m 0 c).arrAt 4 cfg0.N = res m c := by
  refine (dats m 0 c).arrAt_eq_of_cover 4 (res m c) (fun t _ => ?_) ((show (cfg0.win 4).Covers by decide +kernel).cover _ (Memref.isWhole_whole _))
  obtain ⟨⟨a0, a1⟩, ⟨b0, b1⟩, ⟨p0, p1⟩, ⟨q0, q1⟩, o0, o1⟩ := ix t
  rw [Cert.Kernel2Ideal.Value.flushed4, block]
  refine placed (val m c) (res m c) (fun _ => rfl) (fun _ => rfl) (fun _ => rfl) o0 o1 fun y => ?_
  unfold val
  rw [← piece_zero, ← piece_zero]
  exact congrArg₂ plus
    (dot_congr fun k hk => ⟨tileAt (m ((c : Thread nD τ).loc main_arg0)) (iblk m c 0 t) (fun _ => rfl) (fun _ => rfl) (fun _ => rfl) a0 a1 (y 0).isLt hk,
      tileAt (m ((c : Thread nD τ).loc main_arg1)) (iblk m c 1 t) (fun _ => rfl) (fun _ => rfl) (fun _ => rfl) b0 b1 (y 1).isLt hk⟩)
    (dot_congr fun k hk => ⟨tileAt (m ((c : Thread nD τ).loc main_arg2)) (iblk m c 2 t) (fun _ => rfl) (fun _ => rfl) (fun _ => rfl) p0 p1 (y 0).isLt hk,
      tileAt (m ((c : Thread nD τ).loc main_arg3)) (iblk m c 3 t) (fun _ => rfl) (fun _ => rfl) (fun _ => rfl) q0 q1 (y 1).isLt hk⟩)

end Cert.Kernel2Ideal.Hand

namespace Cert.Reference2Ideal.Hand
open Cert.Reference2Ideal Cert.Reference2Ideal.Gen Idealize.ShloMosaic Idealize.ShloMosaic.TcCoe Idealize.SL.Sem Cert.BandAttention Cert.Product

theorem algebraic : algebraic_Kernel2Ideal_Reference2Ideal (hKernel2Ideal := Cert.Kernel2Ideal.Gen.facts) (hReference2Ideal := Gen.facts) := by
  intro m g m' g' _ harg
  refine ⟨fun c => Cert.Kernel2Ideal.Hand.res m c,
    (θ_run Cert.Kernel2Ideal.defs _ _).mono (fun r h c => ⟨(h c).1.trans (Cert.Kernel2Ideal.Hand.final m c), (h c).2⟩) (Cert.Kernel2Ideal.Value.run_blocks m g),
    (θ_run defs _ _).mono (fun r h c => ⟨(h c).1.trans ?_, (h c).2⟩) (Cert.Reference2Ideal.Value.run (F := Ideal) m' g')⟩
  rw [(harg c).1, (harg c).2.1, (harg c).2.2.1, (harg c).2.2.2]
  unfold Cert.Kernel2Ideal.Hand.res Cert.Kernel2Ideal.Hand.val
  exact (add_first _ _).trans (congrArg₂ (fun a b => addf a b) (host_nt (φ₁ := .f32) (φ₂ := .f32) none rfl _ _) (host_nt (φ₁ := .f32) (φ₂ := .f32) none rfl _ _))

theorem frame : quiescent_Reference2Ideal (hReference2Ideal := Gen.facts) :=
  fun m ρ _ => (θ_run defs _ _).mono (fun r h => ⟨fun c => (h c).2, sem_eq_zero_of_no_sems (by decide) r.2⟩) (Cert.Reference2Ideal.Value.run (F := Ideal) m ρ)

end Cert.Reference2Ideal.Hand
-- ==== Proof.FfnDAct.lean ====
module
public import proofs.«01_k».proof.Proof.Prod
public import proofs.«01_k».proof.Proof.Gen.Kernel3Ideal.Value
public import proofs.«01_k».proof.Proof.Gen.Reference3Ideal.Run
public import proofs.«01_k».proof.Defs
@[expose] public section
noncomputable section
/-! The gradient of the gated activation through the down product. -/
namespace Cert.Kernel3Ideal.Hand
open Cert.Kernel3Ideal Cert.Kernel3Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val / 11 ∧ win0_0.index t 1 = 0) ∧ (win0_1.index t 0 = t.val % 11 ∧ win0_1.index t 1 = 0)
  ∧ win0_2.index t 0 = t.val / 11 ∧ win0_2.index t 1 = t.val % 11
theorem ix (t : Fin cfg0.N) : At t := (by unfold At; decide +kernel : ∀ t : Fin grid0.N, At t) t

@[irreducible] def val : ℕ → ℕ → EReal := dot 2048 (n2 (m ((c : Thread nD τ).loc main_arg0))) (tr (n2 (m ((c : Thread nD τ).loc main_arg1))))
/-- What the launch leaves. -/
def res : Buf (Elt Ideal) ((c : Thread nD τ).loc main_v0) := fun y => val m c (y 0).val (y 1).val

theorem block (t : Fin cfg0.N) : outsAt0 m c t = fun y => dot 2048 (n2 (iblk m c 0 t)) (tr (n2 (iblk m c 1 t))) (y 0).val (y 1).val := by
  unfold outsAt0 out0_A_2 kernelRun0_A
  exact (View.read_writes_full _ _ _ _ _).trans ((congrArg₂ k0_pay1 (load2 _ (hs0_0 t) (iblk m c 0 t) _) (load2 _ (hs0_1 t) (iblk m c 1 t) _)).trans
    (matmul_nt (φ₁ := .bf16) (φ₂ := .bf16) none rfl (iblk m c 0 t) (iblk m c 1 t)))

theorem final : (dats m 0 c).arrAt 2 cfg0.N = res m c := by
  refine (dats m 0 c).arrAt_eq_of_cover 2 (res m c) (fun t _ => ?_) ((show (cfg0.win 2).Covers by decide +kernel).cover _ (Memref.isWhole_whole _))
  obtain ⟨⟨a0, a1⟩, ⟨b0, b1⟩, o0, o1⟩ := ix t
  rw [Cert.Kernel3Ideal.Value.flushed2, block]
  refine placed (val m c) (res m c) (fun _ => rfl) (fun _ => rfl) (fun _ => rfl) o0 o1 fun y => ?_
  unfold val
  rw [← piece_zero]
  exact dot_congr fun k hk => ⟨tileAt (m ((c : Thread nD τ).loc main_arg0)) (iblk m c 0 t) (fun _ => rfl) (fun _ => rfl) (fun _ => rfl) a0 a1 (y 0).isLt hk,
    tileAt (m ((c : Thread nD τ).loc main_arg1)) (iblk m c 1 t) (fun _ => rfl) (fun _ => rfl) (fun _ => rfl) b0 b1 (y 1).isLt hk⟩

end Cert.Kernel3Ideal.Hand

namespace Cert.Reference3Ideal.Hand
open Cert.Reference3Ideal Cert.Reference3Ideal.Gen Idealize.ShloMosaic Idealize.ShloMosaic.TcCoe Idealize.SL.Sem Cert.BandAttention Cert.Product

theorem algebraic : algebraic_Kernel3Ideal_Reference3Ideal (hKernel3Ideal := Cert.Kernel3Ideal.Gen.facts) (hReference3Ideal := Gen.facts) := by
  intro m g m' g' _ harg
  refine ⟨fun c => Cert.Kernel3Ideal.Hand.res m c,
    (θ_run Cert.Kernel3Ideal.defs _ _).mono (fun r h c => ⟨(h c).1.trans (Cert.Kernel3Ideal.Hand.final m c), (h c).2⟩) (Cert.Kernel3Ideal.Value.run_blocks m g),
    (θ_run defs _ _).mono (fun r h c => ⟨(h c).1.trans ?_, (h c).2⟩) (Cert.Reference3Ideal.Value.run (F := Ideal) m' g')⟩
  rw [(harg c).1, (harg c).2]
  unfold Cert.Kernel3Ideal.Hand.res Cert.Kernel3Ideal.Hand.val
  exact host_nt (φ₁ := .f32) (φ₂ := .f32) none rfl _ _

theorem frame : quiescent_Reference3Ideal (hReference3Ideal := Gen.facts) :=
  fun m ρ _ => (θ_run defs _ _).mono (fun r h => ⟨fun c => (h c).2, sem_eq_zero_of_no_sems (by decide) r.2⟩) (Cert.Reference3Ideal.Value.run (F := Ideal) m ρ)

end Cert.Reference3Ideal.Hand
-- ==== Proof.FfnDWd.lean ====
module
public import proofs.«01_k».proof.Proof.Prod
public import proofs.«01_k».proof.Proof.Gen.Kernel4Ideal.Value
public import proofs.«01_k».proof.Proof.Gen.Reference4Ideal.Run
public import proofs.«01_k».proof.Defs
@[expose] public section
noncomputable section
/-! The gradient of the down weights, summed over two halves of the rows. -/
namespace Cert.Kernel4Ideal.Hand
open Cert.Kernel4Ideal Cert.Kernel4Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val / 4 ∧ win0_0.index t 1 = t.val % 2) ∧ (win0_1.index t 0 = t.val % 2 ∧ win0_1.index t 1 = t.val / 2 % 2)
  ∧ win0_2.index t 0 = t.val / 4 ∧ win0_2.index t 1 = t.val / 2 % 2
theorem ix (t : Fin cfg0.N) : At t := (by unfold At; decide +kernel : ∀ t : Fin grid0.N, At t) t

abbrev left : ℕ → ℕ → EReal := n2 (m ((c : Thread nD τ).loc main_arg0))
abbrev right : ℕ → ℕ → EReal := n2 (m ((c : Thread nD τ).loc main_arg1))
@[irreducible] def val : ℕ → ℕ → EReal := dot 8192 (left m c) (right m c)
/-- What the launch leaves. -/
def res : Buf (Elt Ideal) ((c : Thread nD τ).loc main_v0) := fun y => val m c (y 0).val (y 1).val

theorem terms (t : Fin cfg0.N) : k0_pay1 (iblk m c 0 t) (iblk m c 1 t)
    = fun y => piece 4096 (t.val % 2) (left m c) (right m c) (t.val / 4 * 512 + (y 0).val) (t.val / 2 % 2 * 1024 + (y 1).val) := by
  obtain ⟨⟨a0, a1⟩, ⟨b0, b1⟩, -⟩ := ix t
  refine (matmul_nn (φ₁ := .bf16) (φ₂ := .bf16) none rfl (iblk m c 0 t) (iblk m c 1 t)).trans (funext fun y => ?_)
  exact dot_congr fun k hk => ⟨tileAt (m ((c : Thread nD τ).loc main_arg0)) (iblk m c 0 t) (fun _ => rfl) (fun _ => rfl) (fun _ => rfl) a0 a1 (y 0).isLt hk,
    tileAt (m ((c : Thread nD τ).loc main_arg1)) (iblk m c 1 t) (fun _ => rfl) (fun _ => rfl) (fun _ => rfl) b0 b1 hk (y 1).isLt⟩

theorem first (t : Fin cfg0.N) (h : t.val % 2 = 0) : (outsAt0 m c t.val t.isLt).2 = k0_pay1 (iblk m c 0 t) (iblk m c 1 t) := by
  rw [outsAt0_A m c t h (by omega) (by omega)]
  dsimp only
  unfold sout0_A_0 kernelRun0_A
  exact (View.read_writes_full _ _ _ _ _).trans ((congrArg₂ k0_pay2 (load2 _ (hs0_0 t) (iblk m c 0 t) _) (load2 _ (hs0_1 t) (iblk m c 1 t) _)).trans (shapeCast_self _ _))

theorem last (t : Fin cfg0.N) (h : t.val % 2 = 1) : (outsAt0 m c t.val t.isLt).1
    = fun y => plus ((outsAt0 m c (t.val - 1) (Nat.lt_of_le_of_lt (Nat.sub_le _ _) t.isLt)).2 y) (k0_pay1 (iblk m c 0 t) (iblk m c 1 t) y) := by
  rw [outsAt0_B m c t (by omega) h h]
  dsimp only
  unfold out0_B_2 kernelRun0_B
  refine (View.read_writes_full _ _ _ _ _).trans ?_
  unfold kernelRun0_B.sl.v12 kernelRun0_B.sl.HS0_1
  exact (View.readCov_full _ _ _ _ _).trans ((congr (congrArg₂ k0_pay3 (load2 _ (hs0_0 t) (iblk m c 0 t) _) (load2 _ (hs0_1 t) (iblk m c 1 t) _))
    (load2 _ (Memref.isWhole_whole _) _ _)).trans (shapeCast_self _ _))

theorem final : (dats m 0 c).arrAt 2 cfg0.N = res m c := by
  refine (dats m 0 c).arrAt_eq_of_cover 2 (res m c) (fun t hf => ?_) ((show (cfg0.win 2).Covers by decide +kernel).cover _ (Memref.isWhole_whole _))
  have ht := (flush0_2 t).mp hf
  rw [Cert.Kernel4Ideal.Value.flushed2, last m c t ht, terms]
  refine placed (val m c) (res m c) (fun _ => rfl) (fun _ => rfl) (fun _ => rfl) (ix t).2.2.1 (ix t).2.2.2 fun y => ?_
  unfold val
  exact run (i := fun n => n / 4) (j := fun n => n / 2 % 2) rfl (fun n h => (outsAt0 m c n h).2) (left m c) (right m c) (fun n h => by omega) (fun n h => by omega)
    (fun t h _ y => congrFun ((first m c t h).trans (terms m c t)) y) (fun t h h' _ => (show False by omega).elim) t ht (by decide) y

end Cert.Kernel4Ideal.Hand

namespace Cert.Reference4Ideal.Hand
open Cert.Reference4Ideal Cert.Reference4Ideal.Gen Idealize.ShloMosaic Idealize.ShloMosaic.TcCoe Idealize.SL.Sem Cert.BandAttention Cert.Product

theorem algebraic : algebraic_Kernel4Ideal_Reference4Ideal (hKernel4Ideal := Cert.Kernel4Ideal.Gen.facts) (hReference4Ideal := Gen.facts) := by
  intro m g m' g' _ harg
  refine ⟨fun c => Cert.Kernel4Ideal.Hand.res m c,
    (θ_run Cert.Kernel4Ideal.defs _ _).mono (fun r h c => ⟨(h c).1.trans (Cert.Kernel4Ideal.Hand.final m c), (h c).2⟩) (Cert.Kernel4Ideal.Value.run_blocks m g),
    (θ_run defs _ _).mono (fun r h c => ⟨(h c).1.trans ?_, (h c).2⟩) (Cert.Reference4Ideal.Value.run (F := Ideal) m' g')⟩
  rw [(harg c).1, (harg c).2]
  unfold Cert.Kernel4Ideal.Hand.res Cert.Kernel4Ideal.Hand.val
  exact host_turned (φ₁ := .f32) (φ₂ := .f32) none rfl _ _ _ _

theorem frame : quiescent_Reference4Ideal (hReference4Ideal := Gen.facts) :=
  fun m ρ _ => (θ_run defs _ _).mono (fun r h => ⟨fun c => (h c).2, sem_eq_zero_of_no_sems (by decide) r.2⟩) (Cert.Reference4Ideal.Value.run (F := Ideal) m ρ)

end Cert.Reference4Ideal.Hand
-- ==== Proof.FfnDWu.lean ====
module
public import proofs.«01_k».proof.Proof.Prod
public import proofs.«01_k».proof.Proof.Gen.Kernel5Ideal.Value
public import proofs.«01_k».proof.Proof.Gen.Reference5Ideal.Run
public import proofs.«01_k».proof.Defs
@[expose] public section
noncomputable section
/-! The gradient of the up weights, summed over two halves of the rows. -/
namespace Cert.Kernel5Ideal.Hand
open Cert.Kernel5Ideal Cert.Kernel5Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val / 22 ∧ win0_0.index t 1 = t.val % 2) ∧ (win0_1.index t 0 = t.val % 2 ∧ win0_1.index t 1 = t.val / 2 % 11)
  ∧ win0_2.index t 0 = t.val / 22 ∧ win0_2.index t 1 = t.val / 2 % 11
theorem ix (t : Fin cfg0.N) : At t := (by unfold At; decide +kernel : ∀ t : Fin grid0.N, At t) t

abbrev left : ℕ → ℕ → EReal := n2 (m ((c : Thread nD τ).loc main_arg0))
abbrev right : ℕ → ℕ → EReal := n2 (m ((c : Thread nD τ).loc main_arg1))
@[irreducible] def val : ℕ → ℕ → EReal := dot 8192 (left m c) (right m c)
/-- What the launch leaves. -/
def res : Buf (Elt Ideal) ((c : Thread nD τ).loc main_v0) := fun y => val m c (y 0).val (y 1).val

theorem terms (t : Fin cfg0.N) : k0_pay1 (iblk m c 0 t) (iblk m c 1 t)
    = fun y => piece 4096 (t.val % 2) (left m c) (right m c) (t.val / 22 * 1024 + (y 0).val) (t.val / 2 % 11 * 512 + (y 1).val) := by
  obtain ⟨⟨a0, a1⟩, ⟨b0, b1⟩, -⟩ := ix t
  refine (matmul_nn (φ₁ := .bf16) (φ₂ := .bf16) none rfl (iblk m c 0 t) (iblk m c 1 t)).trans (funext fun y => ?_)
  exact dot_congr fun k hk => ⟨tileAt (m ((c : Thread nD τ).loc main_arg0)) (iblk m c 0 t) (fun _ => rfl) (fun _ => rfl) (fun _ => rfl) a0 a1 (y 0).isLt hk,
    tileAt (m ((c : Thread nD τ).loc main_arg1)) (iblk m c 1 t) (fun _ => rfl) (fun _ => rfl) (fun _ => rfl) b0 b1 hk (y 1).isLt⟩

theorem first (t : Fin cfg0.N) (h : t.val % 2 = 0) : (outsAt0 m c t.val t.isLt).2 = k0_pay1 (iblk m c 0 t) (iblk m c 1 t) := by
  rw [outsAt0_A m c t h (by omega) (by omega)]
  dsimp only
  unfold sout0_A_0 kernelRun0_A
  exact (View.read_writes_full _ _ _ _ _).trans ((congrArg₂ k0_pay2 (load2 _ (hs0_0 t) (iblk m c 0 t) _) (load2 _ (hs0_1 t) (iblk m c 1 t) _)).trans (shapeCast_self _ _))

theorem last (t : Fin cfg0.N) (h : t.val % 2 = 1) : (outsAt0 m c t.val t.isLt).1
    = fun y => plus ((outsAt0 m c (t.val - 1) (Nat.lt_of_le_of_lt (Nat.sub_le _ _) t.isLt)).2 y) (k0_pay1 (iblk m c 0 t) (iblk m c 1 t) y) := by
  rw [outsAt0_B m c t (by omega) h h]
  dsimp only
  unfold out0_B_2 kernelRun0_B
  refine (View.read_writes_full _ _ _ _ _).trans ?_
  unfold kernelRun0_B.sl.v12 kernelRun0_B.sl.HS0_1
  exact (View.readCov_full _ _ _ _ _).trans ((congr (congrArg₂ k0_pay3 (load2 _ (hs0_0 t) (iblk m c 0 t) _) (load2 _ (hs0_1 t) (iblk m c 1 t) _))
    (load2 _ (Memref.isWhole_whole _) _ _)).trans (shapeCast_self _ _))

theorem final : (dats m 0 c).arrAt 2 cfg0.N = res m c := by
  refine (dats m 0 c).arrAt_eq_of_cover 2 (res m c) (fun t hf => ?_) ((show (cfg0.win 2).Covers by decide +kernel).cover _ (Memref.isWhole_whole _))
  have ht := (flush0_2 t).mp hf
  rw [Cert.Kernel5Ideal.Value.flushed2, last m c t ht, terms]
  refine placed (val m c) (res m c) (fun _ => rfl) (fun _ => rfl) (fun _ => rfl) (ix t).2.2.1 (ix t).2.2.2 fun y => ?_
  unfold val
  exact run (i := fun n => n / 22) (j := fun n => n / 2 % 11) rfl (fun n h => (outsAt0 m c n h).2) (left m c) (right m c) (fun n h => by omega) (fun n h => by omega)
    (fun t h _ y => congrFun ((first m c t h).trans (terms m c t)) y) (fun t h h' _ => (show False by omega).elim) t ht (by decide) y

end Cert.Kernel5Ideal.Hand

namespace Cert.Reference5Ideal.Hand
open Cert.Reference5Ideal Cert.Reference5Ideal.Gen Idealize.ShloMosaic Idealize.ShloMosaic.TcCoe Idealize.SL.Sem Cert.BandAttention Cert.Product

theorem algebraic : algebraic_Kernel5Ideal_Reference5Ideal (hKernel5Ideal := Cert.Kernel5Ideal.Gen.facts) (hReference5Ideal := Gen.facts) := by
  intro m g m' g' _ harg
  refine ⟨fun c => Cert.Kernel5Ideal.Hand.res m c,
    (θ_run Cert.Kernel5Ideal.defs _ _).mono (fun r h c => ⟨(h c).1.trans (Cert.Kernel5Ideal.Hand.final m c), (h c).2⟩) (Cert.Kernel5Ideal.Value.run_blocks m g),
    (θ_run defs _ _).mono (fun r h c => ⟨(h c).1.trans ?_, (h c).2⟩) (Cert.Reference5Ideal.Value.run (F := Ideal) m' g')⟩
  rw [(harg c).1, (harg c).2]
  unfold Cert.Kernel5Ideal.Hand.res Cert.Kernel5Ideal.Hand.val
  exact host_turned (φ₁ := .f32) (φ₂ := .f32) none rfl _ _ _ _

theorem frame : quiescent_Reference5Ideal (hReference5Ideal := Gen.facts) :=
  fun m ρ _ => (θ_run defs _ _).mono (fun r h => ⟨fun c => (h c).2, sem_eq_zero_of_no_sems (by decide) r.2⟩) (Cert.Reference5Ideal.Value.run (F := Ideal) m ρ)

end Cert.Reference5Ideal.Hand
-- ==== Proof.FfnUp.lean ====
module
public import proofs.«01_k».proof.Proof.Prod
public import proofs.«01_k».proof.Proof.Gen.Kernel6Ideal.Value
public import proofs.«01_k».proof.Proof.Gen.Reference6Ideal.Run
public import proofs.«01_k».proof.Defs
@[expose] public section
noncomputable section
/-! The up product forward, one block of it at every grid point. -/
namespace Cert.Kernel6Ideal.Hand
open Cert.Kernel6Ideal Cert.Kernel6Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val / 11 ∧ win0_0.index t 1 = 0) ∧ (win0_1.index t 0 = 0 ∧ win0_1.index t 1 = t.val % 11)
  ∧ win0_2.index t 0 = t.val / 11 ∧ win0_2.index t 1 = t.val % 11
theorem ix (t : Fin cfg0.N) : At t := (by unfold At; decide +kernel : ∀ t : Fin grid0.N, At t) t

@[irreducible] def val : ℕ → ℕ → EReal := dot 2048 (n2 (m ((c : Thread nD τ).loc main_arg0))) (n2 (m ((c : Thread nD τ).loc main_arg1)))
/-- What the launch leaves. -/
def res : Buf (Elt Ideal) ((c : Thread nD τ).loc main_v0) := fun y => val m c (y 0).val (y 1).val

theorem block (t : Fin cfg0.N) : outsAt0 m c t = fun y => dot 2048 (n2 (iblk m c 0 t)) (n2 (iblk m c 1 t)) (y 0).val (y 1).val := by
  unfold outsAt0 out0_A_2 kernelRun0_A
  exact (View.read_writes_full _ _ _ _ _).trans ((congrArg₂ k0_pay1 (load2 _ (hs0_0 t) (iblk m c 0 t) _) (load2 _ (hs0_1 t) (iblk m c 1 t) _)).trans
    (matmul_nn (φ₁ := .bf16) (φ₂ := .bf16) none rfl (iblk m c 0 t) (iblk m c 1 t)))

theorem final : (dats m 0 c).arrAt 2 cfg0.N = res m c := by
  refine (dats m 0 c).arrAt_eq_of_cover 2 (res m c) (fun t _ => ?_) ((show (cfg0.win 2).Covers by decide +kernel).cover _ (Memref.isWhole_whole _))
  obtain ⟨⟨a0, a1⟩, ⟨b0, b1⟩, o0, o1⟩ := ix t
  rw [Cert.Kernel6Ideal.Value.flushed2, block]
  refine placed (val m c) (res m c) (fun _ => rfl) (fun _ => rfl) (fun _ => rfl) o0 o1 fun y => ?_
  unfold val
  rw [← piece_zero]
  exact dot_congr fun k hk => ⟨tileAt (m ((c : Thread nD τ).loc main_arg0)) (iblk m c 0 t) (fun _ => rfl) (fun _ => rfl) (fun _ => rfl) a0 a1 (y 0).isLt hk,
    tileAt (m ((c : Thread nD τ).loc main_arg1)) (iblk m c 1 t) (fun _ => rfl) (fun _ => rfl) (fun _ => rfl) b0 b1 hk (y 1).isLt⟩

end Cert.Kernel6Ideal.Hand

namespace Cert.Reference6Ideal.Hand
open Cert.Reference6Ideal Cert.Reference6Ideal.Gen Idealize.ShloMosaic Idealize.ShloMosaic.TcCoe Idealize.SL.Sem Cert.BandAttention Cert.Product

theorem algebraic : algebraic_Kernel6Ideal_Reference6Ideal (hKernel6Ideal := Cert.Kernel6Ideal.Gen.facts) (hReference6Ideal := Gen.facts) := by
  intro m g m' g' _ harg
  refine ⟨fun c => Cert.Kernel6Ideal.Hand.res m c,
    (θ_run Cert.Kernel6Ideal.defs _ _).mono (fun r h c => ⟨(h c).1.trans (Cert.Kernel6Ideal.Hand.final m c), (h c).2⟩) (Cert.Kernel6Ideal.Value.run_blocks m g),
    (θ_run defs _ _).mono (fun r h c => ⟨(h c).1.trans ?_, (h c).2⟩) (Cert.Reference6Ideal.Value.run (F := Ideal) m' g')⟩
  rw [(harg c).1, (harg c).2]
  unfold Cert.Kernel6Ideal.Hand.res Cert.Kernel6Ideal.Hand.val
  exact host_nn (φ₁ := .f32) (φ₂ := .f32) none rfl _ _

theorem frame : quiescent_Reference6Ideal (hReference6Ideal := Gen.facts) :=
  fun m ρ _ => (θ_run defs _ _).mono (fun r h => ⟨fun c => (h c).2, sem_eq_zero_of_no_sems (by decide) r.2⟩) (Cert.Reference6Ideal.Value.run (F := Ideal) m ρ)

end Cert.Reference6Ideal.Hand
-- ==== Proof.FfnDown.lean ====
module
public import proofs.«01_k».proof.Proof.Prod
public import proofs.«01_k».proof.Proof.Gen.Kernel7Ideal.Value
public import proofs.«01_k».proof.Proof.Gen.Reference7Ideal.Run
public import proofs.«01_k».proof.Defs
@[expose] public section
noncomputable section
/-! The down product forward with the residual added, one block of it at every grid point. -/
namespace Cert.Kernel7Ideal.Hand
open Cert.Kernel7Ideal Cert.Kernel7Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val % 16 ∧ win0_0.index t 1 = 0) ∧ (win0_1.index t 0 = 0 ∧ win0_1.index t 1 = t.val / 16)
  ∧ (win0_2.index t 0 = t.val % 16 ∧ win0_2.index t 1 = t.val / 16) ∧ win0_3.index t 0 = t.val % 16 ∧ win0_3.index t 1 = t.val / 16
theorem ix (t : Fin cfg0.N) : At t := (by unfold At; decide +kernel : ∀ t : Fin grid0.N, At t) t

@[irreducible] def val : ℕ → ℕ → EReal := fun r d =>
  plus (dot 5632 (n2 (m ((c : Thread nD τ).loc main_arg0))) (n2 (m ((c : Thread nD τ).loc main_arg1))) r d) (n2 (m ((c : Thread nD τ).loc main_arg2)) r d)
/-- What the launch leaves. -/
def res : Buf (Elt Ideal) ((c : Thread nD τ).loc main_v0) := fun y => val m c (y 0).val (y 1).val

theorem block (t : Fin cfg0.N) : outsAt0 m c t
    = fun y => plus (dot 5632 (n2 (iblk m c 0 t)) (n2 (iblk m c 1 t)) (y 0).val (y 1).val) (n2 (iblk m c 2 t) (y 0).val (y 1).val) := by
  unfold outsAt0 out0_A_3 kernelRun0_A
  exact (View.read_writes_full _ _ _ _ _).trans ((congr (congrArg₂ k0_pay1 (load2 _ (hs0_0 t) (iblk m c 0 t) _) (load2 _ (hs0_1 t) (iblk m c 1 t) _))
    (load2 _ (hs0_2 t) (iblk m c 2 t) _)).trans (sum_entries (matmul_nn (φ₁ := .bf16) (φ₂ := .bf16) none rfl (iblk m c 0 t) (iblk m c 1 t)) (iblk m c 2 t)))

theorem final : (dats m 0 c).arrAt 3 cfg0.N = res m c := by
  refine (dats m 0 c).arrAt_eq_of_cover 3 (res m c) (fun t _ => ?_) ((show (cfg0.win 3).Covers by decide +kernel).cover _ (Memref.isWhole_whole _))
  obtain ⟨⟨a0, a1⟩, ⟨b0, b1⟩, ⟨s0, s1⟩, o0, o1⟩ := ix t
  rw [Cert.Kernel7Ideal.Value.flushed3, block]
  refine placed (val m c) (res m c) (fun _ => rfl) (fun _ => rfl) (fun _ => rfl) o0 o1 fun y => ?_
  unfold val
  rw [← piece_zero]
  exact congrArg₂ plus (dot_congr fun k hk =>
      ⟨tileAt (m ((c : Thread nD τ).loc main_arg0)) (iblk m c 0 t) (fun _ => rfl) (fun _ => rfl) (fun _ => rfl) a0 a1 (y 0).isLt hk,
        tileAt (m ((c : Thread nD τ).loc main_arg1)) (iblk m c 1 t) (fun _ => rfl) (fun _ => rfl) (fun _ => rfl) b0 b1 hk (y 1).isLt⟩)
    (tileAt (m ((c : Thread nD τ).loc main_arg2)) (iblk m c 2 t) (fun _ => rfl) (fun _ => rfl) (fun _ => rfl) s0 s1 (y 0).isLt (y 1).isLt)

end Cert.Kernel7Ideal.Hand

namespace Cert.Reference7Ideal.Hand
open Cert.Reference7Ideal Cert.Reference7Ideal.Gen Idealize.ShloMosaic Idealize.ShloMosaic.TcCoe Idealize.SL.Sem Cert.BandAttention Cert.Product

theorem algebraic : algebraic_Kernel7Ideal_Reference7Ideal (hKernel7Ideal := Cert.Kernel7Ideal.Gen.facts) (hReference7Ideal := Gen.facts) := by
  intro m g m' g' _ harg
  refine ⟨fun c => Cert.Kernel7Ideal.Hand.res m c,
    (θ_run Cert.Kernel7Ideal.defs _ _).mono (fun r h c => ⟨(h c).1.trans (Cert.Kernel7Ideal.Hand.final m c), (h c).2⟩) (Cert.Kernel7Ideal.Value.run_blocks m g),
    (θ_run defs _ _).mono (fun r h c => ⟨(h c).1.trans ?_, (h c).2⟩) (Cert.Reference7Ideal.Value.run (F := Ideal) m' g')⟩
  rw [(harg c).1, (harg c).2.1, (harg c).2.2]
  unfold Cert.Kernel7Ideal.Hand.res Cert.Kernel7Ideal.Hand.val
  exact (add_first _ _).trans (sum_entries (host_nn (φ₁ := .f32) (φ₂ := .f32) none rfl _ _) _)

theorem frame : quiescent_Reference7Ideal (hReference7Ideal := Gen.facts) :=
  fun m ρ _ => (θ_run defs _ _).mono (fun r h => ⟨fun c => (h c).2, sem_eq_zero_of_no_sems (by decide) r.2⟩) (Cert.Reference7Ideal.Value.run (F := Ideal) m ρ)

end Cert.Reference7Ideal.Hand
-- ==== Proof.AttDh.lean ====
module
public import proofs.«01_k».proof.Proof.Prod
public import proofs.«01_k».proof.Proof.Gen.Kernel8Ideal.Value
public import proofs.«01_k».proof.Proof.Gen.Reference8Ideal.Run
public import proofs.«01_k».proof.Defs
@[expose] public section
noncomputable section
/-! The gradient of the rows through the attention's projection. -/
namespace Cert.Kernel8Ideal.Hand
open Cert.Kernel8Ideal Cert.Kernel8Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val % 16 ∧ win0_0.index t 1 = 0) ∧ (win0_1.index t 0 = t.val / 16 ∧ win0_1.index t 1 = 0)
  ∧ win0_2.index t 0 = t.val % 16 ∧ win0_2.index t 1 = t.val / 16
theorem ix (t : Fin cfg0.N) : At t := (by unfold At; decide +kernel : ∀ t : Fin grid0.N, At t) t

@[irreducible] def val : ℕ → ℕ → EReal := dot 6144 (n2 (m ((c : Thread nD τ).loc main_arg0))) (tr (n2 (m ((c : Thread nD τ).loc main_arg1))))
/-- What the launch leaves. -/
def res : Buf (Elt Ideal) ((c : Thread nD τ).loc main_v0) := fun y => val m c (y 0).val (y 1).val

theorem block (t : Fin cfg0.N) : outsAt0 m c t = fun y => dot 6144 (n2 (iblk m c 0 t)) (tr (n2 (iblk m c 1 t))) (y 0).val (y 1).val := by
  unfold outsAt0 out0_A_2 kernelRun0_A
  exact (View.read_writes_full _ _ _ _ _).trans ((congrArg₂ k0_pay1 (load2 _ (hs0_0 t) (iblk m c 0 t) _) (load2 _ (hs0_1 t) (iblk m c 1 t) _)).trans
    (matmul_nt (φ₁ := .bf16) (φ₂ := .bf16) none rfl (iblk m c 0 t) (iblk m c 1 t)))

theorem final : (dats m 0 c).arrAt 2 cfg0.N = res m c := by
  refine (dats m 0 c).arrAt_eq_of_cover 2 (res m c) (fun t _ => ?_) ((show (cfg0.win 2).Covers by decide +kernel).cover _ (Memref.isWhole_whole _))
  obtain ⟨⟨a0, a1⟩, ⟨b0, b1⟩, o0, o1⟩ := ix t
  rw [Cert.Kernel8Ideal.Value.flushed2, block]
  refine placed (val m c) (res m c) (fun _ => rfl) (fun _ => rfl) (fun _ => rfl) o0 o1 fun y => ?_
  unfold val
  rw [← piece_zero]
  exact dot_congr fun k hk => ⟨tileAt (m ((c : Thread nD τ).loc main_arg0)) (iblk m c 0 t) (fun _ => rfl) (fun _ => rfl) (fun _ => rfl) a0 a1 (y 0).isLt hk,
    tileAt (m ((c : Thread nD τ).loc main_arg1)) (iblk m c 1 t) (fun _ => rfl) (fun _ => rfl) (fun _ => rfl) b0 b1 (y 1).isLt hk⟩

end Cert.Kernel8Ideal.Hand

namespace Cert.Reference8Ideal.Hand
open Cert.Reference8Ideal Cert.Reference8Ideal.Gen Idealize.ShloMosaic Idealize.ShloMosaic.TcCoe Idealize.SL.Sem Cert.BandAttention Cert.Product

theorem algebraic : algebraic_Kernel8Ideal_Reference8Ideal (hKernel8Ideal := Cert.Kernel8Ideal.Gen.facts) (hReference8Ideal := Gen.facts) := by
  intro m g m' g' _ harg
  refine ⟨fun c => Cert.Kernel8Ideal.Hand.res m c,
    (θ_run Cert.Kernel8Ideal.defs _ _).mono (fun r h c => ⟨(h c).1.trans (Cert.Kernel8Ideal.Hand.final m c), (h c).2⟩) (Cert.Kernel8Ideal.Value.run_blocks m g),
    (θ_run defs _ _).mono (fun r h c => ⟨(h c).1.trans ?_, (h c).2⟩) (Cert.Reference8Ideal.Value.run (F := Ideal) m' g')⟩
  rw [(harg c).1, (harg c).2]
  unfold Cert.Kernel8Ideal.Hand.res Cert.Kernel8Ideal.Hand.val
  exact host_nt (φ₁ := .f32) (φ₂ := .f32) none rfl _ _

theorem frame : quiescent_Reference8Ideal (hReference8Ideal := Gen.facts) :=
  fun m ρ _ => (θ_run defs _ _).mono (fun r h => ⟨fun c => (h c).2, sem_eq_zero_of_no_sems (by decide) r.2⟩) (Cert.Reference8Ideal.Value.run (F := Ideal) m ρ)

end Cert.Reference8Ideal.Hand
-- ==== Proof.AttDWqkv.lean ====
module
public import proofs.«01_k».proof.Proof.Prod
public import proofs.«01_k».proof.Proof.Gen.Kernel9Ideal.Value
public import proofs.«01_k».proof.Proof.Gen.Reference9Ideal.Run
public import proofs.«01_k».proof.Defs
@[expose] public section
noncomputable section
/-! The gradient of the weights of the attention's projection, summed over two halves of the rows. -/
namespace Cert.Kernel9Ideal.Hand
open Cert.Kernel9Ideal Cert.Kernel9Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val / 12 ∧ win0_0.index t 1 = t.val % 2) ∧ (win0_1.index t 0 = t.val % 2 ∧ win0_1.index t 1 = t.val / 2 % 6)
  ∧ win0_2.index t 0 = t.val / 12 ∧ win0_2.index t 1 = t.val / 2 % 6
theorem ix (t : Fin cfg0.N) : At t := (by unfold At; decide +kernel : ∀ t : Fin grid0.N, At t) t

abbrev left : ℕ → ℕ → EReal := n2 (m ((c : Thread nD τ).loc main_arg0))
abbrev right : ℕ → ℕ → EReal := n2 (m ((c : Thread nD τ).loc main_arg1))
@[irreducible] def val : ℕ → ℕ → EReal := dot 8192 (left m c) (right m c)
/-- What the launch leaves. -/
def res : Buf (Elt Ideal) ((c : Thread nD τ).loc main_v0) := fun y => val m c (y 0).val (y 1).val

theorem terms (t : Fin cfg0.N) : k0_pay1 (iblk m c 0 t) (iblk m c 1 t)
    = fun y => piece 4096 (t.val % 2) (left m c) (right m c) (t.val / 12 * 1024 + (y 0).val) (t.val / 2 % 6 * 1024 + (y 1).val) := by
  obtain ⟨⟨a0, a1⟩, ⟨b0, b1⟩, -⟩ := ix t
  refine (matmul_nn (φ₁ := .bf16) (φ₂ := .bf16) none rfl (iblk m c 0 t) (iblk m c 1 t)).trans (funext fun y => ?_)
  exact dot_congr fun k hk => ⟨tileAt (m ((c : Thread nD τ).loc main_arg0)) (iblk m c 0 t) (fun _ => rfl) (fun _ => rfl) (fun _ => rfl) a0 a1 (y 0).isLt hk,
    tileAt (m ((c : Thread nD τ).loc main_arg1)) (iblk m c 1 t) (fun _ => rfl) (fun _ => rfl) (fun _ => rfl) b0 b1 hk (y 1).isLt⟩

theorem first (t : Fin cfg0.N) (h : t.val % 2 = 0) : (outsAt0 m c t.val t.isLt).2 = k0_pay1 (iblk m c 0 t) (iblk m c 1 t) := by
  rw [outsAt0_A m c t h (by omega) (by omega)]
  dsimp only
  unfold sout0_A_0 kernelRun0_A
  exact (View.read_writes_full _ _ _ _ _).trans ((congrArg₂ k0_pay2 (load2 _ (hs0_0 t) (iblk m c 0 t) _) (load2 _ (hs0_1 t) (iblk m c 1 t) _)).trans (shapeCast_self _ _))

theorem last (t : Fin cfg0.N) (h : t.val % 2 = 1) : (outsAt0 m c t.val t.isLt).1
    = fun y => plus ((outsAt0 m c (t.val - 1) (Nat.lt_of_le_of_lt (Nat.sub_le _ _) t.isLt)).2 y) (k0_pay1 (iblk m c 0 t) (iblk m c 1 t) y) := by
  rw [outsAt0_B m c t (by omega) h h]
  dsimp only
  unfold out0_B_2 kernelRun0_B
  refine (View.read_writes_full _ _ _ _ _).trans ?_
  unfold kernelRun0_B.sl.v12 kernelRun0_B.sl.HS0_1
  exact (View.readCov_full _ _ _ _ _).trans ((congr (congrArg₂ k0_pay3 (load2 _ (hs0_0 t) (iblk m c 0 t) _) (load2 _ (hs0_1 t) (iblk m c 1 t) _))
    (load2 _ (Memref.isWhole_whole _) _ _)).trans (shapeCast_self _ _))

theorem final : (dats m 0 c).arrAt 2 cfg0.N = res m c := by
  refine (dats m 0 c).arrAt_eq_of_cover 2 (res m c) (fun t hf => ?_) ((show (cfg0.win 2).Covers by decide +kernel).cover _ (Memref.isWhole_whole _))
  have ht := (flush0_2 t).mp hf
  rw [Cert.Kernel9Ideal.Value.flushed2, last m c t ht, terms]
  refine placed (val m c) (res m c) (fun _ => rfl) (fun _ => rfl) (fun _ => rfl) (ix t).2.2.1 (ix t).2.2.2 fun y => ?_
  unfold val
  exact run (i := fun n => n / 12) (j := fun n => n / 2 % 6) rfl (fun n h => (outsAt0 m c n h).2) (left m c) (right m c) (fun n h => by omega) (fun n h => by omega)
    (fun t h _ y => congrFun ((first m c t h).trans (terms m c t)) y) (fun t h h' _ => (show False by omega).elim) t ht (by decide) y

end Cert.Kernel9Ideal.Hand

namespace Cert.Reference9Ideal.Hand
open Cert.Reference9Ideal Cert.Reference9Ideal.Gen Idealize.ShloMosaic Idealize.ShloMosaic.TcCoe Idealize.SL.Sem Cert.BandAttention Cert.Product

theorem algebraic : algebraic_Kernel9Ideal_Reference9Ideal (hKernel9Ideal := Cert.Kernel9Ideal.Gen.facts) (hReference9Ideal := Gen.facts) := by
  intro m g m' g' _ harg
  refine ⟨fun c => Cert.Kernel9Ideal.Hand.res m c,
    (θ_run Cert.Kernel9Ideal.defs _ _).mono (fun r h c => ⟨(h c).1.trans (Cert.Kernel9Ideal.Hand.final m c), (h c).2⟩) (Cert.Kernel9Ideal.Value.run_blocks m g),
    (θ_run defs _ _).mono (fun r h c => ⟨(h c).1.trans ?_, (h c).2⟩) (Cert.Reference9Ideal.Value.run (F := Ideal) m' g')⟩
  rw [(harg c).1, (harg c).2]
  unfold Cert.Kernel9Ideal.Hand.res Cert.Kernel9Ideal.Hand.val
  exact host_turned (φ₁ := .f32) (φ₂ := .f32) none rfl _ _ _ _

theorem frame : quiescent_Reference9Ideal (hReference9Ideal := Gen.facts) :=
  fun m ρ _ => (θ_run defs _ _).mono (fun r h => ⟨fun c => (h c).2, sem_eq_zero_of_no_sems (by decide) r.2⟩) (Cert.Reference9Ideal.Value.run (F := Ideal) m ρ)

end Cert.Reference9Ideal.Hand
-- ==== Proof.AttDO.lean ====
module
public import proofs.«01_k».proof.Proof.Prod
public import proofs.«01_k».proof.Proof.Gen.Kernel10Ideal.Value
public import proofs.«01_k».proof.Proof.Gen.Reference10Ideal.Run
public import proofs.«01_k».proof.Defs
@[expose] public section
noncomputable section
/-! The gradient of the attention's heads through its output product. -/
namespace Cert.Kernel10Ideal.Hand
open Cert.Kernel10Ideal Cert.Kernel10Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val / 2 ∧ win0_0.index t 1 = 0) ∧ (win0_1.index t 0 = t.val % 2 ∧ win0_1.index t 1 = 0)
  ∧ win0_2.index t 0 = t.val / 2 ∧ win0_2.index t 1 = t.val % 2
theorem ix (t : Fin cfg0.N) : At t := (by unfold At; decide +kernel : ∀ t : Fin grid0.N, At t) t

@[irreducible] def val : ℕ → ℕ → EReal := dot 2048 (n2 (m ((c : Thread nD τ).loc main_arg0))) (tr (n2 (m ((c : Thread nD τ).loc main_arg1))))
/-- What the launch leaves. -/
def res : Buf (Elt Ideal) ((c : Thread nD τ).loc main_v0) := fun y => val m c (y 0).val (y 1).val

theorem block (t : Fin cfg0.N) : outsAt0 m c t = fun y => dot 2048 (n2 (iblk m c 0 t)) (tr (n2 (iblk m c 1 t))) (y 0).val (y 1).val := by
  unfold outsAt0 out0_A_2 kernelRun0_A
  exact (View.read_writes_full _ _ _ _ _).trans ((congrArg₂ k0_pay1 (load2 _ (hs0_0 t) (iblk m c 0 t) _) (load2 _ (hs0_1 t) (iblk m c 1 t) _)).trans
    (matmul_nt (φ₁ := .bf16) (φ₂ := .bf16) none rfl (iblk m c 0 t) (iblk m c 1 t)))

theorem final : (dats m 0 c).arrAt 2 cfg0.N = res m c := by
  refine (dats m 0 c).arrAt_eq_of_cover 2 (res m c) (fun t _ => ?_) ((show (cfg0.win 2).Covers by decide +kernel).cover _ (Memref.isWhole_whole _))
  obtain ⟨⟨a0, a1⟩, ⟨b0, b1⟩, o0, o1⟩ := ix t
  rw [Cert.Kernel10Ideal.Value.flushed2, block]
  refine placed (val m c) (res m c) (fun _ => rfl) (fun _ => rfl) (fun _ => rfl) o0 o1 fun y => ?_
  unfold val
  rw [← piece_zero]
  exact dot_congr fun k hk => ⟨tileAt (m ((c : Thread nD τ).loc main_arg0)) (iblk m c 0 t) (fun _ => rfl) (fun _ => rfl) (fun _ => rfl) a0 a1 (y 0).isLt hk,
    tileAt (m ((c : Thread nD τ).loc main_arg1)) (iblk m c 1 t) (fun _ => rfl) (fun _ => rfl) (fun _ => rfl) b0 b1 (y 1).isLt hk⟩

end Cert.Kernel10Ideal.Hand

namespace Cert.Reference10Ideal.Hand
open Cert.Reference10Ideal Cert.Reference10Ideal.Gen Idealize.ShloMosaic Idealize.ShloMosaic.TcCoe Idealize.SL.Sem Cert.BandAttention Cert.Product

theorem algebraic : algebraic_Kernel10Ideal_Reference10Ideal (hKernel10Ideal := Cert.Kernel10Ideal.Gen.facts) (hReference10Ideal := Gen.facts) := by
  intro m g m' g' _ harg
  refine ⟨fun c => Cert.Kernel10Ideal.Hand.res m c,
    (θ_run Cert.Kernel10Ideal.defs _ _).mono (fun r h c => ⟨(h c).1.trans (Cert.Kernel10Ideal.Hand.final m c), (h c).2⟩) (Cert.Kernel10Ideal.Value.run_blocks m g),
    (θ_run defs _ _).mono (fun r h c => ⟨(h c).1.trans ?_, (h c).2⟩) (Cert.Reference10Ideal.Value.run (F := Ideal) m' g')⟩
  rw [(harg c).1, (harg c).2]
  unfold Cert.Kernel10Ideal.Hand.res Cert.Kernel10Ideal.Hand.val
  exact host_nt (φ₁ := .f32) (φ₂ := .f32) none rfl _ _

theorem frame : quiescent_Reference10Ideal (hReference10Ideal := Gen.facts) :=
  fun m ρ _ => (θ_run defs _ _).mono (fun r h => ⟨fun c => (h c).2, sem_eq_zero_of_no_sems (by decide) r.2⟩) (Cert.Reference10Ideal.Value.run (F := Ideal) m ρ)

end Cert.Reference10Ideal.Hand
-- ==== Proof.AttDWo.lean ====
module
public import proofs.«01_k».proof.Proof.Prod
public import proofs.«01_k».proof.Proof.Gen.Kernel11Ideal.Value
public import proofs.«01_k».proof.Proof.Gen.Reference11Ideal.Run
public import proofs.«01_k».proof.Defs
@[expose] public section
noncomputable section
/-! The gradient of the weights of the attention's output product, summed over eight runs of the rows. -/
namespace Cert.Kernel11Ideal.Hand
open Cert.Kernel11Ideal Cert.Kernel11Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val % 8 ∧ win0_0.index t 1 = t.val / 16) ∧ (win0_1.index t 0 = t.val % 8 ∧ win0_1.index t 1 = t.val / 8 % 2)
  ∧ win0_2.index t 0 = t.val / 16 ∧ win0_2.index t 1 = t.val / 8 % 2
theorem ix (t : Fin cfg0.N) : At t := (by unfold At; decide +kernel : ∀ t : Fin grid0.N, At t) t

abbrev left : ℕ → ℕ → EReal := tr (n2 (m ((c : Thread nD τ).loc main_arg0)))
abbrev right : ℕ → ℕ → EReal := n2 (m ((c : Thread nD τ).loc main_arg1))
@[irreducible] def val : ℕ → ℕ → EReal := dot 8192 (left m c) (right m c)
/-- What the launch leaves. -/
def res : Buf (Elt Ideal) ((c : Thread nD τ).loc main_v0) := fun y => val m c (y 0).val (y 1).val

theorem terms (t : Fin cfg0.N) : k0_pay1 (iblk m c 0 t) (iblk m c 1 t)
    = fun y => piece 1024 (t.val % 8) (left m c) (right m c) (t.val / 16 * 1024 + (y 0).val) (t.val / 8 % 2 * 1024 + (y 1).val) := by
  obtain ⟨⟨a0, a1⟩, ⟨b0, b1⟩, -⟩ := ix t
  refine (matmul_tn (φ₁ := .bf16) (φ₂ := .bf16) none rfl (iblk m c 0 t) (iblk m c 1 t)).trans (funext fun y => ?_)
  exact dot_congr fun k hk => ⟨tileAt (m ((c : Thread nD τ).loc main_arg0)) (iblk m c 0 t) (fun _ => rfl) (fun _ => rfl) (fun _ => rfl) a0 a1 hk (y 0).isLt,
    tileAt (m ((c : Thread nD τ).loc main_arg1)) (iblk m c 1 t) (fun _ => rfl) (fun _ => rfl) (fun _ => rfl) b0 b1 hk (y 1).isLt⟩

theorem first (t : Fin cfg0.N) (h : t.val % 8 = 0) (h' : t.val % 8 ≠ 7) : (outsAt0 m c t.val t.isLt).2 = k0_pay1 (iblk m c 0 t) (iblk m c 1 t) := by
  rw [outsAt0_A m c t h (by omega) h']
  dsimp only
  unfold sout0_A_0 kernelRun0_A
  exact (View.read_writes_full _ _ _ _ _).trans ((congrArg₂ k0_pay2 (load2 _ (hs0_0 t) (iblk m c 0 t) _) (load2 _ (hs0_1 t) (iblk m c 1 t) _)).trans (shapeCast_self _ _))

theorem next (t : Fin cfg0.N) (h : t.val % 8 ≠ 0) (h' : t.val % 8 ≠ 7) : (outsAt0 m c t.val t.isLt).2
    = fun y => plus ((outsAt0 m c (t.val - 1) (Nat.lt_of_le_of_lt (Nat.sub_le _ _) t.isLt)).2 y) (k0_pay1 (iblk m c 0 t) (iblk m c 1 t) y) := by
  rw [outsAt0_B m c t h (by omega) h']
  dsimp only
  unfold sout0_B_0 kernelRun0_B
  exact (View.read_writes_full _ _ _ _ _).trans ((congr (congrArg₂ k0_pay3 (load2 _ (hs0_0 t) (iblk m c 0 t) _) (load2 _ (hs0_1 t) (iblk m c 1 t) _))
    (load2 _ (Memref.isWhole_whole _) _ _)).trans (shapeCast_self _ _))

theorem last (t : Fin cfg0.N) (h : t.val % 8 = 7) : (outsAt0 m c t.val t.isLt).1
    = fun y => plus ((outsAt0 m c (t.val - 1) (Nat.lt_of_le_of_lt (Nat.sub_le _ _) t.isLt)).2 y) (k0_pay1 (iblk m c 0 t) (iblk m c 1 t) y) := by
  rw [outsAt0_C m c t (by omega) (by omega) h]
  dsimp only
  unfold out0_C_2 kernelRun0_C
  refine (View.read_writes_full _ _ _ _ _).trans ?_
  unfold kernelRun0_C.sl.v12 kernelRun0_C.sl.HS0_1
  exact (View.readCov_full _ _ _ _ _).trans ((congr (congrArg₂ k0_pay3 (load2 _ (hs0_0 t) (iblk m c 0 t) _) (load2 _ (hs0_1 t) (iblk m c 1 t) _))
    (load2 _ (Memref.isWhole_whole _) _ _)).trans (shapeCast_self _ _))

theorem final : (dats m 0 c).arrAt 2 cfg0.N = res m c := by
  refine (dats m 0 c).arrAt_eq_of_cover 2 (res m c) (fun t hf => ?_) ((show (cfg0.win 2).Covers by decide +kernel).cover _ (Memref.isWhole_whole _))
  have ht := (flush0_2 t).mp hf
  rw [Cert.Kernel11Ideal.Value.flushed2, last m c t ht, terms]
  refine placed (val m c) (res m c) (fun _ => rfl) (fun _ => rfl) (fun _ => rfl) (ix t).2.2.1 (ix t).2.2.2 fun y => ?_
  unfold val
  exact run (i := fun n => n / 16) (j := fun n => n / 8 % 2) rfl (fun n h => (outsAt0 m c n h).2) (left m c) (right m c) (fun n h => by omega) (fun n h => by omega)
    (fun t h h' y => congrFun ((first m c t h h').trans (terms m c t)) y) (fun t h h' y => (congrFun (next m c t h h') y).trans (congrArg _ (congrFun (terms m c t) y)))
    t ht (by decide) y

end Cert.Kernel11Ideal.Hand

namespace Cert.Reference11Ideal.Hand
open Cert.Reference11Ideal Cert.Reference11Ideal.Gen Idealize.ShloMosaic Idealize.ShloMosaic.TcCoe Idealize.SL.Sem Cert.BandAttention Cert.Product

theorem algebraic : algebraic_Kernel11Ideal_Reference11Ideal (hKernel11Ideal := Cert.Kernel11Ideal.Gen.facts) (hReference11Ideal := Gen.facts) := by
  intro m g m' g' _ harg
  refine ⟨fun c => Cert.Kernel11Ideal.Hand.res m c,
    (θ_run Cert.Kernel11Ideal.defs _ _).mono (fun r h c => ⟨(h c).1.trans (Cert.Kernel11Ideal.Hand.final m c), (h c).2⟩) (Cert.Kernel11Ideal.Value.run_blocks m g),
    (θ_run defs _ _).mono (fun r h c => ⟨(h c).1.trans ?_, (h c).2⟩) (Cert.Reference11Ideal.Value.run (F := Ideal) m' g')⟩
  rw [(harg c).1, (harg c).2]
  unfold Cert.Kernel11Ideal.Hand.res Cert.Kernel11Ideal.Hand.val
  exact (congrArg (transpose S2048x2048 [1, 0] · _) (host_tn (φ₁ := .f32) (φ₂ := .f32) none rfl _ _)).trans (turned _ _ _)

theorem frame : quiescent_Reference11Ideal (hReference11Ideal := Gen.facts) :=
  fun m ρ _ => (θ_run defs _ _).mono (fun r h => ⟨fun c => (h c).2, sem_eq_zero_of_no_sems (by decide) r.2⟩) (Cert.Reference11Ideal.Value.run (F := Ideal) m ρ)

end Cert.Reference11Ideal.Hand
-- ==== Proof.AttQkv.lean ====
module
public import proofs.«01_k».proof.Proof.Prod
public import proofs.«01_k».proof.Proof.Gen.Kernel12Ideal.Value
public import proofs.«01_k».proof.Proof.Gen.Reference12Ideal.Run
public import proofs.«01_k».proof.Defs
@[expose] public section
noncomputable section
/-! The attention's projection. -/
namespace Cert.Kernel12Ideal.Hand
open Cert.Kernel12Ideal Cert.Kernel12Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val / 6 ∧ win0_0.index t 1 = 0) ∧ (win0_1.index t 0 = 0 ∧ win0_1.index t 1 = t.val % 6)
  ∧ win0_2.index t 0 = t.val / 6 ∧ win0_2.index t 1 = t.val % 6
theorem ix (t : Fin cfg0.N) : At t := (by unfold At; decide +kernel : ∀ t : Fin grid0.N, At t) t

@[irreducible] def val : ℕ → ℕ → EReal := dot 2048 (n2 (m ((c : Thread nD τ).loc main_arg0))) (n2 (m ((c : Thread nD τ).loc main_arg1)))
/-- What the launch leaves. -/
def res : Buf (Elt Ideal) ((c : Thread nD τ).loc main_v0) := fun y => val m c (y 0).val (y 1).val

theorem block (t : Fin cfg0.N) : outsAt0 m c t = fun y => dot 2048 (n2 (iblk m c 0 t)) (n2 (iblk m c 1 t)) (y 0).val (y 1).val := by
  unfold outsAt0 out0_A_2 kernelRun0_A
  exact (View.read_writes_full _ _ _ _ _).trans ((congrArg₂ k0_pay1 (load2 _ (hs0_0 t) (iblk m c 0 t) _) (load2 _ (hs0_1 t) (iblk m c 1 t) _)).trans
    (matmul_nn (φ₁ := .bf16) (φ₂ := .bf16) none rfl (iblk m c 0 t) (iblk m c 1 t)))

theorem final : (dats m 0 c).arrAt 2 cfg0.N = res m c := by
  refine (dats m 0 c).arrAt_eq_of_cover 2 (res m c) (fun t _ => ?_) ((show (cfg0.win 2).Covers by decide +kernel).cover _ (Memref.isWhole_whole _))
  obtain ⟨⟨a0, a1⟩, ⟨b0, b1⟩, o0, o1⟩ := ix t
  rw [Cert.Kernel12Ideal.Value.flushed2, block]
  refine placed (val m c) (res m c) (fun _ => rfl) (fun _ => rfl) (fun _ => rfl) o0 o1 fun y => ?_
  unfold val
  rw [← piece_zero]
  exact dot_congr fun k hk => ⟨tileAt (m ((c : Thread nD τ).loc main_arg0)) (iblk m c 0 t) (fun _ => rfl) (fun _ => rfl) (fun _ => rfl) a0 a1 (y 0).isLt hk,
    tileAt (m ((c : Thread nD τ).loc main_arg1)) (iblk m c 1 t) (fun _ => rfl) (fun _ => rfl) (fun _ => rfl) b0 b1 hk (y 1).isLt⟩

end Cert.Kernel12Ideal.Hand

namespace Cert.Reference12Ideal.Hand
open Cert.Reference12Ideal Cert.Reference12Ideal.Gen Idealize.ShloMosaic Idealize.ShloMosaic.TcCoe Idealize.SL.Sem Cert.BandAttention Cert.Product

theorem algebraic : algebraic_Kernel12Ideal_Reference12Ideal (hKernel12Ideal := Cert.Kernel12Ideal.Gen.facts) (hReference12Ideal := Gen.facts) := by
  intro m g m' g' _ harg
  refine ⟨fun c => Cert.Kernel12Ideal.Hand.res m c,
    (θ_run Cert.Kernel12Ideal.defs _ _).mono (fun r h c => ⟨(h c).1.trans (Cert.Kernel12Ideal.Hand.final m c), (h c).2⟩) (Cert.Kernel12Ideal.Value.run_blocks m g),
    (θ_run defs _ _).mono (fun r h c => ⟨(h c).1.trans ?_, (h c).2⟩) (Cert.Reference12Ideal.Value.run (F := Ideal) m' g')⟩
  rw [(harg c).1, (harg c).2]
  unfold Cert.Kernel12Ideal.Hand.res Cert.Kernel12Ideal.Hand.val
  exact host_nn (φ₁ := .f32) (φ₂ := .f32) none rfl _ _

theorem frame : quiescent_Reference12Ideal (hReference12Ideal := Gen.facts) :=
  fun m ρ _ => (θ_run defs _ _).mono (fun r h => ⟨fun c => (h c).2, sem_eq_zero_of_no_sems (by decide) r.2⟩) (Cert.Reference12Ideal.Value.run (F := Ideal) m ρ)

end Cert.Reference12Ideal.Hand
-- ==== Proof.AttOut.lean ====
module
public import proofs.«01_k».proof.Proof.Prod
public import proofs.«01_k».proof.Proof.Gen.Kernel13Ideal.Value
public import proofs.«01_k».proof.Proof.Gen.Reference13Ideal.Run
public import proofs.«01_k».proof.Defs
@[expose] public section
noncomputable section
/-! The attention's output product with the residual. -/
namespace Cert.Kernel13Ideal.Hand
open Cert.Kernel13Ideal Cert.Kernel13Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val / 2 ∧ win0_0.index t 1 = 0) ∧ (win0_1.index t 0 = 0 ∧ win0_1.index t 1 = t.val % 2)
  ∧ (win0_2.index t 0 = t.val / 2 ∧ win0_2.index t 1 = t.val % 2) ∧ win0_3.index t 0 = t.val / 2 ∧ win0_3.index t 1 = t.val % 2
theorem ix (t : Fin cfg0.N) : At t := (by unfold At; decide +kernel : ∀ t : Fin grid0.N, At t) t

@[irreducible] def val : ℕ → ℕ → EReal := fun r d =>
  plus (dot 2048 (n2 (m ((c : Thread nD τ).loc main_arg0))) (n2 (m ((c : Thread nD τ).loc main_arg1))) r d) (n2 (m ((c : Thread nD τ).loc main_arg2)) r d)
/-- What the launch leaves. -/
def res : Buf (Elt Ideal) ((c : Thread nD τ).loc main_v0) := fun y => val m c (y 0).val (y 1).val

theorem block (t : Fin cfg0.N) : outsAt0 m c t
    = fun y => plus (dot 2048 (n2 (iblk m c 0 t)) (n2 (iblk m c 1 t)) (y 0).val (y 1).val) (n2 (iblk m c 2 t) (y 0).val (y 1).val) := by
  unfold outsAt0 out0_A_3 kernelRun0_A
  exact (View.read_writes_full _ _ _ _ _).trans ((congr (congrArg₂ k0_pay1 (load2 _ (hs0_0 t) (iblk m c 0 t) _) (load2 _ (hs0_1 t) (iblk m c 1 t) _))
    (load2 _ (hs0_2 t) (iblk m c 2 t) _)).trans (sum_entries (matmul_nn (φ₁ := .bf16) (φ₂ := .bf16) none rfl (iblk m c 0 t) (iblk m c 1 t)) (iblk m c 2 t)))

theorem final : (dats m 0 c).arrAt 3 cfg0.N = res m c := by
  refine (dats m 0 c).arrAt_eq_of_cover 3 (res m c) (fun t _ => ?_) ((show (cfg0.win 3).Covers by decide +kernel).cover _ (Memref.isWhole_whole _))
  obtain ⟨⟨a0, a1⟩, ⟨b0, b1⟩, ⟨s0, s1⟩, o0, o1⟩ := ix t
  rw [Cert.Kernel13Ideal.Value.flushed3, block]
  refine placed (val m c) (res m c) (fun _ => rfl) (fun _ => rfl) (fun _ => rfl) o0 o1 fun y => ?_
  unfold val
  rw [← piece_zero]
  exact congrArg₂ plus (dot_congr fun k hk =>
      ⟨tileAt (m ((c : Thread nD τ).loc main_arg0)) (iblk m c 0 t) (fun _ => rfl) (fun _ => rfl) (fun _ => rfl) a0 a1 (y 0).isLt hk,
        tileAt (m ((c : Thread nD τ).loc main_arg1)) (iblk m c 1 t) (fun _ => rfl) (fun _ => rfl) (fun _ => rfl) b0 b1 hk (y 1).isLt⟩)
    (tileAt (m ((c : Thread nD τ).loc main_arg2)) (iblk m c 2 t) (fun _ => rfl) (fun _ => rfl) (fun _ => rfl) s0 s1 (y 0).isLt (y 1).isLt)

end Cert.Kernel13Ideal.Hand

namespace Cert.Reference13Ideal.Hand
open Cert.Reference13Ideal Cert.Reference13Ideal.Gen Idealize.ShloMosaic Idealize.ShloMosaic.TcCoe Idealize.SL.Sem Cert.BandAttention Cert.Product

theorem algebraic : algebraic_Kernel13Ideal_Reference13Ideal (hKernel13Ideal := Cert.Kernel13Ideal.Gen.facts) (hReference13Ideal := Gen.facts) := by
  intro m g m' g' _ harg
  refine ⟨fun c => Cert.Kernel13Ideal.Hand.res m c,
    (θ_run Cert.Kernel13Ideal.defs _ _).mono (fun r h c => ⟨(h c).1.trans (Cert.Kernel13Ideal.Hand.final m c), (h c).2⟩) (Cert.Kernel13Ideal.Value.run_blocks m g),
    (θ_run defs _ _).mono (fun r h c => ⟨(h c).1.trans ?_, (h c).2⟩) (Cert.Reference13Ideal.Value.run (F := Ideal) m' g')⟩
  rw [(harg c).1, (harg c).2.1, (harg c).2.2]
  unfold Cert.Kernel13Ideal.Hand.res Cert.Kernel13Ideal.Hand.val
  exact (add_first _ _).trans (sum_entries (host_nn (φ₁ := .f32) (φ₂ := .f32) none rfl _ _) _)

theorem frame : quiescent_Reference13Ideal (hReference13Ideal := Gen.facts) :=
  fun m ρ _ => (θ_run defs _ _).mono (fun r h => ⟨fun c => (h c).2, sem_eq_zero_of_no_sems (by decide) r.2⟩) (Cert.Reference13Ideal.Value.run (F := Ideal) m ρ)

end Cert.Reference13Ideal.Hand
-- ==== Proof.GdnDhMain.lean ====
module
public import proofs.«01_k».proof.Proof.Prod
public import proofs.«01_k».proof.Proof.Gen.Kernel14Ideal.Value
public import proofs.«01_k».proof.Proof.Gen.Reference14Ideal.Run
public import proofs.«01_k».proof.Defs
@[expose] public section
noncomputable section
/-! The gradient of the rows through the delta rule's main projection, summed over two halves of its columns. -/
namespace Cert.Kernel14Ideal.Hand
open Cert.Kernel14Ideal Cert.Kernel14Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val / 2 % 16 ∧ win0_0.index t 1 = t.val % 2) ∧ (win0_1.index t 0 = t.val / 32 ∧ win0_1.index t 1 = t.val % 2)
  ∧ win0_2.index t 0 = t.val / 2 % 16 ∧ win0_2.index t 1 = t.val / 32
theorem ix (t : Fin cfg0.N) : At t := (by unfold At; decide +kernel : ∀ t : Fin grid0.N, At t) t

abbrev left : ℕ → ℕ → EReal := n2 (m ((c : Thread nD τ).loc main_arg0))
abbrev right : ℕ → ℕ → EReal := tr (n2 (m ((c : Thread nD τ).loc main_arg1)))
@[irreducible] def val : ℕ → ℕ → EReal := dot 12288 (left m c) (right m c)
/-- What the launch leaves. -/
def res : Buf (Elt Ideal) ((c : Thread nD τ).loc main_v0) := fun y => val m c (y 0).val (y 1).val

theorem terms (t : Fin cfg0.N) : k0_pay1 (iblk m c 0 t) (iblk m c 1 t)
    = fun y => piece 6144 (t.val % 2) (left m c) (right m c) (t.val / 2 % 16 * 512 + (y 0).val) (t.val / 32 * 1024 + (y 1).val) := by
  obtain ⟨⟨a0, a1⟩, ⟨b0, b1⟩, -⟩ := ix t
  refine (matmul_nt (φ₁ := .bf16) (φ₂ := .bf16) none rfl (iblk m c 0 t) (iblk m c 1 t)).trans (funext fun y => ?_)
  exact dot_congr fun k hk => ⟨tileAt (m ((c : Thread nD τ).loc main_arg0)) (iblk m c 0 t) (fun _ => rfl) (fun _ => rfl) (fun _ => rfl) a0 a1 (y 0).isLt hk,
    tileAt (m ((c : Thread nD τ).loc main_arg1)) (iblk m c 1 t) (fun _ => rfl) (fun _ => rfl) (fun _ => rfl) b0 b1 (y 1).isLt hk⟩

theorem first (t : Fin cfg0.N) (h : t.val % 2 = 0) : (outsAt0 m c t.val t.isLt).2 = k0_pay1 (iblk m c 0 t) (iblk m c 1 t) := by
  rw [outsAt0_A m c t h (by omega) (by omega)]
  dsimp only
  unfold sout0_A_0 kernelRun0_A
  exact (View.read_writes_full _ _ _ _ _).trans ((congrArg₂ k0_pay2 (load2 _ (hs0_0 t) (iblk m c 0 t) _) (load2 _ (hs0_1 t) (iblk m c 1 t) _)).trans (shapeCast_self _ _))

theorem last (t : Fin cfg0.N) (h : t.val % 2 = 1) : (outsAt0 m c t.val t.isLt).1
    = fun y => plus ((outsAt0 m c (t.val - 1) (Nat.lt_of_le_of_lt (Nat.sub_le _ _) t.isLt)).2 y) (k0_pay1 (iblk m c 0 t) (iblk m c 1 t) y) := by
  rw [outsAt0_B m c t (by omega) h h]
  dsimp only
  unfold out0_B_2 kernelRun0_B
  refine (View.read_writes_full _ _ _ _ _).trans ?_
  unfold kernelRun0_B.sl.v12 kernelRun0_B.sl.HS0_1
  exact (View.readCov_full _ _ _ _ _).trans ((congr (congrArg₂ k0_pay3 (load2 _ (hs0_0 t) (iblk m c 0 t) _) (load2 _ (hs0_1 t) (iblk m c 1 t) _))
    (load2 _ (Memref.isWhole_whole _) _ _)).trans (shapeCast_self _ _))

theorem final : (dats m 0 c).arrAt 2 cfg0.N = res m c := by
  refine (dats m 0 c).arrAt_eq_of_cover 2 (res m c) (fun t hf => ?_) ((show (cfg0.win 2).Covers by decide +kernel).cover _ (Memref.isWhole_whole _))
  have ht := (flush0_2 t).mp hf
  rw [Cert.Kernel14Ideal.Value.flushed2, last m c t ht, terms]
  refine placed (val m c) (res m c) (fun _ => rfl) (fun _ => rfl) (fun _ => rfl) (ix t).2.2.1 (ix t).2.2.2 fun y => ?_
  unfold val
  exact run (i := fun n => n / 2 % 16) (j := fun n => n / 32) rfl (fun n h => (outsAt0 m c n h).2) (left m c) (right m c) (fun n h => by omega) (fun n h => by omega)
    (fun t h _ y => congrFun ((first m c t h).trans (terms m c t)) y) (fun t h h' _ => (show False by omega).elim) t ht (by decide) y

end Cert.Kernel14Ideal.Hand

namespace Cert.Reference14Ideal.Hand
open Cert.Reference14Ideal Cert.Reference14Ideal.Gen Idealize.ShloMosaic Idealize.ShloMosaic.TcCoe Idealize.SL.Sem Cert.BandAttention Cert.Product

theorem algebraic : algebraic_Kernel14Ideal_Reference14Ideal (hKernel14Ideal := Cert.Kernel14Ideal.Gen.facts) (hReference14Ideal := Gen.facts) := by
  intro m g m' g' _ harg
  refine ⟨fun c => Cert.Kernel14Ideal.Hand.res m c,
    (θ_run Cert.Kernel14Ideal.defs _ _).mono (fun r h c => ⟨(h c).1.trans (Cert.Kernel14Ideal.Hand.final m c), (h c).2⟩) (Cert.Kernel14Ideal.Value.run_blocks m g),
    (θ_run defs _ _).mono (fun r h c => ⟨(h c).1.trans ?_, (h c).2⟩) (Cert.Reference14Ideal.Value.run (F := Ideal) m' g')⟩
  rw [(harg c).1, (harg c).2]
  unfold Cert.Kernel14Ideal.Hand.res Cert.Kernel14Ideal.Hand.val
  exact host_nt (φ₁ := .f32) (φ₂ := .f32) none rfl _ _

theorem frame : quiescent_Reference14Ideal (hReference14Ideal := Gen.facts) :=
  fun m ρ _ => (θ_run defs _ _).mono (fun r h => ⟨fun c => (h c).2, sem_eq_zero_of_no_sems (by decide) r.2⟩) (Cert.Reference14Ideal.Value.run (F := Ideal) m ρ)

end Cert.Reference14Ideal.Hand
-- ==== Proof.GdnDhAb.lean ====
module
public import proofs.«01_k».proof.Proof.Prod
public import proofs.«01_k».proof.Proof.Gen.Kernel15Ideal.Value
public import proofs.«01_k».proof.Proof.Gen.Reference15Ideal.Run
public import proofs.«01_k».proof.Defs
@[expose] public section
noncomputable section
/-! The gradient of the rows through the projection of the delta rule's gates, added to the main part. -/
namespace Cert.Kernel15Ideal.Hand
open Cert.Kernel15Ideal Cert.Kernel15Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val / 2 ∧ win0_0.index t 1 = 0) ∧ (win0_1.index t 0 = t.val % 2 ∧ win0_1.index t 1 = 0)
  ∧ (win0_2.index t 0 = t.val / 2 ∧ win0_2.index t 1 = t.val % 2) ∧ win0_3.index t 0 = t.val / 2 ∧ win0_3.index t 1 = t.val % 2
theorem ix (t : Fin cfg0.N) : At t := (by unfold At; decide +kernel : ∀ t : Fin grid0.N, At t) t

@[irreducible] def val : ℕ → ℕ → EReal := fun r d =>
  plus (dot 256 (n2 (m ((c : Thread nD τ).loc main_arg0))) (tr (n2 (m ((c : Thread nD τ).loc main_arg1)))) r d) (n2 (m ((c : Thread nD τ).loc main_arg2)) r d)
/-- What the launch leaves. -/
def res : Buf (Elt Ideal) ((c : Thread nD τ).loc main_v0) := fun y => val m c (y 0).val (y 1).val

theorem block (t : Fin cfg0.N) : outsAt0 m c t
    = fun y => plus (dot 256 (n2 (iblk m c 0 t)) (tr (n2 (iblk m c 1 t))) (y 0).val (y 1).val) (n2 (iblk m c 2 t) (y 0).val (y 1).val) := by
  unfold outsAt0 out0_A_3 kernelRun0_A
  exact (View.read_writes_full _ _ _ _ _).trans ((congr (congrArg₂ k0_pay1 (load2 _ (hs0_0 t) (iblk m c 0 t) _) (load2 _ (hs0_1 t) (iblk m c 1 t) _))
    (load2 _ (hs0_2 t) (iblk m c 2 t) _)).trans (sum_entries (matmul_nt (φ₁ := .bf16) (φ₂ := .bf16) none rfl (iblk m c 0 t) (iblk m c 1 t)) (iblk m c 2 t)))

theorem final : (dats m 0 c).arrAt 3 cfg0.N = res m c := by
  refine (dats m 0 c).arrAt_eq_of_cover 3 (res m c) (fun t _ => ?_) ((show (cfg0.win 3).Covers by decide +kernel).cover _ (Memref.isWhole_whole _))
  obtain ⟨⟨a0, a1⟩, ⟨b0, b1⟩, ⟨s0, s1⟩, o0, o1⟩ := ix t
  rw [Cert.Kernel15Ideal.Value.flushed3, block]
  refine placed (val m c) (res m c) (fun _ => rfl) (fun _ => rfl) (fun _ => rfl) o0 o1 fun y => ?_
  unfold val
  rw [← piece_zero]
  exact congrArg₂ plus (dot_congr fun k hk =>
      ⟨tileAt (m ((c : Thread nD τ).loc main_arg0)) (iblk m c 0 t) (fun _ => rfl) (fun _ => rfl) (fun _ => rfl) a0 a1 (y 0).isLt hk,
        tileAt (m ((c : Thread nD τ).loc main_arg1)) (iblk m c 1 t) (fun _ => rfl) (fun _ => rfl) (fun _ => rfl) b0 b1 (y 1).isLt hk⟩)
    (tileAt (m ((c : Thread nD τ).loc main_arg2)) (iblk m c 2 t) (fun _ => rfl) (fun _ => rfl) (fun _ => rfl) s0 s1 (y 0).isLt (y 1).isLt)

end Cert.Kernel15Ideal.Hand

namespace Cert.Reference15Ideal.Hand
open Cert.Reference15Ideal Cert.Reference15Ideal.Gen Idealize.ShloMosaic Idealize.ShloMosaic.TcCoe Idealize.SL.Sem Cert.BandAttention Cert.Product

theorem algebraic : algebraic_Kernel15Ideal_Reference15Ideal (hKernel15Ideal := Cert.Kernel15Ideal.Gen.facts) (hReference15Ideal := Gen.facts) := by
  intro m g m' g' _ harg
  refine ⟨fun c => Cert.Kernel15Ideal.Hand.res m c,
    (θ_run Cert.Kernel15Ideal.defs _ _).mono (fun r h c => ⟨(h c).1.trans (Cert.Kernel15Ideal.Hand.final m c), (h c).2⟩) (Cert.Kernel15Ideal.Value.run_blocks m g),
    (θ_run defs _ _).mono (fun r h c => ⟨(h c).1.trans ?_, (h c).2⟩) (Cert.Reference15Ideal.Value.run (F := Ideal) m' g')⟩
  rw [(harg c).1, (harg c).2.1, (harg c).2.2]
  unfold Cert.Kernel15Ideal.Hand.res Cert.Kernel15Ideal.Hand.val
  exact (add_first _ _).trans (sum_entries (host_nt (φ₁ := .f32) (φ₂ := .f32) none rfl _ _) _)

theorem frame : quiescent_Reference15Ideal (hReference15Ideal := Gen.facts) :=
  fun m ρ _ => (θ_run defs _ _).mono (fun r h => ⟨fun c => (h c).2, sem_eq_zero_of_no_sems (by decide) r.2⟩) (Cert.Reference15Ideal.Value.run (F := Ideal) m ρ)

end Cert.Reference15Ideal.Hand
-- ==== Proof.GdnDWmain.lean ====
module
public import proofs.«01_k».proof.Proof.Prod
public import proofs.«01_k».proof.Proof.Gen.Kernel16Ideal.Value
public import proofs.«01_k».proof.Proof.Gen.Reference16Ideal.Run
public import proofs.«01_k».proof.Defs
@[expose] public section
noncomputable section
/-! The gradient of the delta rule's main weights, summed over two halves of the rows. -/
namespace Cert.Kernel16Ideal.Hand
open Cert.Kernel16Ideal Cert.Kernel16Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val / 24 ∧ win0_0.index t 1 = t.val % 2) ∧ (win0_1.index t 0 = t.val % 2 ∧ win0_1.index t 1 = t.val / 2 % 12)
  ∧ win0_2.index t 0 = t.val / 24 ∧ win0_2.index t 1 = t.val / 2 % 12
theorem ix (t : Fin cfg0.N) : At t := (by unfold At; decide +kernel : ∀ t : Fin grid0.N, At t) t

abbrev left : ℕ → ℕ → EReal := n2 (m ((c : Thread nD τ).loc main_arg0))
abbrev right : ℕ → ℕ → EReal := n2 (m ((c : Thread nD τ).loc main_arg1))
@[irreducible] def val : ℕ → ℕ → EReal := dot 8192 (left m c) (right m c)
/-- What the launch leaves. -/
def res : Buf (Elt Ideal) ((c : Thread nD τ).loc main_v0) := fun y => val m c (y 0).val (y 1).val

theorem terms (t : Fin cfg0.N) : k0_pay1 (iblk m c 0 t) (iblk m c 1 t)
    = fun y => piece 4096 (t.val % 2) (left m c) (right m c) (t.val / 24 * 1024 + (y 0).val) (t.val / 2 % 12 * 1024 + (y 1).val) := by
  obtain ⟨⟨a0, a1⟩, ⟨b0, b1⟩, -⟩ := ix t
  refine (matmul_nn (φ₁ := .bf16) (φ₂ := .bf16) none rfl (iblk m c 0 t) (iblk m c 1 t)).trans (funext fun y => ?_)
  exact dot_congr fun k hk => ⟨tileAt (m ((c : Thread nD τ).loc main_arg0)) (iblk m c 0 t) (fun _ => rfl) (fun _ => rfl) (fun _ => rfl) a0 a1 (y 0).isLt hk,
    tileAt (m ((c : Thread nD τ).loc main_arg1)) (iblk m c 1 t) (fun _ => rfl) (fun _ => rfl) (fun _ => rfl) b0 b1 hk (y 1).isLt⟩

theorem first (t : Fin cfg0.N) (h : t.val % 2 = 0) : (outsAt0 m c t.val t.isLt).2 = k0_pay1 (iblk m c 0 t) (iblk m c 1 t) := by
  rw [outsAt0_A m c t h (by omega) (by omega)]
  dsimp only
  unfold sout0_A_0 kernelRun0_A
  exact (View.read_writes_full _ _ _ _ _).trans ((congrArg₂ k0_pay2 (load2 _ (hs0_0 t) (iblk m c 0 t) _) (load2 _ (hs0_1 t) (iblk m c 1 t) _)).trans (shapeCast_self _ _))

theorem last (t : Fin cfg0.N) (h : t.val % 2 = 1) : (outsAt0 m c t.val t.isLt).1
    = fun y => plus ((outsAt0 m c (t.val - 1) (Nat.lt_of_le_of_lt (Nat.sub_le _ _) t.isLt)).2 y) (k0_pay1 (iblk m c 0 t) (iblk m c 1 t) y) := by
  rw [outsAt0_B m c t (by omega) h h]
  dsimp only
  unfold out0_B_2 kernelRun0_B
  refine (View.read_writes_full _ _ _ _ _).trans ?_
  unfold kernelRun0_B.sl.v12 kernelRun0_B.sl.HS0_1
  exact (View.readCov_full _ _ _ _ _).trans ((congr (congrArg₂ k0_pay3 (load2 _ (hs0_0 t) (iblk m c 0 t) _) (load2 _ (hs0_1 t) (iblk m c 1 t) _))
    (load2 _ (Memref.isWhole_whole _) _ _)).trans (shapeCast_self _ _))

theorem final : (dats m 0 c).arrAt 2 cfg0.N = res m c := by
  refine (dats m 0 c).arrAt_eq_of_cover 2 (res m c) (fun t hf => ?_) ((show (cfg0.win 2).Covers by decide +kernel).cover _ (Memref.isWhole_whole _))
  have ht := (flush0_2 t).mp hf
  rw [Cert.Kernel16Ideal.Value.flushed2, last m c t ht, terms]
  refine placed (val m c) (res m c) (fun _ => rfl) (fun _ => rfl) (fun _ => rfl) (ix t).2.2.1 (ix t).2.2.2 fun y => ?_
  unfold val
  exact run (i := fun n => n / 24) (j := fun n => n / 2 % 12) rfl (fun n h => (outsAt0 m c n h).2) (left m c) (right m c) (fun n h => by omega) (fun n h => by omega)
    (fun t h _ y => congrFun ((first m c t h).trans (terms m c t)) y) (fun t h h' _ => (show False by omega).elim) t ht (by decide) y

end Cert.Kernel16Ideal.Hand

namespace Cert.Reference16Ideal.Hand
open Cert.Reference16Ideal Cert.Reference16Ideal.Gen Idealize.ShloMosaic Idealize.ShloMosaic.TcCoe Idealize.SL.Sem Cert.BandAttention Cert.Product

theorem algebraic : algebraic_Kernel16Ideal_Reference16Ideal (hKernel16Ideal := Cert.Kernel16Ideal.Gen.facts) (hReference16Ideal := Gen.facts) := by
  intro m g m' g' _ harg
  refine ⟨fun c => Cert.Kernel16Ideal.Hand.res m c,
    (θ_run Cert.Kernel16Ideal.defs _ _).mono (fun r h c => ⟨(h c).1.trans (Cert.Kernel16Ideal.Hand.final m c), (h c).2⟩) (Cert.Kernel16Ideal.Value.run_blocks m g),
    (θ_run defs _ _).mono (fun r h c => ⟨(h c).1.trans ?_, (h c).2⟩) (Cert.Reference16Ideal.Value.run (F := Ideal) m' g')⟩
  rw [(harg c).1, (harg c).2]
  unfold Cert.Kernel16Ideal.Hand.res Cert.Kernel16Ideal.Hand.val
  exact host_turned (φ₁ := .f32) (φ₂ := .f32) none rfl _ _ _ _

theorem frame : quiescent_Reference16Ideal (hReference16Ideal := Gen.facts) :=
  fun m ρ _ => (θ_run defs _ _).mono (fun r h => ⟨fun c => (h c).2, sem_eq_zero_of_no_sems (by decide) r.2⟩) (Cert.Reference16Ideal.Value.run (F := Ideal) m ρ)

end Cert.Reference16Ideal.Hand
-- ==== Proof.GdnDWab.lean ====
module
public import proofs.«01_k».proof.Proof.Prod
public import proofs.«01_k».proof.Proof.Gen.Kernel17Ideal.Value
public import proofs.«01_k».proof.Proof.Gen.Reference17Ideal.Run
public import proofs.«01_k».proof.Defs
@[expose] public section
noncomputable section
/-! The gradient of the weights of the delta rule's gates, summed over four runs of the rows. -/
namespace Cert.Kernel17Ideal.Hand
open Cert.Kernel17Ideal Cert.Kernel17Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val / 4 ∧ win0_0.index t 1 = t.val % 4) ∧ (win0_1.index t 0 = t.val % 4 ∧ win0_1.index t 1 = 0)
  ∧ win0_2.index t 0 = t.val / 4 ∧ win0_2.index t 1 = 0
theorem ix (t : Fin cfg0.N) : At t := (by unfold At; decide +kernel : ∀ t : Fin grid0.N, At t) t

abbrev left : ℕ → ℕ → EReal := n2 (m ((c : Thread nD τ).loc main_arg0))
abbrev right : ℕ → ℕ → EReal := n2 (m ((c : Thread nD τ).loc main_arg1))
@[irreducible] def val : ℕ → ℕ → EReal := dot 8192 (left m c) (right m c)
/-- What the launch leaves. -/
def res : Buf (Elt Ideal) ((c : Thread nD τ).loc main_v0) := fun y => val m c (y 0).val (y 1).val

theorem terms (t : Fin cfg0.N) : k0_pay1 (iblk m c 0 t) (iblk m c 1 t)
    = fun y => piece 2048 (t.val % 4) (left m c) (right m c) (t.val / 4 * 1024 + (y 0).val) (0 * 256 + (y 1).val) := by
  obtain ⟨⟨a0, a1⟩, ⟨b0, b1⟩, -⟩ := ix t
  refine (matmul_nn (φ₁ := .bf16) (φ₂ := .bf16) none rfl (iblk m c 0 t) (iblk m c 1 t)).trans (funext fun y => ?_)
  exact dot_congr fun k hk => ⟨tileAt (m ((c : Thread nD τ).loc main_arg0)) (iblk m c 0 t) (fun _ => rfl) (fun _ => rfl) (fun _ => rfl) a0 a1 (y 0).isLt hk,
    tileAt (m ((c : Thread nD τ).loc main_arg1)) (iblk m c 1 t) (fun _ => rfl) (fun _ => rfl) (fun _ => rfl) b0 b1 hk (y 1).isLt⟩

theorem first (t : Fin cfg0.N) (h : t.val % 4 = 0) (h' : t.val % 4 ≠ 3) : (outsAt0 m c t.val t.isLt).2 = k0_pay1 (iblk m c 0 t) (iblk m c 1 t) := by
  rw [outsAt0_A m c t h (by omega) h']
  dsimp only
  unfold sout0_A_0 kernelRun0_A
  exact (View.read_writes_full _ _ _ _ _).trans ((congrArg₂ k0_pay2 (load2 _ (hs0_0 t) (iblk m c 0 t) _) (load2 _ (hs0_1 t) (iblk m c 1 t) _)).trans (shapeCast_self _ _))

theorem next (t : Fin cfg0.N) (h : t.val % 4 ≠ 0) (h' : t.val % 4 ≠ 3) : (outsAt0 m c t.val t.isLt).2
    = fun y => plus ((outsAt0 m c (t.val - 1) (Nat.lt_of_le_of_lt (Nat.sub_le _ _) t.isLt)).2 y) (k0_pay1 (iblk m c 0 t) (iblk m c 1 t) y) := by
  rw [outsAt0_B m c t h (by omega) h']
  dsimp only
  unfold sout0_B_0 kernelRun0_B
  exact (View.read_writes_full _ _ _ _ _).trans ((congr (congrArg₂ k0_pay3 (load2 _ (hs0_0 t) (iblk m c 0 t) _) (load2 _ (hs0_1 t) (iblk m c 1 t) _))
    (load2 _ (Memref.isWhole_whole _) _ _)).trans (shapeCast_self _ _))

theorem last (t : Fin cfg0.N) (h : t.val % 4 = 3) : (outsAt0 m c t.val t.isLt).1
    = fun y => plus ((outsAt0 m c (t.val - 1) (Nat.lt_of_le_of_lt (Nat.sub_le _ _) t.isLt)).2 y) (k0_pay1 (iblk m c 0 t) (iblk m c 1 t) y) := by
  rw [outsAt0_C m c t (by omega) (by omega) h]
  dsimp only
  unfold out0_C_2 kernelRun0_C
  refine (View.read_writes_full _ _ _ _ _).trans ?_
  unfold kernelRun0_C.sl.v13 kernelRun0_C.sl.HS0_1
  exact (View.readCov_full _ _ _ _ _).trans ((congr (congrArg₂ k0_pay3 (load2 _ (hs0_0 t) (iblk m c 0 t) _) (load2 _ (hs0_1 t) (iblk m c 1 t) _))
    (load2 _ (Memref.isWhole_whole _) _ _)).trans (shapeCast_self _ _))

theorem final : (dats m 0 c).arrAt 2 cfg0.N = res m c := by
  refine (dats m 0 c).arrAt_eq_of_cover 2 (res m c) (fun t hf => ?_) ((show (cfg0.win 2).Covers by decide +kernel).cover _ (Memref.isWhole_whole _))
  have ht := (flush0_2 t).mp hf
  rw [Cert.Kernel17Ideal.Value.flushed2, last m c t ht, terms]
  refine placed (val m c) (res m c) (fun _ => rfl) (fun _ => rfl) (fun _ => rfl) (ix t).2.2.1 (ix t).2.2.2 fun y => ?_
  unfold val
  exact run (i := fun n => n / 4) (j := fun _ => 0) rfl (fun n h => (outsAt0 m c n h).2) (left m c) (right m c) (fun n h => by omega) (fun n h => rfl)
    (fun t h h' y => congrFun ((first m c t h h').trans (terms m c t)) y) (fun t h h' y => (congrFun (next m c t h h') y).trans (congrArg _ (congrFun (terms m c t) y)))
    t ht (by decide) y

end Cert.Kernel17Ideal.Hand

namespace Cert.Reference17Ideal.Hand
open Cert.Reference17Ideal Cert.Reference17Ideal.Gen Idealize.ShloMosaic Idealize.ShloMosaic.TcCoe Idealize.SL.Sem Cert.BandAttention Cert.Product

theorem algebraic : algebraic_Kernel17Ideal_Reference17Ideal (hKernel17Ideal := Cert.Kernel17Ideal.Gen.facts) (hReference17Ideal := Gen.facts) := by
  intro m g m' g' _ harg
  refine ⟨fun c => Cert.Kernel17Ideal.Hand.res m c,
    (θ_run Cert.Kernel17Ideal.defs _ _).mono (fun r h c => ⟨(h c).1.trans (Cert.Kernel17Ideal.Hand.final m c), (h c).2⟩) (Cert.Kernel17Ideal.Value.run_blocks m g),
    (θ_run defs _ _).mono (fun r h c => ⟨(h c).1.trans ?_, (h c).2⟩) (Cert.Reference17Ideal.Value.run (F := Ideal) m' g')⟩
  rw [(harg c).1, (harg c).2]
  unfold Cert.Kernel17Ideal.Hand.res Cert.Kernel17Ideal.Hand.val
  exact host_turned (φ₁ := .f32) (φ₂ := .f32) none rfl _ _ _ _

theorem frame : quiescent_Reference17Ideal (hReference17Ideal := Gen.facts) :=
  fun m ρ _ => (θ_run defs _ _).mono (fun r h => ⟨fun c => (h c).2, sem_eq_zero_of_no_sems (by decide) r.2⟩) (Cert.Reference17Ideal.Value.run (F := Ideal) m ρ)

end Cert.Reference17Ideal.Hand
-- ==== Proof.GdnDOg.lean ====
module
public import proofs.«01_k».proof.Proof.Prod
public import proofs.«01_k».proof.Proof.Gen.Kernel18Ideal.Value
public import proofs.«01_k».proof.Proof.Gen.Reference18Ideal.Run
public import proofs.«01_k».proof.Defs
@[expose] public section
noncomputable section
/-! The gradient of the delta rule's gated heads through its output product. -/
namespace Cert.Kernel18Ideal.Hand
open Cert.Kernel18Ideal Cert.Kernel18Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val / 4 ∧ win0_0.index t 1 = 0) ∧ (win0_1.index t 0 = t.val % 4 ∧ win0_1.index t 1 = 0)
  ∧ win0_2.index t 0 = t.val / 4 ∧ win0_2.index t 1 = t.val % 4
theorem ix (t : Fin cfg0.N) : At t := (by unfold At; decide +kernel : ∀ t : Fin grid0.N, At t) t

@[irreducible] def val : ℕ → ℕ → EReal := dot 2048 (n2 (m ((c : Thread nD τ).loc main_arg0))) (tr (n2 (m ((c : Thread nD τ).loc main_arg1))))
/-- What the launch leaves. -/
def res : Buf (Elt Ideal) ((c : Thread nD τ).loc main_v0) := fun y => val m c (y 0).val (y 1).val

theorem block (t : Fin cfg0.N) : outsAt0 m c t = fun y => dot 2048 (n2 (iblk m c 0 t)) (tr (n2 (iblk m c 1 t))) (y 0).val (y 1).val := by
  unfold outsAt0 out0_A_2 kernelRun0_A
  exact (View.read_writes_full _ _ _ _ _).trans ((congrArg₂ k0_pay1 (load2 _ (hs0_0 t) (iblk m c 0 t) _) (load2 _ (hs0_1 t) (iblk m c 1 t) _)).trans
    (matmul_nt (φ₁ := .bf16) (φ₂ := .bf16) none rfl (iblk m c 0 t) (iblk m c 1 t)))

theorem final : (dats m 0 c).arrAt 2 cfg0.N = res m c := by
  refine (dats m 0 c).arrAt_eq_of_cover 2 (res m c) (fun t _ => ?_) ((show (cfg0.win 2).Covers by decide +kernel).cover _ (Memref.isWhole_whole _))
  obtain ⟨⟨a0, a1⟩, ⟨b0, b1⟩, o0, o1⟩ := ix t
  rw [Cert.Kernel18Ideal.Value.flushed2, block]
  refine placed (val m c) (res m c) (fun _ => rfl) (fun _ => rfl) (fun _ => rfl) o0 o1 fun y => ?_
  unfold val
  rw [← piece_zero]
  exact dot_congr fun k hk => ⟨tileAt (m ((c : Thread nD τ).loc main_arg0)) (iblk m c 0 t) (fun _ => rfl) (fun _ => rfl) (fun _ => rfl) a0 a1 (y 0).isLt hk,
    tileAt (m ((c : Thread nD τ).loc main_arg1)) (iblk m c 1 t) (fun _ => rfl) (fun _ => rfl) (fun _ => rfl) b0 b1 (y 1).isLt hk⟩

end Cert.Kernel18Ideal.Hand

namespace Cert.Reference18Ideal.Hand
open Cert.Reference18Ideal Cert.Reference18Ideal.Gen Idealize.ShloMosaic Idealize.ShloMosaic.TcCoe Idealize.SL.Sem Cert.BandAttention Cert.Product

theorem algebraic : algebraic_Kernel18Ideal_Reference18Ideal (hKernel18Ideal := Cert.Kernel18Ideal.Gen.facts) (hReference18Ideal := Gen.facts) := by
  intro m g m' g' _ harg
  refine ⟨fun c => Cert.Kernel18Ideal.Hand.res m c,
    (θ_run Cert.Kernel18Ideal.defs _ _).mono (fun r h c => ⟨(h c).1.trans (Cert.Kernel18Ideal.Hand.final m c), (h c).2⟩) (Cert.Kernel18Ideal.Value.run_blocks m g),
    (θ_run defs _ _).mono (fun r h c => ⟨(h c).1.trans ?_, (h c).2⟩) (Cert.Reference18Ideal.Value.run (F := Ideal) m' g')⟩
  rw [(harg c).1, (harg c).2]
  unfold Cert.Kernel18Ideal.Hand.res Cert.Kernel18Ideal.Hand.val
  exact host_nt (φ₁ := .f32) (φ₂ := .f32) none rfl _ _

theorem frame : quiescent_Reference18Ideal (hReference18Ideal := Gen.facts) :=
  fun m ρ _ => (θ_run defs _ _).mono (fun r h => ⟨fun c => (h c).2, sem_eq_zero_of_no_sems (by decide) r.2⟩) (Cert.Reference18Ideal.Value.run (F := Ideal) m ρ)

end Cert.Reference18Ideal.Hand
-- ==== Proof.GdnDWo.lean ====
module
public import proofs.«01_k».proof.Proof.Prod
public import proofs.«01_k».proof.Proof.Gen.Kernel19Ideal.Value
public import proofs.«01_k».proof.Proof.Gen.Reference19Ideal.Run
public import proofs.«01_k».proof.Defs
@[expose] public section
noncomputable section
/-! The gradient of the weights of the delta rule's output product, summed over eight runs of the rows. -/
namespace Cert.Kernel19Ideal.Hand
open Cert.Kernel19Ideal Cert.Kernel19Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val % 8 ∧ win0_0.index t 1 = t.val / 16) ∧ (win0_1.index t 0 = t.val % 8 ∧ win0_1.index t 1 = t.val / 8 % 2)
  ∧ win0_2.index t 0 = t.val / 16 ∧ win0_2.index t 1 = t.val / 8 % 2
theorem ix (t : Fin cfg0.N) : At t := (by unfold At; decide +kernel : ∀ t : Fin grid0.N, At t) t

abbrev left : ℕ → ℕ → EReal := tr (n2 (m ((c : Thread nD τ).loc main_arg0)))
abbrev right : ℕ → ℕ → EReal := n2 (m ((c : Thread nD τ).loc main_arg1))
@[irreducible] def val : ℕ → ℕ → EReal := dot 8192 (left m c) (right m c)
/-- What the launch leaves. -/
def res : Buf (Elt Ideal) ((c : Thread nD τ).loc main_v0) := fun y => val m c (y 0).val (y 1).val

theorem terms (t : Fin cfg0.N) : k0_pay1 (iblk m c 0 t) (iblk m c 1 t)
    = fun y => piece 1024 (t.val % 8) (left m c) (right m c) (t.val / 16 * 1024 + (y 0).val) (t.val / 8 % 2 * 1024 + (y 1).val) := by
  obtain ⟨⟨a0, a1⟩, ⟨b0, b1⟩, -⟩ := ix t
  refine (matmul_tn (φ₁ := .bf16) (φ₂ := .bf16) none rfl (iblk m c 0 t) (iblk m c 1 t)).trans (funext fun y => ?_)
  exact dot_congr fun k hk => ⟨tileAt (m ((c : Thread nD τ).loc main_arg0)) (iblk m c 0 t) (fun _ => rfl) (fun _ => rfl) (fun _ => rfl) a0 a1 hk (y 0).isLt,
    tileAt (m ((c : Thread nD τ).loc main_arg1)) (iblk m c 1 t) (fun _ => rfl) (fun _ => rfl) (fun _ => rfl) b0 b1 hk (y 1).isLt⟩

theorem first (t : Fin cfg0.N) (h : t.val % 8 = 0) (h' : t.val % 8 ≠ 7) : (outsAt0 m c t.val t.isLt).2 = k0_pay1 (iblk m c 0 t) (iblk m c 1 t) := by
  rw [outsAt0_A m c t h (by omega) h']
  dsimp only
  unfold sout0_A_0 kernelRun0_A
  exact (View.read_writes_full _ _ _ _ _).trans ((congrArg₂ k0_pay2 (load2 _ (hs0_0 t) (iblk m c 0 t) _) (load2 _ (hs0_1 t) (iblk m c 1 t) _)).trans (shapeCast_self _ _))

theorem next (t : Fin cfg0.N) (h : t.val % 8 ≠ 0) (h' : t.val % 8 ≠ 7) : (outsAt0 m c t.val t.isLt).2
    = fun y => plus ((outsAt0 m c (t.val - 1) (Nat.lt_of_le_of_lt (Nat.sub_le _ _) t.isLt)).2 y) (k0_pay1 (iblk m c 0 t) (iblk m c 1 t) y) := by
  rw [outsAt0_B m c t h (by omega) h']
  dsimp only
  unfold sout0_B_0 kernelRun0_B
  exact (View.read_writes_full _ _ _ _ _).trans ((congr (congrArg₂ k0_pay3 (load2 _ (hs0_0 t) (iblk m c 0 t) _) (load2 _ (hs0_1 t) (iblk m c 1 t) _))
    (load2 _ (Memref.isWhole_whole _) _ _)).trans (shapeCast_self _ _))

theorem last (t : Fin cfg0.N) (h : t.val % 8 = 7) : (outsAt0 m c t.val t.isLt).1
    = fun y => plus ((outsAt0 m c (t.val - 1) (Nat.lt_of_le_of_lt (Nat.sub_le _ _) t.isLt)).2 y) (k0_pay1 (iblk m c 0 t) (iblk m c 1 t) y) := by
  rw [outsAt0_C m c t (by omega) (by omega) h]
  dsimp only
  unfold out0_C_2 kernelRun0_C
  refine (View.read_writes_full _ _ _ _ _).trans ?_
  unfold kernelRun0_C.sl.v12 kernelRun0_C.sl.HS0_1
  exact (View.readCov_full _ _ _ _ _).trans ((congr (congrArg₂ k0_pay3 (load2 _ (hs0_0 t) (iblk m c 0 t) _) (load2 _ (hs0_1 t) (iblk m c 1 t) _))
    (load2 _ (Memref.isWhole_whole _) _ _)).trans (shapeCast_self _ _))

theorem final : (dats m 0 c).arrAt 2 cfg0.N = res m c := by
  refine (dats m 0 c).arrAt_eq_of_cover 2 (res m c) (fun t hf => ?_) ((show (cfg0.win 2).Covers by decide +kernel).cover _ (Memref.isWhole_whole _))
  have ht := (flush0_2 t).mp hf
  rw [Cert.Kernel19Ideal.Value.flushed2, last m c t ht, terms]
  refine placed (val m c) (res m c) (fun _ => rfl) (fun _ => rfl) (fun _ => rfl) (ix t).2.2.1 (ix t).2.2.2 fun y => ?_
  unfold val
  exact run (i := fun n => n / 16) (j := fun n => n / 8 % 2) rfl (fun n h => (outsAt0 m c n h).2) (left m c) (right m c) (fun n h => by omega) (fun n h => by omega)
    (fun t h h' y => congrFun ((first m c t h h').trans (terms m c t)) y) (fun t h h' y => (congrFun (next m c t h h') y).trans (congrArg _ (congrFun (terms m c t) y)))
    t ht (by decide) y

end Cert.Kernel19Ideal.Hand

namespace Cert.Reference19Ideal.Hand
open Cert.Reference19Ideal Cert.Reference19Ideal.Gen Idealize.ShloMosaic Idealize.ShloMosaic.TcCoe Idealize.SL.Sem Cert.BandAttention Cert.Product

theorem algebraic : algebraic_Kernel19Ideal_Reference19Ideal (hKernel19Ideal := Cert.Kernel19Ideal.Gen.facts) (hReference19Ideal := Gen.facts) := by
  intro m g m' g' _ harg
  refine ⟨fun c => Cert.Kernel19Ideal.Hand.res m c,
    (θ_run Cert.Kernel19Ideal.defs _ _).mono (fun r h c => ⟨(h c).1.trans (Cert.Kernel19Ideal.Hand.final m c), (h c).2⟩) (Cert.Kernel19Ideal.Value.run_blocks m g),
    (θ_run defs _ _).mono (fun r h c => ⟨(h c).1.trans ?_, (h c).2⟩) (Cert.Reference19Ideal.Value.run (F := Ideal) m' g')⟩
  rw [(harg c).1, (harg c).2]
  unfold Cert.Kernel19Ideal.Hand.res Cert.Kernel19Ideal.Hand.val
  exact (congrArg (transpose S4096x2048 [1, 0] · _) (host_tn (φ₁ := .f32) (φ₂ := .f32) none rfl _ _)).trans (turned _ _ _)

theorem frame : quiescent_Reference19Ideal (hReference19Ideal := Gen.facts) :=
  fun m ρ _ => (θ_run defs _ _).mono (fun r h => ⟨fun c => (h c).2, sem_eq_zero_of_no_sems (by decide) r.2⟩) (Cert.Reference19Ideal.Value.run (F := Ideal) m ρ)

end Cert.Reference19Ideal.Hand
-- ==== Proof.GdnProj.lean ====
module
public import proofs.«01_k».proof.Proof.Prod
public import proofs.«01_k».proof.Proof.Gen.Kernel20Ideal.Value
public import proofs.«01_k».proof.Proof.Gen.Reference20Ideal.Run
public import proofs.«01_k».proof.Defs
@[expose] public section
noncomputable section
/-! The delta rule's main projection. -/
namespace Cert.Kernel20Ideal.Hand
open Cert.Kernel20Ideal Cert.Kernel20Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val / 12 ∧ win0_0.index t 1 = 0) ∧ (win0_1.index t 0 = 0 ∧ win0_1.index t 1 = t.val % 12)
  ∧ win0_2.index t 0 = t.val / 12 ∧ win0_2.index t 1 = t.val % 12
theorem ix (t : Fin cfg0.N) : At t := (by unfold At; decide +kernel : ∀ t : Fin grid0.N, At t) t

@[irreducible] def val : ℕ → ℕ → EReal := dot 2048 (n2 (m ((c : Thread nD τ).loc main_arg0))) (n2 (m ((c : Thread nD τ).loc main_arg1)))
/-- What the launch leaves. -/
def res : Buf (Elt Ideal) ((c : Thread nD τ).loc main_v0) := fun y => val m c (y 0).val (y 1).val

theorem block (t : Fin cfg0.N) : outsAt0 m c t = fun y => dot 2048 (n2 (iblk m c 0 t)) (n2 (iblk m c 1 t)) (y 0).val (y 1).val := by
  unfold outsAt0 out0_A_2 kernelRun0_A
  exact (View.read_writes_full _ _ _ _ _).trans ((congrArg₂ k0_pay1 (load2 _ (hs0_0 t) (iblk m c 0 t) _) (load2 _ (hs0_1 t) (iblk m c 1 t) _)).trans
    (matmul_nn (φ₁ := .bf16) (φ₂ := .bf16) none rfl (iblk m c 0 t) (iblk m c 1 t)))

theorem final : (dats m 0 c).arrAt 2 cfg0.N = res m c := by
  refine (dats m 0 c).arrAt_eq_of_cover 2 (res m c) (fun t _ => ?_) ((show (cfg0.win 2).Covers by decide +kernel).cover _ (Memref.isWhole_whole _))
  obtain ⟨⟨a0, a1⟩, ⟨b0, b1⟩, o0, o1⟩ := ix t
  rw [Cert.Kernel20Ideal.Value.flushed2, block]
  refine placed (val m c) (res m c) (fun _ => rfl) (fun _ => rfl) (fun _ => rfl) o0 o1 fun y => ?_
  unfold val
  rw [← piece_zero]
  exact dot_congr fun k hk => ⟨tileAt (m ((c : Thread nD τ).loc main_arg0)) (iblk m c 0 t) (fun _ => rfl) (fun _ => rfl) (fun _ => rfl) a0 a1 (y 0).isLt hk,
    tileAt (m ((c : Thread nD τ).loc main_arg1)) (iblk m c 1 t) (fun _ => rfl) (fun _ => rfl) (fun _ => rfl) b0 b1 hk (y 1).isLt⟩

end Cert.Kernel20Ideal.Hand

namespace Cert.Reference20Ideal.Hand
open Cert.Reference20Ideal Cert.Reference20Ideal.Gen Idealize.ShloMosaic Idealize.ShloMosaic.TcCoe Idealize.SL.Sem Cert.BandAttention Cert.Product

theorem algebraic : algebraic_Kernel20Ideal_Reference20Ideal (hKernel20Ideal := Cert.Kernel20Ideal.Gen.facts) (hReference20Ideal := Gen.facts) := by
  intro m g m' g' _ harg
  refine ⟨fun c => Cert.Kernel20Ideal.Hand.res m c,
    (θ_run Cert.Kernel20Ideal.defs _ _).mono (fun r h c => ⟨(h c).1.trans (Cert.Kernel20Ideal.Hand.final m c), (h c).2⟩) (Cert.Kernel20Ideal.Value.run_blocks m g),
    (θ_run defs _ _).mono (fun r h c => ⟨(h c).1.trans ?_, (h c).2⟩) (Cert.Reference20Ideal.Value.run (F := Ideal) m' g')⟩
  rw [(harg c).1, (harg c).2]
  unfold Cert.Kernel20Ideal.Hand.res Cert.Kernel20Ideal.Hand.val
  exact host_nn (φ₁ := .f32) (φ₂ := .f32) none rfl _ _

theorem frame : quiescent_Reference20Ideal (hReference20Ideal := Gen.facts) :=
  fun m ρ _ => (θ_run defs _ _).mono (fun r h => ⟨fun c => (h c).2, sem_eq_zero_of_no_sems (by decide) r.2⟩) (Cert.Reference20Ideal.Value.run (F := Ideal) m ρ)

end Cert.Reference20Ideal.Hand
-- ==== Proof.GdnAb.lean ====
module
public import proofs.«01_k».proof.Proof.Prod
public import proofs.«01_k».proof.Proof.Gen.Kernel21Ideal.Value
public import proofs.«01_k».proof.Proof.Gen.Reference21Ideal.Run
public import proofs.«01_k».proof.Defs
@[expose] public section
noncomputable section
/-! The projection of the delta rule's gates. -/
namespace Cert.Kernel21Ideal.Hand
open Cert.Kernel21Ideal Cert.Kernel21Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val ∧ win0_0.index t 1 = 0) ∧ (win0_1.index t 0 = 0 ∧ win0_1.index t 1 = 0)
  ∧ win0_2.index t 0 = t.val ∧ win0_2.index t 1 = 0
theorem ix (t : Fin cfg0.N) : At t := (by unfold At; decide +kernel : ∀ t : Fin grid0.N, At t) t

@[irreducible] def val : ℕ → ℕ → EReal := dot 2048 (n2 (m ((c : Thread nD τ).loc main_arg0))) (n2 (m ((c : Thread nD τ).loc main_arg1)))
/-- What the launch leaves. -/
def res : Buf (Elt Ideal) ((c : Thread nD τ).loc main_v0) := fun y => val m c (y 0).val (y 1).val

theorem block (t : Fin cfg0.N) : outsAt0 m c t = fun y => dot 2048 (n2 (iblk m c 0 t)) (n2 (iblk m c 1 t)) (y 0).val (y 1).val := by
  unfold outsAt0 out0_A_2 kernelRun0_A
  exact (View.read_writes_full _ _ _ _ _).trans ((congrArg₂ k0_pay1 (load2 _ (hs0_0 t) (iblk m c 0 t) _) (load2 _ (hs0_1 t) (iblk m c 1 t) _)).trans
    (matmul_nn (φ₁ := .bf16) (φ₂ := .bf16) none rfl (iblk m c 0 t) (iblk m c 1 t)))

theorem final : (dats m 0 c).arrAt 2 cfg0.N = res m c := by
  refine (dats m 0 c).arrAt_eq_of_cover 2 (res m c) (fun t _ => ?_) ((show (cfg0.win 2).Covers by decide +kernel).cover _ (Memref.isWhole_whole _))
  obtain ⟨⟨a0, a1⟩, ⟨b0, b1⟩, o0, o1⟩ := ix t
  rw [Cert.Kernel21Ideal.Value.flushed2, block]
  refine placed (val m c) (res m c) (fun _ => rfl) (fun _ => rfl) (fun _ => rfl) o0 o1 fun y => ?_
  unfold val
  rw [← piece_zero]
  exact dot_congr fun k hk => ⟨tileAt (m ((c : Thread nD τ).loc main_arg0)) (iblk m c 0 t) (fun _ => rfl) (fun _ => rfl) (fun _ => rfl) a0 a1 (y 0).isLt hk,
    tileAt (m ((c : Thread nD τ).loc main_arg1)) (iblk m c 1 t) (fun _ => rfl) (fun _ => rfl) (fun _ => rfl) b0 b1 hk (y 1).isLt⟩

end Cert.Kernel21Ideal.Hand

namespace Cert.Reference21Ideal.Hand
open Cert.Reference21Ideal Cert.Reference21Ideal.Gen Idealize.ShloMosaic Idealize.ShloMosaic.TcCoe Idealize.SL.Sem Cert.BandAttention Cert.Product

theorem algebraic : algebraic_Kernel21Ideal_Reference21Ideal (hKernel21Ideal := Cert.Kernel21Ideal.Gen.facts) (hReference21Ideal := Gen.facts) := by
  intro m g m' g' _ harg
  refine ⟨fun c => Cert.Kernel21Ideal.Hand.res m c,
    (θ_run Cert.Kernel21Ideal.defs _ _).mono (fun r h c => ⟨(h c).1.trans (Cert.Kernel21Ideal.Hand.final m c), (h c).2⟩) (Cert.Kernel21Ideal.Value.run_blocks m g),
    (θ_run defs _ _).mono (fun r h c => ⟨(h c).1.trans ?_, (h c).2⟩) (Cert.Reference21Ideal.Value.run (F := Ideal) m' g')⟩
  rw [(harg c).1, (harg c).2]
  unfold Cert.Kernel21Ideal.Hand.res Cert.Kernel21Ideal.Hand.val
  exact host_nn (φ₁ := .f32) (φ₂ := .f32) none rfl _ _

theorem frame : quiescent_Reference21Ideal (hReference21Ideal := Gen.facts) :=
  fun m ρ _ => (θ_run defs _ _).mono (fun r h => ⟨fun c => (h c).2, sem_eq_zero_of_no_sems (by decide) r.2⟩) (Cert.Reference21Ideal.Value.run (F := Ideal) m ρ)

end Cert.Reference21Ideal.Hand
-- ==== Proof.GdnOut.lean ====
module
public import proofs.«01_k».proof.Proof.Prod
public import proofs.«01_k».proof.Proof.Gen.Kernel22Ideal.Value
public import proofs.«01_k».proof.Proof.Gen.Reference22Ideal.Run
public import proofs.«01_k».proof.Defs
@[expose] public section
noncomputable section
/-! The delta rule's output product with the residual, summed over two halves of its terms. -/
namespace Cert.Kernel22Ideal.Hand
open Cert.Kernel22Ideal Cert.Kernel22Ideal.Gen Idealize.ShloMosaic Idealize.ShloMosaic.TcCoe Idealize.SL.Sem Cert.BandAttention Cert.Product

variable (m : (ℓ : Loc nD τ sig) → Buf (Elt Ideal) ℓ) (c : Dev nD)

def At (t : Fin grid0.N) : Prop := (win0_0.index t 0 = t.val / 4 ∧ win0_0.index t 1 = t.val % 2) ∧ (win0_1.index t 0 = t.val % 2 ∧ win0_1.index t 1 = t.val / 2 % 2)
  ∧ (win0_2.index t 0 = t.val / 4 ∧ win0_2.index t 1 = t.val / 2 % 2) ∧ win0_3.index t 0 = t.val / 4 ∧ win0_3.index t 1 = t.val / 2 % 2
theorem ix (t : Fin cfg0.N) : At t := (by unfold At; decide +kernel : ∀ t : Fin grid0.N, At t) t

abbrev left : ℕ → ℕ → EReal := n2 (m ((c : Thread nD τ).loc main_arg0))
abbrev right : ℕ → ℕ → EReal := n2 (m ((c : Thread nD τ).loc main_arg1))
@[irreducible] def val : ℕ → ℕ → EReal := fun r d => plus (dot 4096 (left m c) (right m c) r d) (n2 (m ((c : Thread nD τ).loc main_arg2)) r d)
/-- What the launch leaves. -/
def res : Buf (Elt Ideal) ((c : Thread nD τ).loc main_v0) := fun y => val m c (y 0).val (y 1).val

theorem terms (t : Fin cfg0.N) : k0_pay1 (iblk m c 0 t) (iblk m c 1 t)
    = fun y => piece 2048 (t.val % 2) (left m c) (right m c) (t.val / 4 * 1024 + (y 0).val) (t.val / 2 % 2 * 1024 + (y 1).val) := by
  obtain ⟨⟨a0, a1⟩, ⟨b0, b1⟩, -⟩ := ix t
  refine (matmul_nn (φ₁ := .bf16) (φ₂ := .bf16) none rfl (iblk m c 0 t) (iblk m c 1 t)).trans (funext fun y => ?_)
  exact dot_congr fun k hk => ⟨tileAt (m ((c : Thread nD τ).loc main_arg0)) (iblk m c 0 t) (fun _ => rfl) (fun _ => rfl) (fun _ => rfl) a0 a1 (y 0).isLt hk,
    tileAt (m ((c : Thread nD τ).loc main_arg1)) (iblk m c 1 t) (fun _ => rfl) (fun _ => rfl) (fun _ => rfl) b0 b1 hk (y 1).isLt⟩

theorem first (t : Fin cfg0.N) (h : t.val % 2 = 0) : (outsAt0 m c t.val t.isLt).2 = k0_pay1 (iblk m c 0 t) (iblk m c 1 t) := by
  rw [outsAt0_A m c t h (by omega) (by omega)]
  dsimp only
  unfold sout0_A_0 kernelRun0_A
  exact (View.read_writes_full _ _ _ _ _).trans ((congrArg₂ k0_pay2 (load2 _ (hs0_0 t) (iblk m c 0 t) _) (load2 _ (hs0_1 t) (iblk m c 1 t) _)).trans (shapeCast_self _ _))

theorem last (t : Fin cfg0.N) (h : t.val % 2 = 1) : (outsAt0 m c t.val t.isLt).1
    = fun y => plus (plus ((outsAt0 m c (t.val - 1) (Nat.lt_of_le_of_lt (Nat.sub_le _ _) t.isLt)).2 y) (k0_pay1 (iblk m c 0 t) (iblk m c 1 t) y)) (iblk m c 2 t y) := by
  rw [outsAt0_B m c t (by omega) h h]
  dsimp only
  unfold out0_B_3 kernelRun0_B
  refine (View.read_writes_full _ _ _ _ _).trans ?_
  unfold kernelRun0_B.sl.v12 kernelRun0_B.sl.HS0_1
  exact congrArg₂ k0_pay4 ((View.readCov_full _ _ _ _ _).trans ((congr (congrArg₂ k0_pay3 (load2 _ (hs0_0 t) (iblk m c 0 t) _) (load2 _ (hs0_1 t) (iblk m c 1 t) _))
    (load2 _ (Memref.isWhole_whole _) _ _)).trans (shapeCast_self _ _))) (load2 _ (hs0_2 t) (iblk m c 2 t) _)

theorem final : (dats m 0 c).arrAt 3 cfg0.N = res m c := by
  refine (dats m 0 c).arrAt_eq_of_cover 3 (res m c) (fun t hf => ?_) ((show (cfg0.win 3).Covers by decide +kernel).cover _ (Memref.isWhole_whole _))
  have ht := (flush0_3 t).mp hf
  rw [Cert.Kernel22Ideal.Value.flushed3, last m c t ht, terms]
  refine placed (val m c) (res m c) (fun _ => rfl) (fun _ => rfl) (fun _ => rfl) (ix t).2.2.2.1 (ix t).2.2.2.2 fun y => ?_
  unfold val
  exact congrArg₂ plus (run (i := fun n => n / 4) (j := fun n => n / 2 % 2) rfl (fun n h => (outsAt0 m c n h).2) (left m c) (right m c) (fun n h => by omega) (fun n h => by omega)
      (fun t h _ y => congrFun ((first m c t h).trans (terms m c t)) y) (fun t h h' _ => (show False by omega).elim) t ht (by decide) y)
    ((at2 (iblk m c 2 t) y _ _ rfl rfl).trans
      (tileAt (m ((c : Thread nD τ).loc main_arg2)) (iblk m c 2 t) (fun _ => rfl) (fun _ => rfl) (fun _ => rfl) (ix t).2.2.1.1 (ix t).2.2.1.2 (y 0).isLt (y 1).isLt))

end Cert.Kernel22Ideal.Hand

namespace Cert.Reference22Ideal.Hand
open Cert.Reference22Ideal Cert.Reference22Ideal.Gen Idealize.ShloMosaic Idealize.ShloMosaic.TcCoe Idealize.SL.Sem Cert.BandAttention Cert.Product

theorem algebraic : algebraic_Kernel22Ideal_Reference22Ideal (hKernel22Ideal := Cert.Kernel22Ideal.Gen.facts) (hReference22Ideal := Gen.facts) := by
  intro m g m' g' _ harg
  refine ⟨fun c => Cert.Kernel22Ideal.Hand.res m c,
    (θ_run Cert.Kernel22Ideal.defs _ _).mono (fun r h c => ⟨(h c).1.trans (Cert.Kernel22Ideal.Hand.final m c), (h c).2⟩) (Cert.Kernel22Ideal.Value.run_blocks m g),
    (θ_run defs _ _).mono (fun r h c => ⟨(h c).1.trans ?_, (h c).2⟩) (Cert.Reference22Ideal.Value.run (F := Ideal) m' g')⟩
  rw [(harg c).1, (harg c).2.1, (harg c).2.2]
  unfold Cert.Kernel22Ideal.Hand.res Cert.Kernel22Ideal.Hand.val
  exact (add_first _ _).trans (sum_entries (host_nn (φ₁ := .f32) (φ₂ := .f32) none rfl _ _) _)

theorem frame : quiescent_Reference22Ideal (hReference22Ideal := Gen.facts) :=
  fun m ρ _ => (θ_run defs _ _).mono (fun r h => ⟨fun c => (h c).2, sem_eq_zero_of_no_sems (by decide) r.2⟩) (Cert.Reference22Ideal.Value.run (F := Ideal) m ρ)

end Cert.Reference22Ideal.Hand
-- ==== Proof.AttCore.lean ====
module
public import proofs.«01_k».proof.Proof.RefB
public import proofs.«01_k».proof.Proof.Acc
public import proofs.«01_k».proof.Proof.Prod
public import proofs.«01_k».proof.Proof.Gen.Kernel23Ideal.Value
public import proofs.«01_k».proof.Proof.Gen.Reference23Ideal.Run
public import proofs.«01_k».proof.Defs
@[expose] public section
noncomputable section
/-! The forward pass of the band attention: the probabilities of the gradient's proof times the values. -/
namespace Cert.BandAttention
open Idealize.ShloMosaic

/-- The attention's output at row `r`, lane `d`. -/
def Slab.out (S : Slab) (r d : ℕ) : EReal := ∑ j : Fin 576, S.prob (r / 64) (r % 64) j * S.v (64 * (r / 64) + j) d

end Cert.BandAttention

namespace Cert.Kernel23Ideal.Hand
open Cert.Kernel23Ideal Cert.Kernel23Ideal.Gen Idealize.ShloMosaic Idealize.ShloMosaic.TcCoe Idealize.SL.Sem
open Cert.BandAttention Cert.Product
open Cert.KernelIdeal.Hand (qBlk kBlk vBlk bBlk bands rows box mask_bit ofBits_bot)

/-- Sixteen loads of 576 rows, each at a chunk's first row, stacked. -/
theorem stack_loads (i : grid0.Coords) (a : Memref sig .tc .vmem S8704x128 .bf16) (ha : a.IsWhole)
    (f : ℕ → ℕ → EReal) (x : Fin 16 → Vec Ideal S576x128 .bf16)
    (hx : ∀ r : Fin 16, x r = View.readAt (Elt Ideal) a.view
      (Rect.unit (s := S8704x128) (k0_off1 i (BitVec.ofNat 32 r)) S576x128.size (k0_off1_inb i r)).toLoadRect
      (ha.unread fun y => f (y 0).val (y 1).val)) :
    k0_pay2 (x 0) (x 1) (x 2) (x 3) (x 4) (x 5) (x 6) (x 7) (x 8) (x 9) (x 10) (x 11) (x 12) (x 13) (x 14) (x 15)
      = bands f (i 1).val := by
  refine (Cert.KernelIdeal.Hand.stack_eq x).trans (funext fun y => ?_)
  refine (congrFun ((hx (y 0)).trans ((View.readAt_eq_ld ..).trans (congrArg (View.ld · _) (ha.read_unread _)))) _).trans ?_
  show f (k0_off1 i (BitVec.ofNat 32 (y 0)) 0 + 1 * (y 1).val) (k0_off1 i (BitVec.ofNat 32 (y 0)) 1 + 1 * (y 2).val) = _
  have e := k0_off1_eq i (y 0)
  rw [congrFun e 0, congrFun e 1]
  show f (1024 * (i 1).val + 64 * (y 0).val + 1 * (y 1).val) (0 + 1 * (y 2).val) = f (64 * (16 * (i 1).val + (y 0).val) + (y 1).val) (y 2).val
  congr 1 <;> omega

/-- The body's arithmetic at row block `g`. -/
theorem pay_eq (S : Slab) (g : Fin 8) : k0_pay1 (bands S.v g) (k0_pay4 (bands S.k g) (qBlk S g) (bBlk S))
    (k0_pay5 (Scalar.muli (BitVec.ofNat 32 g) 16#32)) 512#32 = fun y => S.out (1024 * g.val + (y 0).val) (y 1).val := by
  have h := Cert.KernelIdeal.Hand.p_eq S g
  rw [← Cert.KernelIdeal.Hand.sc_eq, ← Cert.KernelIdeal.Hand.b_eq] at h
  funext y
  have e : ∀ z, Cert.KernelIdeal.Gen.k0_pay11 (F := Ideal) (Scalar.muli (BitVec.ofNat 32 g) 16#32) (Cert.KernelIdeal.Gen.k0_pay9 (bands S.k g) (qBlk S g))
    (Cert.KernelIdeal.Gen.k0_pay10 (bBlk S)) z = box (φ := .f32) S.prob g z := fun z => congrFun h z
  show shapeCast S1024x128 (matmul (F := Ideal) (φ₁ := .bf16) (φ₂ := .bf16) dot_S16x64x576_S16x576x128_S16x64x128_2_1_1_2_0_0 none
    (Cert.KernelIdeal.Gen.k0_pay11 (F := Ideal) (Scalar.muli (BitVec.ofNat 32 g) 16#32) (Cert.KernelIdeal.Gen.k0_pay9 (bands S.k g) (qBlk S g))
    (Cert.KernelIdeal.Gen.k0_pay10 (bBlk S))) (bands S.v g) (constant S16x64x128 .f32 0#32)) shapeCasts_S16x64x128_S1024x128 y = _
  rw [h]
  idx_vars y
  pointwise
  unfold Slab.out
  rw [show (1024 * g.val + y0.val) / 64 = 16 * g.val + y0.val / 64 by omega,
    show (1024 * g.val + y0.val) % 64 = y0.val % 64 by omega]
  rfl

variable (m : (ℓ : Loc nD τ sig) → Buf (Elt Ideal) ℓ) (c : Dev nD)

/-- Head `h` of the argument arrays. -/
def head (h : ℕ) : Slab := slab (m ((c : Thread nD τ).loc main_arg0)) (m ((c : Thread nD τ).loc main_arg1))
  (m ((c : Thread nD τ).loc main_arg2)) (m ((c : Thread nD τ).loc main_arg3)) (m ((c : Thread nD τ).loc main_arg0)) h

def At (t : Fin grid0.N) : Prop := ((grid0.coords t) 1).val = t.val % 8 ∧ (win0_0.index t 0 = t.val % 8 ∧ win0_0.index t 1 = t.val / 8)
  ∧ (win0_1.index t 0 = 0 ∧ win0_1.index t 1 = t.val / 8) ∧ (win0_2.index t 0 = 0 ∧ win0_2.index t 1 = t.val / 8)
  ∧ (win0_3.index t 0 = t.val / 8 ∧ win0_3.index t 1 = 0 ∧ win0_3.index t 2 = 0) ∧ win0_4.index t 0 = t.val % 8 ∧ win0_4.index t 1 = t.val / 8
theorem ix (t : Fin cfg0.N) : At t := (by unfold At; decide +kernel : ∀ t : Fin grid0.N, At t) t

theorem iblk0 (t : Fin cfg0.N) : iblk m c 0 t = qBlk (head m c (t.val / 8)) ((grid0.coords t) 1).val := by
  funext y
  unfold iblk
  rw [View.read_apply]
  refine Cert.KernelIdeal.Hand.at2 (m ((c : Thread nD τ).loc main_arg0)) _ _ _ ?_ ?_
  · show win0_0.index t 0 * 1024 + 1 * (y 0).val = _
    rw [(ix t).2.1.1, (ix t).1]; omega
  · show win0_0.index t 1 * 128 + 1 * (y 1).val = _
    rw [(ix t).2.1.2]; omega

theorem iblk1 (t : Fin cfg0.N) : iblk m c 1 t = kBlk (head m c (t.val / 8)) := by
  funext y
  unfold iblk
  rw [View.read_apply]
  refine Cert.KernelIdeal.Hand.at2 (m ((c : Thread nD τ).loc main_arg1)) _ _ _ ?_ ?_
  · show win0_1.index t 0 * 8704 + 1 * (y 0).val = _
    rw [(ix t).2.2.1.1]; omega
  · show win0_1.index t 1 * 128 + 1 * (y 1).val = _
    rw [(ix t).2.2.1.2]; omega

theorem iblk2 (t : Fin cfg0.N) : iblk m c 2 t = vBlk (head m c (t.val / 8)) := by
  funext y
  unfold iblk
  rw [View.read_apply]
  refine Cert.KernelIdeal.Hand.at2 (m ((c : Thread nD τ).loc main_arg2)) _ _ _ ?_ ?_
  · show win0_2.index t 0 * 8704 + 1 * (y 0).val = _
    rw [(ix t).2.2.2.1.1]; omega
  · show win0_2.index t 1 * 128 + 1 * (y 1).val = _
    rw [(ix t).2.2.2.1.2]; omega

theorem iblk3 (t : Fin cfg0.N) : iblk m c 3 t = bBlk (head m c (t.val / 8)) := by
  funext y
  have hy : (y 0).val < 1 := (y 0).isLt
  unfold iblk
  rw [View.read_apply]
  refine Cert.KernelIdeal.Hand.at3 (m ((c : Thread nD τ).loc main_arg3)) _ _ _ _ ?_ ?_ ?_
  · show win0_3.index t 0 * 1 + 1 * (y 0).val = _
    rw [(ix t).2.2.2.2.1.1]; omega
  · show win0_3.index t 1 * 64 + 1 * (y 1).val = _
    rw [(ix t).2.2.2.2.1.2.1]; omega
  · show win0_3.index t 2 * 576 + 1 * (y 2).val = _
    rw [(ix t).2.2.2.2.1.2.2]; omega

@[irreducible] def val : ℕ → ℕ → EReal := fun r d => (head m c (d / 128)).out r (d % 128)
/-- What the launch leaves. -/
def res : Buf (Elt Ideal) ((c : Thread nD τ).loc main_v0) := fun y => val m c (y 0).val (y 1).val

theorem out_eq (S : Slab) (i : grid0.Coords) (arg2 : Memref sig .tc .vmem S1024x128 .bf16) (harg2 : arg2.IsWhole) (arg3 : Memref sig .tc .vmem S8704x128 .bf16) (harg3 : arg3.IsWhole) (arg4 : Memref sig .tc .vmem S8704x128 .bf16) (harg4 : arg4.IsWhole) (arg5 : Memref sig .tc .vmem S1x64x576 .f32) (harg5 : arg5.IsWhole) (arg6 : Memref sig .tc .vmem S1024x128 .bf16) (harg6 : arg6.IsWhole) :
    out0_A_4 c i arg2 harg2 arg3 harg3 arg4 harg4 arg5 harg5 arg6 harg6 (qBlk S (i 1).val) (kBlk S) (vBlk S) (bBlk S)
      = fun y => S.out (1024 * (i 1).val + (y 0).val) (y 1).val := by
  unfold out0_A_4 kernelRun0_A
  refine (View.read_writes_full _ _ _ _ _).trans ((?_ : _ = _).trans (pay_eq S (i 1)))
  rw [← stack_loads i arg3 harg3 S.k (fun r => View.readAt (Elt Ideal) arg3.view
      (Rect.unit (s := S8704x128) (k0_off1 i (BitVec.ofNat 32 r)) S576x128.size (k0_off1_inb i r)).toLoadRect (harg3.unread (kBlk S))) fun _ => rfl,
    ← stack_loads i arg4 harg4 S.v (fun r => View.readAt (Elt Ideal) arg4.view
      (Rect.unit (s := S8704x128) (k0_off1 i (BitVec.ofNat 32 r)) S576x128.size (k0_off1_inb i r)).toLoadRect (harg4.unread (vBlk S))) fun _ => rfl]
  refine congrArg (k0_pay1 _ · _ _) (congrArg₂ (k0_pay4 _) (load2 _ harg2 _ _) ?_)
  rw [View.readAt_eq_ld, harg5.read_unread]
  exact View.ld_unit_zero (S := S1x64x576) Cert.KernelIdeal.Hand.hz3 _ _

theorem final : (dats m 0 c).arrAt 4 cfg0.N = res m c := by
  refine (dats m 0 c).arrAt_eq_of_cover 4 (res m c) (fun t hf => ?_) ((show (cfg0.win 4).Covers by decide +kernel).cover _ (Memref.isWhole_whole _))
  rw [Cert.Kernel23Ideal.Value.flushed4_A, iblk0, iblk1, iblk2, iblk3, out_eq, (ix t).1]
  refine placed (val m c) (res m c) (fun _ => rfl) (fun _ => rfl) (fun _ => rfl) (ix t).2.2.2.2.2.1 (ix t).2.2.2.2.2.2 fun y => ?_
  have h1 : (y 1).val < 128 := (y 1).isLt
  unfold val
  rw [show (t.val / 8 * 128 + (y 1).val) / 128 = t.val / 8 by omega, show (t.val / 8 * 128 + (y 1).val) % 128 = (y 1).val by omega, Nat.mul_comm]

end Cert.Kernel23Ideal.Hand

namespace Cert.Reference23Ideal.Hand
open Cert.Reference23Ideal Cert.Reference23Ideal.Gen Idealize.ShloMosaic Idealize.ShloMosaic.TcCoe Idealize.SL.Sem Cert.BandAttention Cert.Product

/-- Four arrays as the first four arguments of the gradient's reference, whose terms the forward pass shares. -/
theorem exists_val (q : FVec Ideal S8192x2048 .bf16) (k v : FVec Ideal S8704x2048 .bf16) (b : FVec Ideal S16x64x576 .f32) :
    ∃ V : Valuation Cert.ReferenceIdeal.τ Cert.ReferenceIdeal.sig (Elt Ideal),
      V (Proc.devRef .tc Cert.ReferenceIdeal.main_arg0) = q ∧ V (Proc.devRef .tc Cert.ReferenceIdeal.main_arg1) = k
      ∧ V (Proc.devRef .tc Cert.ReferenceIdeal.main_arg2) = v ∧ V (Proc.devRef .tc Cert.ReferenceIdeal.main_arg3) = b
      ∧ V (Proc.devRef .tc Cert.ReferenceIdeal.main_arg4) = q := by
  classical
  let V0 : Valuation Cert.ReferenceIdeal.τ Cert.ReferenceIdeal.sig (Elt Ideal) := fun _ _ => Classical.arbitrary _
  refine ⟨Function.update (Function.update (Function.update (Function.update (Function.update V0
    (Proc.devRef .tc Cert.ReferenceIdeal.main_arg0) q) (Proc.devRef .tc Cert.ReferenceIdeal.main_arg1) k)
    (Proc.devRef .tc Cert.ReferenceIdeal.main_arg2) v) (Proc.devRef .tc Cert.ReferenceIdeal.main_arg3) b)
    (Proc.devRef .tc Cert.ReferenceIdeal.main_arg4) q, ?_, ?_, ?_, ?_, ?_⟩
  · rw [Function.update_of_ne (by decide), Function.update_of_ne (by decide), Function.update_of_ne (by decide), Function.update_of_ne (by decide), Function.update_self]
  · rw [Function.update_of_ne (by decide), Function.update_of_ne (by decide), Function.update_of_ne (by decide), Function.update_self]
  · rw [Function.update_of_ne (by decide), Function.update_of_ne (by decide), Function.update_self]
  · rw [Function.update_of_ne (by decide), Function.update_self]
  · rw [Function.update_self]

variable (m : (ℓ : Loc nD τ sig) → Buf (Elt Ideal) ℓ) (c : Dev nD)

theorem res_eq : Cert.Reference23Ideal.Value.res_main_v61 m c
    = fun y => (slab (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg0)) ((y 1).val / 128)).out (y 0).val ((y 1).val % 128) := by
  unfold Cert.Reference23Ideal.Value.res_main_v61
  generalize m ((c.tc : Thread nD τ).loc main_arg0) = q
  generalize m ((c.tc : Thread nD τ).loc main_arg1) = k
  generalize m ((c.tc : Thread nD τ).loc main_arg2) = v
  generalize m ((c.tc : Thread nD τ).loc main_arg3) = b
  obtain ⟨V, rfl, rfl, rfl, rfl, h4⟩ := exists_val q k v b
  show truncf (F := Ideal) .bf16 (shapeCast S8192x2048 (transpose S128x64x16x128 [0, 3, 1, 2] (Host.dotGeneral (F := Ideal) (φ₁ := .f32) (φ₂ := .f32) dot_S128x576x16x128_S128x16x64x576_S128x16x128x64_1_3_3_2_02_01 none
    (Cert.ReferenceIdeal.Value.res_main_v25 V) (Cert.ReferenceIdeal.Value.res_main_v71 V)) transposes_S128x16x128x64_S128x64x16x128_0_3_1_2) shapeCasts_S128x64x16x128_S8192x2048) bitsLt_bf16_f32 = _
  rw [Cert.ReferenceIdeal.Hand.prob_eq, Cert.ReferenceIdeal.Hand.v25_eq]
  funext y; idx_vars y
  pointwise
  unfold Cert.ReferenceIdeal.Hand.head
  rw [h4]
  exact Finset.sum_congr (M := EReal) rfl fun x _ => mul_comm (G := EReal) _ _

theorem algebraic : algebraic_Kernel23Ideal_Reference23Ideal (hKernel23Ideal := Cert.Kernel23Ideal.Gen.facts) (hReference23Ideal := Gen.facts) := by
  intro m g m' g' _ harg
  refine ⟨fun c => Cert.Kernel23Ideal.Hand.res m c,
    (θ_run Cert.Kernel23Ideal.defs _ _).mono (fun r h c => ⟨(h c).1.trans (Cert.Kernel23Ideal.Hand.final m c), (h c).2⟩) (Cert.Kernel23Ideal.Value.run_blocks m g),
    (θ_run defs _ _).mono (fun r h c => ⟨(h c).1.trans ((res_eq m' c).trans ?_), (h c).2⟩) (Cert.Reference23Ideal.Value.run (F := Ideal) m' g')⟩
  rw [(harg c).1, (harg c).2.1, (harg c).2.2.1, (harg c).2.2.2]
  unfold Cert.Kernel23Ideal.Hand.res Cert.Kernel23Ideal.Hand.val
  rfl

theorem frame : quiescent_Reference23Ideal (hReference23Ideal := Gen.facts) :=
  fun m ρ _ => (θ_run defs _ _).mono (fun r h => ⟨fun c => (h c).2, sem_eq_zero_of_no_sems (by decide) r.2⟩) (Cert.Reference23Ideal.Value.run (F := Ideal) m ρ)

end Cert.Reference23Ideal.Hand
-- ==== Proof.NormFwd.lean ====
module
public import proofs.«01_k».proof.Proof.Prod
public import proofs.«01_k».proof.Proof.Gen.Kernel24Ideal.Value
public import proofs.«01_k».proof.Proof.Gen.Reference24Ideal.Run
public import proofs.«01_k».proof.Defs
@[expose] public section
noncomputable section
/-! The root-mean-square norm of the rows, and its transpose. -/
namespace Cert.Norm
open Idealize.ShloMosaic

/-- The reciprocal root mean square of a row. -/
def inv (x : ℕ → ℕ → EReal) (r : ℕ) : EReal :=
  Ideal.rsqrt (Ideal.div (∑ k : Fin 2048, x r k * x r k) (Ideal.ofBits .f32 0x45000000#32) + Ideal.ofBits .f32 0x358637BD#32)

/-- A row scaled by it and by the gain. -/
def scaled (x : ℕ → ℕ → EReal) (w : ℕ → ℕ → EReal) (r d : ℕ) : EReal := x r d * inv x r * w 0 d

end Cert.Norm

namespace Cert.Kernel24Ideal.Hand
open Cert.Kernel24Ideal Cert.Kernel24Ideal.Gen Idealize.ShloMosaic Idealize.ShloMosaic.TcCoe Idealize.SL.Sem Cert.BandAttention Cert.Product

theorem body (x : Vec Ideal S256x2048 .f32) (w : Vec Ideal S1x2048 .f32) :
    k0_pay1 x w = fun y => Cert.Norm.scaled (n2 x) (n2 w) (y 0).val (y 1).val := by
  funext y; idx_vars y
  pointwise [k0_pay1]
  simp only [n2_ix x, n2_ix w]
  rfl

theorem out2 (x : Vec Ideal S256x2048 .f32) (w : Vec Ideal S1x2048 .f32) :
    out0_2 x w = fun y => Cert.Norm.scaled (n2 x) (n2 w) (y 0).val (y 1).val := by
  unfold out0_2
  refine (View.canon_unit_zero hz2 _ _).trans ((congrArg₂ k0_pay2 (View.ld_unit_zero hz2 _ x) (View.ld_unit_zero hz2 _ w)).trans ?_)
  exact body x w

theorem out3 (x : Vec Ideal S256x2048 .f32) (w : Vec Ideal S1x2048 .f32) :
    out0_3 x w = fun y => tr (Cert.Norm.scaled (n2 x) (n2 w)) (y 0).val (y 1).val := by
  unfold out0_3
  refine (View.canon_unit_zero hz2 _ _).trans ((congrArg₂ k0_pay3 (View.ld_unit_zero hz2 _ x) (View.ld_unit_zero hz2 _ w)).trans ?_)
  funext y; idx_vars y
  pointwise [k0_pay3]
  rw [body]
  rfl

variable (m : (ℓ : Loc nD τ sig) → Buf (Elt Ideal) ℓ) (c : Dev nD)

def At (t : Fin grid0.N) : Prop := (win0_0.index t 0 = t.val ∧ win0_0.index t 1 = 0) ∧ (win0_1.index t 0 = 0 ∧ win0_1.index t 1 = 0)
  ∧ (win0_2.index t 0 = t.val ∧ win0_2.index t 1 = 0) ∧ win0_3.index t 0 = 0 ∧ win0_3.index t 1 = t.val
theorem ix (t : Fin cfg0.N) : At t := (by unfold At; decide +kernel : ∀ t : Fin grid0.N, At t) t

@[irreducible] def val : ℕ → ℕ → EReal := Cert.Norm.scaled (n2 (m ((c : Thread nD τ).loc main_arg0))) (n2 (m ((c : Thread nD τ).loc main_arg1)))
/-- What the launch leaves: the normed rows and their transpose. -/
def res : Buf (Elt Ideal) ((c : Thread nD τ).loc main_v0_0) := fun y => val m c (y 0).val (y 1).val
def resT : Buf (Elt Ideal) ((c : Thread nD τ).loc main_v0_1) := fun y => tr (val m c) (y 0).val (y 1).val

theorem block (t : Fin cfg0.N) (r d : ℕ) (hr : r < 256) (hd : d < 2048) :
    Cert.Norm.scaled (n2 (iblk m c 0 t)) (n2 (iblk m c 1 t)) r d = val m c (t.val * 256 + r) d := by
  have e (d : ℕ) (hd : d < 2048) : n2 (iblk m c 0 t) r d = n2 (m ((c : Thread nD τ).loc main_arg0)) (t.val * 256 + r) (0 * 2048 + d) :=
    tileAt (m ((c : Thread nD τ).loc main_arg0)) (iblk m c 0 t) (fun _ => rfl) (fun _ => rfl) (fun _ => rfl) (ix t).1.1 (ix t).1.2 hr hd
  have f : n2 (iblk m c 1 t) 0 d = n2 (m ((c : Thread nD τ).loc main_arg1)) (0 * 1 + 0) (0 * 2048 + d) :=
    tileAt (m ((c : Thread nD τ).loc main_arg1)) (iblk m c 1 t) (fun _ => rfl) (fun _ => rfl) (fun _ => rfl) (ix t).2.1.1 (ix t).2.1.2 (by decide) hd
  simp only [Nat.zero_mul, Nat.zero_add] at e f
  unfold val Cert.Norm.scaled Cert.Norm.inv
  rw [e d hd, f]
  simp only [fun k : Fin 2048 => e k k.isLt]

theorem final2 : (dats m 0 c).arrAt 2 cfg0.N = res m c := by
  refine (dats m 0 c).arrAt_eq_of_cover 2 (res m c) (fun t hf => ?_) ((show (cfg0.win 2).Covers by decide +kernel).cover _ (Memref.isWhole_whole _))
  rw [Cert.Kernel24Ideal.Value.flushed2, out2]
  refine placed (val m c) (res m c) (fun _ => rfl) (fun _ => rfl) (fun _ => rfl) (ix t).2.2.1.1 (ix t).2.2.1.2 fun y => ?_
  rw [Nat.zero_mul, Nat.zero_add]
  exact block m c t _ _ (y 0).isLt (y 1).isLt

theorem final3 : (dats m 0 c).arrAt 3 cfg0.N = resT m c := by
  refine (dats m 0 c).arrAt_eq_of_cover 3 (resT m c) (fun t hf => ?_) ((show (cfg0.win 3).Covers by decide +kernel).cover _ (Memref.isWhole_whole _))
  rw [Cert.Kernel24Ideal.Value.flushed3, out3]
  refine placed (tr (val m c)) (resT m c) (fun _ => rfl) (fun _ => rfl) (fun _ => rfl) (ix t).2.2.2.1 (ix t).2.2.2.2 fun y => ?_
  rw [Nat.zero_mul, Nat.zero_add]
  exact block m c t _ _ (y 1).isLt (y 0).isLt

end Cert.Kernel24Ideal.Hand

namespace Cert.Reference24Ideal.Hand
open Cert.Reference24Ideal Cert.Reference24Ideal.Gen Idealize.ShloMosaic Idealize.ShloMosaic.TcCoe Idealize.SL.Sem Cert.BandAttention Cert.Product

theorem algebraic : algebraic_Kernel24Ideal_Reference24Ideal (hKernel24Ideal := Cert.Kernel24Ideal.Gen.facts) (hReference24Ideal := Gen.facts) := by
  intro m g m' g' _ harg
  refine ⟨fun c => Cert.Kernel24Ideal.Hand.res m c, fun c => Cert.Kernel24Ideal.Hand.resT m c,
    (θ_run Cert.Kernel24Ideal.defs _ _).mono (fun r h c => ⟨(h c).1.trans (Cert.Kernel24Ideal.Hand.final2 m c),
      (h c).2.1.trans (Cert.Kernel24Ideal.Hand.final3 m c), (h c).2.2⟩) (Cert.Kernel24Ideal.Value.run_blocks m g),
    (θ_run defs _ _).mono (fun r h c => ⟨(h c).1.trans ?_, (h c).2.1.trans ?_, (h c).2.2⟩) (Cert.Reference24Ideal.Value.run (F := Ideal) m' g')⟩
  all_goals
    rw [(harg c).1, (harg c).2]
    funext y; idx_vars y
    simp only [Cert.Kernel24Ideal.Hand.res, Cert.Kernel24Ideal.Hand.resT, Cert.Kernel24Ideal.Hand.val]
    pointwise
    simp only [n2_ix (m ((c.tc : Thread Cert.Kernel24Ideal.nD Cert.Kernel24Ideal.τ).loc Cert.Kernel24Ideal.main_arg0)),
      n2_ix (m ((c.tc : Thread Cert.Kernel24Ideal.nD Cert.Kernel24Ideal.τ).loc Cert.Kernel24Ideal.main_arg1))]
    rfl

theorem frame : quiescent_Reference24Ideal (hReference24Ideal := Gen.facts) :=
  fun m ρ _ => (θ_run defs _ _).mono (fun r h => ⟨fun c => (h c).2.2, sem_eq_zero_of_no_sems (by decide) r.2⟩) (Cert.Reference24Ideal.Value.run (F := Ideal) m ρ)

end Cert.Reference24Ideal.Hand
-- ==== Proof.Delta.lean ====
module
public import proofs.«01_k».proof.Proof.Prod
@[expose] public section
noncomputable section
/-! The gated delta rule, chunk by chunk: what one chunk of one head does to its state. -/
namespace Cert.Delta
open Idealize.ShloMosaic

/-- Six arrays read at natural coordinates (row, lane): those of one chunk of one head, or those of all of them side by side. -/
structure Chunk where
  u : ℕ → ℕ → EReal
  w : ℕ → ℕ → EReal
  a : ℕ → ℕ → EReal
  q : ℕ → ℕ → EReal
  k : ℕ → ℕ → EReal
  g : ℕ → ℕ → EReal

/-- The values the chunk writes: its own, less what the state already answers. -/
def Chunk.fresh (C : Chunk) (S : ℕ → ℕ → EReal) (c e : ℕ) : EReal := C.u c e - ∑ d : Fin 128, C.w c d * S d e

/-- The chunk's output. -/
def Chunk.out (C : Chunk) (S : ℕ → ℕ → EReal) (c e : ℕ) : EReal :=
  (∑ d : Fin 128, C.q c d * (Ideal.exp (C.g c d) : EReal) * S d e) + ∑ j : Fin 64, C.a c j * C.fresh S j e

/-- The state after the chunk. -/
def Chunk.next (C : Chunk) (S : ℕ → ℕ → EReal) (d e : ℕ) : EReal :=
  S d e * (Ideal.exp (C.g 63 0) : EReal) + ∑ c : Fin 64, C.k c d * (Ideal.exp (C.g 63 d - C.g c d) : EReal) * C.fresh S c e

/-- Chunk `n` of head `h`; two value heads share a key head. -/
def Chunk.at (X : Chunk) (h n : ℕ) : Chunk where
  u c d := X.u (64 * n + c) (128 * h + d)
  w c d := X.w (64 * n + c) (128 * h + d)
  a c j := X.a (64 * n + c) (64 * h + j)
  q c d := X.q (64 * n + c) (128 * (h / 2) + d)
  k c d := X.k (64 * n + c) (128 * (h / 2) + d)
  g c d := X.g (64 * n + c) (128 * h + d)

/-- The state of head `h` after `n` chunks, from `S`. -/
def Chunk.run (X : Chunk) (S : ℕ → ℕ → ℕ → EReal) (h : ℕ) : ℕ → ℕ → ℕ → EReal
  | 0 => S h
  | n + 1 => (X.at h n).next (X.run S h n)

/-- The block of 128 rows (two chunks) and sixteen heads at block row `i`, block column `j`. -/
def Chunk.block (X : Chunk) (i j : ℕ) : Chunk where
  u r d := X.u (128 * i + r) (2048 * j + d)
  w r d := X.w (128 * i + r) (2048 * j + d)
  a r d := X.a (128 * i + r) (1024 * j + d)
  q r d := X.q (128 * i + r) (1024 * j + d)
  k r d := X.k (128 * i + r) (1024 * j + d)
  g r d := X.g (128 * i + r) (2048 * j + d)

theorem Chunk.block_at (X : Chunk) (i j h n : ℕ) : (X.block i j).at h n = X.at (16 * j + h) (2 * i + n) := by
  have e1 : ∀ c, 128 * i + (64 * n + c) = 64 * (2 * i + n) + c := fun c => by omega
  have e2 : ∀ d, 2048 * j + (128 * h + d) = 128 * (16 * j + h) + d := fun d => by omega
  have e3 : ∀ d, 1024 * j + (64 * h + d) = 64 * (16 * j + h) + d := fun d => by omega
  have e4 : ∀ d, 1024 * j + (128 * (h / 2) + d) = 128 * ((16 * j + h) / 2) + d := fun d => by omega
  simp only [Chunk.at, Chunk.block, e1, e2, e3, e4]

theorem Chunk.block_run (X : Chunk) (S : ℕ → ℕ → ℕ → EReal) (i j h n : ℕ) :
    (X.block i j).run (fun h => X.run S (16 * j + h) (2 * i)) h n = X.run S (16 * j + h) (2 * i + n) := by
  induction n with
  | zero => rfl
  | succ n ih => rw [Chunk.run, ih, Chunk.block_at]; rfl

/-- Natural-coordinate functions as arrays. -/
def b2 {a b : ℕ} (f : ℕ → ℕ → EReal) : (⟨2, ![a, b]⟩ : Shape).Idx → EReal := fun y => f (y 0).val (y 1).val
def b3 {a b c : ℕ} (f : ℕ → ℕ → ℕ → EReal) : (⟨3, ![a, b, c]⟩ : Shape).Idx → EReal := fun y => f (y 0).val (y 1).val (y 2).val
def b4 {a b c d : ℕ} (f : ℕ → ℕ → ℕ → ℕ → EReal) : (⟨4, ![a, b, c, d]⟩ : Shape).Idx → EReal :=
  fun y => f (y 0).val (y 1).val (y 2).val (y 3).val

/-- A load of a rectangle of a whole array that holds `f`. -/
theorem load {sig : RefSig} {M N a b : ℕ} {e : EltTy} (r : Memref sig .tc .vmem ⟨2, ![M, N]⟩ e) (h : r.IsWhole)
    (f : ℕ → ℕ → Elt Ideal e) (o p : ℕ) (inb) (y : (⟨2, ![a, b]⟩ : Shape).Idx) :
    View.readAt (Elt Ideal) r.view (Rect.unit (s := ⟨2, ![M, N]⟩) ![o, p] ![a, b] inb).toLoadRect
      (h.unread fun y => f (y 0).val (y 1).val) y = f (o + (y 0).val) (p + (y 1).val) := by
  refine (congrFun ((View.readAt_eq_ld ..).trans (congrArg (View.ld · _) (h.read_unread _))) _).trans ?_
  show f (o + 1 * (y 0).val) (p + 1 * (y 1).val) = _
  rw [Nat.one_mul, Nat.one_mul]

end Cert.Delta
-- ==== Proof.ScanFwd.lean ====
module
public import proofs.«01_k».proof.Proof.Delta
public import proofs.«01_k».proof.Proof.Gen.Kernel25Ideal.Value
public import proofs.«01_k».proof.Proof.Gen.Reference25Ideal.Run
public import proofs.«01_k».proof.Defs
@[expose] public section
noncomputable section
/-! The recurrence of the gated delta rule: sixteen heads and two chunks at a grid point, the states carried in a scratch. -/
namespace Cert.Kernel25Ideal.Hand
open Cert.Kernel25Ideal Cert.Kernel25Ideal.Gen Idealize.ShloMosaic Idealize.ShloMosaic.TcCoe Idealize.SL.Sem
open Cert.Delta Cert.Product

/-- Sixteen loads of a lane block of 128, stacked. -/
theorem stack (x : Fin 16 → Vec Ideal S64x128 .f32) :
    k0_pay3 (x 0) (x 1) (x 2) (x 3) (x 4) (x 5) (x 6) (x 7) (x 8) (x 9) (x 10) (x 11) (x 12) (x 13) (x 14) (x 15)
      = fun y => x (y 0) (ValueIdx.ix2 (y 1) (y 2)) := by
  funext y
  idx_vars y
  pointwise [k0_pay3]
  fin_vals y0 with hk
  all_goals simp only [hk, Nat.reduceSub, Nat.reduceLT, ↓reduceDIte]
  all_goals exact congrArg (fun w => x w _) (Fin.ext hk.symm)

theorem fresh_eq (C : ℕ → Chunk) (S : ℕ → ℕ → ℕ → EReal) :
    k0_pay51 (F := Ideal) (b3 S) (b3 fun h => (C h).u) (b3 fun h => (C h).w) = b3 fun h => (C h).fresh (S h) := by
  funext y
  idx_vars y
  pointwise [k0_pay51, k0_pay50]
  rfl

theorem next_eq (C : ℕ → Chunk) (S : ℕ → ℕ → ℕ → EReal) :
    k0_pay55 (F := Ideal) (b3 S) (b3 fun h => (C h).k) (b3 fun h => (C h).g)
      (extractStridedSlice S16x1x128 ![0, 63, 0] (b3 fun h => (C h).g) slices_S16x64x128_o0_63_0_S16x1x128)
      (b3 fun h => (C h).fresh (S h)) = b3 fun h => (C h).next (S h) := by
  funext y
  idx_vars y
  pointwise [k0_pay55]
  rfl

theorem stack64 (x : Fin 16 → Vec Ideal S64x64 .bf16) :
    k0_pay20 (k0_pay15 (x 0)) (k0_pay16 (x 1)) (k0_pay17 (x 2)) (k0_pay18 (x 3)) (k0_pay19 (x 4)) (x 5) (x 6) (x 7) (x 8) (x 9) (x 10) (x 11) (x 12) (x 13) (x 14) (x 15)
      = fun y => x (y 0) (ValueIdx.ix2 (y 1) (y 2)) := by
  funext y
  idx_vars y
  pointwise [k0_pay20]
  fin_vals y0 with hk
  all_goals simp only [hk, Nat.reduceSub, Nat.reduceLT, ↓reduceDIte]
  all_goals exact congrArg (fun w => x w _) (Fin.ext hk.symm)

theorem out_eq (C : ℕ → Chunk) (S : ℕ → ℕ → ℕ → EReal) (x : Fin 16 → Vec Ideal S64x128 .f32) (cst : Vec Ideal S16x64x128 .f32)
    (hc : cst = constant (F := Ideal) S16x64x128 .f32 0#32)
    (hx : k0_pay3 (x 0) (x 1) (x 2) (x 3) (x 4) (x 5) (x 6) (x 7) (x 8) (x 9) (x 10) (x 11) (x 12) (x 13) (x 14) (x 15) = b3 fun h => (C h).g) :
    k0_pay54 (F := Ideal) (b3 fun h => (C h).fresh (S h))
      (k0_pay52 (F := Ideal) (b3 S) (b3 fun h => (C h).q) (x 0) (x 1) (x 2) (x 3) (x 4) (x 5) (x 6) (x 7) (x 8) (x 9) (x 10) (x 11) (x 12) (x 13) (x 14) (x 15))
      (k0_pay53 (F := Ideal) (b3 fun h => (C h).a)) cst = b3 fun h => (C h).out (S h) := by
  subst hc
  unfold k0_pay52
  rw [show k0_pay48 (F := Ideal) (x 0) (x 1) (x 2) (x 3) (x 4) (x 5) (x 6) (x 7) (x 8) (x 9) (x 10) (x 11) (x 12) (x 13) (x 14) (x 15) = _ from hx]
  funext y
  idx_vars y
  pointwise [k0_pay54, k0_pay53, k0_pay50]
  rfl

/-- The load of `b` lanes at lane `o r` of chunk `n`'s rows of a block, for head `r`. -/
def ld {sg : RefSig} {φ : EltTy} {N b : ℕ} (a : Memref sg .tc .vmem ⟨2, ![128, N]⟩ φ) (ha : a.IsWhole) (n : Fin 2) (o : Fin 16 → ℕ) (ho : ∀ r, o r + b ≤ N)
    (f : ℕ → ℕ → Elt Ideal φ) (r : Fin 16) : Vec Ideal ⟨2, ![64, b]⟩ φ :=
  View.readAt (Elt Ideal) a.view (Rect.unit (s := ⟨2, ![128, N]⟩) ![64 * n.val, o r] ![64, b] (fun i => by
    fin_cases i
    · show 64 * n.val + 64 ≤ 128
      omega
    · exact ho r)).toLoadRect (ha.unread fun y => f (y 0).val (y 1).val)

theorem stack_f32 {sg : RefSig} {N : ℕ} (a : Memref sg .tc .vmem ⟨2, ![128, N]⟩ .f32) (ha : a.IsWhole) (n : Fin 2) (o : Fin 16 → ℕ) (ho : ∀ r, o r + 128 ≤ N)
    (f : ℕ → ℕ → EReal) (x : Fin 16 → Vec Ideal S64x128 .f32) (hx : x = ld a ha n o ho f) (p : ℕ → ℕ) (hp : ∀ r, o r = p r.val) :
    k0_pay3 (x 0) (x 1) (x 2) (x 3) (x 4) (x 5) (x 6) (x 7) (x 8) (x 9) (x 10) (x 11) (x 12) (x 13) (x 14) (x 15)
      = b3 fun h c d => f (64 * n.val + c) (p h + d) := by
  refine (stack x).trans (funext fun y => (congrFun (congrFun hx (y 0)) _).trans ((load a ha f _ _ _ _).trans ?_))
  exact congrArg (fun z => f (64 * n.val + (y 1).val) (z + (y 2).val)) (hp (y 0))

theorem stack_bf16 {sg : RefSig} {N : ℕ} (a : Memref sg .tc .vmem ⟨2, ![128, N]⟩ .bf16) (ha : a.IsWhole) (n : Fin 2) (o : Fin 16 → ℕ) (ho : ∀ r, o r + 128 ≤ N)
    (f : ℕ → ℕ → EReal) (x : Fin 16 → Vec Ideal S64x128 .f32) (hx : x = fun r y => ld a ha n o ho f r y)
    (p : ℕ → ℕ) (hp : ∀ r, o r = p r.val) :
    k0_pay3 (x 0) (x 1) (x 2) (x 3) (x 4) (x 5) (x 6) (x 7) (x 8) (x 9) (x 10) (x 11) (x 12) (x 13) (x 14) (x 15)
      = b3 fun h c d => f (64 * n.val + c) (p h + d) := by
  refine (stack x).trans (funext fun y => (congrFun (congrFun hx (y 0)) _).trans ((load a ha f _ _ _ _).trans ?_))
  exact congrArg (fun z => f (64 * n.val + (y 1).val) (z + (y 2).val)) (hp (y 0))

theorem stack_attn {sg : RefSig} {N : ℕ} (a : Memref sg .tc .vmem ⟨2, ![128, N]⟩ .bf16) (ha : a.IsWhole) (n : Fin 2) (o : Fin 16 → ℕ) (ho : ∀ r, o r + 64 ≤ N)
    (f : ℕ → ℕ → EReal) (x : Fin 16 → Vec Ideal S64x64 .bf16) (hx : x = ld a ha n o ho f) (p : ℕ → ℕ) (hp : ∀ r, o r = p r.val) :
    k0_pay20 (k0_pay15 (x 0)) (k0_pay16 (x 1)) (k0_pay17 (x 2)) (k0_pay18 (x 3)) (k0_pay19 (x 4)) (x 5) (x 6) (x 7) (x 8) (x 9) (x 10) (x 11) (x 12) (x 13) (x 14) (x 15)
      = b3 fun h c d => f (64 * n.val + c) (p h + d) := by
  rw [stack64 x]
  refine funext fun y => (congrFun (congrFun hx (y 0)) _).trans ((load a ha f _ _ _ _).trans ?_)
  exact congrArg (fun z => f (64 * n.val + (y 1).val) (z + (y 2).val)) (hp (y 0))

variable (c : Dev nD) (i : grid0.Coords) (arg2 : Memref sig .tc .vmem S128x2048 .f32) (harg2 : arg2.IsWhole) (arg3 : Memref sig .tc .vmem S128x2048 .bf16) (harg3 : arg3.IsWhole)
  (arg4 : Memref sig .tc .vmem S128x1024 .bf16) (harg4 : arg4.IsWhole) (arg5 : Memref sig .tc .vmem S128x1024 .bf16) (harg5 : arg5.IsWhole)
  (arg6 : Memref sig .tc .vmem S128x1024 .bf16) (harg6 : arg6.IsWhole) (arg7 : Memref sig .tc .vmem S128x2048 .f32) (harg7 : arg7.IsWhole)
  (arg8 : Memref sig .tc .vmem S128x2048 .bf16) (harg8 : arg8.IsWhole) (arg9 : Memref sig .tc .vmem S16x2x128x128 .f32) (harg9 : arg9.IsWhole)
  (arg10 : Memref sig .tc .vmem S16x128x128 .f32) (harg10 : arg10.IsWhole)
  (B : Chunk) (S : ℕ → ℕ → ℕ → EReal)

theorem first : kernelRun0_B.sl.r (F := Ideal) c arg10 harg10 (b3 S) = b3 S := by
  refine (View.readAt_eq_ld ..).trans ((congrArg (View.ld · _) (harg10.read_unread _)).trans ?_)
  exact View.ld_unit_zero (S := S16x128x128) (funext fun a => by fin_cases a <;> rfl) _ _

theorem u0 : kernelRun0_B.sl.r_17 (F := Ideal) c arg2 harg2 (b2 B.u) = b3 fun h => (B.at h 0).u := by
  have h := stack_f32 arg2 harg2 0 (fun r => 128 * r.val) (fun r => by omega) B.u _ rfl (fun h => 128 * h) fun _ => rfl
  exact h

theorem w0 : kernelRun0_B.sl.r_29 (F := Ideal) c arg3 harg3 (b2 B.w) = b3 fun h => (B.at h 0).w := by
  have h := stack_bf16 arg3 harg3 0 (fun r => 128 * r.val) (fun r => by omega) B.w _ rfl (fun h => 128 * h) fun _ => rfl
  exact h

theorem a0 : kernelRun0_B.sl.r_35 (F := Ideal) c arg4 harg4 (b2 B.a) = b3 fun h => (B.at h 0).a := by
  have h := stack_attn arg4 harg4 0 (fun r => 64 * r.val) (fun r => by omega) B.a _ rfl (fun h => 64 * h) fun _ => rfl
  exact h

theorem q0 : kernelRun0_B.sl.r_51 (F := Ideal) c arg5 harg5 (b2 B.q) = b3 fun h => (B.at h 0).q := by
  have h := stack_bf16 arg5 harg5 0 (fun r => 128 * (r.val / 2)) (fun r => by omega) B.q _ rfl (fun h => 128 * (h / 2)) fun _ => rfl
  exact h

theorem k0 : kernelRun0_B.sl.r_62 (F := Ideal) c arg6 harg6 (b2 B.k) = b3 fun h => (B.at h 0).k := by
  have h := stack_bf16 arg6 harg6 0 (fun r => 128 * (r.val / 2)) (fun r => by omega) B.k _ rfl (fun h => 128 * (h / 2)) fun _ => rfl
  exact h

theorem g0 : kernelRun0_B.sl.r_69 (F := Ideal) c arg7 harg7 (b2 B.g) = b3 fun h => (B.at h 0).g := by
  have h := stack_f32 arg7 harg7 0 (fun r => 128 * r.val) (fun r => by omega) B.g _ rfl (fun h => 128 * h) fun _ => rfl
  exact h

theorem fresh0 : kernelRun0_B.sl.r_71 (F := Ideal) c arg2 harg2 arg3 harg3 arg10 harg10 (b2 B.u) (b2 B.w) (b3 S) = b3 fun h => (B.at h 0).fresh (S h) := by
  unfold kernelRun0_B.sl.r_71
  rw [first, u0, w0, fresh_eq (fun h => B.at h 0) S]

theorem out0 : kernelRun0_B.sl.r_74 (F := Ideal) c arg2 harg2 arg3 harg3 arg4 harg4 arg5 harg5 arg7 harg7 arg10 harg10 (b2 B.u) (b2 B.w) (b2 B.a) (b2 B.q) (b2 B.g) (b3 S)
    = b3 fun h => (B.at h 0).out (S h) := by
  unfold kernelRun0_B.sl.r_74 kernelRun0_B.sl.r_72 kernelRun0_B.sl.r_73
  rw [first, fresh0, q0, a0]
  exact out_eq (fun h => B.at h 0) S (ld arg7 harg7 0 (fun r => 128 * r.val) (fun r => by omega) B.g) _ rfl (stack_f32 arg7 harg7 0 (fun r => 128 * r.val) (fun r => by omega) B.g _ rfl (fun h => 128 * h) fun _ => rfl)

theorem next0 : kernelRun0_B.sl.r_75 (F := Ideal) c arg2 harg2 arg3 harg3 arg6 harg6 arg7 harg7 arg10 harg10 (b2 B.u) (b2 B.w) (b2 B.k) (b2 B.g) (b3 S)
    = b3 fun h => (B.at h 0).next (S h) := by
  unfold kernelRun0_B.sl.r_75
  rw [first, fresh0, k0]
  refine Eq.trans ?_ (next_eq (fun h => B.at h 0) S)
  rw [← g0 c arg7 harg7 B]
  rfl

theorem second : kernelRun0_B.sl.v437 (F := Ideal) c arg2 harg2 arg3 harg3 arg6 harg6 arg7 harg7 arg10 harg10 (b2 B.u) (b2 B.w) (b2 B.k) (b2 B.g) (b3 S)
    = b3 fun h => (B.at h 0).next (S h) := by
  unfold kernelRun0_B.sl.v437 kernelRun0_B.sl.HS0_1
  rw [View.readCov_cons_toLoadRect, next0]
  funext y
  idx_vars y
  pointwise [k0_pay91]

theorem u1 : kernelRun0_B.sl.r_82 (F := Ideal) c arg2 harg2 (b2 B.u) = b3 fun h => (B.at h 1).u := by
  have h := stack_f32 arg2 harg2 1 (fun r => 128 * r.val) (fun r => by omega) B.u _ rfl (fun h => 128 * h) fun _ => rfl
  exact h

theorem w1 : kernelRun0_B.sl.r_97 (F := Ideal) c arg3 harg3 (b2 B.w) = b3 fun h => (B.at h 1).w := by
  have h := stack_bf16 arg3 harg3 1 (fun r => 128 * r.val) (fun r => by omega) B.w _ rfl (fun h => 128 * h) fun _ => rfl
  exact h

theorem a1 : kernelRun0_B.sl.r_107 (F := Ideal) c arg4 harg4 (b2 B.a) = b3 fun h => (B.at h 1).a := by
  have h := stack_attn arg4 harg4 1 (fun r => 64 * r.val) (fun r => by omega) B.a _ rfl (fun h => 64 * h) fun _ => rfl
  exact h

theorem q1 : kernelRun0_B.sl.r_128 (F := Ideal) c arg5 harg5 (b2 B.q) = b3 fun h => (B.at h 1).q := by
  have h := stack_bf16 arg5 harg5 1 (fun r => 128 * (r.val / 2)) (fun r => by omega) B.q _ rfl (fun h => 128 * (h / 2)) fun _ => rfl
  exact h

theorem k1 : kernelRun0_B.sl.r_143 (F := Ideal) c arg6 harg6 (b2 B.k) = b3 fun h => (B.at h 1).k := by
  have h := stack_bf16 arg6 harg6 1 (fun r => 128 * (r.val / 2)) (fun r => by omega) B.k _ rfl (fun h => 128 * (h / 2)) fun _ => rfl
  exact h

/-- The second chunk's output, whatever state it starts from. -/
theorem pay171_eq {V : Vec Ideal S16x128x128 .f32} {U W Q : Vec Ideal S16x64x128 .f32} {A : Vec Ideal S16x64x64 .f32} (hV : V = b3 S)
    (hU : U = b3 fun h => (B.at h 1).u) (hW : W = b3 fun h => (B.at h 1).w) (hA : A = b3 fun h => (B.at h 1).a) (hQ : Q = b3 fun h => (B.at h 1).q)
    (x : Fin 16 → Vec Ideal S64x128 .f32) (hx : x = ld arg7 harg7 1 (fun r => 128 * r.val) (fun r => by omega) B.g) :
    k0_pay171 (F := Ideal) V U W A Q (x 0) (x 1) (x 2) (x 3) (x 4) (x 5) (x 6) (x 7) (x 8) (x 9) (x 10) (x 11) (x 12) (x 13) (x 14) (x 15)
      = b3 fun h => (B.at h 1).out (S h) := by
  subst hV hU hW hA hQ
  refine Eq.trans ?_ (out_eq (fun h => B.at h 1) S x (constant (F := Ideal) S16x64x128 .f32 0#32) rfl (stack_f32 arg7 harg7 1 (fun r => 128 * r.val) (fun r => by omega) B.g x hx (fun h => 128 * h) fun _ => rfl))
  rw [← fresh_eq (fun h => B.at h 1) S]
  rfl

/-- The state after the second chunk, whatever state it starts from. -/
theorem pay172_eq {V : Vec Ideal S16x128x128 .f32} {U W K : Vec Ideal S16x64x128 .f32} (hV : V = b3 S)
    (hU : U = b3 fun h => (B.at h 1).u) (hW : W = b3 fun h => (B.at h 1).w) (hK : K = b3 fun h => (B.at h 1).k)
    (x : Fin 16 → Vec Ideal S64x128 .f32) (hx : x = ld arg7 harg7 1 (fun r => 128 * r.val) (fun r => by omega) B.g) :
    k0_pay172 (F := Ideal) V U W K (x 0) (x 1) (x 2) (x 3) (x 4) (x 5) (x 6) (x 7) (x 8) (x 9) (x 10) (x 11) (x 12) (x 13) (x 14) (x 15)
      = b3 fun h => (B.at h 1).next (S h) := by
  subst hV hU hW hK
  refine Eq.trans ?_ (next_eq (fun h => B.at h 1) S)
  rw [← fresh_eq (fun h => B.at h 1) S, show (b3 fun h => (B.at h 1).g : Vec Ideal S16x64x128 .f32) = _ from
    (stack_f32 arg7 harg7 1 (fun r => 128 * r.val) (fun r => by omega) B.g x hx (fun h => 128 * h) fun _ => rfl).symm]
  rfl

theorem out1 : kernelRun0_B.sl.r_155 (F := Ideal) c arg2 harg2 arg3 harg3 arg4 harg4 arg5 harg5 arg6 harg6 arg7 harg7 arg10 harg10 (b2 B.u) (b2 B.w) (b2 B.a) (b2 B.q) (b2 B.k) (b2 B.g) (b3 S)
    = b3 fun h => (B.at h 1).out ((B.at h 0).next (S h)) :=
  pay171_eq arg7 harg7 B (fun h => (B.at h 0).next (S h)) (second c arg2 harg2 arg3 harg3 arg6 harg6 arg7 harg7 arg10 harg10 B S)
    (u1 c arg2 harg2 B) (w1 c arg3 harg3 B) (a1 c arg4 harg4 B) (q1 c arg5 harg5 B) (ld arg7 harg7 1 (fun r => 128 * r.val) (fun r => by omega) B.g) rfl

theorem next1 : kernelRun0_B.sl.r_156 (F := Ideal) c arg2 harg2 arg3 harg3 arg6 harg6 arg7 harg7 arg10 harg10 (b2 B.u) (b2 B.w) (b2 B.k) (b2 B.g) (b3 S)
    = b3 fun h => (B.at h 1).next ((B.at h 0).next (S h)) :=
  pay172_eq arg7 harg7 B (fun h => (B.at h 0).next (S h)) (second c arg2 harg2 arg3 harg3 arg6 harg6 arg7 harg7 arg10 harg10 B S)
    (u1 c arg2 harg2 B) (w1 c arg3 harg3 B) (k1 c arg6 harg6 B) (ld arg7 harg7 1 (fun r => 128 * r.val) (fun r => by omega) B.g) rfl

end Cert.Kernel25Ideal.Hand
-- ==== Proof.ScanOut.lean ====
module
public import Idealize.ShloMosaic.Lib.Pipeline.ValueKit.Tiles
public import proofs.«01_k».proof.Proof.ScanFwd
@[expose] public section
noncomputable section
/-! The recurrence of the gated delta rule: the stores of a grid point, the launch, and the plain scan. -/
namespace Cert.Kernel25Ideal.Hand
open Cert.Kernel25Ideal Cert.Kernel25Ideal.Gen Idealize.ShloMosaic Idealize.ShloMosaic.TcCoe Idealize.SL.Sem
open Cert.Delta Cert.Product

variable (c : Dev nD) (i : grid0.Coords) (arg2 : Memref sig .tc .vmem S128x2048 .f32) (harg2 : arg2.IsWhole) (arg3 : Memref sig .tc .vmem S128x2048 .bf16) (harg3 : arg3.IsWhole)
  (arg4 : Memref sig .tc .vmem S128x1024 .bf16) (harg4 : arg4.IsWhole) (arg5 : Memref sig .tc .vmem S128x1024 .bf16) (harg5 : arg5.IsWhole)
  (arg6 : Memref sig .tc .vmem S128x1024 .bf16) (harg6 : arg6.IsWhole) (arg7 : Memref sig .tc .vmem S128x2048 .f32) (harg7 : arg7.IsWhole)
  (arg8 : Memref sig .tc .vmem S128x2048 .bf16) (harg8 : arg8.IsWhole) (arg9 : Memref sig .tc .vmem S16x2x128x128 .f32) (harg9 : arg9.IsWhole)
  (arg10 : Memref sig .tc .vmem S16x128x128 .f32) (harg10 : arg10.IsWhole)
  (B : Chunk) (S : ℕ → ℕ → ℕ → EReal)

/-- Head `h` of the states, as the launch stores it. -/
def slice7 (V : Vec Ideal S16x128x128 .f32) (h : Fin 16) : Vec Ideal S1x1x128x128 .f32 :=
  shapeCast S1x1x128x128 (shapeCast S128x128 (extractStridedSlice S1x128x128 ![h.val, 0, 0] V ⟨rfl, fun a => by
    fin_cases a
    · show h.val + 1 ≤ 16
      omega
    · exact Nat.le_refl 128
    · exact Nat.le_refl 128⟩) shapeCasts_S1x128x128_S128x128) shapeCasts_S128x128_S1x1x128x128

theorem slice7_eq (f : ℕ → ℕ → ℕ → EReal) (h : Fin 16) (x : S1x1x128x128.Idx) : slice7 (b3 f) h x = f h.val (x 2).val (x 3).val := by
  idx_vars x
  pointwise [slice7]
  rfl

/-- Head `h` of the outputs, as the launch stores it. -/
def slice6 (V : Vec Ideal S16x64x128 .f32) (h : Fin 16) : Vec Ideal S64x128 .bf16 :=
  truncf (F := Ideal) (φ := .f32) .bf16 (shapeCast S64x128 (extractStridedSlice S1x64x128 ![h.val, 0, 0] V ⟨rfl, fun a => by
    fin_cases a
    · show h.val + 1 ≤ 16
      omega
    · exact Nat.le_refl 64
    · exact Nat.le_refl 128⟩) shapeCasts_S1x64x128_S64x128) bitsLt_bf16_f32

theorem slice6_eq (f : ℕ → ℕ → ℕ → EReal) (h : Fin 16) (x : S64x128.Idx) : slice6 (b3 f) h x = f h.val (x 0).val (x 1).val := by
  idx_vars x
  pointwise [slice6]
  rfl

def hd (k : Fin 32) : Fin 16 := ⟨15 - k.val % 16, by omega⟩

/-- The thirty-two stores of the states: the second chunk's and the first's, the last head first. -/
def pieces7 (V0 V1 : Vec Ideal S16x128x128 .f32) : List (View.Piece (Elt Ideal) S16x2x128x128 .f32) :=
  List.ofFn fun k : Fin 32 => ⟨Rect.unit (s := S16x2x128x128) ![(hd k).val, 1 - k.val / 16, 0, 0] ![1, 1, 128, 128] (fun a => by
    fin_cases a
    · show (hd k).val + 1 ≤ 16
      omega
    · show 1 - k.val / 16 + 1 ≤ 2
      omega
    · exact Nat.le_refl 128
    · exact Nat.le_refl 128), slice7 (if k.val / 16 = 0 then V1 else V0) (hd k)⟩

theorem pieces7_eq (f : ℕ → ℕ → ℕ → ℕ → EReal) : View.canon (pieces7 (b3 fun h => f h 0) (b3 fun h => f h 1)) = b4 f := by
  funext y
  have h0 : (y 0).val < 16 := (y 0).isLt
  have h1 : (y 1).val < 2 := (y 1).isLt
  refine View.canon_ofFn_unit_eq_of_forall _ _ _ _ y _ ⟨⟨15 - (y 0).val + 16 * (1 - (y 1).val), by omega⟩, fun a => ?_⟩ fun k x hx => ?_
  · fin_cases a
    · show 15 - (15 - (y 0).val + 16 * (1 - (y 1).val)) % 16 ≤ (y 0).val ∧ (y 0).val < 15 - (15 - (y 0).val + 16 * (1 - (y 1).val)) % 16 + 1
      omega
    · show 1 - (15 - (y 0).val + 16 * (1 - (y 1).val)) / 16 ≤ (y 1).val ∧ (y 1).val < 1 - (15 - (y 0).val + 16 * (1 - (y 1).val)) / 16 + 1
      omega
    · show 0 ≤ (y 2).val ∧ (y 2).val < 0 + 128
      have := (y 2).isLt
      exact ⟨Nat.zero_le _, by rw [Nat.zero_add]; exact this⟩
    · show 0 ≤ (y 3).val ∧ (y 3).val < 0 + 128
      have := (y 3).isLt
      exact ⟨Nat.zero_le _, by rw [Nat.zero_add]; exact this⟩
  · have x0 : (x 0).val < 1 := (x 0).isLt
    have x1 : (x 1).val < 1 := (x 1).isLt
    have e0 : (y 0).val = (hd k).val + (x 0).val := hx 0
    have e1 : (y 1).val = 1 - k.val / 16 + (x 1).val := hx 1
    have e2 : (y 2).val = 0 + (x 2).val := hx 2
    have e3 : (y 3).val = 0 + (x 3).val := hx 3
    show slice7 _ _ x = f (y 0).val (y 1).val (y 2).val (y 3).val
    rw [e2, e3, Nat.zero_add, Nat.zero_add, show (y 0).val = (hd k).val by omega]
    by_cases hk : k.val / 16 = 0
    · rw [if_pos hk, slice7_eq, show (y 1).val = 1 by omega]
    · rw [if_neg hk, slice7_eq, show (y 1).val = 0 by omega]

def pieces6 (O0 O1 : Vec Ideal S16x64x128 .f32) : List (View.Piece (Elt Ideal) S128x2048 .bf16) :=
  List.ofFn fun k : Fin 32 => ⟨Rect.unit (s := S128x2048) ![64 * (1 - k.val / 16), 128 * (hd k).val] ![64, 128] (fun a => by
    fin_cases a
    · show 64 * (1 - k.val / 16) + 64 ≤ 128
      omega
    · show 128 * (hd k).val + 128 ≤ 2048
      omega), slice6 (if k.val / 16 = 0 then O1 else O0) (hd k)⟩

theorem pieces6_eq (f : ℕ → ℕ → ℕ → ℕ → EReal) :
    View.canon (pieces6 (b3 fun h => f h 0) (b3 fun h => f h 1)) = b2 fun r d => f (d / 128) (r / 64) (r % 64) (d % 128) := by
  funext y
  have h0 : (y 0).val < 128 := (y 0).isLt
  have h1 : (y 1).val < 2048 := (y 1).isLt
  refine View.canon_ofFn_unit_eq_of_forall _ _ _ _ y _ ⟨⟨15 - (y 1).val / 128 + 16 * (1 - (y 0).val / 64), by omega⟩, fun a => ?_⟩ fun k x hx => ?_
  · fin_cases a
    · show 64 * (1 - (15 - (y 1).val / 128 + 16 * (1 - (y 0).val / 64)) / 16) ≤ (y 0).val ∧ (y 0).val < 64 * (1 - (15 - (y 1).val / 128 + 16 * (1 - (y 0).val / 64)) / 16) + 64
      omega
    · show 128 * (15 - (15 - (y 1).val / 128 + 16 * (1 - (y 0).val / 64)) % 16) ≤ (y 1).val ∧ (y 1).val < 128 * (15 - (15 - (y 1).val / 128 + 16 * (1 - (y 0).val / 64)) % 16) + 128
      omega
  · have x0 : (x 0).val < 64 := (x 0).isLt
    have x1 : (x 1).val < 128 := (x 1).isLt
    have e0 : (y 0).val = 64 * (1 - k.val / 16) + (x 0).val := hx 0
    have e1 : (y 1).val = 128 * (hd k).val + (x 1).val := hx 1
    show slice6 _ _ x = f ((y 1).val / 128) ((y 0).val / 64) ((y 0).val % 64) ((y 1).val % 128)
    rw [show (y 0).val / 64 = 1 - k.val / 16 by omega, show (y 0).val % 64 = (x 0).val by omega,
      show (y 1).val / 128 = (hd k).val by omega, show (y 1).val % 128 = (x 1).val by omega]
    by_cases hk : k.val / 16 = 0
    · rw [if_pos hk, slice6_eq, hk]
    · rw [if_neg hk, slice6_eq, show 1 - k.val / 16 = 0 by omega]

/-- What the block's second chunk starts from. -/
theorem outB_7 (hc0 : ¬ cond0_0 i) :
    out0_B_7 (F := Ideal) c i arg2 harg2 arg3 harg3 arg4 harg4 arg5 harg5 arg6 harg6 arg7 harg7 arg8 harg8 arg9 harg9 arg10 harg10 hc0
      (b2 B.u) (b2 B.w) (b2 B.a) (b2 B.q) (b2 B.k) (b2 B.g) (b3 S) = b4 fun h n => B.run S h n := by
  unfold out0_B_7 kernelRun0_B
  rw [View.read_writes_junk_eq_canon]
  refine Eq.trans (congrArg View.canon ?_) (pieces7_eq fun h n => B.run S h n)
  rw [show (b3 fun h => B.run S h 0 : Vec Ideal S16x128x128 .f32) = _ from (first c arg10 harg10 S).symm,
    show (b3 fun h => B.run S h 1 : Vec Ideal S16x128x128 .f32) = _ from (second c arg2 harg2 arg3 harg3 arg6 harg6 arg7 harg7 arg10 harg10 B S).symm]
  rfl

theorem outB_6 (hc0 : ¬ cond0_0 i) :
    out0_B_6 (F := Ideal) c i arg2 harg2 arg3 harg3 arg4 harg4 arg5 harg5 arg6 harg6 arg7 harg7 arg8 harg8 arg9 harg9 arg10 harg10 hc0
      (b2 B.u) (b2 B.w) (b2 B.a) (b2 B.q) (b2 B.k) (b2 B.g) (b3 S)
      = b2 fun r d => (B.at (d / 128) (r / 64)).out (B.run S (d / 128) (r / 64)) (r % 64) (d % 128) := by
  unfold out0_B_6 kernelRun0_B
  rw [View.read_writes_junk_eq_canon]
  refine Eq.trans (congrArg View.canon ?_) (pieces6_eq fun h n => (B.at h n).out (B.run S h n))
  rw [show (b3 fun h => (B.at h 0).out (B.run S h 0) : Vec Ideal S16x64x128 .f32) = _ from
      (out0 c arg2 harg2 arg3 harg3 arg4 harg4 arg5 harg5 arg7 harg7 arg10 harg10 B S).symm,
    show (b3 fun h => (B.at h 1).out (B.run S h 1) : Vec Ideal S16x64x128 .f32) = _ from
      (out1 c arg2 harg2 arg3 harg3 arg4 harg4 arg5 harg5 arg6 harg6 arg7 harg7 arg10 harg10 B S).symm]
  rfl

theorem whole {sg : RefSig} (v : View sg .tc .vmem S16x128x128 .f32) (inb) (w : Vec Ideal S16x128x128 .f32) (L) :
    v.read (Elt Ideal) (v.writes (Elt Ideal) v.junk (⟨Rect.unit (s := S16x128x128) ![0, 0, 0] ![16, 128, 128] inb, w⟩ :: L)) = w := by
  funext y
  rw [View.read_writes_junk_eq_canon]
  refine Eq.trans (congrArg _ ?_) (View.canon_cons_emb (Rect.unit (s := S16x128x128) ![0, 0, 0] ![16, 128, 128] inb) w L y)
  funext a
  apply Fin.ext
  show (y a).val = (![0, 0, 0] : Fin 3 → ℕ) a + 1 * (y a).val
  fin_cases a <;> exact (Nat.zero_add _).symm.trans (congrArg _ (Nat.one_mul _).symm)

theorem soutB (hc0 : ¬ cond0_0 i) :
    sout0_B_0 (F := Ideal) c i arg2 harg2 arg3 harg3 arg4 harg4 arg5 harg5 arg6 harg6 arg7 harg7 arg8 harg8 arg9 harg9 arg10 harg10 hc0
      (b2 B.u) (b2 B.w) (b2 B.a) (b2 B.q) (b2 B.k) (b2 B.g) (b3 S) = b3 fun h => B.run S h 2 := by
  unfold sout0_B_0 kernelRun0_B
  refine (whole ..).trans ?_
  rw [next1]
  funext y
  idx_vars y
  pointwise [k0_pay1]
  rfl

/-- The state a head starts from. -/
def zero : ℕ → ℕ → ℕ → EReal := fun _ _ _ => 0

theorem firstA : kernelRun0_A.sl.v3 (F := Ideal) c arg10 = b3 zero := by
  unfold kernelRun0_A.sl.v3 kernelRun0_A.sl.HS0_1
  rw [View.readCov_cons_toLoadRect]
  funext y
  idx_vars y
  pointwise [k0_pay2]
  rfl

theorem freshA : kernelRun0_A.sl.r_70 (F := Ideal) c arg2 harg2 arg3 harg3 arg10 (b2 B.u) (b2 B.w) = b3 fun h => (B.at h 0).fresh (zero h) := by
  unfold kernelRun0_A.sl.r_70
  rw [firstA, show kernelRun0_A.sl.r_16 (F := Ideal) c arg2 harg2 (b2 B.u) = _ from u0 c arg2 harg2 B,
    show kernelRun0_A.sl.r_28 (F := Ideal) c arg3 harg3 (b2 B.w) = _ from w0 c arg3 harg3 B, fresh_eq (fun h => B.at h 0) zero]

theorem outA0 : kernelRun0_A.sl.r_73 (F := Ideal) c arg2 harg2 arg3 harg3 arg4 harg4 arg5 harg5 arg7 harg7 arg10 (b2 B.u) (b2 B.w) (b2 B.a) (b2 B.q) (b2 B.g)
    = b3 fun h => (B.at h 0).out (zero h) := by
  unfold kernelRun0_A.sl.r_73 kernelRun0_A.sl.r_71 kernelRun0_A.sl.r_72
  rw [firstA, freshA, show kernelRun0_A.sl.r_50 (F := Ideal) c arg5 harg5 (b2 B.q) = _ from q0 c arg5 harg5 B,
    show kernelRun0_A.sl.r_34 (F := Ideal) c arg4 harg4 (b2 B.a) = _ from a0 c arg4 harg4 B]
  exact out_eq (fun h => B.at h 0) zero (ld arg7 harg7 0 (fun r => 128 * r.val) (fun r => by omega) B.g) _ rfl
    (stack_f32 arg7 harg7 0 (fun r => 128 * r.val) (fun r => by omega) B.g _ rfl (fun h => 128 * h) fun _ => rfl)

theorem nextA : kernelRun0_A.sl.r_74 (F := Ideal) c arg2 harg2 arg3 harg3 arg6 harg6 arg7 harg7 arg10 (b2 B.u) (b2 B.w) (b2 B.k) (b2 B.g)
    = b3 fun h => (B.at h 0).next (zero h) := by
  unfold kernelRun0_A.sl.r_74
  rw [firstA, freshA, show kernelRun0_A.sl.r_61 (F := Ideal) c arg6 harg6 (b2 B.k) = _ from k0 c arg6 harg6 B]
  refine Eq.trans ?_ (next_eq (fun h => B.at h 0) zero)
  rw [← g0 c arg7 harg7 B]
  rfl

theorem secondA : kernelRun0_A.sl.v437 (F := Ideal) c arg2 harg2 arg3 harg3 arg6 harg6 arg7 harg7 arg10 (b2 B.u) (b2 B.w) (b2 B.k) (b2 B.g)
    = b3 fun h => (B.at h 0).next (zero h) := by
  unfold kernelRun0_A.sl.v437 kernelRun0_A.sl.HS0_2
  rw [View.readCov_cons_toLoadRect, nextA]
  funext y
  idx_vars y
  pointwise [k0_pay91]

theorem outA1 : kernelRun0_A.sl.r_154 (F := Ideal) c arg2 harg2 arg3 harg3 arg4 harg4 arg5 harg5 arg6 harg6 arg7 harg7 arg10 (b2 B.u) (b2 B.w) (b2 B.a) (b2 B.q) (b2 B.k) (b2 B.g)
    = b3 fun h => (B.at h 1).out ((B.at h 0).next (zero h)) :=
  pay171_eq arg7 harg7 B (fun h => (B.at h 0).next (zero h)) (secondA c arg2 harg2 arg3 harg3 arg6 harg6 arg7 harg7 arg10 B)
    (u1 c arg2 harg2 B) (w1 c arg3 harg3 B) (a1 c arg4 harg4 B) (q1 c arg5 harg5 B) (ld arg7 harg7 1 (fun r => 128 * r.val) (fun r => by omega) B.g) rfl

theorem nextA1 : kernelRun0_A.sl.r_155 (F := Ideal) c arg2 harg2 arg3 harg3 arg6 harg6 arg7 harg7 arg10 (b2 B.u) (b2 B.w) (b2 B.k) (b2 B.g)
    = b3 fun h => (B.at h 1).next ((B.at h 0).next (zero h)) :=
  pay172_eq arg7 harg7 B (fun h => (B.at h 0).next (zero h)) (secondA c arg2 harg2 arg3 harg3 arg6 harg6 arg7 harg7 arg10 B)
    (u1 c arg2 harg2 B) (w1 c arg3 harg3 B) (k1 c arg6 harg6 B) (ld arg7 harg7 1 (fun r => 128 * r.val) (fun r => by omega) B.g) rfl

theorem outA_7 (hc0 : cond0_0 i) :
    out0_A_7 (F := Ideal) c i arg2 harg2 arg3 harg3 arg4 harg4 arg5 harg5 arg6 harg6 arg7 harg7 arg8 harg8 arg9 harg9 arg10 harg10 hc0
      (b2 B.u) (b2 B.w) (b2 B.a) (b2 B.q) (b2 B.k) (b2 B.g) = b4 fun h n => B.run zero h n := by
  unfold out0_A_7 kernelRun0_A
  rw [View.read_writes_junk_eq_canon]
  refine Eq.trans (congrArg View.canon ?_) (pieces7_eq fun h n => B.run zero h n)
  rw [show (b3 fun h => B.run zero h 0 : Vec Ideal S16x128x128 .f32) = _ from (firstA c arg10).symm,
    show (b3 fun h => B.run zero h 1 : Vec Ideal S16x128x128 .f32) = _ from (secondA c arg2 harg2 arg3 harg3 arg6 harg6 arg7 harg7 arg10 B).symm]
  rfl

theorem outA_6 (hc0 : cond0_0 i) :
    out0_A_6 (F := Ideal) c i arg2 harg2 arg3 harg3 arg4 harg4 arg5 harg5 arg6 harg6 arg7 harg7 arg8 harg8 arg9 harg9 arg10 harg10 hc0
      (b2 B.u) (b2 B.w) (b2 B.a) (b2 B.q) (b2 B.k) (b2 B.g)
      = b2 fun r d => (B.at (d / 128) (r / 64)).out (B.run zero (d / 128) (r / 64)) (r % 64) (d % 128) := by
  unfold out0_A_6 kernelRun0_A
  rw [View.read_writes_junk_eq_canon]
  refine Eq.trans (congrArg View.canon ?_) (pieces6_eq fun h n => (B.at h n).out (B.run zero h n))
  rw [show (b3 fun h => (B.at h 0).out (B.run zero h 0) : Vec Ideal S16x64x128 .f32) = _ from
      (outA0 c arg2 harg2 arg3 harg3 arg4 harg4 arg5 harg5 arg7 harg7 arg10 B).symm,
    show (b3 fun h => (B.at h 1).out (B.run zero h 1) : Vec Ideal S16x64x128 .f32) = _ from
      (outA1 c arg2 harg2 arg3 harg3 arg4 harg4 arg5 harg5 arg6 harg6 arg7 harg7 arg10 B).symm]
  rfl

theorem soutA (hc0 : cond0_0 i) :
    sout0_A_0 (F := Ideal) c i arg2 harg2 arg3 harg3 arg4 harg4 arg5 harg5 arg6 harg6 arg7 harg7 arg8 harg8 arg9 harg9 arg10 harg10 hc0
      (b2 B.u) (b2 B.w) (b2 B.a) (b2 B.q) (b2 B.k) (b2 B.g) = b3 fun h => B.run zero h 2 := by
  unfold sout0_A_0 kernelRun0_A
  refine (whole ..).trans ?_
  rw [nextA1]
  funext y
  idx_vars y
  pointwise [k0_pay1]
  rfl

end Cert.Kernel25Ideal.Hand
-- ==== Proof.ScanRun.lean ====
module
public import proofs.«01_k».proof.Proof.ScanOut
@[expose] public section
noncomputable section
/-! The recurrence of the gated delta rule: what the launch leaves, and the plain scan. -/
namespace Cert.Delta
open Idealize.ShloMosaic Cert.BandAttention

/-- The six arrays. -/
def arrays (u w : (⟨2, ![8192, 4096]⟩ : Shape).Idx → EReal) (a q k : (⟨2, ![8192, 2048]⟩ : Shape).Idx → EReal) (g : (⟨2, ![8192, 4096]⟩ : Shape).Idx → EReal) : Chunk where
  u := n2 u
  w := n2 w
  a := n2 a
  q := n2 q
  k := n2 k
  g := n2 g

end Cert.Delta

namespace Cert.Kernel25Ideal.Hand
open Cert.Kernel25Ideal Cert.Kernel25Ideal.Gen Cert.Kernel25Ideal.Value Idealize.ShloMosaic Idealize.ShloMosaic.TcCoe Idealize.SL.Sem
open Cert.Delta Cert.Product

variable (m : (ℓ : Loc nD τ sig) → Buf (Elt Ideal) ℓ) (c : Dev nD)

/-- The argument arrays. -/
def args : Chunk := arrays (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

def At (t : Fin cfg0.N) : Prop := (win0_0.index t 0 = t.val % 64 ∧ win0_0.index t 1 = t.val / 64)
  ∧ (win0_1.index t 0 = t.val % 64 ∧ win0_1.index t 1 = t.val / 64) ∧ (win0_2.index t 0 = t.val % 64 ∧ win0_2.index t 1 = t.val / 64)
  ∧ (win0_3.index t 0 = t.val % 64 ∧ win0_3.index t 1 = t.val / 64) ∧ (win0_4.index t 0 = t.val % 64 ∧ win0_4.index t 1 = t.val / 64)
  ∧ (win0_5.index t 0 = t.val % 64 ∧ win0_5.index t 1 = t.val / 64)
theorem ix (t : Fin cfg0.N) : At t := (by unfold At; decide +kernel : ∀ t : Fin grid0.N, At t) t

theorem iblk0 (t : Fin cfg0.N) : iblk m c 0 t = b2 ((args m c).block (t.val % 64) (t.val / 64)).u := by
  funext y
  unfold iblk
  rw [View.read_apply]
  refine at2 (m ((c : Thread nD τ).loc main_arg0)) _ _ _ ?_ ?_
  · show win0_0.index t 0 * 128 + 1 * (y 0).val = _
    rw [(ix t).1.1]; omega
  · show win0_0.index t 1 * 2048 + 1 * (y 1).val = _
    rw [(ix t).1.2]; omega

theorem iblk1 (t : Fin cfg0.N) : iblk m c 1 t = b2 ((args m c).block (t.val % 64) (t.val / 64)).w := by
  funext y
  unfold iblk
  rw [View.read_apply]
  refine at2 (m ((c : Thread nD τ).loc main_arg1)) _ _ _ ?_ ?_
  · show win0_1.index t 0 * 128 + 1 * (y 0).val = _
    rw [(ix t).2.1.1]; omega
  · show win0_1.index t 1 * 2048 + 1 * (y 1).val = _
    rw [(ix t).2.1.2]; omega

theorem iblk2 (t : Fin cfg0.N) : iblk m c 2 t = b2 ((args m c).block (t.val % 64) (t.val / 64)).a := by
  funext y
  unfold iblk
  rw [View.read_apply]
  refine at2 (m ((c : Thread nD τ).loc main_arg2)) _ _ _ ?_ ?_
  · show win0_2.index t 0 * 128 + 1 * (y 0).val = _
    rw [(ix t).2.2.1.1]; omega
  · show win0_2.index t 1 * 1024 + 1 * (y 1).val = _
    rw [(ix t).2.2.1.2]; omega

theorem iblk3 (t : Fin cfg0.N) : iblk m c 3 t = b2 ((args m c).block (t.val % 64) (t.val / 64)).q := by
  funext y
  unfold iblk
  rw [View.read_apply]
  refine at2 (m ((c : Thread nD τ).loc main_arg3)) _ _ _ ?_ ?_
  · show win0_3.index t 0 * 128 + 1 * (y 0).val = _
    rw [(ix t).2.2.2.1.1]; omega
  · show win0_3.index t 1 * 1024 + 1 * (y 1).val = _
    rw [(ix t).2.2.2.1.2]; omega

theorem iblk4 (t : Fin cfg0.N) : iblk m c 4 t = b2 ((args m c).block (t.val % 64) (t.val / 64)).k := by
  funext y
  unfold iblk
  rw [View.read_apply]
  refine at2 (m ((c : Thread nD τ).loc main_arg4)) _ _ _ ?_ ?_
  · show win0_4.index t 0 * 128 + 1 * (y 0).val = _
    rw [(ix t).2.2.2.2.1.1]; omega
  · show win0_4.index t 1 * 1024 + 1 * (y 1).val = _
    rw [(ix t).2.2.2.2.1.2]; omega

theorem iblk5 (t : Fin cfg0.N) : iblk m c 5 t = b2 ((args m c).block (t.val % 64) (t.val / 64)).g := by
  funext y
  unfold iblk
  rw [View.read_apply]
  refine at2 (m ((c : Thread nD τ).loc main_arg5)) _ _ _ ?_ ?_
  · show win0_5.index t 0 * 128 + 1 * (y 0).val = _
    rw [(ix t).2.2.2.2.2.1]; omega
  · show win0_5.index t 1 * 2048 + 1 * (y 1).val = _
    rw [(ix t).2.2.2.2.2.2]; omega

/-- What the point of block row `i` and block column `j` leaves: its output block, its states, and the states for the next point. -/
def left (X : Chunk) (j i : ℕ) : Vec Ideal S128x2048 .bf16 × Vec Ideal S16x2x128x128 .f32 × Vec Ideal S16x128x128 .f32 :=
  (b2 fun r d => (X.at (16 * j + d / 128) (2 * i + r / 64)).out (X.run zero (16 * j + d / 128) (2 * i + r / 64)) (r % 64) (d % 128),
    b4 fun h k => X.run zero (16 * j + h) (2 * i + k), b3 fun h => X.run zero (16 * j + h) (2 * i + 2))

theorem left_eq (X : Chunk) (j i : ℕ) (S : ℕ → ℕ → ℕ → EReal) (hS : S = fun h => X.run zero (16 * j + h) (2 * i)) :
    ((b2 fun r d => ((X.block i j).at (d / 128) (r / 64)).out ((X.block i j).run S (d / 128) (r / 64)) (r % 64) (d % 128),
      b4 fun h k => (X.block i j).run S h k, b3 fun h => (X.block i j).run S h 2) :
      Vec Ideal S128x2048 .bf16 × Vec Ideal S16x2x128x128 .f32 × Vec Ideal S16x128x128 .f32) = left X j i := by
  subst hS
  simp only [Chunk.block_at, Chunk.block_run]
  rfl

theorem leftA (t : Fin cfg0.N) (h0 : t.val % 64 = 0) : outsAt0 m c t.val t.isLt = left (args m c) (t.val / 64) (t.val % 64) := by
  rw [outsAt0_A m c t h0, iblk0, iblk1, iblk2, iblk3, iblk4, iblk5, outA_6, outA_7, soutA]
  exact left_eq (args m c) _ _ zero (by rw [h0]; rfl)

theorem outs_eq (n : ℕ) : ∀ hn : n < cfg0.N, outsAt0 m c n hn = left (args m c) (n / 64) (n % 64) := by
  induction n with
  | zero => exact fun hn => leftA m c ⟨0, hn⟩ (Nat.zero_mod _)
  | succ n ih =>
    intro hn
    by_cases h0 : (n + 1) % 64 = 0
    · exact leftA m c ⟨n + 1, hn⟩ h0
    · refine (outsAt0_B m c ⟨n + 1, hn⟩ h0).trans ?_
      have e : (outsAt0 m c n (Nat.lt_of_succ_lt hn)).2.2 = b3 fun h => (args m c).run zero (16 * ((n + 1) / 64) + h) (2 * ((n + 1) % 64)) := by
        rw [ih, show (n + 1) / 64 = n / 64 by omega, show 2 * ((n + 1) % 64) = 2 * (n % 64) + 2 by omega]
        rfl
      rw [iblk0, iblk1, iblk2, iblk3, iblk4, iblk5]
      show (out0_B_6 _ _ _ _ _ _ _ _ _ _ _ _ _ _ _ _ _ _ _ _ _ _ _ _ _ _ _ (outsAt0 m c n _).2.2, out0_B_7 _ _ _ _ _ _ _ _ _ _ _ _ _ _ _ _ _ _ _ _ _ _ _ _ _ _ _ (outsAt0 m c n _).2.2,
        sout0_B_0 _ _ _ _ _ _ _ _ _ _ _ _ _ _ _ _ _ _ _ _ _ _ _ _ _ _ _ (outsAt0 m c n _).2.2) = _
      rw [e, outB_6, outB_7, soutB]
      exact left_eq (args m c) _ _ _ rfl

@[irreducible] def outVal : ℕ → ℕ → EReal := fun r d => ((args m c).at (d / 128) (r / 64)).out ((args m c).run zero (d / 128) (r / 64)) (r % 64) (d % 128)
@[irreducible] def stateVal : ℕ → ℕ → ℕ → ℕ → EReal := fun h n d e => (args m c).run zero h n d e
/-- What the launch leaves: the outputs, and the states before each chunk. -/
def res : Buf (Elt Ideal) ((c : Thread nD τ).loc main_v0_0) := b2 (outVal m c)
def resT : Buf (Elt Ideal) ((c : Thread nD τ).loc main_v0_1) := b4 (stateVal m c)

theorem res_eq : G6 m c = res m c := by
  funext y
  have h0 : (y 0).val < 8192 := (y 0).isLt
  have h1 : (y 1).val < 4096 := (y 1).isLt
  have hp : pt6Of y = (y 0).val / 128 + 64 * ((y 1).val / 2048) := by show 1 * ((y 0).val / 128 - 0) + 64 * ((y 1).val / 2048 - 0) = _; omega
  have hN : pt6Of y < cfg0.N := by rw [show cfg0.N = 128 from N_0]; omega
  unfold G6
  rw [dif_pos hN, ← outsAt0_sweep m c _ hN, outs_eq m c _ hN]
  show ((args m c).at (16 * (pt6Of y / 64) + (y 1).val % 2048 / 128) (2 * (pt6Of y % 64) + (y 0).val % 128 / 64)).out
    ((args m c).run zero (16 * (pt6Of y / 64) + (y 1).val % 2048 / 128) (2 * (pt6Of y % 64) + (y 0).val % 128 / 64)) ((y 0).val % 128 % 64) ((y 1).val % 2048 % 128)
    = outVal m c (y 0).val (y 1).val
  unfold outVal
  rw [show 16 * (pt6Of y / 64) + (y 1).val % 2048 / 128 = (y 1).val / 128 by omega, show 2 * (pt6Of y % 64) + (y 0).val % 128 / 64 = (y 0).val / 64 by omega,
    show (y 0).val % 128 % 64 = (y 0).val % 64 by omega, show (y 1).val % 2048 % 128 = (y 1).val % 128 by omega]

theorem resT_eq : G7 m c = resT m c := by
  funext y
  have h0 : (y 0).val < 32 := (y 0).isLt
  have h1 : (y 1).val < 128 := (y 1).isLt
  have h2 : (y 2).val < 128 := (y 2).isLt
  have h3 : (y 3).val < 128 := (y 3).isLt
  have hp : pt7Of y = 64 * ((y 0).val / 16) + (y 1).val / 2 := by
    show 64 * ((y 0).val / 16 - 0) + 1 * ((y 1).val / 2 - 0) + 1 * ((y 2).val / 128 - 0) + 1 * ((y 3).val / 128 - 0) = _; omega
  have hN : pt7Of y < cfg0.N := by rw [show cfg0.N = 128 from N_0]; omega
  unfold G7
  rw [dif_pos hN, ← outsAt0_sweep m c _ hN, outs_eq m c _ hN]
  show (args m c).run zero (16 * (pt7Of y / 64) + (y 0).val % 16) (2 * (pt7Of y % 64) + (y 1).val % 2) ((y 2).val % 128) ((y 3).val % 128)
    = stateVal m c (y 0).val (y 1).val (y 2).val (y 3).val
  unfold stateVal
  rw [show 16 * (pt7Of y / 64) + (y 0).val % 16 = (y 0).val by omega, show 2 * (pt7Of y % 64) + (y 1).val % 2 = (y 1).val by omega,
    Nat.mod_eq_of_lt h2, Nat.mod_eq_of_lt h3]

end Cert.Kernel25Ideal.Hand
-- ==== Proof.ScanRef.lean ====
module
public import proofs.«01_k».proof.Proof.ScanRun
public import Idealize.ShloMosaic.Lib.DynamicIndex
@[expose] public section
noncomputable section
/-! The plain scan over the chunks: one trip takes every head's state across one chunk. -/
namespace Cert.Reference25Ideal.Hand
open Cert.Reference25Ideal Cert.Reference25Ideal.Gen Cert.Reference25Ideal.Value Idealize.ShloMosaic Idealize.ShloMosaic.TcCoe Idealize.SL.Sem
open Cert.Delta Cert.Product
open Cert.Kernel25Ideal.Hand (zero)

/-- Where a trip reads and writes: its own chunk. -/
def start (v : (⟨S_, .i32⟩ : BufTy).Contents (Elt Ideal)) : Fin 4 → Int :=
  fun k => (((![v, constantI S_ 32 0#32, constantI S_ 32 0#32, constantI S_ 32 0#32] : Fin 4 → (⟨S_, .i32⟩ : BufTy).Contents (Elt Ideal))) k (Shape.Idx.first h_S_)).toInt

theorem start_eq (n : ℕ) (hn : n < 128) (a : Fin 4) : start (fun _ => BitVec.ofNat 32 n) a = ((![n, 0, 0, 0] : Fin 4 → ℕ) a : Int) := by
  fin_cases a
  · show (BitVec.ofNat 32 n).toInt = (n : Int)
    have h : (BitVec.ofNat 32 n).toNat = n := (BitVec.toNat_ofNat n 32).trans (Nat.mod_eq_of_lt (by omega))
    rw [BitVec.toInt_eq_toNat_of_lt (by omega), h]
  all_goals rfl

theorem chunk128 (f : ℕ → ℕ → ℕ → ℕ → EReal) (n : ℕ) (hn : n < 128) :
    (shapeCast S32x64x128 (Host.dynamicSlice S1x32x64x128 (b4 f : Vec Ideal S128x32x64x128 .f32) (start fun _ => BitVec.ofNat 32 n) sliceFits_S128x32x64x128_S1x32x64x128)
      shapeCasts_S1x32x64x128_S32x64x128 : Vec Ideal S32x64x128 .f32) = b3 (f n) := by
  have hs : S128x32x64x128.Slices ![n, 0, 0, 0] S1x32x64x128 := ⟨rfl, fun a => by
    fin_cases a
    · show n + 1 ≤ 128
      omega
    · exact Nat.le_of_eq (Nat.zero_add 32)
    · exact Nat.le_of_eq (Nat.zero_add 64)
    · exact Nat.le_of_eq (Nat.zero_add 128)⟩
  have he := Host.dynamicSlice_eq_extractStridedSlice S1x32x64x128 (b4 f : Vec Ideal S128x32x64x128 .f32) (start fun _ => BitVec.ofNat 32 n) ![n, 0, 0, 0]
    sliceFits_S128x32x64x128_S1x32x64x128 hs (start_eq n hn)
  refine (congrArg (fun z => shapeCast S32x64x128 z shapeCasts_S1x32x64x128_S32x64x128) he).trans ?_
  funext y
  idx_vars y
  pointwise
  rfl

theorem chunk64 (f : ℕ → ℕ → ℕ → ℕ → EReal) (n : ℕ) (hn : n < 128) :
    (shapeCast S32x64x64 (Host.dynamicSlice S1x32x64x64 (b4 f : Vec Ideal S128x32x64x64 .f32) (start fun _ => BitVec.ofNat 32 n) sliceFits_S128x32x64x64_S1x32x64x64)
      shapeCasts_S1x32x64x64_S32x64x64 : Vec Ideal S32x64x64 .f32) = b3 (f n) := by
  have hs : S128x32x64x64.Slices ![n, 0, 0, 0] S1x32x64x64 := ⟨rfl, fun a => by
    fin_cases a
    · show n + 1 ≤ 128
      omega
    · exact Nat.le_of_eq (Nat.zero_add 32)
    · exact Nat.le_of_eq (Nat.zero_add 64)
    · exact Nat.le_of_eq (Nat.zero_add 64)⟩
  have he := Host.dynamicSlice_eq_extractStridedSlice S1x32x64x64 (b4 f : Vec Ideal S128x32x64x64 .f32) (start fun _ => BitVec.ofNat 32 n) ![n, 0, 0, 0]
    sliceFits_S128x32x64x64_S1x32x64x64 hs (start_eq n hn)
  refine (congrArg (fun z => shapeCast S32x64x64 z shapeCasts_S1x32x64x64_S32x64x64) he).trans ?_
  funext y
  idx_vars y
  pointwise
  rfl

/-- Chunk `n` of an array replaced. -/
theorem put {A B C D : ℕ} (f : ℕ → ℕ → ℕ → ℕ → EReal) (u : (⟨4, ![1, B, C, D]⟩ : Shape).Idx → EReal) (g : ℕ → ℕ → ℕ → EReal) (n : ℕ) (hn : n < 128) (hA : n < A)
    (hu : ∀ z, u z = g (z 1).val (z 2).val (z 3).val) (h) :
    Host.dynamicUpdateSlice (b4 f : (⟨4, ![A, B, C, D]⟩ : Shape).Idx → EReal) u (start fun _ => BitVec.ofNat 32 n) h
      = b4 fun k => if k = n then g else f k := by
  have hc : ∀ a, Host.clampedStart ⟨4, ![A, B, C, D]⟩ ⟨4, ![1, B, C, D]⟩ h.1 (start fun _ => BitVec.ofNat 32 n) a = (![n, 0, 0, 0] : Fin 4 → ℕ) a := fun a =>
    Host.clampedStart_of_le _ _ a _ (start_eq n hn a) (by
      fin_cases a
      · exact hA
      · exact Nat.le_of_eq (Nat.zero_add _)
      · exact Nat.le_of_eq (Nat.zero_add _)
      · exact Nat.le_of_eq (Nat.zero_add _))
  funext y
  rw [Host.dynamicUpdateSlice_apply]
  have h1 : (y 1).val < B := (y 1).isLt
  have h2 : (y 2).val < C := (y 2).isLt
  have h3 : (y 3).val < D := (y 3).isLt
  show _ = (if (y 0).val = n then g else f (y 0).val) (y 1).val (y 2).val (y 3).val
  by_cases h0 : (y 0).val = n
  · rw [dif_pos, if_pos h0, hu]
    · show g ((y 1).val - Host.clampedStart _ _ h.1 _ 1) ((y 2).val - Host.clampedStart _ _ h.1 _ 2) ((y 3).val - Host.clampedStart _ _ h.1 _ 3) = _
      rw [hc 1, hc 2, hc 3]
      rfl
    · intro a
      rw [hc a]
      fin_cases a
      · exact ⟨h0.ge, by show (y 0).val < n + 1; omega⟩
      · exact ⟨Nat.zero_le _, by show (y 1).val < 0 + B; omega⟩
      · exact ⟨Nat.zero_le _, by show (y 2).val < 0 + C; omega⟩
      · exact ⟨Nat.zero_le _, by show (y 3).val < 0 + D; omega⟩
  · rw [dif_neg, if_neg h0]
    · rfl
    · intro ha
      have := ha 0
      rw [hc 0] at this
      have h4 : n ≤ (y 0).val ∧ (y 0).val < n + 1 := this
      omega

/-- What the loop's buffers hold before trip `n`. -/
structure Before (X : Chunk) (n : ℕ) (V : Valuation τ sig (Elt Ideal)) : Prop where
  u : V (Proc.devRef .tc main_v27_0) = (b4 fun n h => (X.at h n).u : Vec Ideal S128x32x64x128 .f32)
  w : V (Proc.devRef .tc main_v27_1) = (b4 fun n h => (X.at h n).w : Vec Ideal S128x32x64x128 .f32)
  a : V (Proc.devRef .tc main_v27_2) = (b4 fun n h => (X.at h n).a : Vec Ideal S128x32x64x64 .f32)
  q : V (Proc.devRef .tc main_v27_3) = (b4 fun n h => (X.at h n).q : Vec Ideal S128x32x64x128 .f32)
  k : V (Proc.devRef .tc main_v27_4) = (b4 fun n h => (X.at h n).k : Vec Ideal S128x32x64x128 .f32)
  g : V (Proc.devRef .tc main_v27_5) = (b4 fun n h => (X.at h n).g : Vec Ideal S128x32x64x128 .f32)
  i : V (Proc.devRef .tc main_v27_6) = fun _ => BitVec.ofNat 32 n
  s : V (Proc.devRef .tc main_v27_7) = (b3 fun h => X.run zero h n : Vec Ideal S32x128x128 .f32)
  o : V (Proc.devRef .tc main_v27_8) = (b4 fun k => if k < n then fun h => (X.at h k).out (X.run zero h k) else zero : Vec Ideal S128x32x64x128 .f32)
  t : V (Proc.devRef .tc main_v27_9) = (b4 fun k => if k < n then fun h => X.run zero h k else zero : Vec Ideal S128x32x128x128 .f32)

variable {X : Chunk} {n : ℕ} {V : Valuation τ sig (Elt Ideal)}

theorem g_eq (h : Before X n V) (hn : n < 128) : res_main_while0b_v37 V = (b3 fun h => (X.at h n).g : Vec Ideal S32x64x128 .f32) := by
  unfold res_main_while0b_v37
  rw [h.g, h.i]
  exact chunk128 _ n hn

theorem fresh_eq (h : Before X n V) (hn : n < 128) : res_main_while0b_v39 V = (b3 fun h => (X.at h n).fresh (X.run zero h n) : Vec Ideal S32x64x128 .f32) := by
  unfold res_main_while0b_v39
  rw [h.u, h.w, h.i, h.s]
  refine (congrArg₂ subf (chunk128 (fun n h => (X.at h n).u) n hn) (congrArg (fun z => Host.dotGeneral (F := Ideal) dot_S32x64x128_S32x128x128_S32x64x128_2_1_1_2_0_0 none z _)
    (chunk128 (fun n h => (X.at h n).w) n hn))).trans ?_
  funext y
  idx_vars y
  pointwise
  rfl

theorem next_eq (h : Before X n V) (hn : n < 128) : step_main_v27_7 V = (b3 fun h => X.run zero h (n + 1) : Vec Ideal S32x128x128 .f32) := by
  unfold step_main_v27_7 res_main_while0b_v45
  rw [g_eq h hn, fresh_eq h hn, h.s, h.k, h.i]
  erw [chunk128 (fun n h => (X.at h n).k) n hn, id_eq]
  funext y
  idx_vars y
  pointwise
  rfl

theorem out_eq (h : Before X n V) (hn : n < 128) : step_main_v27_8 V
    = (b4 fun k => if k < n + 1 then fun h => (X.at h k).out (X.run zero h k) else zero : Vec Ideal S128x32x64x128 .f32) := by
  unfold step_main_v27_8
  rw [g_eq h hn, fresh_eq h hn, h.s, h.q, h.a, h.i, h.o]
  erw [chunk128 (fun n h => (X.at h n).q) n hn, chunk64 (fun n h => (X.at h n).a) n hn, id_eq]
  refine (put _ _ (fun h => (X.at h n).out (X.run zero h n)) n hn hn (fun z => ?_) _).trans (congrArg b4 (funext fun k => ?_))
  · idx_vars z
    pointwise
    rfl
  · by_cases hk : k = n
    · rw [if_pos hk, if_pos (by omega), hk]
    · rw [if_neg hk]
      exact if_congr (by omega) rfl rfl

theorem states_eq (h : Before X n V) (hn : n < 128) : step_main_v27_9 V
    = (b4 fun k => if k < n + 1 then fun h => X.run zero h k else zero : Vec Ideal S128x32x128x128 .f32) := by
  unfold step_main_v27_9
  rw [h.s, h.i, h.t, id_eq]
  refine (put _ _ (fun h => X.run zero h n) n hn hn (fun z => ?_) _).trans (congrArg b4 (funext fun k => ?_))
  · idx_vars z
    pointwise
    rfl
  · by_cases hk : k = n
    · rw [if_pos hk, if_pos (by omega), hk]
    · rw [if_neg hk]
      exact if_congr (by omega) rfl rfl

theorem trip (h : Before X n V) (hn : n < 128) : Before X (n + 1) (STEP V) where
  u := (STEP_main_v27_0 V).trans h.u
  w := (STEP_main_v27_1 V).trans h.w
  a := (STEP_main_v27_2 V).trans h.a
  q := (STEP_main_v27_3 V).trans h.q
  k := (STEP_main_v27_4 V).trans h.k
  g := (STEP_main_v27_5 V).trans h.g
  i := by
    rw [STEP_main_v27_6]
    unfold step_main_v27_6
    rw [h.i]
    funext _
    show BitVec.ofNat 32 n + 1#32 = _
    rw [BitVec.ofNat_add]
  s := (STEP_main_v27_7 V).trans (next_eq h hn)
  o := (STEP_main_v27_8 V).trans (out_eq h hn)
  t := (STEP_main_v27_9 V).trans (states_eq h hn)

end Cert.Reference25Ideal.Hand
-- ==== Proof.Scan.lean ====
module
public import proofs.«01_k».proof.Proof.ScanRef
public import proofs.«01_k».proof.Defs
@[expose] public section
noncomputable section
/-! The plain scan: the arrays it starts from, what it leaves, and that the launch leaves the same. -/
namespace Cert.Reference25Ideal.Hand
open Cert.Reference25Ideal Cert.Reference25Ideal.Gen Idealize.ShloMosaic Idealize.ShloMosaic.TcCoe Idealize.ShloMosaic.Tactic Idealize.SL Idealize.SL.RA Idealize.SL.BI Idealize.SL.BI.BIBase Idealize.SL.BI.Laws Idealize.SL.ProofMode Idealize.SL.Sem Idealize.ShloMosaic.StableHlo
open Idealize.ShloMosaic.Pipeline (ucRefs sub_ucRefs)
open Cert.Reference25Ideal.Value Cert.Delta Cert.Product Cert.BandAttention
open Cert.Kernel25Ideal.Hand (zero)

/-- An array by chunk, head, row and lane. -/
theorem heads128 (x : Vec Ideal S8192x4096 .f32) :
    (transpose S128x32x64x128 [0, 2, 1, 3] (shapeCast S128x64x32x128 x shapeCasts_S8192x4096_S128x64x32x128) transposes_S128x64x32x128_S128x32x64x128_0_2_1_3 : Vec Ideal S128x32x64x128 .f32)
      = b4 fun n h c d => n2 x (64 * n + c) (128 * h + d) := by
  funext y
  idx_vars y
  pointwise
  exact at2 x _ _ _ (by show y0.val * 64 + y2.val = 64 * y0.val + y2.val; omega) (by show y1.val * 128 + y3.val = 128 * y1.val + y3.val; omega)

theorem heads64 (x : Vec Ideal S8192x2048 .f32) :
    (transpose S128x32x64x64 [0, 2, 1, 3] (shapeCast S128x64x32x64 x shapeCasts_S8192x2048_S128x64x32x64) transposes_S128x64x32x64_S128x32x64x64_0_2_1_3 : Vec Ideal S128x32x64x64 .f32)
      = b4 fun n h c d => n2 x (64 * n + c) (64 * h + d) := by
  funext y
  idx_vars y
  pointwise
  exact at2 x _ _ _ (by show y0.val * 64 + y2.val = 64 * y0.val + y2.val; omega) (by show y1.val * 64 + y3.val = 64 * y1.val + y3.val; omega)

/-- Queries and keys: each head serves two value heads. -/
theorem pairs (x : Vec Ideal S8192x2048 .bf16) :
    (transpose S128x32x64x128 [0, 2, 1, 3] (shapeCast S128x64x32x128 (extf (F := Ideal) .f32 (shapeCast S8192x4096 (shapeCast S8192x32x128
      (broadcastInDim S8192x16x2x128 ![0, 1, 3] bcast_S8192x16x128_S8192x16x2x128_0_1_3 (shapeCast S8192x16x128 x shapeCasts_S8192x2048_S8192x16x128))
      shapeCasts_S8192x16x2x128_S8192x32x128) shapeCasts_S8192x32x128_S8192x4096) bitsLt_bf16_f32) shapeCasts_S8192x4096_S128x64x32x128)
      transposes_S128x64x32x128_S128x32x64x128_0_2_1_3 : Vec Ideal S128x32x64x128 .f32)
      = b4 fun n h c d => n2 x (64 * n + c) (128 * (h / 2) + d) := by
  funext y
  idx_vars y
  pointwise
  have hl : y3.val < 128 := y3.isLt
  exact at2 x _ _ _ (by show y0.val * 64 + y2.val = 64 * y0.val + y2.val; omega)
    (by show (y1.val * 128 + y3.val) / 256 * 128 + y3.val = 128 * (y1.val / 2) + y3.val; omega)

variable (m : (ℓ : Loc nD τ sig) → Buf (Elt Ideal) ℓ) (c : Dev nD)

/-- The argument arrays. -/
def args : Chunk := arrays (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))

/-- The loop starts from a state of zeros. -/
theorem entry : Before (args m c) 0 (entryContents preI m c) where
  u := by
    simp only [entryContents, afterL_cons, afterL_nil]
    after_reads_simp
    exact heads128 (m ((c.tc : Thread nD τ).loc main_arg0))
  w := by
    simp only [entryContents, afterL_cons, afterL_nil]
    after_reads_simp
    exact heads128 (m ((c.tc : Thread nD τ).loc main_arg1))
  a := by
    simp only [entryContents, afterL_cons, afterL_nil]
    after_reads_simp
    exact heads64 (m ((c.tc : Thread nD τ).loc main_arg2))
  q := by
    simp only [entryContents, afterL_cons, afterL_nil]
    after_reads_simp
    exact pairs (m ((c.tc : Thread nD τ).loc main_arg3))
  k := by
    simp only [entryContents, afterL_cons, afterL_nil]
    after_reads_simp
    exact pairs (m ((c.tc : Thread nD τ).loc main_arg4))
  g := by
    simp only [entryContents, afterL_cons, afterL_nil]
    after_reads_simp
    exact heads128 (m ((c.tc : Thread nD τ).loc main_arg5))
  i := ctr_entry m c
  s := by
    simp only [entryContents, afterL_cons, afterL_nil]
    after_reads_simp
    rw [id_eq]
    funext y
    idx_vars y
    pointwise
    rfl
  o := by
    simp only [entryContents, afterL_cons, afterL_nil]
    after_reads_simp
    rw [id_eq]
    funext y
    idx_vars y
    pointwise
    rfl
  t := by
    simp only [entryContents, afterL_cons, afterL_nil]
    after_reads_simp
    rw [id_eq]
    funext y
    idx_vars y
    pointwise
    rfl

theorem trips : ∀ n, n ≤ 128 → Before (args m c) n (STEP^[n] (entryContents preI m c))
  | 0, _ => entry m c
  | n + 1, hn => by
    rw [Function.iterate_succ_apply']
    exact trip (trips n (by omega)) (by omega)

theorem o_eq : out_main_v30 (STEP^[128] (entryContents preI m c)) = (b2 fun r d => ((args m c).at (d / 128) (r / 64)).out ((args m c).run zero (d / 128) (r / 64)) (r % 64) (d % 128) :
    Vec Ideal S8192x4096 .bf16) := by
  unfold out_main_v30
  rw [(trips m c 128 (Nat.le_refl 128)).o]
  funext y
  idx_vars y
  pointwise
  have hn : y0.val / 64 < 128 := by have := y0.isLt; omega
  show (if y0.val / 64 < 128 then fun h => ((args m c).at h (y0.val / 64)).out ((args m c).run zero h (y0.val / 64)) else zero) (y1.val / 128) (y0.val % 64) (y1.val % 128) = _
  rw [if_pos hn]
  rfl

theorem t_eq : out_main_v31 (STEP^[128] (entryContents preI m c)) = (b4 fun h n d e => (args m c).run zero h n d e : Vec Ideal S32x128x128x128 .f32) := by
  unfold out_main_v31
  rw [(trips m c 128 (Nat.le_refl 128)).t]
  funext y
  idx_vars y
  pointwise
  show (if y1.val < 128 then fun h => (args m c).run zero h y1.val else zero) y0.val y2.val y3.val = _
  rw [if_pos y1.isLt]
  rfl

theorem algebraic : algebraic_Kernel25Ideal_Reference25Ideal (hKernel25Ideal := Cert.Kernel25Ideal.Gen.facts) (hReference25Ideal := Gen.facts) := by
  intro m g m' g' _ harg
  have hX : ∀ c, args m' c = Cert.Kernel25Ideal.Hand.args m c := fun c => by
    unfold args Cert.Kernel25Ideal.Hand.args
    rw [(harg c).1, (harg c).2.1, (harg c).2.2.1, (harg c).2.2.2.1, (harg c).2.2.2.2.1, (harg c).2.2.2.2.2]
  refine ⟨fun c => Cert.Kernel25Ideal.Hand.res m c, fun c => Cert.Kernel25Ideal.Hand.resT m c,
    (θ_run Cert.Kernel25Ideal.defs _ _).mono (fun r h c => ⟨(h c).1.trans (Cert.Kernel25Ideal.Hand.res_eq m c),
      (h c).2.1.trans (Cert.Kernel25Ideal.Hand.resT_eq m c), (h c).2.2⟩) (Cert.Kernel25Ideal.Value.run m g),
    (θ_run defs _ _).mono (fun r h c => ⟨(h c).1.trans ((o_eq m' c).trans ?_), (h c).2.1.trans ((t_eq m' c).trans ?_), (h c).2.2⟩) (Cert.Reference25Ideal.Value.run (F := Ideal) m' g')⟩
  · rw [hX c]
    unfold Cert.Kernel25Ideal.Hand.res Cert.Kernel25Ideal.Hand.outVal
    rfl
  · rw [hX c]
    unfold Cert.Kernel25Ideal.Hand.resT Cert.Kernel25Ideal.Hand.stateVal
    rfl

theorem frame : quiescent_Reference25Ideal (hReference25Ideal := Gen.facts) :=
  fun m ρ _ => (θ_run defs _ _).mono (fun r h => ⟨fun c => (h c).2.2, sem_eq_zero_of_no_sems (by decide) r.2⟩) (Cert.Reference25Ideal.Value.run (F := Ideal) m ρ)

end Cert.Reference25Ideal.Hand
-- ==== Proof.DeltaBwd.lean ====
module
public import proofs.«01_k».proof.Proof.Delta
@[expose] public section
noncomputable section
/-! The gradient of the gated delta rule, chunk by chunk: what one chunk of one head makes of the gradients of its output and of its state. -/
namespace Cert.Delta
open Idealize.ShloMosaic

/-- One chunk of one head, with the state `S` it starts from, the gradient `O` of its output and the gradient `D` of the state after it. -/
structure Back extends Chunk where
  S : ℕ → ℕ → EReal
  O : ℕ → ℕ → EReal
  D : ℕ → ℕ → EReal

namespace Back
variable (C : Back)

/-- How much of row `c` is left at the end of the chunk. -/
def left (c d : ℕ) : EReal := Ideal.exp (C.g 63 d - C.g c d)
def ks (c d : ℕ) : EReal := C.k c d * C.left c d
def new (c e : ℕ) : EReal := C.fresh C.S c e
def dks (c d : ℕ) : EReal := ∑ e : Fin 128, C.D d e * C.new c e
def dk (c d : ℕ) : EReal := C.dks c d * C.left c d
/-- The part of the gate's gradient that `left` answers for. -/
def dl (c d : ℕ) : EReal := C.k c d * C.dks c d * C.left c d
def du (c e : ℕ) : EReal := (∑ d : Fin 128, C.D d e * C.ks c d) + ∑ i : Fin 64, C.O i e * C.a i c
def dw (c d : ℕ) : EReal := ∑ e : Fin 128, (0 - C.du c e) * C.S d e
def da (c j : ℕ) : EReal := ∑ e : Fin 128, C.O c e * C.new j e
def dqg (c d : ℕ) : EReal := ∑ e : Fin 128, C.O c e * C.S d e
def dq (c d : ℕ) : EReal := C.dqg c d * (Ideal.exp (C.g c d) : EReal)
/-- The gradient of the last row of the gates. -/
def last (d : ℕ) : EReal :=
  (if d < 1 then (∑ i : Fin 128, ∑ e : Fin 128, C.S i e * C.D i e) * (Ideal.exp (C.g 63 0) : EReal) else 0) + ∑ c : Fin 64, C.dl c d
def dg (c d : ℕ) : EReal := ((0 - C.dl c d) + C.q c d * C.dqg c d * (Ideal.exp (C.g c d) : EReal)) + if c < 63 then 0 else C.last d
/-- The gradient of the state before the chunk. -/
def prev (d e : ℕ) : EReal :=
  C.D d e * (Ideal.exp (C.g 63 0) : EReal)
    + ((∑ i : Fin 64, C.O i e * (C.q i d * (Ideal.exp (C.g i d) : EReal))) + ∑ i : Fin 64, (0 - C.du i e) * C.w i d)

end Back

/-- The six arrays, the states before every chunk, and the gradient of the outputs. -/
structure Saved extends Chunk where
  S : ℕ → ℕ → ℕ → ℕ → EReal
  O : ℕ → ℕ → EReal

namespace Saved
variable (X : Saved)

/-- Chunk `n` of head `h`, when the gradient of the state after it is `D`. -/
def head (D : ℕ → ℕ → EReal) (h n : ℕ) : Back where
  toChunk := X.toChunk.at h n
  S := X.S h n
  O c e := X.O (64 * n + c) (128 * h + e)
  D := D

/-- The gradient of the state of head `h` before the last `k` of `N` chunks, from that of the state after them all. -/
def run (D : ℕ → ℕ → ℕ → EReal) (N h : ℕ) : ℕ → ℕ → ℕ → EReal
  | 0 => D h
  | k + 1 => (X.head (run D N h k) h (N - 1 - k)).prev

/-- Chunk `n` of `N` of head `h`, when the gradient of the state after them all is `D`. -/
def chunk (D : ℕ → ℕ → ℕ → EReal) (N h n : ℕ) : Back := X.head (X.run D N h (N - 1 - n)) h n

/-- The block of 128 rows (two chunks) and sixteen heads at block row `i`, block column `j`. -/
def block (i j : ℕ) : Saved where
  toChunk := X.toChunk.block i j
  S h n := X.S (16 * j + h) (2 * i + n)
  O r e := X.O (128 * i + r) (2048 * j + e)

theorem block_head (D : ℕ → ℕ → EReal) (i j h n : ℕ) : (X.block i j).head D h n = X.head D (16 * j + h) (2 * i + n) := by
  have e1 : ∀ c, 128 * i + (64 * n + c) = 64 * (2 * i + n) + c := fun c => by omega
  have e2 : ∀ d, 2048 * j + (128 * h + d) = 128 * (16 * j + h) + d := fun d => by omega
  unfold head
  rw [show (X.block i j).toChunk.at h n = X.toChunk.at (16 * j + h) (2 * i + n) from Chunk.block_at ..]
  simp only [block, e1, e2]

theorem block_run (D : ℕ → ℕ → ℕ → EReal) (t j h k : ℕ) (ht : t < 64) (hk : k ≤ 2) :
    (X.block (63 - t) j).run (fun h => X.run D 128 (16 * j + h) (2 * t)) 2 h k = X.run D 128 (16 * j + h) (2 * t + k) := by
  induction k with
  | zero => rfl
  | succ k ih =>
    rw [run, ih (by omega), block_head, show 2 * (63 - t) + (2 - 1 - k) = 128 - 1 - (2 * t + k) by omega]
    rfl

theorem block_chunk (D : ℕ → ℕ → ℕ → EReal) (t j h n : ℕ) (ht : t < 64) (hn : n < 2) :
    (X.block (63 - t) j).chunk (fun h => X.run D 128 (16 * j + h) (2 * t)) 2 h n = X.chunk D 128 (16 * j + h) (2 * (63 - t) + n) := by
  unfold chunk
  rw [block_run X D t j h _ ht (by omega), block_head, show 2 * t + (2 - 1 - n) = 128 - 1 - (2 * (63 - t) + n) by omega]

end Saved

end Cert.Delta
-- ==== Proof.ScanBwd.lean ====
module
public import proofs.«01_k».proof.Proof.DeltaBwd
public import proofs.«01_k».proof.Proof.ScanOut
public import proofs.«01_k».proof.Proof.Gen.Kernel26Ideal.Value
public import proofs.«01_k».proof.Defs
@[expose] public section
noncomputable section
/-! The gradient of the recurrence of the gated delta rule: sixteen heads and two chunks at a grid point, the later chunk first. -/
namespace Cert.Kernel26Ideal.Hand
open Cert.Kernel26Ideal Cert.Kernel26Ideal.Gen Idealize.ShloMosaic Idealize.ShloMosaic.TcCoe Idealize.SL.Sem
open Cert.Delta Cert.Product
open Cert.Kernel25Ideal.Hand (ld stack stack_f32 stack_bf16 stack_attn)

section Chunk
variable (C : ℕ → Back)

theorem new_eq : k0_pay105 (F := Ideal) (b3 fun h => (C h).S) (b3 fun h => (C h).u) (b3 fun h => (C h).w) = b3 fun h => (C h).new := by
  funext y
  idx_vars y
  pointwise [k0_pay105, k0_pay104, k0_pay103]
  rfl

/-- The exponentials of the gates. -/
def expV (G : FVec Ideal S16x64x128 .f32) : FVec Ideal S16x64x128 .f32 := exp G

/-- The last row of the gates. -/
def lastV (G : FVec Ideal S16x64x128 .f32) : FVec Ideal S16x1x128 .f32 :=
  extractStridedSlice S16x1x128 ![0, 63, 0] G slices_S16x64x128_o0_63_0_S16x1x128

def leftV (G : FVec Ideal S16x64x128 .f32) : FVec Ideal S16x64x128 .f32 :=
  exp (subf (broadcastTo S16x64x128 (lastV G) broadcasts_S16x1x128_S16x64x128) G)

def endV (G : FVec Ideal S16x64x128 .f32) : FVec Ideal S16x1x1 .f32 :=
  exp (extractStridedSlice S16x1x1 ![0, 0, 0] (lastV G) slices_S16x1x128_o0_0_0_S16x1x1)

def duV (A : FVec Ideal S16x64x64 .f32) (K G O : FVec Ideal S16x64x128 .f32) (D : FVec Ideal S16x128x128 .f32) : FVec Ideal S16x64x128 .bf16 :=
  addf (truncf .bf16 (transpose S16x64x128 [0, 2, 1] (matmul dot_S16x128x128_S16x64x128_S16x128x64_1_2_2_1_0_0 none (k0_pay131 D)
      (truncf .bf16 (mulf K (leftV G)) bitsLt_bf16_f32 : FVec Ideal S16x64x128 .bf16) (constant S16x128x64 .f32 0#32)) transposes_S16x128x64_p0_2_1_S16x64x128) bitsLt_bf16_f32)
    (truncf .bf16 (transpose S16x64x128 [0, 2, 1] (matmul dot_S16x64x128_S16x64x64_S16x128x64_1_1_2_2_0_0 none O
      (truncf .bf16 A bitsLt_bf16_f32 : FVec Ideal S16x64x64 .bf16) (constant S16x128x64 .f32 0#32)) transposes_S16x128x64_p0_2_1_S16x64x128) bitsLt_bf16_f32)

def daV (O : FVec Ideal S16x64x128 .f32) (N : FVec Ideal S16x64x128 .bf16) : FVec Ideal S16x64x64 .f32 :=
  extf .f32 (truncf .bf16 (matmul dot_S16x64x128_S16x64x128_S16x64x64_2_2_1_1_0_0 none O N (constant S16x64x64 .f32 0#32)) bitsLt_bf16_f32 : FVec Ideal S16x64x64 .bf16) bitsLt_bf16_f32

def oqV (Q G O : FVec Ideal S16x64x128 .f32) : FVec Ideal S16x128x128 .f32 :=
  matmul dot_S16x64x128_S16x64x128_S16x128x128_1_1_2_2_0_0 none O (truncf .bf16 (mulf Q (expV G)) bitsLt_bf16_f32 : FVec Ideal S16x64x128 .bf16) (constant S16x128x128 .f32 0#32)

theorem exp_eq : expV (b3 fun h => (C h).g) = b3 fun h c d => Ideal.exp ((C h).g c d) := by
  funext y
  idx_vars y
  pointwise [expV]
  rfl

theorem left_eq : leftV (b3 fun h => (C h).g) = b3 fun h => (C h).left := by
  funext y
  idx_vars y
  pointwise [leftV, lastV]
  rfl

theorem end_eq : endV (b3 fun h => (C h).g) = b3 fun h _ _ => Ideal.exp ((C h).g 63 0) := by
  funext y
  idx_vars y
  pointwise [endV, lastV]
  rfl

theorem du_eq : duV (b3 fun h => (C h).a) (b3 fun h => (C h).k) (b3 fun h => (C h).g) (b3 fun h => (C h).O) (b3 fun h => (C h).D) = b3 fun h => (C h).du := by
  unfold duV
  rw [left_eq]
  funext y
  idx_vars y
  pointwise [k0_pay131]
  rfl

theorem da_eq : daV (b3 fun h => (C h).O) (b3 fun h => (C h).new) = b3 fun h => (C h).da := by
  funext y
  idx_vars y
  pointwise [daV]
  rfl

theorem prev_eq : k0_pay146 (F := Ideal) (b3 fun h => (C h).w)
    (k0_pay132 (F := Ideal) (endV (b3 fun h => (C h).g)) (b3 fun h => (C h).D)) (b3 fun h => (C h).du)
    (oqV (b3 fun h => (C h).q) (b3 fun h => (C h).g) (b3 fun h => (C h).O)) = b3 fun h => (C h).prev := by
  rw [end_eq]
  unfold oqV
  rw [exp_eq]
  funext y
  idx_vars y
  pointwise [k0_pay146, k0_pay144, k0_pay143, k0_pay132, k0_pay130]
  rfl

theorem dk_eq : k0_pay134 (F := Ideal) (b3 fun h => (C h).new) (b3 fun h => (C h).left) (b3 fun h => (C h).D) = b3 fun h => (C h).dk := by
  funext y
  idx_vars y
  pointwise [k0_pay134, k0_pay133, k0_pay131]
  rfl

theorem dl_eq : k0_pay136 (F := Ideal) (b3 fun h => (C h).k) (b3 fun h => (C h).new) (b3 fun h => (C h).left) (b3 fun h => (C h).D)
    = b3 fun h c d => 0 - (C h).dl c d := by
  funext y
  idx_vars y
  pointwise [k0_pay136, k0_pay135, k0_pay133, k0_pay131]
  rfl

theorem last_eq : k0_pay137 (F := Ideal) (b3 fun h => (C h).S) (b3 fun h => (C h).k) (b3 fun h => (C h).new) (b3 fun h => (C h).left)
    (b3 fun h _ _ => Ideal.exp ((C h).g 63 0)) (b3 fun h => (C h).D) = b3 fun h _ d => (C h).last d := by
  funext y
  idx_vars y
  pointwise [k0_pay137, k0_pay135, k0_pay133, k0_pay131, k0_pay130]
  rfl

theorem dq_eq : k0_pay142 (F := Ideal) (b3 fun h => (C h).S) (b3 fun h c d => Ideal.exp ((C h).g c d)) (b3 fun h => (C h).O) = b3 fun h => (C h).dq := by
  funext y
  idx_vars y
  pointwise [k0_pay142, k0_pay141]
  rfl

theorem dw_eq : k0_pay145 (F := Ideal) (b3 fun h => (C h).S) (b3 fun h => (C h).du) = b3 fun h => (C h).dw := by
  funext y
  idx_vars y
  pointwise [k0_pay145, k0_pay144, k0_pay143]
  rfl

theorem dg_eq : k0_pay147 (F := Ideal) (b3 fun h => (C h).q) (b3 fun h => (C h).S) (b3 fun h c d => Ideal.exp ((C h).g c d)) (b3 fun h => (C h).O)
    (b3 fun h c d => 0 - (C h).dl c d) (b3 fun h _ d => (C h).last d) = b3 fun h => (C h).dg := by
  funext y
  idx_vars y
  pointwise [k0_pay147, k0_pay141]
  rfl

/-- The nine arrays of a chunk of sixteen heads. -/
structure Arr where
  S : FVec Ideal S16x128x128 .f32
  u : FVec Ideal S16x64x128 .f32
  w : FVec Ideal S16x64x128 .f32
  a : FVec Ideal S16x64x64 .f32
  q : FVec Ideal S16x64x128 .f32
  k : FVec Ideal S16x64x128 .f32
  g : FVec Ideal S16x64x128 .f32
  O : FVec Ideal S16x64x128 .f32
  D : FVec Ideal S16x128x128 .f32

def Arr.of : Arr where
  S := b3 fun h => (C h).S
  u := b3 fun h => (C h).u
  w := b3 fun h => (C h).w
  a := b3 fun h => (C h).a
  q := b3 fun h => (C h).q
  k := b3 fun h => (C h).k
  g := b3 fun h => (C h).g
  O := b3 fun h => (C h).O
  D := b3 fun h => (C h).D

/-- What the launch makes of them. -/
def Arr.new (X : Arr) : FVec Ideal S16x64x128 .bf16 := k0_pay105 X.S X.u X.w
def Arr.dub (X : Arr) : FVec Ideal S16x64x128 .bf16 := duV X.a X.k X.g X.O X.D
def Arr.du (X : Arr) : FVec Ideal S16x64x128 .f32 := k0_pay143 X.dub
def Arr.dw (X : Arr) : FVec Ideal S16x64x128 .f32 := k0_pay145 (k0_pay103 X.S) X.dub
def Arr.da (X : Arr) : FVec Ideal S16x64x64 .f32 := daV X.O X.new
def Arr.dq (X : Arr) : FVec Ideal S16x64x128 .f32 := k0_pay142 (k0_pay103 X.S) (expV X.g) X.O
def Arr.dk (X : Arr) : FVec Ideal S16x64x128 .f32 := k0_pay134 X.new (leftV X.g) X.D
def Arr.dg (X : Arr) : FVec Ideal S16x64x128 .f32 :=
  k0_pay147 X.q (k0_pay103 X.S) (expV X.g) X.O (k0_pay136 X.k X.new (leftV X.g) X.D) (k0_pay137 X.S X.k X.new (leftV X.g) (endV X.g) X.D)
def Arr.prev (X : Arr) : FVec Ideal S16x128x128 .f32 := k0_pay146 (k0_pay104 X.w) (k0_pay132 (endV X.g) X.D) X.dub (oqV X.q X.g X.O)

theorem of_new : (Arr.of C).new = b3 fun h => (C h).new := new_eq C
theorem of_du : (Arr.of C).du = b3 fun h => (C h).du := du_eq C
theorem of_dw : (Arr.of C).dw = b3 fun h => (C h).dw := (congrArg (k0_pay145 (F := Ideal) _) (du_eq C)).trans (dw_eq C)
theorem of_da : (Arr.of C).da = b3 fun h => (C h).da := (congrArg (daV _) (new_eq C)).trans (da_eq C)
theorem of_dq : (Arr.of C).dq = b3 fun h => (C h).dq := by
  show k0_pay142 (F := Ideal) _ (expV (b3 fun h => (C h).g)) _ = _
  rw [exp_eq]
  exact dq_eq C

theorem of_dk : (Arr.of C).dk = b3 fun h => (C h).dk := by
  unfold Arr.dk
  rw [of_new]
  show k0_pay134 (F := Ideal) _ (leftV (b3 fun h => (C h).g)) _ = _
  rw [left_eq]
  exact dk_eq C

theorem of_dg : (Arr.of C).dg = b3 fun h => (C h).dg := by
  unfold Arr.dg
  rw [of_new]
  show k0_pay147 (F := Ideal) _ _ (expV (b3 fun h => (C h).g)) _ (k0_pay136 _ _ (leftV (b3 fun h => (C h).g)) _)
    (k0_pay137 _ _ _ (leftV (b3 fun h => (C h).g)) (endV (b3 fun h => (C h).g)) _) = _
  rw [exp_eq, left_eq, end_eq]
  refine Eq.trans ?_ (dg_eq C)
  rw [← dl_eq C, ← last_eq C]
  rfl

theorem of_prev : (Arr.of C).prev = b3 fun h => (C h).prev := by
  unfold Arr.prev
  rw [show (Arr.of C).dub = b3 fun h => (C h).du from du_eq C]
  exact prev_eq C

end Chunk

/-- A load of a head's state of a whole array that holds `f`. -/
theorem load4 {sig : RefSig} (r : Memref sig .tc .vmem S16x2x128x128 .f32) (h : r.IsWhole)
    (f : ℕ → ℕ → ℕ → ℕ → EReal) (o p : ℕ) (inb) (y : S1x1x128x128.Idx) :
    View.readAt (Elt Ideal) r.view (Rect.unit (s := S16x2x128x128) ![o, p, 0, 0] ![1, 1, 128, 128] inb).toLoadRect
      (h.unread (b4 f)) y = f o p (y 2).val (y 3).val := by
  refine (congrFun ((View.readAt_eq_ld ..).trans (congrArg (View.ld · _) (h.read_unread _))) _).trans ?_
  have h0 : (y 0).val = 0 := Nat.lt_one_iff.mp (y 0).isLt
  have h1 : (y 1).val = 0 := Nat.lt_one_iff.mp (y 1).isLt
  show f (o + 1 * (y 0).val) (p + 1 * (y 1).val) (0 + 1 * (y 2).val) (0 + 1 * (y 3).val) = _
  rw [h0, h1]
  simp only [Nat.one_mul, Nat.zero_add, Nat.add_zero]

/-- A head's state, as the launch loads it. -/
def sq (x : Vec Ideal S1x1x128x128 .f32) : FVec Ideal S1x128x128 .f32 :=
  shapeCast S1x128x128 (shapeCast S128x128 x shapeCasts_S1x1x128x128_S128x128) shapeCasts_S128x128_S1x128x128

theorem stackS (x : Fin 16 → Vec Ideal S1x1x128x128 .f32) :
    k0_pay32 (F := Ideal) (sq (x 0)) (sq (x 1)) (sq (x 2)) (sq (x 3)) (sq (x 4)) (sq (x 5)) (sq (x 6)) (sq (x 7)) (sq (x 8)) (sq (x 9)) (sq (x 10)) (sq (x 11)) (sq (x 12)) (sq (x 13)) (sq (x 14)) (sq (x 15))
      = fun y => x (y 0) (ValueIdx.ix4 0 0 (y 1) (y 2)) := by
  funext y
  idx_vars y
  pointwise [k0_pay32, sq]
  fin_vals y0 with hk
  all_goals simp only [hk, Nat.reduceSub, Nat.reduceLT, ↓reduceDIte]
  all_goals exact congrArg (fun w => x w _) (Fin.ext hk.symm)

/-- The load of chunk `n`'s state of head `r`. -/
def ldS (a : Memref sig .tc .vmem S16x2x128x128 .f32) (ha : a.IsWhole) (n : Fin 2) (f : ℕ → ℕ → ℕ → ℕ → EReal) (r : Fin 16) : Vec Ideal S1x1x128x128 .f32 :=
  View.readAt (Elt Ideal) a.view (Rect.unit (s := S16x2x128x128) ![r.val, n.val, 0, 0] ![1, 1, 128, 128] (fun i => by
    fin_cases i
    · show r.val + 1 ≤ 16
      omega
    · show n.val + 1 ≤ 2
      omega
    · exact Nat.le_refl 128
    · exact Nat.le_refl 128)).toLoadRect (ha.unread (b4 f))

def stk (x : Fin 16 → Vec Ideal S64x128 .f32) : FVec Ideal S16x64x128 .f32 :=
  k0_pay101 (F := Ideal) (x 0) (x 1) (x 2) (x 3) (x 4) (x 5) (x 6) (x 7) (x 8) (x 9) (x 10) (x 11) (x 12) (x 13) (x 14) (x 15)
def stkA (x : Fin 16 → Vec Ideal S64x64 .bf16) : FVec Ideal S16x64x64 .f32 :=
  Cert.Kernel25Ideal.Gen.k0_pay20 (F := Ideal) (Cert.Kernel25Ideal.Gen.k0_pay15 (x 0)) (Cert.Kernel25Ideal.Gen.k0_pay16 (x 1)) (Cert.Kernel25Ideal.Gen.k0_pay17 (x 2)) (Cert.Kernel25Ideal.Gen.k0_pay18 (x 3)) (Cert.Kernel25Ideal.Gen.k0_pay19 (x 4))
    (x 5) (x 6) (x 7) (x 8) (x 9) (x 10) (x 11) (x 12) (x 13) (x 14) (x 15)
def stkS (x : Fin 16 → Vec Ideal S1x1x128x128 .f32) : FVec Ideal S16x128x128 .f32 :=
  k0_pay32 (F := Ideal) (sq (x 0)) (sq (x 1)) (sq (x 2)) (sq (x 3)) (sq (x 4)) (sq (x 5)) (sq (x 6)) (sq (x 7)) (sq (x 8)) (sq (x 9)) (sq (x 10)) (sq (x 11)) (sq (x 12)) (sq (x 13)) (sq (x 14)) (sq (x 15))

theorem stk_f32 {sg : RefSig} {N : ℕ} (a : Memref sg .tc .vmem ⟨2, ![128, N]⟩ .f32) (ha : a.IsWhole) (n : Fin 2) (o : Fin 16 → ℕ) (ho : ∀ r, o r + 128 ≤ N)
    (f : ℕ → ℕ → EReal) (p : ℕ → ℕ) (hp : ∀ r, o r = p r.val) : stk (ld a ha n o ho f) = b3 fun h c d => f (64 * n.val + c) (p h + d) := by
  have h := stack_f32 a ha n o ho f (ld a ha n o ho f) rfl p hp
  exact h

theorem stk_bf16 {sg : RefSig} {N : ℕ} (a : Memref sg .tc .vmem ⟨2, ![128, N]⟩ .bf16) (ha : a.IsWhole) (n : Fin 2) (o : Fin 16 → ℕ) (ho : ∀ r, o r + 128 ≤ N)
    (f : ℕ → ℕ → EReal) (p : ℕ → ℕ) (hp : ∀ r, o r = p r.val) :
    stk (fun r => extf (F := Ideal) (φ := .bf16) .f32 (ld a ha n o ho f r) bitsLt_bf16_f32) = b3 fun h c d => f (64 * n.val + c) (p h + d) := by
  have h := stack_bf16 a ha n o ho f (fun r => extf (F := Ideal) (φ := .bf16) .f32 (ld a ha n o ho f r) bitsLt_bf16_f32) rfl p hp
  exact h

theorem stkA_eq {sg : RefSig} {N : ℕ} (a : Memref sg .tc .vmem ⟨2, ![128, N]⟩ .bf16) (ha : a.IsWhole) (n : Fin 2) (o : Fin 16 → ℕ) (ho : ∀ r, o r + 64 ≤ N)
    (f : ℕ → ℕ → EReal) (p : ℕ → ℕ) (hp : ∀ r, o r = p r.val) : stkA (ld a ha n o ho f) = b3 fun h c d => f (64 * n.val + c) (p h + d) :=
  stack_attn a ha n o ho f (ld a ha n o ho f) rfl p hp

theorem stkS_eq (a : Memref sig .tc .vmem S16x2x128x128 .f32) (ha : a.IsWhole) (n : Fin 2) (f : ℕ → ℕ → ℕ → ℕ → EReal) :
    stkS (ldS a ha n f) = b3 fun h => f h n.val := by
  have h := stackS (ldS a ha n f)
  refine h.trans (funext fun y => (load4 a ha f _ _ _ _).trans ?_)
  rfl

variable (c : Dev nD) (i : grid0.Coords) (arg2 : Memref sig .tc .vmem S128x2048 .f32) (harg2 : arg2.IsWhole) (arg3 : Memref sig .tc .vmem S128x2048 .bf16) (harg3 : arg3.IsWhole)
  (arg4 : Memref sig .tc .vmem S128x1024 .bf16) (harg4 : arg4.IsWhole) (arg5 : Memref sig .tc .vmem S128x1024 .bf16) (harg5 : arg5.IsWhole)
  (arg6 : Memref sig .tc .vmem S128x1024 .bf16) (harg6 : arg6.IsWhole) (arg7 : Memref sig .tc .vmem S128x2048 .f32) (harg7 : arg7.IsWhole)
  (arg8 : Memref sig .tc .vmem S16x2x128x128 .f32) (harg8 : arg8.IsWhole) (arg9 : Memref sig .tc .vmem S128x2048 .bf16) (harg9 : arg9.IsWhole)
  (arg16 : Memref sig .tc .vmem S16x128x128 .f32) (harg16 : arg16.IsWhole)
  (B : Saved) (D : ℕ → ℕ → ℕ → EReal)

/-- Chunk `n`'s arrays, as the launch loads them. -/
def arr (n : Fin 2) (D : FVec Ideal S16x128x128 .f32) : Arr where
  S := stkS (ldS arg8 harg8 n B.S)
  u := stk (ld arg2 harg2 n (fun r => 128 * r.val) (fun r => by omega) B.u)
  w := stk fun r => extf (F := Ideal) (φ := .bf16) .f32 (ld arg3 harg3 n (fun r => 128 * r.val) (fun r => by omega) B.w r) bitsLt_bf16_f32
  a := stkA (ld arg4 harg4 n (fun r => 64 * r.val) (fun r => by omega) B.a)
  q := stk fun r => extf (F := Ideal) (φ := .bf16) .f32 (ld arg5 harg5 n (fun r => 128 * (r.val / 2)) (fun r => by omega) B.q r) bitsLt_bf16_f32
  k := stk fun r => extf (F := Ideal) (φ := .bf16) .f32 (ld arg6 harg6 n (fun r => 128 * (r.val / 2)) (fun r => by omega) B.k r) bitsLt_bf16_f32
  g := stk (ld arg7 harg7 n (fun r => 128 * r.val) (fun r => by omega) B.g)
  O := stk fun r => extf (F := Ideal) (φ := .bf16) .f32 (ld arg9 harg9 n (fun r => 128 * r.val) (fun r => by omega) B.O r) bitsLt_bf16_f32
  D := D

theorem arr_eq (n : Fin 2) : arr arg2 harg2 arg3 harg3 arg4 harg4 arg5 harg5 arg6 harg6 arg7 harg7 arg8 harg8 arg9 harg9 B n (b3 D) = Arr.of fun h => B.head (D h) h n.val := by
  unfold arr
  rw [stkS_eq, stk_f32 (p := fun h => 128 * h) (hp := fun _ => rfl), stk_bf16 arg3 (p := fun h => 128 * h) (hp := fun _ => rfl),
    stkA_eq (p := fun h => 64 * h) (hp := fun _ => rfl), stk_bf16 arg5 (p := fun h => 128 * (h / 2)) (hp := fun _ => rfl),
    stk_bf16 arg6 (p := fun h => 128 * (h / 2)) (hp := fun _ => rfl), stk_f32 arg7 (p := fun h => 128 * h) (hp := fun _ => rfl),
    stk_bf16 arg9 (p := fun h => 128 * h) (hp := fun _ => rfl)]
  rfl

theorem first : (View.readAt (Elt Ideal) arg16.view (Rect.unit (s := S16x128x128) ![0, 0, 0] S16x128x128.size inb_S16x128x128_S16x128x128_0_0_0).toLoadRect (harg16.unread (b3 D)) : Vec Ideal S16x128x128 .f32) = b3 D := by
  refine (View.readAt_eq_ld ..).trans ((congrArg (View.ld · _) (harg16.read_unread _)).trans ?_)
  exact View.ld_unit_zero (S := S16x128x128) (funext fun a => by fin_cases a <;> rfl) _ _

/-- The second chunk's arrays and the first's: the first goes on from the gradient of the state that the second leaves. -/
def LD (xs : Vec Ideal S16x128x128 .f32) : Vec Ideal S16x128x128 .f32 :=
  View.readAt (Elt Ideal) arg16.view (Rect.unit (s := S16x128x128) ![0, 0, 0] S16x128x128.size inb_S16x128x128_S16x128x128_0_0_0).toLoadRect (harg16.unread xs)

theorem prevB1 (xs : Vec Ideal S16x128x128 .f32) :
    kernelRun0_B.sl.r_119 (F := Ideal) c arg3 harg3 arg4 harg4 arg5 harg5 arg6 harg6 arg7 harg7 arg9 harg9 arg16 harg16 (b2 B.w) (b2 B.a) (b2 B.q) (b2 B.k) (b2 B.g) (b2 B.O) xs
      = (arr arg2 harg2 arg3 harg3 arg4 harg4 arg5 harg5 arg6 harg6 arg7 harg7 arg8 harg8 arg9 harg9 B 1 (LD arg16 harg16 xs)).prev := rfl

end Cert.Kernel26Ideal.Hand
-- ==== Proof.ScanBwdOut.lean ====
module
public import Idealize.ShloMosaic.Lib.Pipeline.ValueKit.Tiles
public import proofs.«01_k».proof.Proof.ScanBwd
@[expose] public section
noncomputable section
/-! The gradient of the recurrence of the gated delta rule: the stores of a grid point. -/
namespace Cert.Kernel26Ideal.Hand
open Cert.Kernel26Ideal Cert.Kernel26Ideal.Gen Idealize.ShloMosaic Idealize.ShloMosaic.TcCoe Idealize.SL.Sem
open Cert.Delta Cert.Product
open Cert.Kernel25Ideal.Hand (hd zero)

/-- Head `h` of an array, as the launch stores it. -/
def slice (V : FVec Ideal S16x64x128 .f32) (h : Fin 16) : FVec Ideal S64x128 .f32 :=
  shapeCast S64x128 (extractStridedSlice S1x64x128 ![h.val, 0, 0] V ⟨rfl, fun a => by
    fin_cases a
    · show h.val + 1 ≤ 16
      omega
    · exact Nat.le_refl 64
    · exact Nat.le_refl 128⟩) shapeCasts_S1x64x128_S64x128

def sliceA (V : FVec Ideal S16x64x64 .f32) (h : Fin 16) : FVec Ideal S64x64 .bf16 :=
  truncf .bf16 (shapeCast S64x64 (extractStridedSlice S1x64x64 ![h.val, 0, 0] V ⟨rfl, fun a => by
    fin_cases a
    · show h.val + 1 ≤ 16
      omega
    · exact Nat.le_refl 64
    · exact Nat.le_refl 64⟩) shapeCasts_S1x64x64_S64x64) bitsLt_bf16_f32

theorem slice_eq (f : ℕ → ℕ → ℕ → EReal) (h : Fin 16) (x : S64x128.Idx) : slice (b3 f) h x = f h.val (x 0).val (x 1).val := by
  idx_vars x
  pointwise [slice]
  rfl

theorem sliceA_eq (f : ℕ → ℕ → ℕ → EReal) (h : Fin 16) (x : S64x64.Idx) : sliceA (b3 f) h x = f h.val (x 0).val (x 1).val := by
  idx_vars x
  pointwise [sliceA]
  rfl

/-- The thirty-two stores of an output: the first chunk's and the second's, the last head first. -/
def pieces {e : EltTy} {b N : ℕ} (hN : 16 * b = N) (V : Fin 2 → Fin 16 → Vec Ideal ⟨2, ![64, b]⟩ e) : List (View.Piece (Elt Ideal) ⟨2, ![128, N]⟩ e) :=
  List.ofFn fun k : Fin 32 => ⟨Rect.unit (s := ⟨2, ![128, N]⟩) ![64 * (k.val / 16), b * (hd k).val] ![64, b] (fun a => by
    fin_cases a
    · show 64 * (k.val / 16) + 64 ≤ 128
      omega
    · show b * (hd k).val + b ≤ N
      rw [← hN, Nat.mul_comm 16 b, ← Nat.mul_succ]
      exact Nat.mul_le_mul_left b (hd k).isLt), V ⟨k.val / 16, by omega⟩ (hd k)⟩

theorem pieces_eq {e : EltTy} {b N : ℕ} (hN : 16 * b = N) (hb : 0 < b) (V : Fin 2 → Fin 16 → Vec Ideal ⟨2, ![64, b]⟩ e) (f : ℕ → ℕ → ℕ → ℕ → Elt Ideal e)
    (hV : ∀ n h x, V n h x = f h.val n.val (x 0).val (x 1).val) :
    View.canon (pieces hN V) = fun y => f ((y 1).val / b) ((y 0).val / 64) ((y 0).val % 64) ((y 1).val % b) := by
  funext y
  have h0 : (y 0).val < 128 := (y 0).isLt
  have h1 : (y 1).val < N := (y 1).isLt
  have h2 : (y 1).val / b < 16 := (Nat.div_lt_iff_lt_mul hb).mpr (hN ▸ h1)
  have h3 : b * ((y 1).val / b) + (y 1).val % b = (y 1).val := Nat.div_add_mod _ _
  have h4 : (y 1).val % b < b := Nat.mod_lt _ hb
  obtain ⟨p, hp⟩ : ∃ p, p = (y 1).val / b := ⟨_, rfl⟩
  obtain ⟨r, hr⟩ : ∃ r, r = (y 0).val / 64 := ⟨_, rfl⟩
  rw [← hp] at h2 h3
  have hr2 : r < 2 := by omega
  have hk : 15 - p + 16 * r < 32 := by omega
  have hd1 : (15 - p + 16 * r) / 16 = r := by omega
  have hd2 : 15 - (15 - p + 16 * r) % 16 = p := by omega
  refine View.canon_ofFn_unit_eq_of_forall _ _ _ _ y _ ⟨⟨15 - p + 16 * r, hk⟩, fun a => ?_⟩ fun k x hx => ?_
  · fin_cases a
    · show 64 * ((15 - p + 16 * r) / 16) ≤ (y 0).val ∧ (y 0).val < 64 * ((15 - p + 16 * r) / 16) + 64
      rw [hd1]
      omega
    · show b * (15 - (15 - p + 16 * r) % 16) ≤ (y 1).val ∧ (y 1).val < b * (15 - (15 - p + 16 * r) % 16) + b
      rw [hd2]
      omega
  · have x0 : (x 0).val < 64 := (x 0).isLt
    have x1 : (x 1).val < b := (x 1).isLt
    have e0 : (y 0).val = 64 * (k.val / 16) + (x 0).val := hx 0
    have e1 : (y 1).val = b * (hd k).val + (x 1).val := hx 1
    have e2 : (y 0).val / 64 = k.val / 16 := by omega
    have e3 : (y 0).val % 64 = (x 0).val := by omega
    show V _ _ x = f ((y 1).val / b) ((y 0).val / 64) ((y 0).val % 64) ((y 1).val % b)
    rw [hV, e2, e3, e1, Nat.mul_add_div hb, Nat.div_eq_of_lt x1, Nat.add_zero, Nat.mul_add_mod, Nat.mod_eq_of_lt x1]

section Stores
variable (f : ℕ → ℕ → ℕ → ℕ → EReal)

theorem canon_f32 (V : Fin 2 → FVec Ideal S16x64x128 .f32) (hV : ∀ n, V n = b3 fun h => f h n.val) :
    View.canon (pieces (e := .f32) (b := 128) (N := 2048) rfl fun n h => slice (V n) h) = b2 fun r d => f (d / 128) (r / 64) (r % 64) (d % 128) :=
  pieces_eq (e := .f32) (b := 128) (N := 2048) rfl (by decide) (fun n h => slice (V n) h) f fun n h x => by rw [hV n]; exact slice_eq (fun h => f h n.val) h x

theorem canon_bf16 (V : Fin 2 → FVec Ideal S16x64x128 .f32) (hV : ∀ n, V n = b3 fun h => f h n.val) :
    View.canon (pieces (e := .bf16) (b := 128) (N := 2048) rfl fun n h => truncf (F := Ideal) .bf16 (slice (V n) h) bitsLt_bf16_f32)
      = b2 fun r d => f (d / 128) (r / 64) (r % 64) (d % 128) :=
  pieces_eq (e := .bf16) (b := 128) (N := 2048) rfl (by decide) (fun n h => truncf (F := Ideal) .bf16 (slice (V n) h) bitsLt_bf16_f32) f fun n h x => by rw [hV n]; exact slice_eq (fun h => f h n.val) h x

theorem canon_attn (V : Fin 2 → FVec Ideal S16x64x64 .f32) (hV : ∀ n, V n = b3 fun h => f h n.val) :
    View.canon (pieces (e := .bf16) (b := 64) (N := 1024) rfl fun n h => sliceA (V n) h) = b2 fun r d => f (d / 64) (r / 64) (r % 64) (d % 64) :=
  pieces_eq (e := .bf16) (b := 64) (N := 1024) rfl (by decide) (fun n h => sliceA (V n) h) f fun n h x => by rw [hV n]; exact sliceA_eq (fun h => f h n.val) h x

end Stores

variable (c : Dev nD) (i : grid0.Coords) (arg2 : Memref sig .tc .vmem S128x2048 .f32) (harg2 : arg2.IsWhole) (arg3 : Memref sig .tc .vmem S128x2048 .bf16) (harg3 : arg3.IsWhole)
  (arg4 : Memref sig .tc .vmem S128x1024 .bf16) (harg4 : arg4.IsWhole) (arg5 : Memref sig .tc .vmem S128x1024 .bf16) (harg5 : arg5.IsWhole)
  (arg6 : Memref sig .tc .vmem S128x1024 .bf16) (harg6 : arg6.IsWhole) (arg7 : Memref sig .tc .vmem S128x2048 .f32) (harg7 : arg7.IsWhole)
  (arg8 : Memref sig .tc .vmem S16x2x128x128 .f32) (harg8 : arg8.IsWhole) (arg9 : Memref sig .tc .vmem S128x2048 .bf16) (harg9 : arg9.IsWhole)
  (arg10 : Memref sig .tc .vmem S128x2048 .bf16) (harg10 : arg10.IsWhole) (arg11 : Memref sig .tc .vmem S128x2048 .bf16) (harg11 : arg11.IsWhole)
  (arg12 : Memref sig .tc .vmem S128x1024 .bf16) (harg12 : arg12.IsWhole) (arg13 : Memref sig .tc .vmem S128x2048 .f32) (harg13 : arg13.IsWhole)
  (arg14 : Memref sig .tc .vmem S128x2048 .f32) (harg14 : arg14.IsWhole) (arg15 : Memref sig .tc .vmem S128x2048 .f32) (harg15 : arg15.IsWhole)
  (arg16 : Memref sig .tc .vmem S16x128x128 .f32) (harg16 : arg16.IsWhole)
  (B : Saved) (D : ℕ → ℕ → ℕ → EReal)

/-- The gradients of the states that the block's two chunks start from. -/
def dB (xs : Vec Ideal S16x128x128 .f32) : Fin 2 → Vec Ideal S16x128x128 .f32 :=
  ![kernelRun0_B.sl.v1154 (F := Ideal) c arg3 harg3 arg4 harg4 arg5 harg5 arg6 harg6 arg7 harg7 arg9 harg9 arg16 harg16 (b2 B.w) (b2 B.a) (b2 B.q) (b2 B.k) (b2 B.g) (b2 B.O) xs, LD arg16 harg16 xs]
def dA : Fin 2 → Vec Ideal S16x128x128 .f32 :=
  ![kernelRun0_A.sl.v1154 (F := Ideal) c arg3 harg3 arg4 harg4 arg5 harg5 arg6 harg6 arg7 harg7 arg9 harg9 arg16 (b2 B.w) (b2 B.a) (b2 B.q) (b2 B.k) (b2 B.g) (b2 B.O), kernelRun0_A.sl.v380 (F := Ideal) c arg16]

def arrB (xs : Vec Ideal S16x128x128 .f32) (n : Fin 2) : Arr := arr arg2 harg2 arg3 harg3 arg4 harg4 arg5 harg5 arg6 harg6 arg7 harg7 arg8 harg8 arg9 harg9 B n (dB c arg3 harg3 arg4 harg4 arg5 harg5 arg6 harg6 arg7 harg7 arg9 harg9 arg16 harg16 B xs n)
def arrA (n : Fin 2) : Arr := arr arg2 harg2 arg3 harg3 arg4 harg4 arg5 harg5 arg6 harg6 arg7 harg7 arg8 harg8 arg9 harg9 B n (dA c arg3 harg3 arg4 harg4 arg5 harg5 arg6 harg6 arg7 harg7 arg9 harg9 arg16 B n)

include arg2 harg2 arg8 harg8 in
theorem secondB : kernelRun0_B.sl.v1154 (F := Ideal) c arg3 harg3 arg4 harg4 arg5 harg5 arg6 harg6 arg7 harg7 arg9 harg9 arg16 harg16 (b2 B.w) (b2 B.a) (b2 B.q) (b2 B.k) (b2 B.g) (b2 B.O) (b3 D) = b3 fun h => B.run D 2 h 1 := by
  unfold kernelRun0_B.sl.v1154 kernelRun0_B.sl.HS0_1
  rw [View.readCov_cons_toLoadRect, prevB1 c arg2 harg2 arg3 harg3 arg4 harg4 arg5 harg5 arg6 harg6 arg7 harg7 arg8 harg8 arg9 harg9 arg16 harg16 B,
    show LD arg16 harg16 (b3 D) = b3 D from first arg16 harg16 D, arr_eq, of_prev]
  funext y
  idx_vars y
  pointwise [k0_pay248]
  rfl

theorem firstA : kernelRun0_A.sl.v380 (F := Ideal) c arg16 = b3 zero := by
  unfold kernelRun0_A.sl.v380 kernelRun0_A.sl.HS0_1
  rw [View.readCov_cons_toLoadRect]
  funext y
  idx_vars y
  pointwise [k0_pay7]
  rfl

include arg2 harg2 arg8 harg8 in
theorem secondA : kernelRun0_A.sl.v1154 (F := Ideal) c arg3 harg3 arg4 harg4 arg5 harg5 arg6 harg6 arg7 harg7 arg9 harg9 arg16 (b2 B.w) (b2 B.a) (b2 B.q) (b2 B.k) (b2 B.g) (b2 B.O) = b3 fun h => B.run zero 2 h 1 := by
  unfold kernelRun0_A.sl.v1154 kernelRun0_A.sl.HS0_2
  rw [View.readCov_cons_toLoadRect, show kernelRun0_A.sl.r_119 (F := Ideal) c arg3 harg3 arg4 harg4 arg5 harg5 arg6 harg6 arg7 harg7 arg9 harg9 arg16 (b2 B.w) (b2 B.a) (b2 B.q) (b2 B.k) (b2 B.g) (b2 B.O)
    = (arr arg2 harg2 arg3 harg3 arg4 harg4 arg5 harg5 arg6 harg6 arg7 harg7 arg8 harg8 arg9 harg9 B 1 (kernelRun0_A.sl.v380 (F := Ideal) c arg16)).prev from rfl, firstA, arr_eq, of_prev]
  funext y
  idx_vars y
  pointwise [k0_pay248]
  rfl

theorem arrB_eq (n : Fin 2) : arrB c arg2 harg2 arg3 harg3 arg4 harg4 arg5 harg5 arg6 harg6 arg7 harg7 arg8 harg8 arg9 harg9 arg16 harg16 B (b3 D) n = Arr.of fun h => B.chunk D 2 h n.val := by
  refine Eq.trans (congrArg (arr arg2 harg2 arg3 harg3 arg4 harg4 arg5 harg5 arg6 harg6 arg7 harg7 arg8 harg8 arg9 harg9 B n) ?_) (arr_eq arg2 harg2 arg3 harg3 arg4 harg4 arg5 harg5 arg6 harg6 arg7 harg7 arg8 harg8 arg9 harg9 B (fun h => B.run D 2 h (2 - 1 - n.val)) n)
  fin_cases n
  · exact secondB c arg2 harg2 arg3 harg3 arg4 harg4 arg5 harg5 arg6 harg6 arg7 harg7 arg8 harg8 arg9 harg9 arg16 harg16 B D
  · exact first arg16 harg16 D

theorem arrA_eq (n : Fin 2) : arrA c arg2 harg2 arg3 harg3 arg4 harg4 arg5 harg5 arg6 harg6 arg7 harg7 arg8 harg8 arg9 harg9 arg16 B n = Arr.of fun h => B.chunk zero 2 h n.val := by
  refine Eq.trans (congrArg (arr arg2 harg2 arg3 harg3 arg4 harg4 arg5 harg5 arg6 harg6 arg7 harg7 arg8 harg8 arg9 harg9 B n) ?_) (arr_eq arg2 harg2 arg3 harg3 arg4 harg4 arg5 harg5 arg6 harg6 arg7 harg7 arg8 harg8 arg9 harg9 B (fun h => B.run zero 2 h (2 - 1 - n.val)) n)
  fin_cases n
  · exact secondA c arg2 harg2 arg3 harg3 arg4 harg4 arg5 harg5 arg6 harg6 arg7 harg7 arg8 harg8 arg9 harg9 arg16 B
  · exact firstA c arg16

theorem outB_8 (hc0 : ¬ cond0_0 i) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (b2 B.u) (b2 B.w) (b2 B.a) (b2 B.q) (b2 B.k) (b2 B.g) (b4 B.S) (b2 B.O) (b3 D)
      = b2 fun r d => (B.chunk D 2 (d / 128) (r / 64)).du (r % 64) (d % 128) := by
  unfold out0_B_8 kernelRun0_B
  rw [View.read_writes_junk_eq_canon]
  have h : ∀ n, (arrB c arg2 harg2 arg3 harg3 arg4 harg4 arg5 harg5 arg6 harg6 arg7 harg7 arg8 harg8 arg9 harg9 arg16 harg16 B (b3 D) n).du = b3 fun h => (B.chunk D 2 h n.val).du := fun n => by rw [arrB_eq c arg2 harg2 arg3 harg3 arg4 harg4 arg5 harg5 arg6 harg6 arg7 harg7 arg8 harg8 arg9 harg9 arg16 harg16 B D, of_du]
  refine Eq.trans (congrArg View.canon ?_) (canon_bf16 (fun h n => (B.chunk D 2 h n).du) ![kernelRun0_B.sl.r_248 (F := Ideal) c arg3 harg3 arg4 harg4 arg5 harg5 arg6 harg6 arg7 harg7 arg9 harg9 arg16 harg16 (b2 B.w) (b2 B.a) (b2 B.q) (b2 B.k) (b2 B.g) (b2 B.O) (b3 D),
    kernelRun0_B.sl.r_117 (F := Ideal) c arg4 harg4 arg6 harg6 arg7 harg7 arg9 harg9 arg16 harg16 (b2 B.a) (b2 B.k) (b2 B.g) (b2 B.O) (b3 D)] fun n => ?_)
  · rfl
  · fin_cases n
    · exact h 0
    · exact h 1

theorem outB_9 (hc0 : ¬ cond0_0 i) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (b2 B.u) (b2 B.w) (b2 B.a) (b2 B.q) (b2 B.k) (b2 B.g) (b4 B.S) (b2 B.O) (b3 D)
      = b2 fun r d => (B.chunk D 2 (d / 128) (r / 64)).dw (r % 64) (d % 128) := by
  unfold out0_B_9 kernelRun0_B
  rw [View.read_writes_junk_eq_canon]
  have h : ∀ n, (arrB c arg2 harg2 arg3 harg3 arg4 harg4 arg5 harg5 arg6 harg6 arg7 harg7 arg8 harg8 arg9 harg9 arg16 harg16 B (b3 D) n).dw = b3 fun h => (B.chunk D 2 h n.val).dw := fun n => by rw [arrB_eq c arg2 harg2 arg3 harg3 arg4 harg4 arg5 harg5 arg6 harg6 arg7 harg7 arg8 harg8 arg9 harg9 arg16 harg16 B D, of_dw]
  refine Eq.trans (congrArg View.canon ?_) (canon_bf16 (fun h n => (B.chunk D 2 h n).dw) ![kernelRun0_B.sl.r_249 (F := Ideal) c arg3 harg3 arg4 harg4 arg5 harg5 arg6 harg6 arg7 harg7 arg8 harg8 arg9 harg9 arg16 harg16 (b2 B.w) (b2 B.a) (b2 B.q) (b2 B.k) (b2 B.g) (b4 B.S) (b2 B.O) (b3 D),
    kernelRun0_B.sl.r_118 (F := Ideal) c arg4 harg4 arg6 harg6 arg7 harg7 arg8 harg8 arg9 harg9 arg16 harg16 (b2 B.a) (b2 B.k) (b2 B.g) (b4 B.S) (b2 B.O) (b3 D)] fun n => ?_)
  · rfl
  · fin_cases n
    · exact h 0
    · exact h 1

theorem outB_10 (hc0 : ¬ cond0_0 i) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (b2 B.u) (b2 B.w) (b2 B.a) (b2 B.q) (b2 B.k) (b2 B.g) (b4 B.S) (b2 B.O) (b3 D)
      = b2 fun r d => (B.chunk D 2 (d / 64) (r / 64)).da (r % 64) (d % 64) := by
  unfold out0_B_10 kernelRun0_B
  rw [View.read_writes_junk_eq_canon]
  have h : ∀ n, (arrB c arg2 harg2 arg3 harg3 arg4 harg4 arg5 harg5 arg6 harg6 arg7 harg7 arg8 harg8 arg9 harg9 arg16 harg16 B (b3 D) n).da = b3 fun h => (B.chunk D 2 h n.val).da := fun n => by rw [arrB_eq c arg2 harg2 arg3 harg3 arg4 harg4 arg5 harg5 arg6 harg6 arg7 harg7 arg8 harg8 arg9 harg9 arg16 harg16 B D, of_da]
  refine Eq.trans (congrArg View.canon ?_) (canon_attn (fun h n => (B.chunk D 2 h n).da) ![kernelRun0_B.sl.r_244 (F := Ideal) c arg2 harg2 arg3 harg3 arg8 harg8 arg9 harg9 (b2 B.u) (b2 B.w) (b4 B.S) (b2 B.O),
    kernelRun0_B.sl.r_114 (F := Ideal) c arg2 harg2 arg3 harg3 arg8 harg8 arg9 harg9 (b2 B.u) (b2 B.w) (b4 B.S) (b2 B.O)] fun n => ?_)
  · rfl
  · fin_cases n
    · exact h 0
    · exact h 1

theorem outB_11 (hc0 : ¬ cond0_0 i) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (b2 B.u) (b2 B.w) (b2 B.a) (b2 B.q) (b2 B.k) (b2 B.g) (b4 B.S) (b2 B.O) (b3 D)
      = b2 fun r d => (B.chunk D 2 (d / 128) (r / 64)).dq (r % 64) (d % 128) := by
  unfold out0_B_11 kernelRun0_B
  rw [View.read_writes_junk_eq_canon]
  have h : ∀ n, (arrB c arg2 harg2 arg3 harg3 arg4 harg4 arg5 harg5 arg6 harg6 arg7 harg7 arg8 harg8 arg9 harg9 arg16 harg16 B (b3 D) n).dq = b3 fun h => (B.chunk D 2 h n.val).dq := fun n => by rw [arrB_eq c arg2 harg2 arg3 harg3 arg4 harg4 arg5 harg5 arg6 harg6 arg7 harg7 arg8 harg8 arg9 harg9 arg16 harg16 B D, of_dq]
  refine Eq.trans (congrArg View.canon ?_) (canon_f32 (fun h n => (B.chunk D 2 h n).dq) ![kernelRun0_B.sl.r_247 (F := Ideal) c arg7 harg7 arg8 harg8 arg9 harg9 (b2 B.g) (b4 B.S) (b2 B.O),
    kernelRun0_B.sl.r_116 (F := Ideal) c arg7 harg7 arg8 harg8 arg9 harg9 (b2 B.g) (b4 B.S) (b2 B.O)] fun n => ?_)
  · rfl
  · fin_cases n
    · exact h 0
    · exact h 1

theorem outB_12 (hc0 : ¬ cond0_0 i) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (b2 B.u) (b2 B.w) (b2 B.a) (b2 B.q) (b2 B.k) (b2 B.g) (b4 B.S) (b2 B.O) (b3 D)
      = b2 fun r d => (B.chunk D 2 (d / 128) (r / 64)).dk (r % 64) (d % 128) := by
  unfold out0_B_12 kernelRun0_B
  rw [View.read_writes_junk_eq_canon]
  have h : ∀ n, (arrB c arg2 harg2 arg3 harg3 arg4 harg4 arg5 harg5 arg6 harg6 arg7 harg7 arg8 harg8 arg9 harg9 arg16 harg16 B (b3 D) n).dk = b3 fun h => (B.chunk D 2 h n.val).dk := fun n => by rw [arrB_eq c arg2 harg2 arg3 harg3 arg4 harg4 arg5 harg5 arg6 harg6 arg7 harg7 arg8 harg8 arg9 harg9 arg16 harg16 B D, of_dk]
  refine Eq.trans (congrArg View.canon ?_) (canon_f32 (fun h n => (B.chunk D 2 h n).dk) ![kernelRun0_B.sl.r_240 (F := Ideal) c arg2 harg2 arg3 harg3 arg4 harg4 arg5 harg5 arg6 harg6 arg7 harg7 arg8 harg8 arg9 harg9 arg16 harg16 (b2 B.u) (b2 B.w) (b2 B.a) (b2 B.q) (b2 B.k) (b2 B.g) (b4 B.S) (b2 B.O) (b3 D),
    kernelRun0_B.sl.r_110 (F := Ideal) c arg2 harg2 arg3 harg3 arg7 harg7 arg8 harg8 arg16 harg16 (b2 B.u) (b2 B.w) (b2 B.g) (b4 B.S) (b3 D)] fun n => ?_)
  · rfl
  · fin_cases n
    · exact h 0
    · exact h 1

theorem outB_13 (hc0 : ¬ cond0_0 i) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (b2 B.u) (b2 B.w) (b2 B.a) (b2 B.q) (b2 B.k) (b2 B.g) (b4 B.S) (b2 B.O) (b3 D)
      = b2 fun r d => (B.chunk D 2 (d / 128) (r / 64)).dg (r % 64) (d % 128) := by
  unfold out0_B_13 kernelRun0_B
  rw [View.read_writes_junk_eq_canon]
  have h : ∀ n, (arrB c arg2 harg2 arg3 harg3 arg4 harg4 arg5 harg5 arg6 harg6 arg7 harg7 arg8 harg8 arg9 harg9 arg16 harg16 B (b3 D) n).dg = b3 fun h => (B.chunk D 2 h n.val).dg := fun n => by rw [arrB_eq c arg2 harg2 arg3 harg3 arg4 harg4 arg5 harg5 arg6 harg6 arg7 harg7 arg8 harg8 arg9 harg9 arg16 harg16 B D, of_dg]
  refine Eq.trans (congrArg View.canon ?_) (canon_f32 (fun h n => (B.chunk D 2 h n).dg) ![kernelRun0_B.sl.r_251 (F := Ideal) c arg2 harg2 arg3 harg3 arg4 harg4 arg5 harg5 arg6 harg6 arg7 harg7 arg8 harg8 arg9 harg9 arg16 harg16 (b2 B.u) (b2 B.w) (b2 B.a) (b2 B.q) (b2 B.k) (b2 B.g) (b4 B.S) (b2 B.O) (b3 D),
    kernelRun0_B.sl.r_120 (F := Ideal) c arg2 harg2 arg3 harg3 arg5 harg5 arg6 harg6 arg7 harg7 arg8 harg8 arg9 harg9 arg16 harg16 (b2 B.u) (b2 B.w) (b2 B.q) (b2 B.k) (b2 B.g) (b4 B.S) (b2 B.O) (b3 D)] fun n => ?_)
  · rfl
  · fin_cases n
    · exact h 0
    · exact h 1

theorem outA_8 (hc0 : cond0_0 i) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (b2 B.u) (b2 B.w) (b2 B.a) (b2 B.q) (b2 B.k) (b2 B.g) (b4 B.S) (b2 B.O)
      = b2 fun r d => (B.chunk zero 2 (d / 128) (r / 64)).du (r % 64) (d % 128) := by
  unfold out0_A_8 kernelRun0_A
  rw [View.read_writes_junk_eq_canon]
  have h : ∀ n, (arrA c arg2 harg2 arg3 harg3 arg4 harg4 arg5 harg5 arg6 harg6 arg7 harg7 arg8 harg8 arg9 harg9 arg16 B n).du = b3 fun h => (B.chunk zero 2 h n.val).du := fun n => by rw [arrA_eq c arg2 harg2 arg3 harg3 arg4 harg4 arg5 harg5 arg6 harg6 arg7 harg7 arg8 harg8 arg9 harg9 arg16 B, of_du]
  refine Eq.trans (congrArg View.canon ?_) (canon_bf16 (fun h n => (B.chunk zero 2 h n).du) ![kernelRun0_A.sl.r_248 (F := Ideal) c arg3 harg3 arg4 harg4 arg5 harg5 arg6 harg6 arg7 harg7 arg9 harg9 arg16 (b2 B.w) (b2 B.a) (b2 B.q) (b2 B.k) (b2 B.g) (b2 B.O),
    kernelRun0_A.sl.r_117 (F := Ideal) c arg4 harg4 arg6 harg6 arg7 harg7 arg9 harg9 arg16 (b2 B.a) (b2 B.k) (b2 B.g) (b2 B.O)] fun n => ?_)
  · rfl
  · fin_cases n
    · exact h 0
    · exact h 1

theorem outA_9 (hc0 : cond0_0 i) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (b2 B.u) (b2 B.w) (b2 B.a) (b2 B.q) (b2 B.k) (b2 B.g) (b4 B.S) (b2 B.O)
      = b2 fun r d => (B.chunk zero 2 (d / 128) (r / 64)).dw (r % 64) (d % 128) := by
  unfold out0_A_9 kernelRun0_A
  rw [View.read_writes_junk_eq_canon]
  have h : ∀ n, (arrA c arg2 harg2 arg3 harg3 arg4 harg4 arg5 harg5 arg6 harg6 arg7 harg7 arg8 harg8 arg9 harg9 arg16 B n).dw = b3 fun h => (B.chunk zero 2 h n.val).dw := fun n => by rw [arrA_eq c arg2 harg2 arg3 harg3 arg4 harg4 arg5 harg5 arg6 harg6 arg7 harg7 arg8 harg8 arg9 harg9 arg16 B, of_dw]
  refine Eq.trans (congrArg View.canon ?_) (canon_bf16 (fun h n => (B.chunk zero 2 h n).dw) ![kernelRun0_A.sl.r_249 (F := Ideal) c arg3 harg3 arg4 harg4 arg5 harg5 arg6 harg6 arg7 harg7 arg8 harg8 arg9 harg9 arg16 (b2 B.w) (b2 B.a) (b2 B.q) (b2 B.k) (b2 B.g) (b4 B.S) (b2 B.O),
    kernelRun0_A.sl.r_118 (F := Ideal) c arg4 harg4 arg6 harg6 arg7 harg7 arg8 harg8 arg9 harg9 arg16 (b2 B.a) (b2 B.k) (b2 B.g) (b4 B.S) (b2 B.O)] fun n => ?_)
  · rfl
  · fin_cases n
    · exact h 0
    · exact h 1

theorem outA_10 (hc0 : cond0_0 i) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (b2 B.u) (b2 B.w) (b2 B.a) (b2 B.q) (b2 B.k) (b2 B.g) (b4 B.S) (b2 B.O)
      = b2 fun r d => (B.chunk zero 2 (d / 64) (r / 64)).da (r % 64) (d % 64) := by
  unfold out0_A_10 kernelRun0_A
  rw [View.read_writes_junk_eq_canon]
  have h : ∀ n, (arrA c arg2 harg2 arg3 harg3 arg4 harg4 arg5 harg5 arg6 harg6 arg7 harg7 arg8 harg8 arg9 harg9 arg16 B n).da = b3 fun h => (B.chunk zero 2 h n.val).da := fun n => by rw [arrA_eq c arg2 harg2 arg3 harg3 arg4 harg4 arg5 harg5 arg6 harg6 arg7 harg7 arg8 harg8 arg9 harg9 arg16 B, of_da]
  refine Eq.trans (congrArg View.canon ?_) (canon_attn (fun h n => (B.chunk zero 2 h n).da) ![kernelRun0_A.sl.r_244 (F := Ideal) c arg2 harg2 arg3 harg3 arg8 harg8 arg9 harg9 (b2 B.u) (b2 B.w) (b4 B.S) (b2 B.O),
    kernelRun0_A.sl.r_114 (F := Ideal) c arg2 harg2 arg3 harg3 arg8 harg8 arg9 harg9 (b2 B.u) (b2 B.w) (b4 B.S) (b2 B.O)] fun n => ?_)
  · rfl
  · fin_cases n
    · exact h 0
    · exact h 1

theorem outA_11 (hc0 : cond0_0 i) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (b2 B.u) (b2 B.w) (b2 B.a) (b2 B.q) (b2 B.k) (b2 B.g) (b4 B.S) (b2 B.O)
      = b2 fun r d => (B.chunk zero 2 (d / 128) (r / 64)).dq (r % 64) (d % 128) := by
  unfold out0_A_11 kernelRun0_A
  rw [View.read_writes_junk_eq_canon]
  have h : ∀ n, (arrA c arg2 harg2 arg3 harg3 arg4 harg4 arg5 harg5 arg6 harg6 arg7 harg7 arg8 harg8 arg9 harg9 arg16 B n).dq = b3 fun h => (B.chunk zero 2 h n.val).dq := fun n => by rw [arrA_eq c arg2 harg2 arg3 harg3 arg4 harg4 arg5 harg5 arg6 harg6 arg7 harg7 arg8 harg8 arg9 harg9 arg16 B, of_dq]
  refine Eq.trans (congrArg View.canon ?_) (canon_f32 (fun h n => (B.chunk zero 2 h n).dq) ![kernelRun0_A.sl.r_247 (F := Ideal) c arg7 harg7 arg8 harg8 arg9 harg9 (b2 B.g) (b4 B.S) (b2 B.O),
    kernelRun0_A.sl.r_116 (F := Ideal) c arg7 harg7 arg8 harg8 arg9 harg9 (b2 B.g) (b4 B.S) (b2 B.O)] fun n => ?_)
  · rfl
  · fin_cases n
    · exact h 0
    · exact h 1

theorem outA_12 (hc0 : cond0_0 i) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (b2 B.u) (b2 B.w) (b2 B.a) (b2 B.q) (b2 B.k) (b2 B.g) (b4 B.S) (b2 B.O)
      = b2 fun r d => (B.chunk zero 2 (d / 128) (r / 64)).dk (r % 64) (d % 128) := by
  unfold out0_A_12 kernelRun0_A
  rw [View.read_writes_junk_eq_canon]
  have h : ∀ n, (arrA c arg2 harg2 arg3 harg3 arg4 harg4 arg5 harg5 arg6 harg6 arg7 harg7 arg8 harg8 arg9 harg9 arg16 B n).dk = b3 fun h => (B.chunk zero 2 h n.val).dk := fun n => by rw [arrA_eq c arg2 harg2 arg3 harg3 arg4 harg4 arg5 harg5 arg6 harg6 arg7 harg7 arg8 harg8 arg9 harg9 arg16 B, of_dk]
  refine Eq.trans (congrArg View.canon ?_) (canon_f32 (fun h n => (B.chunk zero 2 h n).dk) ![kernelRun0_A.sl.r_240 (F := Ideal) c arg2 harg2 arg3 harg3 arg4 harg4 arg5 harg5 arg6 harg6 arg7 harg7 arg8 harg8 arg9 harg9 arg16 (b2 B.u) (b2 B.w) (b2 B.a) (b2 B.q) (b2 B.k) (b2 B.g) (b4 B.S) (b2 B.O),
    kernelRun0_A.sl.r_110 (F := Ideal) c arg2 harg2 arg3 harg3 arg7 harg7 arg8 harg8 arg16 (b2 B.u) (b2 B.w) (b2 B.g) (b4 B.S)] fun n => ?_)
  · rfl
  · fin_cases n
    · exact h 0
    · exact h 1

theorem outA_13 (hc0 : cond0_0 i) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (b2 B.u) (b2 B.w) (b2 B.a) (b2 B.q) (b2 B.k) (b2 B.g) (b4 B.S) (b2 B.O)
      = b2 fun r d => (B.chunk zero 2 (d / 128) (r / 64)).dg (r % 64) (d % 128) := by
  unfold out0_A_13 kernelRun0_A
  rw [View.read_writes_junk_eq_canon]
  have h : ∀ n, (arrA c arg2 harg2 arg3 harg3 arg4 harg4 arg5 harg5 arg6 harg6 arg7 harg7 arg8 harg8 arg9 harg9 arg16 B n).dg = b3 fun h => (B.chunk zero 2 h n.val).dg := fun n => by rw [arrA_eq c arg2 harg2 arg3 harg3 arg4 harg4 arg5 harg5 arg6 harg6 arg7 harg7 arg8 harg8 arg9 harg9 arg16 B, of_dg]
  refine Eq.trans (congrArg View.canon ?_) (canon_f32 (fun h n => (B.chunk zero 2 h n).dg) ![kernelRun0_A.sl.r_251 (F := Ideal) c arg2 harg2 arg3 harg3 arg4 harg4 arg5 harg5 arg6 harg6 arg7 harg7 arg8 harg8 arg9 harg9 arg16 (b2 B.u) (b2 B.w) (b2 B.a) (b2 B.q) (b2 B.k) (b2 B.g) (b4 B.S) (b2 B.O),
    kernelRun0_A.sl.r_120 (F := Ideal) c arg2 harg2 arg3 harg3 arg5 harg5 arg6 harg6 arg7 harg7 arg8 harg8 arg9 harg9 arg16 (b2 B.u) (b2 B.w) (b2 B.q) (b2 B.k) (b2 B.g) (b4 B.S) (b2 B.O)] fun n => ?_)
  · rfl
  · fin_cases n
    · exact h 0
    · exact h 1

theorem soutB (hc0 : ¬ cond0_0 i) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (b2 B.u) (b2 B.w) (b2 B.a) (b2 B.q) (b2 B.k) (b2 B.g) (b4 B.S) (b2 B.O) (b3 D) = b3 fun h => B.run D 2 h 2 := by
  have h : (arrB c arg2 harg2 arg3 harg3 arg4 harg4 arg5 harg5 arg6 harg6 arg7 harg7 arg8 harg8 arg9 harg9 arg16 harg16 B (b3 D) 0).prev = b3 fun h => (B.chunk D 2 h 0).prev := by rw [arrB_eq c arg2 harg2 arg3 harg3 arg4 harg4 arg5 harg5 arg6 harg6 arg7 harg7 arg8 harg8 arg9 harg9 arg16 harg16 B D, of_prev]; rfl
  have e : k0_pay6 (F := Ideal) (arrB c arg2 harg2 arg3 harg3 arg4 harg4 arg5 harg5 arg6 harg6 arg7 harg7 arg8 harg8 arg9 harg9 arg16 harg16 B (b3 D) 0).prev = b3 fun h => B.run D 2 h 2 := by
    rw [h]
    funext y
    idx_vars y
    pointwise [k0_pay6]
    rfl
  unfold sout0_B_0 kernelRun0_B
  exact Eq.trans (Cert.Kernel25Ideal.Hand.whole _ _ _ _) e

theorem soutA (hc0 : cond0_0 i) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (b2 B.u) (b2 B.w) (b2 B.a) (b2 B.q) (b2 B.k) (b2 B.g) (b4 B.S) (b2 B.O) = b3 fun h => B.run zero 2 h 2 := by
  have h : (arrA c arg2 harg2 arg3 harg3 arg4 harg4 arg5 harg5 arg6 harg6 arg7 harg7 arg8 harg8 arg9 harg9 arg16 B 0).prev = b3 fun h => (B.chunk zero 2 h 0).prev := by rw [arrA_eq c arg2 harg2 arg3 harg3 arg4 harg4 arg5 harg5 arg6 harg6 arg7 harg7 arg8 harg8 arg9 harg9 arg16 B, of_prev]; rfl
  have e : k0_pay6 (F := Ideal) (arrA c arg2 harg2 arg3 harg3 arg4 harg4 arg5 harg5 arg6 harg6 arg7 harg7 arg8 harg8 arg9 harg9 arg16 B 0).prev = b3 fun h => B.run zero 2 h 2 := by
    rw [h]
    funext y
    idx_vars y
    pointwise [k0_pay6]
    rfl
  unfold sout0_A_0 kernelRun0_A
  exact Eq.trans (Cert.Kernel25Ideal.Hand.whole _ _ _ _) e

end Cert.Kernel26Ideal.Hand
-- ==== Proof.ScanBwdRun.lean ====
module
public import proofs.«01_k».proof.Proof.ScanBwdOut
public import proofs.«01_k».proof.Proof.ScanRun
public import proofs.«01_k».proof.Proof.Gen.Kernel26Ideal.Value
@[expose] public section
noncomputable section
/-! The gradient of the recurrence: what the launch leaves. -/
namespace Cert.Delta
open Idealize.ShloMosaic Cert.BandAttention

/-- A box of four axes read at natural coordinates (zero outside). -/
def n4 {a b c d : ℕ} (x : (⟨4, ![a, b, c, d]⟩ : Shape).Idx → EReal) (i j k l : ℕ) : EReal :=
  if h : i < a ∧ j < b ∧ k < c ∧ l < d then x (ValueIdx.ix4 ⟨i, h.1⟩ ⟨j, h.2.1⟩ ⟨k, h.2.2.1⟩ ⟨l, h.2.2.2⟩) else 0

theorem n4_ix {a b c d : ℕ} (x : (⟨4, ![a, b, c, d]⟩ : Shape).Idx → EReal) (i : Fin a) (j : Fin b) (k : Fin c) (l : Fin d) :
    x (ValueIdx.ix4 i j k l) = n4 x i j k l := by simp [n4]

theorem at4 {a b c d : ℕ} (x : (⟨4, ![a, b, c, d]⟩ : Shape).Idx → EReal) (y : (⟨4, ![a, b, c, d]⟩ : Shape).Idx) (i j k l : ℕ)
    (h0 : (y 0).val = i) (h1 : (y 1).val = j) (h2 : (y 2).val = k) (h3 : (y 3).val = l) : x y = n4 x i j k l := by
  subst h0 h1 h2 h3
  conv_lhs => rw [ValueIdx.eq_ix4 y]
  exact n4_ix x (y 0) (y 1) (y 2) (y 3)

/-- A block of a matrix, its rows from `a * i` and its columns from `b * j`. -/
theorem blockOf {a b M N : ℕ} (x : (⟨2, ![M, N]⟩ : Shape).Idx → EReal) (v : (⟨2, ![a, b]⟩ : Shape).Idx → EReal)
    {e : (⟨2, ![a, b]⟩ : Shape).Idx → (⟨2, ![M, N]⟩ : Shape).Idx} (hv : ∀ y, v y = x (e y)) {i' j' i j : ℕ}
    (h0 : ∀ y, (e y 0).val = i' * a + 1 * (y 0).val) (h1 : ∀ y, (e y 1).val = j' * b + 1 * (y 1).val) (hi : i' = i) (hj : j' = j) :
    v = b2 fun r d => n2 x (a * i + r) (b * j + d) := by
  funext y
  rw [hv]
  exact Cert.Product.at2 x _ _ _ (by rw [h0, hi, Nat.mul_comm, Nat.one_mul]) (by rw [h1, hj, Nat.mul_comm, Nat.one_mul])

theorem b2_congr {a b : ℕ} {f g : ℕ → ℕ → EReal} (h : ∀ r d, r < a → d < b → f r d = g r d) :
    (b2 f : (⟨2, ![a, b]⟩ : Shape).Idx → EReal) = b2 g := funext fun y => h _ _ (y 0).isLt (y 1).isLt

/-- The eight arrays. -/
def saved (u w : (⟨2, ![8192, 4096]⟩ : Shape).Idx → EReal) (a q k : (⟨2, ![8192, 2048]⟩ : Shape).Idx → EReal) (g : (⟨2, ![8192, 4096]⟩ : Shape).Idx → EReal)
    (S : (⟨4, ![32, 128, 128, 128]⟩ : Shape).Idx → EReal) (O : (⟨2, ![8192, 4096]⟩ : Shape).Idx → EReal) : Saved where
  toChunk := arrays u w a q k g
  S := n4 S
  O := n2 O

end Cert.Delta

namespace Cert.Kernel26Ideal.Hand
open Cert.Kernel26Ideal Cert.Kernel26Ideal.Gen Cert.Kernel26Ideal.Value Idealize.ShloMosaic Idealize.ShloMosaic.TcCoe Idealize.SL.Sem
open Cert.Delta Cert.Product Cert.BandAttention
open Cert.Kernel25Ideal.Hand (zero)

variable (m : (ℓ : Loc nD τ sig) → Buf (Elt Ideal) ℓ) (c : Dev nD)

/-- The argument arrays. -/
def args : Saved := saved (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7))

/-- Where the windows lie: the chunks from the last to the first. -/
def At (t : Fin cfg0.N) : Prop := (win0_0.index t 0 = 63 - t.val % 64 ∧ win0_0.index t 1 = t.val / 64)
  ∧ (win0_1.index t 0 = 63 - t.val % 64 ∧ win0_1.index t 1 = t.val / 64)
  ∧ (win0_2.index t 0 = 63 - t.val % 64 ∧ win0_2.index t 1 = t.val / 64)
  ∧ (win0_3.index t 0 = 63 - t.val % 64 ∧ win0_3.index t 1 = t.val / 64)
  ∧ (win0_4.index t 0 = 63 - t.val % 64 ∧ win0_4.index t 1 = t.val / 64)
  ∧ (win0_5.index t 0 = 63 - t.val % 64 ∧ win0_5.index t 1 = t.val / 64)
  ∧ (win0_7.index t 0 = 63 - t.val % 64 ∧ win0_7.index t 1 = t.val / 64)
  ∧ (win0_8.index t 0 = 63 - t.val % 64 ∧ win0_8.index t 1 = t.val / 64)
  ∧ (win0_9.index t 0 = 63 - t.val % 64 ∧ win0_9.index t 1 = t.val / 64)
  ∧ (win0_10.index t 0 = 63 - t.val % 64 ∧ win0_10.index t 1 = t.val / 64)
  ∧ (win0_11.index t 0 = 63 - t.val % 64 ∧ win0_11.index t 1 = t.val / 64)
  ∧ (win0_12.index t 0 = 63 - t.val % 64 ∧ win0_12.index t 1 = t.val / 64)
  ∧ (win0_13.index t 0 = 63 - t.val % 64 ∧ win0_13.index t 1 = t.val / 64)
  ∧ win0_6.index t 0 = t.val / 64 ∧ win0_6.index t 1 = 63 - t.val % 64 ∧ win0_6.index t 2 = 0 ∧ win0_6.index t 3 = 0
theorem ix (t : Fin cfg0.N) : At t := (by unfold At; decide +kernel : ∀ t : Fin grid0.N, At t) t

theorem iblk0 (t : Fin cfg0.N) : iblk m c 0 t = b2 ((args m c).block (63 - t.val % 64) (t.val / 64)).u :=
  blockOf (m ((c : Thread nD τ).loc main_arg0)) (iblk m c 0 t) (fun _ => rfl) (fun _ => rfl) (fun _ => rfl) (ix t).1.1 (ix t).1.2

theorem iblk1 (t : Fin cfg0.N) : iblk m c 1 t = b2 ((args m c).block (63 - t.val % 64) (t.val / 64)).w :=
  blockOf (m ((c : Thread nD τ).loc main_arg1)) (iblk m c 1 t) (fun _ => rfl) (fun _ => rfl) (fun _ => rfl) (ix t).2.1.1 (ix t).2.1.2

theorem iblk2 (t : Fin cfg0.N) : iblk m c 2 t = b2 ((args m c).block (63 - t.val % 64) (t.val / 64)).a :=
  blockOf (m ((c : Thread nD τ).loc main_arg2)) (iblk m c 2 t) (fun _ => rfl) (fun _ => rfl) (fun _ => rfl) (ix t).2.2.1.1 (ix t).2.2.1.2

theorem iblk3 (t : Fin cfg0.N) : iblk m c 3 t = b2 ((args m c).block (63 - t.val % 64) (t.val / 64)).q :=
  blockOf (m ((c : Thread nD τ).loc main_arg3)) (iblk m c 3 t) (fun _ => rfl) (fun _ => rfl) (fun _ => rfl) (ix t).2.2.2.1.1 (ix t).2.2.2.1.2

theorem iblk4 (t : Fin cfg0.N) : iblk m c 4 t = b2 ((args m c).block (63 - t.val % 64) (t.val / 64)).k :=
  blockOf (m ((c : Thread nD τ).loc main_arg4)) (iblk m c 4 t) (fun _ => rfl) (fun _ => rfl) (fun _ => rfl) (ix t).2.2.2.2.1.1 (ix t).2.2.2.2.1.2

theorem iblk5 (t : Fin cfg0.N) : iblk m c 5 t = b2 ((args m c).block (63 - t.val % 64) (t.val / 64)).g :=
  blockOf (m ((c : Thread nD τ).loc main_arg5)) (iblk m c 5 t) (fun _ => rfl) (fun _ => rfl) (fun _ => rfl) (ix t).2.2.2.2.2.1.1 (ix t).2.2.2.2.2.1.2

theorem iblk7 (t : Fin cfg0.N) : iblk m c 7 t = b2 ((args m c).block (63 - t.val % 64) (t.val / 64)).O :=
  blockOf (m ((c : Thread nD τ).loc main_arg7)) (iblk m c 7 t) (fun _ => rfl) (fun _ => rfl) (fun _ => rfl) (ix t).2.2.2.2.2.2.1.1 (ix t).2.2.2.2.2.2.1.2

theorem iblk6 (t : Fin cfg0.N) : iblk m c 6 t = b4 ((args m c).block (63 - t.val % 64) (t.val / 64)).S := by
  funext y
  unfold iblk
  rw [View.read_apply]
  refine at4 (m ((c : Thread nD τ).loc main_arg6)) _ _ _ _ _ ?_ ?_ ?_ ?_
  · show win0_6.index t 0 * 16 + 1 * (y 0).val = _
    rw [(ix t).2.2.2.2.2.2.2.2.2.2.2.2.2.1]; omega
  · show win0_6.index t 1 * 2 + 1 * (y 1).val = _
    rw [(ix t).2.2.2.2.2.2.2.2.2.2.2.2.2.2.1]; omega
  · show win0_6.index t 2 * 128 + 1 * (y 2).val = _
    rw [(ix t).2.2.2.2.2.2.2.2.2.2.2.2.2.2.2.1]; omega
  · show win0_6.index t 3 * 128 + 1 * (y 3).val = _
    rw [(ix t).2.2.2.2.2.2.2.2.2.2.2.2.2.2.2.2]; omega

/-- What the point of block column `j`, `t` block rows before the last, leaves: its six output blocks, and the states' gradients for the next point. -/
def leaves (X : Saved) (j t : ℕ) : Vec Ideal S128x2048 .bf16 × Vec Ideal S128x2048 .bf16 × Vec Ideal S128x1024 .bf16 × Vec Ideal S128x2048 .f32 × Vec Ideal S128x2048 .f32 × Vec Ideal S128x2048 .f32 × Vec Ideal S16x128x128 .f32 :=
  (b2 fun r d => (X.chunk zero 128 (16 * j + d / 128) (2 * (63 - t) + r / 64)).du (r % 64) (d % 128),
    b2 fun r d => (X.chunk zero 128 (16 * j + d / 128) (2 * (63 - t) + r / 64)).dw (r % 64) (d % 128),
    b2 fun r d => (X.chunk zero 128 (16 * j + d / 64) (2 * (63 - t) + r / 64)).da (r % 64) (d % 64),
    b2 fun r d => (X.chunk zero 128 (16 * j + d / 128) (2 * (63 - t) + r / 64)).dq (r % 64) (d % 128),
    b2 fun r d => (X.chunk zero 128 (16 * j + d / 128) (2 * (63 - t) + r / 64)).dk (r % 64) (d % 128),
    b2 fun r d => (X.chunk zero 128 (16 * j + d / 128) (2 * (63 - t) + r / 64)).dg (r % 64) (d % 128),
    b3 fun h => X.run zero 128 (16 * j + h) (2 * t + 2))

theorem leaves_eq (X : Saved) (j t : ℕ) (ht : t < 64) (D : ℕ → ℕ → ℕ → EReal) (hD : D = fun h => X.run zero 128 (16 * j + h) (2 * t)) :
    ((b2 fun r d => ((X.block (63 - t) j).chunk D 2 (d / 128) (r / 64)).du (r % 64) (d % 128),
    b2 fun r d => ((X.block (63 - t) j).chunk D 2 (d / 128) (r / 64)).dw (r % 64) (d % 128),
    b2 fun r d => ((X.block (63 - t) j).chunk D 2 (d / 64) (r / 64)).da (r % 64) (d % 64),
    b2 fun r d => ((X.block (63 - t) j).chunk D 2 (d / 128) (r / 64)).dq (r % 64) (d % 128),
    b2 fun r d => ((X.block (63 - t) j).chunk D 2 (d / 128) (r / 64)).dk (r % 64) (d % 128),
    b2 fun r d => ((X.block (63 - t) j).chunk D 2 (d / 128) (r / 64)).dg (r % 64) (d % 128),
    b3 fun h => (X.block (63 - t) j).run D 2 h 2) :
      Vec Ideal S128x2048 .bf16 × Vec Ideal S128x2048 .bf16 × Vec Ideal S128x1024 .bf16 × Vec Ideal S128x2048 .f32 × Vec Ideal S128x2048 .f32 × Vec Ideal S128x2048 .f32 × Vec Ideal S16x128x128 .f32) = leaves X j t := by
  subst hD
  have hc (h n : ℕ) (hn : n < 128) := Saved.block_chunk X zero t j h (n / 64) ht (by omega)
  have hr (h : ℕ) := Saved.block_run X zero t j h 2 ht (Nat.le_refl 2)
  unfold leaves
  simp only [Prod.mk.injEq, hr]
  refine ⟨?_, ?_, ?_, ?_, ?_, ?_, trivial⟩ <;> exact b2_congr fun r d h _ => by rw [hc _ r h]

theorem leavesA (t : Fin cfg0.N) (h0 : t.val % 64 = 0) : outsAt0 m c t.val t.isLt = leaves (args m c) (t.val / 64) (t.val % 64) := by
  rw [outsAt0_A m c t h0, iblk0, iblk1, iblk2, iblk3, iblk4, iblk5, iblk6, iblk7, outA_8, outA_9, outA_10, outA_11, outA_12, outA_13, soutA]
  exact leaves_eq (args m c) _ _ (by omega) zero (by rw [h0]; rfl)

theorem leavesB (t : Fin cfg0.N) (h0 : ¬t.val % 64 = 0) (ih : ∀ hp, outsAt0 m c (t.val - 1) hp = leaves (args m c) ((t.val - 1) / 64) ((t.val - 1) % 64)) :
    outsAt0 m c t.val t.isLt = leaves (args m c) (t.val / 64) (t.val % 64) := by
  have e : ∀ hp, (outsAt0 m c (t.val - 1) hp).2.2.2.2.2.2 = b3 fun h => (args m c).run zero 128 (16 * (t.val / 64) + h) (2 * (t.val % 64)) := fun hp => by
    rw [ih, show t.val / 64 = (t.val - 1) / 64 by omega, show 2 * (t.val % 64) = 2 * ((t.val - 1) % 64) + 2 by omega]
    rfl
  rw [outsAt0_B m c t h0, e, iblk0, iblk1, iblk2, iblk3, iblk4, iblk5, iblk6, iblk7, outB_8, outB_9, outB_10, outB_11, outB_12, outB_13, soutB]
  exact leaves_eq (args m c) _ _ (by omega) _ rfl

theorem outs_eq (n : ℕ) : ∀ hn : n < cfg0.N, outsAt0 m c n hn = leaves (args m c) (n / 64) (n % 64) := by
  induction n with
  | zero => exact fun hn => leavesA m c ⟨0, hn⟩ (Nat.zero_mod _)
  | succ n ih =>
    intro hn
    by_cases h0 : (n + 1) % 64 = 0
    · exact leavesA m c ⟨n + 1, hn⟩ h0
    · exact leavesB m c ⟨n + 1, hn⟩ h0 ih

/-- A gradient as an array: head `d / b`, chunk `r / 64`. -/
@[irreducible] def grad (p : Back → ℕ → ℕ → EReal) (b r d : ℕ) : EReal := p ((args m c).chunk zero 128 (d / b) (r / 64)) (r % 64) (d % b)

theorem grad_at (p : Back → ℕ → ℕ → EReal) (b i j r d : ℕ) (hb : 0 < b) :
    grad m c p b (i * 128 + r) (j * (16 * b) + d) = p ((args m c).chunk zero 128 (16 * j + d / b) (2 * i + r / 64)) (r % 64) (d % b) := by
  unfold grad
  rw [show j * (16 * b) + d = b * (16 * j) + d by rw [Nat.mul_comm 16 b, Nat.mul_left_comm, Nat.mul_comm j 16], Nat.mul_add_div hb, Nat.mul_add_mod,
    show (i * 128 + r) / 64 = 2 * i + r / 64 by omega, show (i * 128 + r) % 64 = r % 64 by omega]

def res8 : Buf (Elt Ideal) ((c : Thread nD τ).loc main_v0_0) := b2 (grad m c Back.du 128)
def res9 : Buf (Elt Ideal) ((c : Thread nD τ).loc main_v0_1) := b2 (grad m c Back.dw 128)
def res10 : Buf (Elt Ideal) ((c : Thread nD τ).loc main_v0_2) := b2 (grad m c Back.da 64)
def res11 : Buf (Elt Ideal) ((c : Thread nD τ).loc main_v0_3) := b2 (grad m c Back.dq 128)
def res12 : Buf (Elt Ideal) ((c : Thread nD τ).loc main_v0_4) := b2 (grad m c Back.dk 128)
def res13 : Buf (Elt Ideal) ((c : Thread nD τ).loc main_v0_5) := b2 (grad m c Back.dg 128)

theorem final8 : (dats m 0 c).arrAt 8 cfg0.N = res8 m c := by
  refine (dats m 0 c).arrAt_eq_of_cover 8 (res8 m c) (fun t hf => ?_) ((show (cfg0.win 8).Covers by decide +kernel).cover _ (Memref.isWhole_whole _))
  rw [Cert.Kernel26Ideal.Value.flushed8, outs_eq]
  exact placed (grad m c Back.du 128) (res8 m c) (fun _ => rfl) (fun _ => rfl) (fun _ => rfl) (ix t).2.2.2.2.2.2.2.1.1 (ix t).2.2.2.2.2.2.2.1.2 fun y =>
    (grad_at m c Back.du 128 (63 - t.val % 64) (t.val / 64) (y 0).val (y 1).val (by decide)).symm

theorem final9 : (dats m 0 c).arrAt 9 cfg0.N = res9 m c := by
  refine (dats m 0 c).arrAt_eq_of_cover 9 (res9 m c) (fun t hf => ?_) ((show (cfg0.win 9).Covers by decide +kernel).cover _ (Memref.isWhole_whole _))
  rw [Cert.Kernel26Ideal.Value.flushed9, outs_eq]
  exact placed (grad m c Back.dw 128) (res9 m c) (fun _ => rfl) (fun _ => rfl) (fun _ => rfl) (ix t).2.2.2.2.2.2.2.2.1.1 (ix t).2.2.2.2.2.2.2.2.1.2 fun y =>
    (grad_at m c Back.dw 128 (63 - t.val % 64) (t.val / 64) (y 0).val (y 1).val (by decide)).symm

theorem final10 : (dats m 0 c).arrAt 10 cfg0.N = res10 m c := by
  refine (dats m 0 c).arrAt_eq_of_cover 10 (res10 m c) (fun t hf => ?_) ((show (cfg0.win 10).Covers by decide +kernel).cover _ (Memref.isWhole_whole _))
  rw [Cert.Kernel26Ideal.Value.flushed10, outs_eq]
  exact placed (grad m c Back.da 64) (res10 m c) (fun _ => rfl) (fun _ => rfl) (fun _ => rfl) (ix t).2.2.2.2.2.2.2.2.2.1.1 (ix t).2.2.2.2.2.2.2.2.2.1.2 fun y =>
    (grad_at m c Back.da 64 (63 - t.val % 64) (t.val / 64) (y 0).val (y 1).val (by decide)).symm

theorem final11 : (dats m 0 c).arrAt 11 cfg0.N = res11 m c := by
  refine (dats m 0 c).arrAt_eq_of_cover 11 (res11 m c) (fun t hf => ?_) ((show (cfg0.win 11).Covers by decide +kernel).cover _ (Memref.isWhole_whole _))
  rw [Cert.Kernel26Ideal.Value.flushed11, outs_eq]
  exact placed (grad m c Back.dq 128) (res11 m c) (fun _ => rfl) (fun _ => rfl) (fun _ => rfl) (ix t).2.2.2.2.2.2.2.2.2.2.1.1 (ix t).2.2.2.2.2.2.2.2.2.2.1.2 fun y =>
    (grad_at m c Back.dq 128 (63 - t.val % 64) (t.val / 64) (y 0).val (y 1).val (by decide)).symm

theorem final12 : (dats m 0 c).arrAt 12 cfg0.N = res12 m c := by
  refine (dats m 0 c).arrAt_eq_of_cover 12 (res12 m c) (fun t hf => ?_) ((show (cfg0.win 12).Covers by decide +kernel).cover _ (Memref.isWhole_whole _))
  rw [Cert.Kernel26Ideal.Value.flushed12, outs_eq]
  exact placed (grad m c Back.dk 128) (res12 m c) (fun _ => rfl) (fun _ => rfl) (fun _ => rfl) (ix t).2.2.2.2.2.2.2.2.2.2.2.1.1 (ix t).2.2.2.2.2.2.2.2.2.2.2.1.2 fun y =>
    (grad_at m c Back.dk 128 (63 - t.val % 64) (t.val / 64) (y 0).val (y 1).val (by decide)).symm

theorem final13 : (dats m 0 c).arrAt 13 cfg0.N = res13 m c := by
  refine (dats m 0 c).arrAt_eq_of_cover 13 (res13 m c) (fun t hf => ?_) ((show (cfg0.win 13).Covers by decide +kernel).cover _ (Memref.isWhole_whole _))
  rw [Cert.Kernel26Ideal.Value.flushed13, outs_eq]
  exact placed (grad m c Back.dg 128) (res13 m c) (fun _ => rfl) (fun _ => rfl) (fun _ => rfl) (ix t).2.2.2.2.2.2.2.2.2.2.2.2.1.1 (ix t).2.2.2.2.2.2.2.2.2.2.2.2.1.2 fun y =>
    (grad_at m c Back.dg 128 (63 - t.val % 64) (t.val / 64) (y 0).val (y 1).val (by decide)).symm

end Cert.Kernel26Ideal.Hand
-- ==== Proof.ScanBwdRef.lean ====
module
public import proofs.«01_k».proof.Proof.ScanBwdRun
public import proofs.«01_k».proof.Proof.Scan
public import proofs.«01_k».proof.Proof.Gen.Reference26Ideal.Run
@[expose] public section
noncomputable section
/-! The plain scan's gradient: one trip takes every head's gradient of its state back across one chunk. -/
namespace Cert.Reference26Ideal.Hand
open Cert.Reference26Ideal Cert.Reference26Ideal.Gen Cert.Reference26Ideal.Value Idealize.ShloMosaic Idealize.ShloMosaic.TcCoe Idealize.SL.Sem
open Cert.Delta Cert.Product
open Cert.Kernel25Ideal.Hand (zero)
open Cert.Reference25Ideal.Hand (start start_eq chunk128 chunk64 put)

theorem chunkS (f : ℕ → ℕ → ℕ → ℕ → EReal) (n : ℕ) (hn : n < 128) :
    (shapeCast S32x128x128 (Host.dynamicSlice S1x32x128x128 (b4 f : Vec Ideal S128x32x128x128 .f32) (start fun _ => BitVec.ofNat 32 n) sliceFits_S128x32x128x128_S1x32x128x128)
      shapeCasts_S1x32x128x128_S32x128x128 : Vec Ideal S32x128x128 .f32) = b3 (f n) := by
  have hs : S128x32x128x128.Slices ![n, 0, 0, 0] S1x32x128x128 := ⟨rfl, fun a => by
    fin_cases a
    · show n + 1 ≤ 128
      omega
    · exact Nat.le_of_eq (Nat.zero_add 32)
    · exact Nat.le_of_eq (Nat.zero_add 128)
    · exact Nat.le_of_eq (Nat.zero_add 128)⟩
  have he := Host.dynamicSlice_eq_extractStridedSlice S1x32x128x128 (b4 f : Vec Ideal S128x32x128x128 .f32) (start fun _ => BitVec.ofNat 32 n) ![n, 0, 0, 0]
    sliceFits_S128x32x128x128_S1x32x128x128 hs (start_eq n hn)
  refine (congrArg (fun z => shapeCast S32x128x128 z shapeCasts_S1x32x128x128_S32x128x128) he).trans ?_
  funext y
  idx_vars y
  pointwise
  rfl

/-- An output after `n` trips: the last `n` chunks of it. -/
def filled (X : Saved) (p : Back → ℕ → ℕ → EReal) (n k : ℕ) : ℕ → ℕ → ℕ → EReal := if 128 - n ≤ k then fun h => p (X.chunk zero 128 h k) else zero

/-- What the loop's buffers hold before trip `n`. -/
structure Before (X : Saved) (n : ℕ) (V : Valuation τ sig (Elt Ideal)) : Prop where
  S : V (Proc.devRef .tc main_v35_0) = (b4 fun n h => X.S h n : Vec Ideal S128x32x128x128 .f32)
  O : V (Proc.devRef .tc main_v35_1) = (b4 fun n h c e => X.O (64 * n + c) (128 * h + e) : Vec Ideal S128x32x64x128 .f32)
  u : V (Proc.devRef .tc main_v35_2) = (b4 fun n h => (X.toChunk.at h n).u : Vec Ideal S128x32x64x128 .f32)
  w : V (Proc.devRef .tc main_v35_3) = (b4 fun n h => (X.toChunk.at h n).w : Vec Ideal S128x32x64x128 .f32)
  a : V (Proc.devRef .tc main_v35_4) = (b4 fun n h => (X.toChunk.at h n).a : Vec Ideal S128x32x64x64 .f32)
  q : V (Proc.devRef .tc main_v35_5) = (b4 fun n h => (X.toChunk.at h n).q : Vec Ideal S128x32x64x128 .f32)
  k : V (Proc.devRef .tc main_v35_6) = (b4 fun n h => (X.toChunk.at h n).k : Vec Ideal S128x32x64x128 .f32)
  g : V (Proc.devRef .tc main_v35_7) = (b4 fun n h => (X.toChunk.at h n).g : Vec Ideal S128x32x64x128 .f32)
  i : V (Proc.devRef .tc main_v35_8) = fun _ => BitVec.ofNat 32 n
  D : V (Proc.devRef .tc main_v35_9) = (b3 fun h => X.run zero 128 h n : Vec Ideal S32x128x128 .f32)
  du : V (Proc.devRef .tc main_v35_10) = (b4 (filled X Back.du n) : Vec Ideal S128x32x64x128 .f32)
  dw : V (Proc.devRef .tc main_v35_11) = (b4 (filled X Back.dw n) : Vec Ideal S128x32x64x128 .f32)
  da : V (Proc.devRef .tc main_v35_12) = (b4 (filled X Back.da n) : Vec Ideal S128x32x64x64 .f32)
  dq : V (Proc.devRef .tc main_v35_13) = (b4 (filled X Back.dq n) : Vec Ideal S128x32x64x128 .f32)
  dk : V (Proc.devRef .tc main_v35_14) = (b4 (filled X Back.dk n) : Vec Ideal S128x32x64x128 .f32)
  dg : V (Proc.devRef .tc main_v35_15) = (b4 (filled X Back.dg n) : Vec Ideal S128x32x64x128 .f32)

/-- Chunk `127 - n` of head `h`, which trip `n` takes. -/
def B (X : Saved) (n h : ℕ) : Back := X.chunk zero 128 h (127 - n)

theorem B_D (X : Saved) (n : ℕ) (hn : n < 128) (h : ℕ) : X.run zero 128 h n = (B X n h).D := by
  show _ = X.run zero 128 h (128 - 1 - (127 - n))
  rw [show 128 - 1 - (127 - n) = n by omega]

theorem B_prev (X : Saved) (n : ℕ) (hn : n < 128) (h : ℕ) : X.run zero 128 h (n + 1) = (B X n h).prev := by
  show (X.head (X.run zero 128 h n) h (128 - 1 - n)).prev = (X.head (X.run zero 128 h (128 - 1 - (127 - n))) h (127 - n)).prev
  rw [show 128 - 1 - (127 - n) = n by omega]

theorem grown {A' B' C' : ℕ} (X : Saved) (p : Back → ℕ → ℕ → EReal) (n : ℕ) (hn : n < 128) (u : (⟨4, ![1, A', B', C']⟩ : Shape).Idx → EReal)
    (hu : ∀ z, u z = p (B X n (z 1).val) (z 2).val (z 3).val) (h) :
    Host.dynamicUpdateSlice (b4 (filled X p n) : (⟨4, ![128, A', B', C']⟩ : Shape).Idx → EReal) u (start fun _ => BitVec.ofNat 32 (127 - n)) h
      = b4 (filled X p (n + 1)) := by
  refine (put (filled X p n) u (fun h => p (B X n h)) (127 - n) (by omega) (by omega) hu h).trans (congrArg b4 (funext fun k => ?_))
  unfold filled
  by_cases hk : k = 127 - n
  · rw [if_pos hk, if_pos (by omega), hk]
    rfl
  · rw [if_neg hk]
    exact if_congr (by omega) rfl rfl

variable {X : Saved} {n : ℕ} {V : Valuation τ sig (Elt Ideal)}

theorem idx_eq (h : Before X n V) (hn : n < 128) : res_main_while0b_v52 V = fun _ => BitVec.ofNat 32 (127 - n) := by
  unfold res_main_while0b_v52
  rw [h.i]
  funext _
  show 128#32 - BitVec.ofNat 32 n - 1#32 = _
  apply BitVec.eq_of_toNat_eq
  simp only [BitVec.toNat_sub, BitVec.toNat_ofNat]
  omega

theorem D_eq (h : Before X n V) (hn : n < 128) : V (Proc.devRef .tc main_v35_9) = (b3 fun h => (B X n h).D : Vec Ideal S32x128x128 .f32) :=
  h.D.trans (congrArg b3 (funext fun h => B_D X n hn h))

theorem S_eq (h : Before X n V) (hn : n < 128) : res_main_while0b_v53 V = (b3 fun h => (B X n h).S : Vec Ideal S32x128x128 .f32) := by
  unfold res_main_while0b_v53
  rw [h.S, idx_eq h hn]
  exact chunkS _ (127 - n) (by omega)

theorem O_eq (h : Before X n V) (hn : n < 128) : res_main_while0b_v54 V = (b3 fun h => (B X n h).O : Vec Ideal S32x64x128 .f32) := by
  unfold res_main_while0b_v54
  rw [h.O, idx_eq h hn]
  exact chunk128 _ (127 - n) (by omega)

theorem w_eq (h : Before X n V) (hn : n < 128) : res_main_while0b_v56 V = (b3 fun h => (B X n h).w : Vec Ideal S32x64x128 .f32) := by
  unfold res_main_while0b_v56
  rw [h.w, idx_eq h hn]
  exact chunk128 _ (127 - n) (by omega)

theorem a_eq (h : Before X n V) (hn : n < 128) : res_main_while0b_v57 V = (b3 fun h => (B X n h).a : Vec Ideal S32x64x64 .f32) := by
  unfold res_main_while0b_v57
  rw [h.a, idx_eq h hn]
  exact chunk64 _ (127 - n) (by omega)

theorem q_eq (h : Before X n V) (hn : n < 128) : res_main_while0b_v58 V = (b3 fun h => (B X n h).q : Vec Ideal S32x64x128 .f32) := by
  unfold res_main_while0b_v58
  rw [h.q, idx_eq h hn]
  exact chunk128 _ (127 - n) (by omega)

theorem k_eq (h : Before X n V) (hn : n < 128) : res_main_while0b_v59 V = (b3 fun h => (B X n h).k : Vec Ideal S32x64x128 .f32) := by
  unfold res_main_while0b_v59
  rw [h.k, idx_eq h hn]
  exact chunk128 _ (127 - n) (by omega)

theorem g_eq (h : Before X n V) (hn : n < 128) : res_main_while0b_v60 V = (b3 fun h => (B X n h).g : Vec Ideal S32x64x128 .f32) := by
  unfold res_main_while0b_v60
  rw [h.g, idx_eq h hn]
  exact chunk128 _ (127 - n) (by omega)

theorem new_eq (h : Before X n V) (hn : n < 128) : res_main_while0b_v62 V = (b3 fun h => (B X n h).new : Vec Ideal S32x64x128 .f32) := by
  unfold res_main_while0b_v62
  rw [h.u, idx_eq h hn, w_eq h hn, S_eq h hn]
  refine (congrArg₂ subf (chunk128 (fun n h => (X.toChunk.at h n).u) (127 - n) (by omega)) rfl).trans ?_
  funext y
  idx_vars y
  pointwise
  rfl

theorem last_eq (h : Before X n V) (hn : n < 128) : res_main_while0b_v70 V = (b3 fun h _ _ => (Ideal.exp ((B X n h).g 63 0) : EReal) : Vec Ideal S32x1x1 .f32) := by
  unfold res_main_while0b_v70 res_main_while0b_v68
  rw [g_eq h hn]
  funext y
  idx_vars y
  pointwise
  have h1 : y1.val = 0 := by omega
  have h2 : y2.val = 0 := by omega
  rfl

theorem left_eq (h : Before X n V) (hn : n < 128) : res_main_while0b_v75 V = (b3 fun h => (B X n h).left : Vec Ideal S32x64x128 .f32) := by
  unfold res_main_while0b_v75 res_main_while0b_v68
  rw [g_eq h hn]
  funext y
  idx_vars y
  pointwise
  rfl

theorem dks_eq (h : Before X n V) (hn : n < 128) : res_main_while0b_v82 V = (b3 fun h => (B X n h).dks : Vec Ideal S32x64x128 .f32) := by
  unfold res_main_while0b_v82
  rw [D_eq h hn, new_eq h hn]
  funext y
  idx_vars y
  pointwise
  rfl

theorem dl_eq (h : Before X n V) (hn : n < 128) : res_main_while0b_v85 V = (b3 fun h => (B X n h).dl : Vec Ideal S32x64x128 .f32) := by
  unfold res_main_while0b_v85
  rw [k_eq h hn, dks_eq h hn, left_eq h hn]
  funext y
  idx_vars y
  pointwise
  rfl

theorem du_eq (h : Before X n V) (hn : n < 128) : res_main_while0b_v101 V = (b3 fun h => (B X n h).du : Vec Ideal S32x64x128 .f32) := by
  unfold res_main_while0b_v101 res_main_while0b_v76
  rw [D_eq h hn, k_eq h hn, left_eq h hn, O_eq h hn, a_eq h hn]
  funext y
  idx_vars y
  pointwise
  rfl

theorem dqg_eq (h : Before X n V) (hn : n < 128) : res_main_while0b_v106 V = (b3 fun h => (B X n h).dqg : Vec Ideal S32x64x128 .f32) := by
  unfold res_main_while0b_v106
  rw [O_eq h hn, S_eq h hn]
  funext y
  idx_vars y
  pointwise
  rfl

theorem ndu_eq (h : Before X n V) (hn : n < 128) : res_main_while0b_v111 V = (b3 fun h c e => 0 - (B X n h).du c e : Vec Ideal S32x64x128 .f32) := by
  unfold res_main_while0b_v111
  rw [du_eq h hn]
  funext y
  idx_vars y
  pointwise
  exact (zero_sub _).symm

theorem prev_eq (h : Before X n V) (hn : n < 128) : step_main_v35_9 V = (b3 fun h => X.run zero 128 h (n + 1) : Vec Ideal S32x128x128 .f32) := by
  unfold step_main_v35_9 res_main_while0b_v64 res_main_while0b_v63
  rw [D_eq h hn, last_eq h hn, O_eq h hn, q_eq h hn, g_eq h hn, ndu_eq h hn, w_eq h hn, id_eq]
  funext y
  idx_vars y
  pointwise
  refine (add_assoc _ _ _).trans ?_
  exact (congrFun (congrFun (B_prev X n hn y0.val) y1.val) y2.val).symm

theorem step_du (h : Before X n V) (hn : n < 128) : step_main_v35_10 V = (b4 (filled X Back.du (n + 1)) : Vec Ideal S128x32x64x128 .f32) := by
  unfold step_main_v35_10
  rw [h.du, idx_eq h hn, du_eq h hn, id_eq]
  refine grown X Back.du n hn _ (fun z => ?_) _
  idx_vars z
  pointwise
  rfl

theorem step_dw (h : Before X n V) (hn : n < 128) : step_main_v35_11 V = (b4 (filled X Back.dw (n + 1)) : Vec Ideal S128x32x64x128 .f32) := by
  unfold step_main_v35_11
  rw [h.dw, idx_eq h hn, ndu_eq h hn, S_eq h hn, id_eq]
  refine grown X Back.dw n hn _ (fun z => ?_) _
  idx_vars z
  pointwise
  rfl

theorem step_da (h : Before X n V) (hn : n < 128) : step_main_v35_12 V = (b4 (filled X Back.da (n + 1)) : Vec Ideal S128x32x64x64 .f32) := by
  unfold step_main_v35_12
  rw [h.da, idx_eq h hn, O_eq h hn, new_eq h hn, id_eq]
  refine grown X Back.da n hn _ (fun z => ?_) _
  idx_vars z
  pointwise
  rfl

theorem step_dq (h : Before X n V) (hn : n < 128) : step_main_v35_13 V = (b4 (filled X Back.dq (n + 1)) : Vec Ideal S128x32x64x128 .f32) := by
  unfold step_main_v35_13 res_main_while0b_v63
  rw [h.dq, idx_eq h hn, dqg_eq h hn, g_eq h hn, id_eq]
  refine grown X Back.dq n hn _ (fun z => ?_) _
  idx_vars z
  pointwise
  rfl

theorem step_dk (h : Before X n V) (hn : n < 128) : step_main_v35_14 V = (b4 (filled X Back.dk (n + 1)) : Vec Ideal S128x32x64x128 .f32) := by
  unfold step_main_v35_14
  rw [h.dk, idx_eq h hn, dks_eq h hn, left_eq h hn, id_eq]
  refine grown X Back.dk n hn _ (fun z => ?_) _
  idx_vars z
  pointwise
  rfl

/-- The gate's gradient, its last row's share added to that row alone. -/
theorem dg_at (C : Back) (c d : ℕ) (hc : c < 64) :
    (-C.dl c d + if _ : 63 ≤ c ∧ c - 63 < 1 then (∑ x : Fin 64, C.dl x d) + (if _ : c - 63 < 1 ∧ d < 1 then
      (∑ x : Fin 128, ∑ y : Fin 128, C.S x y * C.D x y) * (Ideal.exp (C.g 63 0) : EReal) else 0) else 0)
      + C.q c d * C.dqg c d * (Ideal.exp (C.g c d) : EReal) = C.dg c d := by
  refine (add_right_comm _ _ _).trans ?_
  unfold Back.dg
  rw [zero_sub]
  congr 1
  by_cases h63 : c < 63
  · rw [if_pos h63, dif_neg (by omega)]
  · rw [if_neg h63, dif_pos (by omega)]
    unfold Back.last
    rw [add_comm]
    congr 1
    by_cases h1 : d < 1
    · rw [if_pos h1, dif_pos ⟨by omega, h1⟩]
    · rw [if_neg h1, dif_neg fun h => h1 h.2]

theorem step_dg (h : Before X n V) (hn : n < 128) : step_main_v35_15 V = (b4 (filled X Back.dg (n + 1)) : Vec Ideal S128x32x64x128 .f32) := by
  unfold step_main_v35_15 res_main_while0b_v63
  rw [h.dg, idx_eq h hn, dl_eq h hn, S_eq h hn, D_eq h hn, last_eq h hn, q_eq h hn, dqg_eq h hn, g_eq h hn, id_eq]
  refine grown X Back.dg n hn _ (fun z => ?_) _
  idx_vars z
  pointwise
  exact dg_at (B X n z1.val) z2.val z3.val z2.isLt

theorem trip (h : Before X n V) (hn : n < 128) : Before X (n + 1) (STEP V) where
  S := (STEP_main_v35_0 V).trans h.S
  O := (STEP_main_v35_1 V).trans h.O
  u := (STEP_main_v35_2 V).trans h.u
  w := (STEP_main_v35_3 V).trans h.w
  a := (STEP_main_v35_4 V).trans h.a
  q := (STEP_main_v35_5 V).trans h.q
  k := (STEP_main_v35_6 V).trans h.k
  g := (STEP_main_v35_7 V).trans h.g
  i := by
    rw [STEP_main_v35_8]
    unfold step_main_v35_8
    rw [h.i]
    funext _
    show BitVec.ofNat 32 n + 1#32 = _
    rw [BitVec.ofNat_add]
  D := (STEP_main_v35_9 V).trans (prev_eq h hn)
  du := (STEP_main_v35_10 V).trans (step_du h hn)
  dw := (STEP_main_v35_11 V).trans (step_dw h hn)
  da := (STEP_main_v35_12 V).trans (step_da h hn)
  dq := (STEP_main_v35_13 V).trans (step_dq h hn)
  dk := (STEP_main_v35_14 V).trans (step_dk h hn)
  dg := (STEP_main_v35_15 V).trans (step_dg h hn)

end Cert.Reference26Ideal.Hand
-- ==== Proof.ScanGrad.lean ====
module
public import proofs.«01_k».proof.Proof.ScanBwdRef
public import proofs.«01_k».proof.Defs
@[expose] public section
noncomputable section
/-! The plain scan's gradient: the arrays it starts from, what it leaves, and that the launch leaves the same. -/
namespace Cert.Reference26Ideal.Hand
open Cert.Reference26Ideal Cert.Reference26Ideal.Gen Idealize.ShloMosaic Idealize.ShloMosaic.TcCoe Idealize.ShloMosaic.Tactic Idealize.SL Idealize.SL.RA Idealize.SL.BI Idealize.SL.BI.BIBase Idealize.SL.BI.Laws Idealize.SL.ProofMode Idealize.SL.Sem Idealize.ShloMosaic.StableHlo
open Idealize.ShloMosaic.Pipeline (ucRefs sub_ucRefs)
open Cert.Reference26Ideal.Value Cert.Delta Cert.Product Cert.BandAttention
open Cert.Kernel25Ideal.Hand (zero)
open Cert.Reference25Ideal.Hand (heads128 heads64 pairs)

variable (m : (ℓ : Loc nD τ sig) → Buf (Elt Ideal) ℓ) (c : Dev nD)

/-- The argument arrays. -/
def args : Saved := saved (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7))

/-- The saved states by chunk, then head. -/
theorem byChunk (x : Vec Ideal S32x128x128x128 .f32) :
    (transpose S128x32x128x128 [1, 0, 2, 3] x transposes_S32x128x128x128_S128x32x128x128_1_0_2_3 : Vec Ideal S128x32x128x128 .f32) = b4 fun n h => n4 x h n := by
  funext y
  idx_vars y
  pointwise
  exact n4_ix x y1 y0 y2 y3

/-- No output holds anything before the first trip. -/
theorem filled_zero {A' B' C' : ℕ} (X : Saved) (p : Back → ℕ → ℕ → EReal) :
    (b4 (filled X p 0) : (⟨4, ![128, A', B', C']⟩ : Shape).Idx → EReal) = fun _ => 0 := by
  funext y
  have h : (y 0).val < 128 := (y 0).isLt
  show filled X p 0 (y 0).val (y 1).val (y 2).val (y 3).val = 0
  unfold filled
  rw [if_neg (by omega)]
  rfl

/-- The loop starts from a gradient of zeros. -/
theorem entry : Before (args m c) 0 (entryContents preI m c) where
  S := by
    simp only [entryContents, afterL_cons, afterL_nil]
    after_reads_simp
    exact byChunk (m ((c.tc : Thread nD τ).loc main_arg6))
  O := by
    simp only [entryContents, afterL_cons, afterL_nil]
    after_reads_simp
    exact heads128 (m ((c.tc : Thread nD τ).loc main_arg7))
  u := by
    simp only [entryContents, afterL_cons, afterL_nil]
    after_reads_simp
    exact heads128 (m ((c.tc : Thread nD τ).loc main_arg0))
  w := by
    simp only [entryContents, afterL_cons, afterL_nil]
    after_reads_simp
    exact heads128 (m ((c.tc : Thread nD τ).loc main_arg1))
  a := by
    simp only [entryContents, afterL_cons, afterL_nil]
    after_reads_simp
    exact heads64 (m ((c.tc : Thread nD τ).loc main_arg2))
  q := by
    simp only [entryContents, afterL_cons, afterL_nil]
    after_reads_simp
    exact pairs (m ((c.tc : Thread nD τ).loc main_arg3))
  k := by
    simp only [entryContents, afterL_cons, afterL_nil]
    after_reads_simp
    exact pairs (m ((c.tc : Thread nD τ).loc main_arg4))
  g := by
    simp only [entryContents, afterL_cons, afterL_nil]
    after_reads_simp
    exact heads128 (m ((c.tc : Thread nD τ).loc main_arg5))
  i := ctr_entry m c
  D := by
    simp only [entryContents, afterL_cons, afterL_nil]
    after_reads_simp
    rw [id_eq]
    funext y
    idx_vars y
    pointwise
    rfl
  du := by
    simp only [entryContents, afterL_cons, afterL_nil]
    after_reads_simp
    rw [id_eq, filled_zero]
    funext y
    idx_vars y
    pointwise
  dw := by
    simp only [entryContents, afterL_cons, afterL_nil]
    after_reads_simp
    rw [id_eq, filled_zero]
    funext y
    idx_vars y
    pointwise
  da := by
    simp only [entryContents, afterL_cons, afterL_nil]
    after_reads_simp
    rw [id_eq, filled_zero]
    funext y
    idx_vars y
    pointwise
  dq := by
    simp only [entryContents, afterL_cons, afterL_nil]
    after_reads_simp
    rw [id_eq, filled_zero]
    funext y
    idx_vars y
    pointwise
  dk := by
    simp only [entryContents, afterL_cons, afterL_nil]
    after_reads_simp
    rw [id_eq, filled_zero]
    funext y
    idx_vars y
    pointwise
  dg := by
    simp only [entryContents, afterL_cons, afterL_nil]
    after_reads_simp
    rw [id_eq, filled_zero]
    funext y
    idx_vars y
    pointwise

theorem trips : ∀ n, n ≤ 128 → Before (args m c) n (STEP^[n] (entryContents preI m c))
  | 0, _ => entry m c
  | n + 1, hn => by
    rw [Function.iterate_succ_apply']
    exact trip (trips n (by omega)) (by omega)

theorem full (X : Saved) (p : Back → ℕ → ℕ → EReal) : filled X p 128 = fun k h => p (X.chunk zero 128 h k) := by
  funext k
  unfold filled
  rw [if_pos (by omega)]

theorem back128 (f : ℕ → ℕ → ℕ → ℕ → EReal) :
    (shapeCast S8192x4096 (transpose S128x64x32x128 [0, 2, 1, 3] (b4 f : Vec Ideal S128x32x64x128 .f32) transposes_S128x32x64x128_S128x64x32x128_0_2_1_3)
      shapeCasts_S128x64x32x128_S8192x4096 : Vec Ideal S8192x4096 .f32) = b2 fun r d => f (r / 64) (d / 128) (r % 64) (d % 128) := by
  funext y
  idx_vars y
  pointwise
  rfl

theorem back64 (f : ℕ → ℕ → ℕ → ℕ → EReal) :
    (shapeCast S8192x2048 (transpose S128x64x32x64 [0, 2, 1, 3] (b4 f : Vec Ideal S128x32x64x64 .f32) transposes_S128x32x64x64_S128x64x32x64_0_2_1_3)
      shapeCasts_S128x64x32x64_S8192x2048 : Vec Ideal S8192x2048 .f32) = b2 fun r d => f (r / 64) (d / 64) (r % 64) (d % 64) := by
  funext y
  idx_vars y
  pointwise
  rfl

theorem du_out (m' : (ℓ : Loc Cert.Kernel26Ideal.nD Cert.Kernel26Ideal.τ Cert.Kernel26Ideal.sig) → Buf (Elt Ideal) ℓ) (hX : args m c = Cert.Kernel26Ideal.Hand.args m' c) :
    out_main_v48 (STEP^[128] (entryContents preI m c)) = b2 (Cert.Kernel26Ideal.Hand.grad m' c Back.du 128) := by
  unfold out_main_v48 Cert.Kernel26Ideal.Hand.grad
  rw [(trips m c 128 (Nat.le_refl 128)).du, full, hX]
  exact back128 fun k h => Back.du ((Cert.Kernel26Ideal.Hand.args m' c).chunk zero 128 h k)

theorem dw_out (m' : (ℓ : Loc Cert.Kernel26Ideal.nD Cert.Kernel26Ideal.τ Cert.Kernel26Ideal.sig) → Buf (Elt Ideal) ℓ) (hX : args m c = Cert.Kernel26Ideal.Hand.args m' c) :
    out_main_v49 (STEP^[128] (entryContents preI m c)) = b2 (Cert.Kernel26Ideal.Hand.grad m' c Back.dw 128) := by
  unfold out_main_v49 Cert.Kernel26Ideal.Hand.grad
  rw [(trips m c 128 (Nat.le_refl 128)).dw, full, hX]
  exact back128 fun k h => Back.dw ((Cert.Kernel26Ideal.Hand.args m' c).chunk zero 128 h k)

theorem da_out (m' : (ℓ : Loc Cert.Kernel26Ideal.nD Cert.Kernel26Ideal.τ Cert.Kernel26Ideal.sig) → Buf (Elt Ideal) ℓ) (hX : args m c = Cert.Kernel26Ideal.Hand.args m' c) :
    out_main_v50 (STEP^[128] (entryContents preI m c)) = b2 (Cert.Kernel26Ideal.Hand.grad m' c Back.da 64) := by
  unfold out_main_v50 Cert.Kernel26Ideal.Hand.grad
  rw [(trips m c 128 (Nat.le_refl 128)).da, full, hX]
  exact back64 fun k h => Back.da ((Cert.Kernel26Ideal.Hand.args m' c).chunk zero 128 h k)

theorem dq_out (m' : (ℓ : Loc Cert.Kernel26Ideal.nD Cert.Kernel26Ideal.τ Cert.Kernel26Ideal.sig) → Buf (Elt Ideal) ℓ) (hX : args m c = Cert.Kernel26Ideal.Hand.args m' c) :
    out_main_v43 (STEP^[128] (entryContents preI m c)) = b2 (Cert.Kernel26Ideal.Hand.grad m' c Back.dq 128) := by
  unfold out_main_v43 Cert.Kernel26Ideal.Hand.grad
  rw [(trips m c 128 (Nat.le_refl 128)).dq, full, hX]
  exact back128 fun k h => Back.dq ((Cert.Kernel26Ideal.Hand.args m' c).chunk zero 128 h k)

theorem dk_out (m' : (ℓ : Loc Cert.Kernel26Ideal.nD Cert.Kernel26Ideal.τ Cert.Kernel26Ideal.sig) → Buf (Elt Ideal) ℓ) (hX : args m c = Cert.Kernel26Ideal.Hand.args m' c) :
    out_main_v45 (STEP^[128] (entryContents preI m c)) = b2 (Cert.Kernel26Ideal.Hand.grad m' c Back.dk 128) := by
  unfold out_main_v45 Cert.Kernel26Ideal.Hand.grad
  rw [(trips m c 128 (Nat.le_refl 128)).dk, full, hX]
  exact back128 fun k h => Back.dk ((Cert.Kernel26Ideal.Hand.args m' c).chunk zero 128 h k)

theorem dg_out (m' : (ℓ : Loc Cert.Kernel26Ideal.nD Cert.Kernel26Ideal.τ Cert.Kernel26Ideal.sig) → Buf (Elt Ideal) ℓ) (hX : args m c = Cert.Kernel26Ideal.Hand.args m' c) :
    out_main_v47 (STEP^[128] (entryContents preI m c)) = b2 (Cert.Kernel26Ideal.Hand.grad m' c Back.dg 128) := by
  unfold out_main_v47 Cert.Kernel26Ideal.Hand.grad
  rw [(trips m c 128 (Nat.le_refl 128)).dg, full, hX]
  exact back128 fun k h => Back.dg ((Cert.Kernel26Ideal.Hand.args m' c).chunk zero 128 h k)

theorem algebraic : algebraic_Kernel26Ideal_Reference26Ideal (hKernel26Ideal := Cert.Kernel26Ideal.Gen.facts) (hReference26Ideal := Gen.facts) := by
  intro m g m' g' _ harg
  have hX : ∀ c, args m' c = Cert.Kernel26Ideal.Hand.args m c := fun c => by
    obtain ⟨h0, h1, h2, h3, h4, h5, h6, h7⟩ := harg c
    unfold args Cert.Kernel26Ideal.Hand.args
    rw [h0, h1, h2, h3, h4, h5, h6, h7]
  exact ⟨fun c => Cert.Kernel26Ideal.Hand.res8 m c, fun c => Cert.Kernel26Ideal.Hand.res9 m c, fun c => Cert.Kernel26Ideal.Hand.res10 m c,
    fun c => Cert.Kernel26Ideal.Hand.res11 m c, fun c => Cert.Kernel26Ideal.Hand.res12 m c, fun c => Cert.Kernel26Ideal.Hand.res13 m c,
    (θ_run Cert.Kernel26Ideal.defs _ _).mono (fun r h c => by
      obtain ⟨h0, h1, h2, h3, h4, h5, h6⟩ := h c
      exact ⟨h0.trans (Cert.Kernel26Ideal.Hand.final8 m c), h1.trans (Cert.Kernel26Ideal.Hand.final9 m c), h2.trans (Cert.Kernel26Ideal.Hand.final10 m c),
        h3.trans (Cert.Kernel26Ideal.Hand.final11 m c), h4.trans (Cert.Kernel26Ideal.Hand.final12 m c), h5.trans (Cert.Kernel26Ideal.Hand.final13 m c), h6⟩)
      (Cert.Kernel26Ideal.Value.run_blocks m g),
    (θ_run defs _ _).mono (fun r h c => by
      obtain ⟨h0, h1, h2, h3, h4, h5, h6⟩ := h c
      exact ⟨h0.trans (du_out m' c m (hX c)), h1.trans (dw_out m' c m (hX c)), h2.trans (da_out m' c m (hX c)),
        h3.trans (dq_out m' c m (hX c)), h4.trans (dk_out m' c m (hX c)), h5.trans (dg_out m' c m (hX c)), h6⟩)
      (Cert.Reference26Ideal.Value.run (F := Ideal) m' g')⟩

theorem frame : quiescent_Reference26Ideal (hReference26Ideal := Gen.facts) :=
  fun m ρ _ => (θ_run defs _ _).mono (fun r h => ⟨fun c => (h c).2.2.2.2.2.2, sem_eq_zero_of_no_sems (by decide) r.2⟩) (Cert.Reference26Ideal.Value.run (F := Ideal) m ρ)

end Cert.Reference26Ideal.Hand
-- ==== Proof.LossHead.lean ====
module
public import proofs.«01_k».proof.Proof.Alg
public import proofs.«01_k».proof.Proof.Prod
public import proofs.«01_k».proof.Proof.Gen.Kernel27Ideal.Value
public import proofs.«01_k».proof.Proof.Gen.Reference27Ideal.Run
public import proofs.«01_k».proof.Defs
@[expose] public section
noncomputable section
/-! The loss, half the sum over the rows of the mean squared error, and its gradient. -/
namespace Cert.Loss
open Idealize.ShloMosaic Cert.Product

def err (x t : ℕ → ℕ → EReal) (r d : ℕ) : EReal := x r d - t r d

/-- The squared error of a row. -/
def sqErr (x t : ℕ → ℕ → EReal) (r : ℕ) : EReal := ∑ k : Fin 2048, err x t r k * err x t r k

/-- The error over the number of columns. -/
def grad (x t : ℕ → ℕ → EReal) (r d : ℕ) : EReal := err x t r d * ((2048⁻¹ : ℝ) : EReal)

/-- The loss of the first `L` rows: a row counts its squared error over twice the number of columns. -/
def upto (x t : ℕ → ℕ → EReal) (L : ℕ) : EReal := dot L (fun _ k => sqErr x t k) (fun _ _ => ((4096⁻¹ : ℝ) : EReal)) 0 0

theorem half : Ideal.ofBits .f32 0x3F000000#32 = ((2⁻¹ : ℝ) : EReal) := by simp [Ideal.ofBits, Ideal.ieee, -EReal.coe_mul]; norm_num
theorem two : Ideal.ofBits .f32 0x40000000#32 = ((2 : ℝ) : EReal) := by simp [Ideal.ofBits, Ideal.ieee, -EReal.coe_mul]; norm_num
theorem cols : Ideal.ofBits .f32 0x45000000#32 = ((2048 : ℝ) : EReal) := by simp [Ideal.ofBits, Ideal.ieee, -EReal.coe_mul]; norm_num
theorem share : Ideal.ofBits .f32 0x3A000000#32 = ((2048⁻¹ : ℝ) : EReal) := by simp [Ideal.ofBits, Ideal.ieee, -EReal.coe_mul]; norm_num

theorem square_nonneg (e : EReal) : 0 ≤ e * e := by
  rcases le_total 0 e with h | h
  · exact mul_nonneg h h
  · have := mul_nonneg (EReal.neg_nonneg.mpr h) (EReal.neg_nonneg.mpr h)
    rwa [EReal.neg_mul, mul_comm, EReal.neg_mul, neg_neg] at this

theorem sqErr_nonneg (x t : ℕ → ℕ → EReal) (r : ℕ) : 0 ≤ sqErr x t r := Finset.sum_nonneg fun _ _ => square_nonneg _

theorem sum_mul {L : ℕ} (f : ℕ → EReal) (hf : ∀ n, 0 ≤ f n) (s : EReal) : (∑ r : Fin L, f r) * s = ∑ r : Fin L, f r * s := by
  induction L with
  | zero => simp
  | succ L ih =>
    rw [Fin.sum_univ_castSucc, Fin.sum_univ_castSucc, EReal.right_distrib_of_nonneg (Finset.sum_nonneg fun _ _ => hf _) (hf _)]
    exact congrArg (· + _) ih

/-- The loss of `L` rows, the factors applied to their sum. -/
theorem part (x t : ℕ → ℕ → EReal) (L : ℕ) : Ideal.div (Ideal.ofBits .f32 0x3F000000#32 * ∑ r : Fin L, sqErr x t r) (Ideal.ofBits .f32 0x45000000#32)
    = upto x t L := by
  rw [half, cols, Cert.BandAttention.div_real _ _ (by norm_num), mul_comm, ← mul_assoc, ← EReal.coe_mul, mul_comm, sum_mul (sqErr x t) fun _ => sqErr_nonneg ..]
  norm_num [dot, upto]

/-- The loss of all rows, as a mean of every row and half their sum. -/
theorem total (x t : ℕ → ℕ → EReal) (L : ℕ) :
    Ideal.ofBits .f32 0x3F000000#32 * ∑ r : Fin L, Ideal.div (sqErr x t r) (Ideal.ofBits .f32 0x45000000#32) = upto x t L := by
  simp only [half, cols, Cert.BandAttention.div_real _ _ (show (2048 : ℝ) ≠ 0 by norm_num)]
  rw [mul_comm, sum_mul (fun n => sqErr x t n * ((2048⁻¹ : ℝ) : EReal)) fun _ => mul_nonneg (sqErr_nonneg ..) (EReal.coe_nonneg.mpr (by norm_num))]
  simp only [mul_assoc, ← EReal.coe_mul, upto, dot]
  norm_num

theorem grad_eq (x t : ℕ → ℕ → EReal) (r d : ℕ) : Ideal.div (Ideal.ofBits .f32 0x3F000000#32) (Ideal.ofBits .f32 0x45000000#32)
    * (Ideal.ofBits .f32 0x40000000#32 * err x t r d) = grad x t r d := by
  rw [half, two, cols, Cert.BandAttention.div_real _ _ (by norm_num), ← mul_assoc, ← EReal.coe_mul, ← EReal.coe_mul, mul_comm]
  norm_num [grad]

end Cert.Loss

namespace Cert.Kernel27Ideal.Hand
open Cert.Kernel27Ideal Cert.Kernel27Ideal.Gen Idealize.ShloMosaic Idealize.ShloMosaic.TcCoe Idealize.SL.Sem Cert.BandAttention Cert.Product Cert.Loss

theorem body2 (x t : Vec Ideal S256x2048 .f32) : k0_pay2 x t = fun y => grad (n2 x) (n2 t) (y 0).val (y 1).val := by
  funext y; idx_vars y
  pointwise [k0_pay2, k0_pay1]
  simp only [n2_ix x, n2_ix t, share]
  rfl

theorem body3 (x t : Vec Ideal S256x2048 .f32) : k0_pay3 x t = fun y => grad (n2 x) (n2 t) (y 0).val (y 1).val := body2 x t

theorem body4 (x t : Vec Ideal S256x2048 .f32) : k0_pay4 x t = fun _ => upto (n2 x) (n2 t) 256 := by
  funext y; idx_vars y
  pointwise [k0_pay4, k0_pay1]
  simp only [n2_ix x, n2_ix t]
  exact part (n2 x) (n2 t) 256

theorem body5 (x t : Vec Ideal S256x2048 .f32) (l : Vec Ideal S1x128 .f32) : k0_pay5 x t l = fun y => plus (l y) (upto (n2 x) (n2 t) 256) := by
  unfold k0_pay5
  rw [body4, shapeCast_self]
  rfl

variable (m : (ℓ : Loc nD τ sig) → Buf (Elt Ideal) ℓ) (c : Dev nD)

def At (t : Fin grid0.N) : Prop := (win0_0.index t 0 = t.val ∧ win0_0.index t 1 = 0) ∧ (win0_1.index t 0 = t.val ∧ win0_1.index t 1 = 0)
  ∧ (win0_2.index t 0 = t.val ∧ win0_2.index t 1 = 0) ∧ (win0_3.index t 0 = t.val ∧ win0_3.index t 1 = 0) ∧ win0_4.index t 0 = 0 ∧ win0_4.index t 1 = 0
theorem ix (t : Fin cfg0.N) : At t := (by unfold At; decide +kernel : ∀ t : Fin grid0.N, At t) t

abbrev rows : ℕ → ℕ → EReal := n2 (m ((c : Thread nD τ).loc main_arg0))
abbrev target : ℕ → ℕ → EReal := n2 (m ((c : Thread nD τ).loc main_arg1))
@[irreducible] def val : ℕ → ℕ → EReal := grad (rows m c) (target m c)
@[irreducible] def loss : EReal := upto (rows m c) (target m c) 8192
/-- What the launch leaves: the gradient, its rounding, and the loss in every lane. -/
def res2 : Buf (Elt Ideal) ((c : Thread nD τ).loc main_v0_0) := fun y => val m c (y 0).val (y 1).val
def res3 : Buf (Elt Ideal) ((c : Thread nD τ).loc main_v0_1) := fun y => val m c (y 0).val (y 1).val
def res4 : Buf (Elt Ideal) ((c : Thread nD τ).loc main_v0_2) := fun _ => loss m c

theorem left (t : Fin cfg0.N) (r d : ℕ) (hr : r < 256) (hd : d < 2048) : n2 (iblk m c 0 t) r d = rows m c (t.val * 256 + r) d := by
  have := tileAt (m ((c : Thread nD τ).loc main_arg0)) (iblk m c 0 t) (fun _ => rfl) (fun _ => rfl) (fun _ => rfl) (ix t).1.1 (ix t).1.2 hr hd
  rwa [Nat.zero_mul, Nat.zero_add] at this

theorem right (t : Fin cfg0.N) (r d : ℕ) (hr : r < 256) (hd : d < 2048) : n2 (iblk m c 1 t) r d = target m c (t.val * 256 + r) d := by
  have := tileAt (m ((c : Thread nD τ).loc main_arg1)) (iblk m c 1 t) (fun _ => rfl) (fun _ => rfl) (fun _ => rfl) (ix t).2.1.1 (ix t).2.1.2 hr hd
  rwa [Nat.zero_mul, Nat.zero_add] at this

theorem block (t : Fin cfg0.N) (r d : ℕ) (hr : r < 256) (hd : d < 2048) :
    grad (n2 (iblk m c 0 t)) (n2 (iblk m c 1 t)) r d = val m c (t.val * 256 + r) d := by
  unfold val grad err
  rw [left m c t r d hr hd, right m c t r d hr hd]

theorem terms (t : Fin cfg0.N) : upto (n2 (iblk m c 0 t)) (n2 (iblk m c 1 t)) 256
    = piece 256 t.val (fun _ k => sqErr (rows m c) (target m c) k) (fun _ _ => ((4096⁻¹ : ℝ) : EReal)) 0 0 := by
  refine dot_congr fun r hr => ⟨?_, rfl⟩
  unfold sqErr err
  exact Finset.sum_congr rfl fun k _ => by rw [left m c t r k hr k.isLt, right m c t r k hr k.isLt]

theorem leaves (t : Fin cfg0.N) : (outsAt0 m c t.val t.isLt).1 = k0_pay2 (iblk m c 0 t) (iblk m c 1 t)
    ∧ (outsAt0 m c t.val t.isLt).2.1 = k0_pay3 (iblk m c 0 t) (iblk m c 1 t) := by
  have hN : t.val < 32 := lt_of_lt_of_eq t.isLt (show cfg0.N = 32 from N_0)
  by_cases h : t.val = 0
  · rw [outsAt0_A m c t (by omega) (by omega)]
    dsimp only
    unfold out0_A_2 out0_A_3 kernelRun0_A
    exact ⟨(View.read_writes_full _ _ _ _ _).trans (congrArg₂ k0_pay2 (load2 _ (hs0_0 t) (iblk m c 0 t) _) (load2 _ (hs0_1 t) (iblk m c 1 t) _)),
      (View.read_writes_full _ _ _ _ _).trans (congrArg₂ k0_pay3 (load2 _ (hs0_0 t) (iblk m c 0 t) _) (load2 _ (hs0_1 t) (iblk m c 1 t) _))⟩
  · rw [outsAt0_B m c t (by omega) (by omega)]
    dsimp only
    unfold out0_B_2 out0_B_3 kernelRun0_B
    exact ⟨(View.read_writes_full _ _ _ _ _).trans (congrArg₂ k0_pay2 (load2 _ (hs0_0 t) (iblk m c 0 t) _) (load2 _ (hs0_1 t) (iblk m c 1 t) _)),
      (View.read_writes_full _ _ _ _ _).trans (congrArg₂ k0_pay3 (load2 _ (hs0_0 t) (iblk m c 0 t) _) (load2 _ (hs0_1 t) (iblk m c 1 t) _))⟩

theorem first (t : Fin cfg0.N) (h : t.val = 0) : (outsAt0 m c t.val t.isLt).2.2 = k0_pay4 (iblk m c 0 t) (iblk m c 1 t) := by
  rw [outsAt0_A m c t (by omega) (by omega)]
  dsimp only
  unfold out0_A_4 kernelRun0_A
  exact (View.read_writes_full _ _ _ _ _).trans (congrArg₂ k0_pay4 (load2 _ (hs0_0 t) (iblk m c 0 t) _) (load2 _ (hs0_1 t) (iblk m c 1 t) _))

theorem next (t : Fin cfg0.N) (h : t.val ≠ 0) : (outsAt0 m c t.val t.isLt).2.2
    = k0_pay5 (iblk m c 0 t) (iblk m c 1 t) (outsAt0 m c (t.val - 1) (Nat.lt_of_le_of_lt (Nat.sub_le _ _) t.isLt)).2.2 := by
  have hN : t.val < 32 := lt_of_lt_of_eq t.isLt (show cfg0.N = 32 from N_0)
  rw [outsAt0_B m c t (by omega) (by omega)]
  dsimp only
  unfold out0_B_4 kernelRun0_B
  exact (View.read_writes_full _ _ _ _ _).trans (congr (congrArg₂ k0_pay5 (load2 _ (hs0_0 t) (iblk m c 0 t) _) (load2 _ (hs0_1 t) (iblk m c 1 t) _))
    (load2 _ (hs0_4 t) _ _))

/-- After a point the lanes hold the loss of the rows up to its block's end. -/
theorem acc (n : ℕ) : ∀ h : n < cfg0.N, (outsAt0 m c n h).2.2 = fun _ => upto (rows m c) (target m c) ((n + 1) * 256) := by
  induction n with
  | zero =>
    intro h
    rw [first m c ⟨0, h⟩ rfl, body4, terms m c ⟨0, h⟩, piece_zero]
    rfl
  | succ n ih =>
    intro h
    rw [next m c ⟨n + 1, h⟩ (Nat.succ_ne_zero n), body5]
    funext y
    refine (congrArg₂ plus (congrFun (ih (Nat.lt_of_succ_lt h)) y) (terms m c ⟨n + 1, h⟩)).trans ?_
    show plus (dot _ _ _ _ _) _ = dot _ _ _ _ _
    rw [Nat.succ_mul (n + 1)]
    exact (dot_add ((n + 1) * 256) 256 _ _ 0 0).symm

theorem final2 : (dats m 0 c).arrAt 2 cfg0.N = res2 m c := by
  refine (dats m 0 c).arrAt_eq_of_cover 2 (res2 m c) (fun t hf => ?_) ((show (cfg0.win 2).Covers by decide +kernel).cover _ (Memref.isWhole_whole _))
  rw [Cert.Kernel27Ideal.Value.flushed2, (leaves m c t).1, body2]
  refine placed (val m c) (res2 m c) (fun _ => rfl) (fun _ => rfl) (fun _ => rfl) (ix t).2.2.1.1 (ix t).2.2.1.2 fun y => ?_
  rw [Nat.zero_mul, Nat.zero_add]
  exact block m c t _ _ (y 0).isLt (y 1).isLt

theorem final3 : (dats m 0 c).arrAt 3 cfg0.N = res3 m c := by
  refine (dats m 0 c).arrAt_eq_of_cover 3 (res3 m c) (fun t hf => ?_) ((show (cfg0.win 3).Covers by decide +kernel).cover _ (Memref.isWhole_whole _))
  rw [Cert.Kernel27Ideal.Value.flushed3, (leaves m c t).2, body3]
  refine placed (val m c) (res3 m c) (fun _ => rfl) (fun _ => rfl) (fun _ => rfl) (ix t).2.2.2.1.1 (ix t).2.2.2.1.2 fun y => ?_
  rw [Nat.zero_mul, Nat.zero_add]
  exact block m c t _ _ (y 0).isLt (y 1).isLt

theorem final4 : (dats m 0 c).arrAt 4 cfg0.N = res4 m c := by
  refine (dats m 0 c).arrAt_eq_of_cover 4 (res4 m c) (fun t hf => ?_) ((show (cfg0.win 4).Covers by decide +kernel).cover _ (Memref.isWhole_whole _))
  have ht := (flush0_4 t).mp hf
  have hN : t.val < 32 := lt_of_lt_of_eq t.isLt (show cfg0.N = 32 from N_0)
  have e : (outsAt0 m c t.val t.isLt).2.2 = fun _ => loss m c := by
    rw [acc m c t.val t.isLt, show (t.val + 1) * 256 = 8192 by omega]
    unfold loss
    rfl
  rw [Cert.Kernel27Ideal.Value.flushed4, e]
  rfl

end Cert.Kernel27Ideal.Hand

namespace Cert.Reference27Ideal.Hand
open Cert.Reference27Ideal Cert.Reference27Ideal.Gen Idealize.ShloMosaic Idealize.ShloMosaic.TcCoe Idealize.SL.Sem Cert.BandAttention Cert.Product Cert.Loss

theorem algebraic : algebraic_Kernel27Ideal_Reference27Ideal (hKernel27Ideal := Cert.Kernel27Ideal.Gen.facts) (hReference27Ideal := Gen.facts) := by
  intro m g m' g' _ harg
  refine ⟨fun c => Cert.Kernel27Ideal.Hand.res2 m c, fun c => Cert.Kernel27Ideal.Hand.res3 m c, fun c => Cert.Kernel27Ideal.Hand.res4 m c,
    (θ_run Cert.Kernel27Ideal.defs _ _).mono (fun r h c => ⟨(h c).1.trans (Cert.Kernel27Ideal.Hand.final2 m c),
      (h c).2.1.trans (Cert.Kernel27Ideal.Hand.final3 m c), (h c).2.2.1.trans (Cert.Kernel27Ideal.Hand.final4 m c), (h c).2.2.2⟩) (Cert.Kernel27Ideal.Value.run_blocks m g),
    (θ_run defs _ _).mono (fun r h c => ⟨(h c).1.trans ?_, (h c).2.1.trans ?_, (h c).2.2.1.trans ?_, (h c).2.2.2⟩) (Cert.Reference27Ideal.Value.run (F := Ideal) m' g')⟩
  iterate 2
    rw [(harg c).1, (harg c).2]
    funext y; idx_vars y
    simp only [Cert.Kernel27Ideal.Hand.res2, Cert.Kernel27Ideal.Hand.res3, Cert.Kernel27Ideal.Hand.val]
    pointwise
    simp only [n2_ix (m ((c.tc : Thread Cert.Kernel27Ideal.nD Cert.Kernel27Ideal.τ).loc Cert.Kernel27Ideal.main_arg0)),
      n2_ix (m ((c.tc : Thread Cert.Kernel27Ideal.nD Cert.Kernel27Ideal.τ).loc Cert.Kernel27Ideal.main_arg1))]
    exact grad_eq _ _ _ _
  · rw [(harg c).1, (harg c).2]
    funext y; idx_vars y
    rw [show ∀ z, Cert.Kernel27Ideal.Hand.res4 m c z = Cert.Kernel27Ideal.Hand.loss m c from fun _ => rfl]
    pointwise
    simp only [n2_ix (m ((c.tc : Thread Cert.Kernel27Ideal.nD Cert.Kernel27Ideal.τ).loc Cert.Kernel27Ideal.main_arg0)),
      n2_ix (m ((c.tc : Thread Cert.Kernel27Ideal.nD Cert.Kernel27Ideal.τ).loc Cert.Kernel27Ideal.main_arg1))]
    unfold Cert.Kernel27Ideal.Hand.loss
    exact total _ _ 8192

theorem frame : quiescent_Reference27Ideal (hReference27Ideal := Gen.facts) :=
  fun m ρ _ => (θ_run defs _ _).mono (fun r h => ⟨fun c => (h c).2.2.2, sem_eq_zero_of_no_sems (by decide) r.2⟩) (Cert.Reference27Ideal.Value.run (F := Ideal) m ρ)

end Cert.Reference27Ideal.Hand
-- ==== Proof.HeadNorm.lean ====
module
public import proofs.«01_k».proof.Proof.Prod
public import proofs.«01_k».proof.Proof.Gen.Kernel28Ideal.Frame
public import Idealize.ShloMosaic.Lib.Pipeline.Value
public import proofs.«01_k».proof.Proof.Gen.Reference28Ideal.Run
public import proofs.«01_k».proof.Defs
@[expose] public section
noncomputable section
/-! The norm of the delta rule's heads and their gate. -/
namespace Cert.HeadNorm
open Idealize.ShloMosaic

/-- A head of 128 columns normed by its root mean square and scaled by the gain. -/
def normed (x w : ℕ → ℕ → EReal) (r d : ℕ) : EReal :=
  x r d * Ideal.rsqrt (Ideal.div (∑ k : Fin 128, x r (d / 128 * 128 + k) * x r (d / 128 * 128 + k)) (Ideal.ofBits .f32 0x43000000#32)
    + Ideal.ofBits .f32 0x358637BD#32) * w 0 (d % 128)

def silu (x : EReal) : EReal := Ideal.div x (1 + Ideal.exp (-x))

def gated (x g w : ℕ → ℕ → EReal) (r d : ℕ) : EReal := normed x w r d * silu (g r d)

theorem silu_eq (x : EReal) : x * Ideal.div 1 (1 + Ideal.exp (-x)) = silu x := by
  have h : (1 : EReal) + Ideal.exp (-x) ≠ 0 := by
    have : 0 ≤ Ideal.exp (-x) := by
      unfold Ideal.exp
      split <;> simp [Real.exp_nonneg]
    have h1 : (0 : EReal) < 1 := by norm_num
    exact (lt_of_lt_of_le h1 (le_add_of_nonneg_right this)).ne'
  unfold silu Ideal.div
  rw [if_neg h, if_neg h, one_mul]

variable {R N : ℕ}

/-- Pieces of 128 columns that are a matrix's columns from `o` on, one piece after the other. -/
def Tiles (G : ℕ → ℕ → EReal) : ℕ → List (FVec Ideal ⟨2, ![R, 128]⟩ .f32) → Prop
  | _, [] => True
  | o, x :: xs => x = (fun y => G (y 0).val (o + (y 1).val)) ∧ Tiles G (o + 128) xs

abbrev slabs (xs : List (FVec Ideal ⟨2, ![R, 128]⟩ .f32)) : List ((s : Shape) × (s.Idx → EReal)) := xs.map fun x => ⟨⟨2, ![R, 128]⟩, x⟩

theorem side_by_side (G : ℕ → ℕ → EReal) (j : (⟨2, ![R, N]⟩ : Shape).Idx) : ∀ (xs : List (FVec Ideal ⟨2, ![R, 128]⟩ .f32)) (o : ℕ), Tiles G o xs →
    ∀ (hs : ∀ s ∈ (slabs xs).map (·.1), s.FitsOff ⟨2, ![R, N]⟩ 1) (n : ℕ) (hn : n < (axisSizes ⟨2, ![R, N]⟩ 1 (slabs xs)).sum),
    concatenateAt ⟨2, ![R, N]⟩ 1 j (slabs xs) hs n hn = G (j 0).val (o + n)
  | [], _, _, _, _, hn => absurd hn (Nat.not_lt_zero _)
  | [x], o, hx, hs, n, hn => by
    refine (concatenateAt_singleton 1 j x hs n hn).trans ?_
    rw [hx.1]
    rfl
  | x :: y :: xs, o, hx, hs, n, hn => by
    refine (concatenateAt_cons 1 j x ⟨⟨2, ![R, 128]⟩, y⟩ (slabs xs) hs n hn).trans ?_
    by_cases h : n < 128
    · refine (dif_pos h).trans ?_
      rw [hx.1]
      rfl
    · refine (dif_neg h).trans ((side_by_side G j (y :: xs) (o + 128) hx.2 _ _ _).trans ?_)
      show G _ (o + 128 + (n - 128)) = _
      rw [show o + 128 + (n - 128) = o + n by omega]

theorem concat {G : ℕ → ℕ → EReal} {xs : List (FVec Ideal ⟨2, ![R, 128]⟩ .f32)} (hx : Tiles G 0 xs) (h : Shape.Concatenates ((slabs xs).map (·.1)) ⟨2, ![R, N]⟩ 1) :
    concatenate ⟨2, ![R, N]⟩ 1 (slabs xs) h = fun j => G (j 0).val (j 1).val := by
  funext j
  refine (concatenate_apply ⟨2, ![R, N]⟩ 1 _ h j).trans ((side_by_side G j xs 0 hx _ _ _).trans ?_)
  rw [Nat.zero_add]

end Cert.HeadNorm

namespace Cert.Kernel28Ideal.Hand
open Cert.Kernel28Ideal Cert.Kernel28Ideal.Gen Idealize.ShloMosaic Idealize.ShloMosaic.TcCoe Idealize.SL.Sem Cert.BandAttention Cert.Product Cert.HeadNorm

/-- The kernel's lines for one head, at its first column. -/
def head (o : ℕ) (h : S128x4096.Slices ![0, o] S128x128) (v1 : FVec Ideal S128x4096 .f32) (v4 : Vec Ideal S1x128 .f32) : FVec Ideal S128x128 .f32 :=
  mulf (mulf (extractStridedSlice S128x128 ![0, o] v1 h) (broadcastTo S128x128 (rsqrt (addf (divf (shapeCast S128x1 (multiReduction .add [1] S128
    (mulf (extractStridedSlice S128x128 ![0, o] v1 h) (extractStridedSlice S128x128 ![0, o] v1 h)) 0x00000000#32 reduces_S128x128_S128 (.inl rfl) rfl) shapeCasts_S128_S128x1)
    (broadcast S128x1 (Scalar.ofBits .f32 0x43000000#32))) (broadcast S128x1 (Scalar.ofBits .f32 0x358637BD#32)))) broadcasts_S128x1_S128x128))
    (broadcastTo S128x128 v4 broadcasts_S1x128_S128x128)

theorem head_eq (n : ℕ) (h : S128x4096.Slices ![0, n * 128] S128x128) (v1 : FVec Ideal S128x4096 .f32) (v4 : Vec Ideal S1x128 .f32) :
    head (n * 128) h v1 v4 = fun y => normed (n2 v1) (n2 v4) (y 0).val (n * 128 + (y 1).val) := by
  funext y; idx_vars y
  pointwise [head]
  simp only [n2_ix v1, n2_ix v4]
  have h1 := y1.isLt
  unfold normed
  rw [show (n * 128 + y1.val) / 128 = n by omega, show (n * 128 + y1.val) % 128 = y1.val by omega]
  rfl

theorem gate_eq (v : FVec Ideal S128x4096 .f32) (g : FVec Ideal S128x4096 .bf16) (w : ℕ → ℕ → EReal) (x : ℕ → ℕ → EReal)
    (hv : v = fun y => normed x w (y 0).val (y 1).val) :
    k0_pay1 (k0_pay3 g) v (k0_pay49 (k0_pay3 g)) = fun y => gated x (n2 g) w (y 0).val (y 1).val := by
  subst hv
  funext y; idx_vars y
  pointwise [k0_pay1, k0_pay49, k0_pay3]
  rw [zero_sub, n2_ix g]
  rfl

theorem out (x g : Vec Ideal S128x4096 .bf16) (w : Vec Ideal S1x128 .f32) :
    out0_3 x g w = fun y => gated (n2 x) (n2 g) (n2 w) (y 0).val (y 1).val := by
  unfold out0_3 k0_pay51 k0_pay50
  rw [show View.ld x r0_0 = x from View.ld_unit_zero hz2 _ x, show View.ld g r0_0 = g from View.ld_unit_zero hz2 _ g,
    show View.ld w r0_1 = w from View.ld_unit_zero hz2 _ w]
  refine (View.canon_unit_zero hz2 _ _).trans ?_
  refine gate_eq _ g (n2 w) (n2 x) ?_
  unfold k0_pay48
  refine concat (xs := [_, _, _, _, _, _, _, _, _, _, _, _, _, _, _, _, _, _, _, _, _, _, _, _, _, _, _, _, _, _, _, _]) ?_ _
  exact ⟨head_eq 0 slices_S128x4096_o0_0_S128x128 x w, head_eq 1 slices_S128x4096_o0_128_S128x128 x w, head_eq 2 slices_S128x4096_o0_256_S128x128 x w, head_eq 3 slices_S128x4096_o0_384_S128x128 x w, head_eq 4 slices_S128x4096_o0_512_S128x128 x w, head_eq 5 slices_S128x4096_o0_640_S128x128 x w, head_eq 6 slices_S128x4096_o0_768_S128x128 x w, head_eq 7 slices_S128x4096_o0_896_S128x128 x w, head_eq 8 slices_S128x4096_o0_1024_S128x128 x w, head_eq 9 slices_S128x4096_o0_1152_S128x128 x w, head_eq 10 slices_S128x4096_o0_1280_S128x128 x w, head_eq 11 slices_S128x4096_o0_1408_S128x128 x w, head_eq 12 slices_S128x4096_o0_1536_S128x128 x w, head_eq 13 slices_S128x4096_o0_1664_S128x128 x w, head_eq 14 slices_S128x4096_o0_1792_S128x128 x w, head_eq 15 slices_S128x4096_o0_1920_S128x128 x w, head_eq 16 slices_S128x4096_o0_2048_S128x128 x w, head_eq 17 slices_S128x4096_o0_2176_S128x128 x w, head_eq 18 slices_S128x4096_o0_2304_S128x128 x w, head_eq 19 slices_S128x4096_o0_2432_S128x128 x w, head_eq 20 slices_S128x4096_o0_2560_S128x128 x w, head_eq 21 slices_S128x4096_o0_2688_S128x128 x w, head_eq 22 slices_S128x4096_o0_2816_S128x128 x w, head_eq 23 slices_S128x4096_o0_2944_S128x128 x w, head_eq 24 slices_S128x4096_o0_3072_S128x128 x w, head_eq 25 slices_S128x4096_o0_3200_S128x128 x w, head_eq 26 slices_S128x4096_o0_3328_S128x128 x w, head_eq 27 slices_S128x4096_o0_3456_S128x128 x w, head_eq 28 slices_S128x4096_o0_3584_S128x128 x w, head_eq 29 slices_S128x4096_o0_3712_S128x128 x w, head_eq 30 slices_S128x4096_o0_3840_S128x128 x w, head_eq 31 slices_S128x4096_o0_3968_S128x128 x w, trivial⟩

variable (m : (ℓ : Loc nD τ sig) → Buf (Elt Ideal) ℓ) (c : Dev nD)

theorem run_blocks (ρ : Dev nD → PrngReg) : θ_run defs (onTc (τ := τ) (main (F := Ideal))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

def At (t : Fin grid0.N) : Prop := (win0_0.index t 0 = t.val ∧ win0_0.index t 1 = 0) ∧ (win0_1.index t 0 = t.val ∧ win0_1.index t 1 = 2)
  ∧ (win0_2.index t 0 = 0 ∧ win0_2.index t 1 = 0) ∧ win0_3.index t 0 = t.val ∧ win0_3.index t 1 = 0
theorem ix (t : Fin cfg0.N) : At t := (by unfold At; decide +kernel : ∀ t : Fin grid0.N, At t) t

abbrev heads : ℕ → ℕ → EReal := n2 (m ((c : Thread nD τ).loc main_arg0))
abbrev gates : ℕ → ℕ → EReal := fun r d => n2 (m ((c : Thread nD τ).loc main_arg1)) r (8192 + d)
abbrev gain : ℕ → ℕ → EReal := n2 (m ((c : Thread nD τ).loc main_arg2))
@[irreducible] def val : ℕ → ℕ → EReal := gated (heads m c) (gates m c) (gain m c)
/-- What the launch leaves. -/
def res : Buf (Elt Ideal) ((c : Thread nD τ).loc main_v0) := fun y => val m c (y 0).val (y 1).val

theorem block (t : Fin cfg0.N) (r d : ℕ) (hr : r < 128) (hd : d < 4096) :
    gated (n2 (iblk m c 0 t)) (n2 (iblk m c 1 t)) (n2 (iblk m c 2 t)) r d = val m c (t.val * 128 + r) d := by
  obtain ⟨⟨a0, a1⟩, ⟨b0, b1⟩, ⟨w0, w1⟩, -⟩ := ix t
  have e (d : ℕ) (hd : d < 4096) : n2 (iblk m c 0 t) r d = heads m c (t.val * 128 + r) (0 * 4096 + d) :=
    tileAt (m ((c : Thread nD τ).loc main_arg0)) (iblk m c 0 t) (fun _ => rfl) (fun _ => rfl) (fun _ => rfl) a0 a1 hr hd
  have f : n2 (iblk m c 1 t) r d = n2 (m ((c : Thread nD τ).loc main_arg1)) (t.val * 128 + r) (2 * 4096 + d) :=
    tileAt (m ((c : Thread nD τ).loc main_arg1)) (iblk m c 1 t) (fun _ => rfl) (fun _ => rfl) (fun _ => rfl) b0 b1 hr hd
  have g : n2 (iblk m c 2 t) 0 (d % 128) = gain m c (0 * 1 + 0) (0 * 128 + d % 128) :=
    tileAt (m ((c : Thread nD τ).loc main_arg2)) (iblk m c 2 t) (fun _ => rfl) (fun _ => rfl) (fun _ => rfl) w0 w1 (by decide) (Nat.mod_lt _ (by decide))
  simp only [Nat.zero_mul, Nat.zero_add] at e g
  unfold val gated normed
  rw [e d hd, f, g]
  simp only [fun k : Fin 128 => e (d / 128 * 128 + k) (by have := k.isLt; omega)]

theorem final : (dats m 0 c).arrAt 3 cfg0.N = res m c := by
  refine (dats m 0 c).arrAt_eq_of_cover 3 (res m c) (fun t hf => ?_) ((show (cfg0.win 3).Covers by decide +kernel).cover _ (Memref.isWhole_whole _))
  show (cfg0.win 3).cut (grid0.coords t) ((dats m 0 c).after 3 t) = _
  rw [after0_3, out]
  refine placed (val m c) (res m c) (fun _ => rfl) (fun _ => rfl) (fun _ => rfl) (ix t).2.2.2.1 (ix t).2.2.2.2 fun y => ?_
  rw [Nat.zero_mul, Nat.zero_add]
  exact block m c t _ _ (y 0).isLt (y 1).isLt

end Cert.Kernel28Ideal.Hand

namespace Cert.Reference28Ideal.Hand
open Cert.Reference28Ideal Cert.Reference28Ideal.Gen Idealize.ShloMosaic Idealize.ShloMosaic.TcCoe Idealize.SL.Sem Cert.BandAttention Cert.Product Cert.HeadNorm

theorem algebraic : algebraic_Kernel28Ideal_Reference28Ideal (hKernel28Ideal := Cert.Kernel28Ideal.Gen.facts) (hReference28Ideal := Gen.facts) := by
  intro m g m' g' _ harg
  refine ⟨fun c => Cert.Kernel28Ideal.Hand.res m c,
    (θ_run Cert.Kernel28Ideal.defs _ _).mono (fun r h c => ⟨(h c).1.trans (Cert.Kernel28Ideal.Hand.final m c), (h c).2⟩) (Cert.Kernel28Ideal.Hand.run_blocks m g),
    (θ_run defs _ _).mono (fun r h c => ⟨(h c).1.trans ?_, (h c).2⟩) (Cert.Reference28Ideal.Value.run (F := Ideal) m' g')⟩
  rw [(harg c).1, (harg c).2.1, (harg c).2.2]
  funext y; idx_vars y
  simp only [Cert.Kernel28Ideal.Hand.res, Cert.Kernel28Ideal.Hand.val]
  pointwise
  simp only [n2_ix (m ((c.tc : Thread Cert.Kernel28Ideal.nD Cert.Kernel28Ideal.τ).loc Cert.Kernel28Ideal.main_arg0)),
    n2_ix (m ((c.tc : Thread Cert.Kernel28Ideal.nD Cert.Kernel28Ideal.τ).loc Cert.Kernel28Ideal.main_arg1)),
    n2_ix (m ((c.tc : Thread Cert.Kernel28Ideal.nD Cert.Kernel28Ideal.τ).loc Cert.Kernel28Ideal.main_arg2))]
  rw [silu_eq]
  rfl

theorem frame : quiescent_Reference28Ideal (hReference28Ideal := Gen.facts) :=
  fun m ρ _ => (θ_run defs _ _).mono (fun r h => ⟨fun c => (h c).2, sem_eq_zero_of_no_sems (by decide) r.2⟩) (Cert.Reference28Ideal.Value.run (F := Ideal) m ρ)

end Cert.Reference28Ideal.Hand
-- ==== Proof.QkvNorm.lean ====
module
public import proofs.«01_k».proof.Proof.HeadNorm
public import proofs.«01_k».proof.Proof.Gen.Kernel29Ideal.Frame
public import proofs.«01_k».proof.Proof.Gen.Reference29Ideal.Run
@[expose] public section
noncomputable section
/-! The norms of the attention's queries and keys, and the rows of zeros before keys and values. -/
namespace Cert.QkvNorm
open Idealize.ShloMosaic Cert.HeadNorm Cert.BandAttention Cert.Product

/-- The rows after 512 rows of zeros. -/
def padded (f : ℕ → ℕ → EReal) (r d : ℕ) : EReal := if r < 512 then 0 else f (r - 512) d

/-- The columns from `o` on. -/
def part (A : ℕ → ℕ → EReal) (o r d : ℕ) : EReal := A r (o + d)

theorem rounded {S : Shape} (x : FVec Ideal S .f32) (h) : truncf .bf16 x h = x := rfl

theorem normed_congr {x x' w w' : ℕ → ℕ → EReal} {r r' d : ℕ} (hd : d < 2048) (hx : ∀ d, d < 2048 → x r d = x' r' d)
    (hw : ∀ d, d < 128 → w 0 d = w' 0 d) : normed x w r d = normed x' w' r' d := by
  unfold normed
  rw [hx d hd, hw _ (Nat.mod_lt _ (by decide))]
  simp only [fun k : Fin 128 => hx (d / 128 * 128 + k) (by have := k.isLt; omega)]

theorem pad_eq {f : ℕ → ℕ → EReal} (z : (⟨2, ![512, 2048]⟩ : Shape).Idx → EReal) (x : (⟨2, ![8192, 2048]⟩ : Shape).Idx → EReal)
    (hz : ∀ i, z i = 0) (hx : ∀ i, x i = f (i 0).val (i 1).val) (h) :
    concatenate ⟨2, ![8704, 2048]⟩ 0 [⟨⟨2, ![512, 2048]⟩, z⟩, ⟨⟨2, ![8192, 2048]⟩, x⟩] h = fun y => padded f (y 0).val (y 1).val := by
  funext y
  unfold padded
  have h0 : (y 0).val < 8704 := (y 0).isLt
  by_cases hy : (y 0).val < 512
  · rw [if_pos hy]
    refine (concatenate_pair_apply_left 0 z x h y rfl (Fin.cons ⟨(y 0).val, hy⟩ (Fin.cons (y 1) finZeroElim)) fun b => ?_).trans (hz _)
    fin_cases b <;> rfl
  · rw [if_neg hy]
    refine (concatenate_pair_apply_right 0 z x h y rfl rfl (Fin.cons ⟨(y 0).val - 512, by show _ < 8192; omega⟩ (Fin.cons (y 1) finZeroElim)) (fun b hb => ?_) ?_).trans (hx _)
    · fin_cases b
      · exact absurd rfl hb
      · rfl
    · show (y 0).val - 512 + 512 = _
      omega

end Cert.QkvNorm

namespace Cert.Kernel29Ideal.Hand
open Cert.Kernel29Ideal Cert.Kernel29Ideal.Gen Idealize.ShloMosaic Idealize.ShloMosaic.TcCoe Idealize.SL.Sem Cert.BandAttention Cert.Product Cert.HeadNorm Cert.QkvNorm

/-- The kernel's lines for one head, at its first column. -/
def head (o : ℕ) (h : S512x2048.Slices ![0, o] S512x128) (v1 : FVec Ideal S512x2048 .f32) (v4 : Vec Ideal S1x128 .f32) : FVec Ideal S512x128 .f32 :=
  mulf (mulf (extractStridedSlice S512x128 ![0, o] v1 h) (broadcastTo S512x128 (rsqrt (addf (divf (shapeCast S512x1 (multiReduction .add [1] S512
    (mulf (extractStridedSlice S512x128 ![0, o] v1 h) (extractStridedSlice S512x128 ![0, o] v1 h)) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128))
    (broadcastTo S512x128 v4 broadcasts_S1x128_S512x128)

theorem head_eq (n : ℕ) (h : S512x2048.Slices ![0, n * 128] S512x128) (v1 : FVec Ideal S512x2048 .f32) (v4 : Vec Ideal S1x128 .f32) :
    head (n * 128) h v1 v4 = fun y => normed (n2 v1) (n2 v4) (y 0).val (n * 128 + (y 1).val) := by
  funext y; idx_vars y
  pointwise [head]
  simp only [n2_ix v1, n2_ix v4]
  have h1 := y1.isLt
  unfold normed
  rw [show (n * 128 + y1.val) / 128 = n by omega, show (n * 128 + y1.val) % 128 = y1.val by omega]
  rfl

/-- The factor that clears the first block. -/
def keep (i : grid0.Coords) : EReal := k0_pay3 (F := Ideal) i

theorem keep_eq (i : grid0.Coords) : keep i = if (i 0).val = 0 then 0 else 1 := by
  unfold keep k0_pay3
  generalize hn : i 0 = n
  have e0 : Scalar.ofBits (F := Ideal) .f32 0x00000000#32 = (0 : EReal) := Ideal.ofBits_zero_f32
  have e1 : Scalar.ofBits (F := Ideal) .f32 0x3F800000#32 = (1 : EReal) := Ideal.ofBits_one_f32
  simp only [e0, e1]
  revert n
  intro n _
  by_cases h : n.val = 0
  · rw [if_pos h, h]
    rfl
  · have hlt : n.val < 17 := n.isLt
    rw [if_neg h, show Scalar.cmpi .eq (BitVec.ofNat 32 n.val) 0#32 = 0#1 from (by decide +revert : ∀ k : Fin 17, k.val ≠ 0 → Scalar.cmpi .eq (BitVec.ofNat 32 k.val) 0#32 = 0#1) ⟨n.val, hlt⟩ h]
    rfl

theorem cleared (i : grid0.Coords) {G : ℕ → ℕ → EReal} (v : FVec Ideal S512x2048 .f32) (h : v = fun y => G (y 0).val (y 1).val) :
    k0_pay1 v (k0_pay51 (k0_pay3 i)) = fun y => G (y 0).val (y 1).val * keep i := by
  subst h
  rfl

theorem out_q (i : grid0.Coords) (x : Vec Ideal S512x6144 .bf16) (w w' : Vec Ideal S1x128 .f32) :
    out0_3 i x w w' = fun y => normed (n2 (View.ld x r0_0)) (n2 w) (y 0).val (y 1).val := by
  unfold out0_3
  rw [show View.ld w r0_1 = w from View.ld_unit_zero hz2 _ w]
  refine (View.canon_unit_zero hz2 _ _).trans ?_
  unfold k0_pay28
  refine (rounded _ _).trans ?_
  refine concat (xs := [_, _, _, _, _, _, _, _, _, _, _, _, _, _, _, _]) ?_ _
  exact ⟨head_eq 0 slices_S512x2048_o0_0_S512x128 (View.ld x r0_0) w, head_eq 1 slices_S512x2048_o0_128_S512x128 (View.ld x r0_0) w, head_eq 2 slices_S512x2048_o0_256_S512x128 (View.ld x r0_0) w, head_eq 3 slices_S512x2048_o0_384_S512x128 (View.ld x r0_0) w, head_eq 4 slices_S512x2048_o0_512_S512x128 (View.ld x r0_0) w, head_eq 5 slices_S512x2048_o0_640_S512x128 (View.ld x r0_0) w, head_eq 6 slices_S512x2048_o0_768_S512x128 (View.ld x r0_0) w, head_eq 7 slices_S512x2048_o0_896_S512x128 (View.ld x r0_0) w, head_eq 8 slices_S512x2048_o0_1024_S512x128 (View.ld x r0_0) w, head_eq 9 slices_S512x2048_o0_1152_S512x128 (View.ld x r0_0) w, head_eq 10 slices_S512x2048_o0_1280_S512x128 (View.ld x r0_0) w, head_eq 11 slices_S512x2048_o0_1408_S512x128 (View.ld x r0_0) w, head_eq 12 slices_S512x2048_o0_1536_S512x128 (View.ld x r0_0) w, head_eq 13 slices_S512x2048_o0_1664_S512x128 (View.ld x r0_0) w, head_eq 14 slices_S512x2048_o0_1792_S512x128 (View.ld x r0_0) w, head_eq 15 slices_S512x2048_o0_1920_S512x128 (View.ld x r0_0) w, trivial⟩

theorem out_k (i : grid0.Coords) (x : Vec Ideal S512x6144 .bf16) (w w' : Vec Ideal S1x128 .f32) :
    out0_4 i x w w' = fun y => normed (n2 (View.ld x r0_3)) (n2 w') (y 0).val (y 1).val * keep i := by
  unfold out0_4
  rw [show View.ld w' r0_1 = w' from View.ld_unit_zero hz2 _ w']
  refine (View.canon_unit_zero hz2 _ _).trans (cleared i (G := normed (n2 (View.ld x r0_3)) (n2 w')) _ ?_)
  unfold k0_pay50
  refine concat (xs := [_, _, _, _, _, _, _, _, _, _, _, _, _, _, _, _]) (G := normed (n2 (View.ld x r0_3)) (n2 w')) ?_ _
  exact ⟨head_eq 0 slices_S512x2048_o0_0_S512x128 (View.ld x r0_3) w', head_eq 1 slices_S512x2048_o0_128_S512x128 (View.ld x r0_3) w', head_eq 2 slices_S512x2048_o0_256_S512x128 (View.ld x r0_3) w', head_eq 3 slices_S512x2048_o0_384_S512x128 (View.ld x r0_3) w', head_eq 4 slices_S512x2048_o0_512_S512x128 (View.ld x r0_3) w', head_eq 5 slices_S512x2048_o0_640_S512x128 (View.ld x r0_3) w', head_eq 6 slices_S512x2048_o0_768_S512x128 (View.ld x r0_3) w', head_eq 7 slices_S512x2048_o0_896_S512x128 (View.ld x r0_3) w', head_eq 8 slices_S512x2048_o0_1024_S512x128 (View.ld x r0_3) w', head_eq 9 slices_S512x2048_o0_1152_S512x128 (View.ld x r0_3) w', head_eq 10 slices_S512x2048_o0_1280_S512x128 (View.ld x r0_3) w', head_eq 11 slices_S512x2048_o0_1408_S512x128 (View.ld x r0_3) w', head_eq 12 slices_S512x2048_o0_1536_S512x128 (View.ld x r0_3) w', head_eq 13 slices_S512x2048_o0_1664_S512x128 (View.ld x r0_3) w', head_eq 14 slices_S512x2048_o0_1792_S512x128 (View.ld x r0_3) w', head_eq 15 slices_S512x2048_o0_1920_S512x128 (View.ld x r0_3) w', trivial⟩

theorem out_v (i : grid0.Coords) (x : Vec Ideal S512x6144 .bf16) (w w' : Vec Ideal S1x128 .f32) :
    out0_5 i x w w' = fun y => n2 (View.ld x r0_4) (y 0).val (y 1).val * keep i := by
  unfold out0_5
  exact (View.canon_unit_zero hz2 _ _).trans (funext fun y => congrArg (fun v : EReal => v * keep i) (at2 (View.ld x r0_4) y _ _ rfl rfl))

variable (m : (ℓ : Loc nD τ sig) → Buf (Elt Ideal) ℓ) (c : Dev nD)

theorem run_blocks (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_v0_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1 3, (h c).1 4, (h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

def At (t : Fin grid0.N) : Prop := (win0_0.index t 0 = t.val - 1 ∧ win0_0.index t 1 = 0) ∧ (win0_1.index t 0 = 0 ∧ win0_1.index t 1 = 0)
  ∧ (win0_2.index t 0 = 0 ∧ win0_2.index t 1 = 0) ∧ (win0_3.index t 0 = t.val - 1 ∧ win0_3.index t 1 = 0)
  ∧ (win0_4.index t 0 = t.val ∧ win0_4.index t 1 = 0) ∧ (win0_5.index t 0 = t.val ∧ win0_5.index t 1 = 0) ∧ (grid0.coords t 0).val = t.val
theorem ix (t : Fin cfg0.N) : At t := (by unfold At; decide +kernel : ∀ t : Fin grid0.N, At t) t

abbrev rows : ℕ → ℕ → EReal := n2 (m ((c : Thread nD τ).loc main_arg0))
@[irreducible] def query : ℕ → ℕ → EReal := normed (part (rows m c) 0) (n2 (m ((c : Thread nD τ).loc main_arg1)))
@[irreducible] def key : ℕ → ℕ → EReal := normed (part (rows m c) 2048) (n2 (m ((c : Thread nD τ).loc main_arg2)))
@[irreducible] def keyPad : ℕ → ℕ → EReal := padded (key m c)
@[irreducible] def valuePad : ℕ → ℕ → EReal := padded (part (rows m c) 4096)
/-- What the launch leaves: the queries. -/
def resQ : Buf (Elt Ideal) ((c : Thread nD τ).loc main_v0_0) := fun y => query m c (y 0).val (y 1).val
/-- What the launch leaves: the keys. -/
def resK : Buf (Elt Ideal) ((c : Thread nD τ).loc main_v0_1) := fun y => keyPad m c (y 0).val (y 1).val
/-- What the launch leaves: the values. -/
def resV : Buf (Elt Ideal) ((c : Thread nD τ).loc main_v0_2) := fun y => valuePad m c (y 0).val (y 1).val

theorem resK_eq : resK m c = fun y => padded (normed (part (rows m c) 2048) (n2 (m ((c : Thread nD τ).loc main_arg2)))) (y 0).val (y 1).val := by
  unfold resK keyPad key
  rfl

theorem resV_eq : resV m c = fun y => padded (part (rows m c) 4096) (y 0).val (y 1).val := by
  unfold resV valuePad
  rfl

theorem input (t : Fin cfg0.N) (r d : ℕ) (hr : r < 512) (hd : d < 6144) : n2 (iblk m c 0 t) r d = rows m c ((t.val - 1) * 512 + r) d := by
  have e : n2 (iblk m c 0 t) r d = rows m c ((t.val - 1) * 512 + r) (0 * 6144 + d) :=
    tileAt (m ((c : Thread nD τ).loc main_arg0)) (iblk m c 0 t) (fun _ => rfl) (fun _ => rfl) (fun _ => rfl) (ix t).1.1 (ix t).1.2 hr hd
  rwa [Nat.zero_mul, Nat.zero_add] at e

theorem cols (x : Vec Ideal S512x6144 .bf16) (r d : ℕ) (hr : r < 512) (hd : d < 2048) :
    n2 (View.ld x r0_0) r d = n2 x r (0 + d) ∧ n2 (View.ld x r0_3) r d = n2 x r (2048 + d) ∧ n2 (View.ld x r0_4) r d = n2 x r (4096 + d) := by
  have e0 : n2 (View.ld x r0_0) r d = n2 x (0 * 512 + r) (0 * 2048 + d) :=
    tileAt x (View.ld x r0_0) (fun _ => rfl) (i' := 0) (j' := 0) (fun _ => rfl) (fun _ => rfl) rfl rfl hr hd
  have e1 : n2 (View.ld x r0_3) r d = n2 x (0 * 512 + r) (1 * 2048 + d) :=
    tileAt x (View.ld x r0_3) (fun _ => rfl) (i' := 0) (j' := 1) (fun _ => rfl) (fun _ => rfl) rfl rfl hr hd
  have e2 : n2 (View.ld x r0_4) r d = n2 x (0 * 512 + r) (2 * 2048 + d) :=
    tileAt x (View.ld x r0_4) (fun _ => rfl) (i' := 0) (j' := 2) (fun _ => rfl) (fun _ => rfl) rfl rfl hr hd
  rw [e0, e1, e2, Nat.zero_mul, Nat.zero_add]
  exact ⟨rfl, by rw [Nat.one_mul], rfl⟩

theorem gains (t : Fin cfg0.N) (d : ℕ) (hd : d < 128) : n2 (iblk m c 1 t) 0 d = n2 (m ((c : Thread nD τ).loc main_arg1)) 0 d
    ∧ n2 (iblk m c 2 t) 0 d = n2 (m ((c : Thread nD τ).loc main_arg2)) 0 d := by
  have e : n2 (iblk m c 1 t) 0 d = n2 (m ((c : Thread nD τ).loc main_arg1)) (0 * 1 + 0) (0 * 128 + d) :=
    tileAt (m ((c : Thread nD τ).loc main_arg1)) (iblk m c 1 t) (fun _ => rfl) (fun _ => rfl) (fun _ => rfl) (ix t).2.1.1 (ix t).2.1.2 (by decide) hd
  have f : n2 (iblk m c 2 t) 0 d = n2 (m ((c : Thread nD τ).loc main_arg2)) (0 * 1 + 0) (0 * 128 + d) :=
    tileAt (m ((c : Thread nD τ).loc main_arg2)) (iblk m c 2 t) (fun _ => rfl) (fun _ => rfl) (fun _ => rfl) (ix t).2.2.1.1 (ix t).2.2.1.2 (by decide) hd
  simp only [Nat.zero_mul, Nat.zero_add] at e f
  exact ⟨e, f⟩

theorem block_q (t : Fin cfg0.N) (r d : ℕ) (hr : r < 512) (hd : d < 2048) :
    normed (n2 (View.ld (iblk m c 0 t) r0_0)) (n2 (iblk m c 1 t)) r d = query m c ((t.val - 1) * 512 + r) d := by
  unfold query
  exact normed_congr hd (fun d hd => (cols (iblk m c 0 t) r d hr hd).1.trans (input m c t r _ hr (by omega))) fun d hd => (gains m c t d hd).1

theorem block_k (t : Fin cfg0.N) (r d : ℕ) (hr : r < 512) (hd : d < 2048) :
    normed (n2 (View.ld (iblk m c 0 t) r0_3)) (n2 (iblk m c 2 t)) r d = key m c ((t.val - 1) * 512 + r) d := by
  unfold key
  exact normed_congr hd (fun d hd => (cols (iblk m c 0 t) r d hr hd).2.1.trans (input m c t r _ hr (by omega))) fun d hd => (gains m c t d hd).2

/-- The first block is cleared and the others are the rows one block earlier. -/
theorem shifted (t : Fin cfg0.N) (f : ℕ → ℕ → EReal) (r d : ℕ) (hr : r < 512) :
    f ((t.val - 1) * 512 + r) d * keep (grid0.coords t) = padded f (t.val * 512 + r) d := by
  rw [keep_eq, (ix t).2.2.2.2.2.2]
  unfold padded
  by_cases h : t.val = 0
  · rw [if_pos h, if_pos (by omega), mul_zero]
  · rw [if_neg h, if_neg (by omega), mul_one, show t.val * 512 + r - 512 = (t.val - 1) * 512 + r by omega]

theorem final_q : (dats m 0 c).arrAt 3 cfg0.N = resQ m c := by
  refine (dats m 0 c).arrAt_eq_of_cover 3 (resQ m c) (fun t hf => ?_) ((show (cfg0.win 3).Covers by decide +kernel).cover _ (Memref.isWhole_whole _))
  show (cfg0.win 3).cut (grid0.coords t) ((dats m 0 c).after 3 t) = _
  rw [after0_3, out_q]
  refine placed (query m c) (resQ m c) (fun _ => rfl) (fun _ => rfl) (fun _ => rfl) (ix t).2.2.2.1.1 (ix t).2.2.2.1.2 fun y => ?_
  rw [Nat.zero_mul, Nat.zero_add]
  exact block_q m c t _ _ (y 0).isLt (y 1).isLt

theorem final_k : (dats m 0 c).arrAt 4 cfg0.N = resK m c := by
  refine (dats m 0 c).arrAt_eq_of_cover 4 (resK m c) (fun t hf => ?_) ((show (cfg0.win 4).Covers by decide +kernel).cover _ (Memref.isWhole_whole _))
  show (cfg0.win 4).cut (grid0.coords t) ((dats m 0 c).after 4 t) = _
  rw [after0_4, out_k]
  refine placed (keyPad m c) (resK m c) (fun _ => rfl) (fun _ => rfl) (fun _ => rfl) (ix t).2.2.2.2.1.1 (ix t).2.2.2.2.1.2 fun y => ?_
  rw [Nat.zero_mul, Nat.zero_add]
  unfold keyPad
  exact (congrArg (· * keep _) (block_k m c t _ _ (y 0).isLt (y 1).isLt)).trans (shifted t _ _ _ (y 0).isLt)

theorem final_v : (dats m 0 c).arrAt 5 cfg0.N = resV m c := by
  refine (dats m 0 c).arrAt_eq_of_cover 5 (resV m c) (fun t hf => ?_) ((show (cfg0.win 5).Covers by decide +kernel).cover _ (Memref.isWhole_whole _))
  show (cfg0.win 5).cut (grid0.coords t) ((dats m 0 c).after 5 t) = _
  rw [after0_5, out_v]
  refine placed (valuePad m c) (resV m c) (fun _ => rfl) (fun _ => rfl) (fun _ => rfl) (ix t).2.2.2.2.2.1.1 (ix t).2.2.2.2.2.1.2 fun y => ?_
  rw [Nat.zero_mul, Nat.zero_add]
  unfold valuePad
  have hd : (y 1).val < 2048 := (y 1).isLt
  exact (congrArg (· * keep _) ((cols (iblk m c 0 t) _ _ (y 0).isLt (y 1).isLt).2.2.trans (input m c t _ _ (y 0).isLt (by omega)))).trans
    (shifted t (part (rows m c) 4096) _ _ (y 0).isLt)

end Cert.Kernel29Ideal.Hand

namespace Cert.Reference29Ideal.Hand
open Cert.Reference29Ideal Cert.Reference29Ideal.Gen Idealize.ShloMosaic Idealize.ShloMosaic.TcCoe Idealize.SL.Sem Cert.BandAttention Cert.Product Cert.HeadNorm Cert.QkvNorm

theorem algebraic : algebraic_Kernel29Ideal_Reference29Ideal (hKernel29Ideal := Cert.Kernel29Ideal.Gen.facts) (hReference29Ideal := Gen.facts) := by
  intro m g m' g' _ harg
  refine ⟨fun c => Cert.Kernel29Ideal.Hand.resQ m c, fun c => Cert.Kernel29Ideal.Hand.resK m c, fun c => Cert.Kernel29Ideal.Hand.resV m c,
    (θ_run Cert.Kernel29Ideal.defs _ _).mono (fun r h c => ⟨(h c).1.trans (Cert.Kernel29Ideal.Hand.final_q m c), (h c).2.1.trans (Cert.Kernel29Ideal.Hand.final_k m c),
      (h c).2.2.1.trans (Cert.Kernel29Ideal.Hand.final_v m c), (h c).2.2.2⟩) (Cert.Kernel29Ideal.Hand.run_blocks m g),
    (θ_run defs _ _).mono (fun r h c => ⟨(h c).1.trans ?_, (h c).2.1.trans ?_, (h c).2.2.1.trans ?_, (h c).2.2.2⟩) (Cert.Reference29Ideal.Value.run (F := Ideal) m' g')⟩
  all_goals rw [(harg c).1]
  · rw [(harg c).2.1]
    funext y; idx_vars y
    simp only [Cert.Kernel29Ideal.Hand.resQ, Cert.Kernel29Ideal.Hand.query]
    pointwise
    simp only [n2_ix (m ((c.tc : Thread Cert.Kernel29Ideal.nD Cert.Kernel29Ideal.τ).loc Cert.Kernel29Ideal.main_arg0)),
      n2_ix (m ((c.tc : Thread Cert.Kernel29Ideal.nD Cert.Kernel29Ideal.τ).loc Cert.Kernel29Ideal.main_arg1))]
    simp only [normed, part, Nat.zero_add]
    rfl
  · rw [(harg c).2.2]
    show _ = Cert.Kernel29Ideal.Hand.resK m c
    rw [Cert.Kernel29Ideal.Hand.resK_eq]
    refine (rounded _ _).trans (pad_eq _ _ (fun i => ?_) (fun i => ?_) _)
    · idx_vars i
      pointwise
    · idx_vars i
      pointwise
      simp only [n2_ix (m ((c.tc : Thread Cert.Kernel29Ideal.nD Cert.Kernel29Ideal.τ).loc Cert.Kernel29Ideal.main_arg0)),
        n2_ix (m ((c.tc : Thread Cert.Kernel29Ideal.nD Cert.Kernel29Ideal.τ).loc Cert.Kernel29Ideal.main_arg2))]
      rfl
  · show _ = Cert.Kernel29Ideal.Hand.resV m c
    rw [Cert.Kernel29Ideal.Hand.resV_eq]
    refine (rounded _ _).trans (pad_eq _ _ (fun i => ?_) (fun i => ?_) _)
    · idx_vars i
      pointwise
    · idx_vars i
      pointwise
      simp only [n2_ix (m ((c.tc : Thread Cert.Kernel29Ideal.nD Cert.Kernel29Ideal.τ).loc Cert.Kernel29Ideal.main_arg0))]
      rfl

theorem frame : quiescent_Reference29Ideal (hReference29Ideal := Gen.facts) :=
  fun m ρ _ => (θ_run defs _ _).mono (fun r h => ⟨fun c => (h c).2.2.2, sem_eq_zero_of_no_sems (by decide) r.2⟩) (Cert.Reference29Ideal.Value.run (F := Ideal) m ρ)

end Cert.Reference29Ideal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Reference29Ideal.Run
public import proofs.«01_k».proof.Proof.Final
public import proofs.«01_k».proof.Proof.FfnDh
public import proofs.«01_k».proof.Proof.FfnDAct
public import proofs.«01_k».proof.Proof.FfnDWd
public import proofs.«01_k».proof.Proof.FfnDWu
public import proofs.«01_k».proof.Proof.FfnUp
public import proofs.«01_k».proof.Proof.FfnDown
public import proofs.«01_k».proof.Proof.AttDh
public import proofs.«01_k».proof.Proof.AttDWqkv
public import proofs.«01_k».proof.Proof.AttDO
public import proofs.«01_k».proof.Proof.AttDWo
public import proofs.«01_k».proof.Proof.AttQkv
public import proofs.«01_k».proof.Proof.AttOut
public import proofs.«01_k».proof.Proof.GdnDhMain
public import proofs.«01_k».proof.Proof.GdnDhAb
public import proofs.«01_k».proof.Proof.GdnDWmain
public import proofs.«01_k».proof.Proof.GdnDWab
public import proofs.«01_k».proof.Proof.GdnDOg
public import proofs.«01_k».proof.Proof.GdnDWo
public import proofs.«01_k».proof.Proof.GdnProj
public import proofs.«01_k».proof.Proof.GdnAb
public import proofs.«01_k».proof.Proof.GdnOut
public import proofs.«01_k».proof.Proof.AttCore
public import proofs.«01_k».proof.Proof.NormFwd
public import proofs.«01_k».proof.Proof.Scan
public import proofs.«01_k».proof.Proof.ScanGrad
public import proofs.«01_k».proof.Proof.LossHead
public import proofs.«01_k».proof.Proof.HeadNorm
public import proofs.«01_k».proof.Proof.QkvNorm
public import Idealize.ShloMosaic.Adequacy
public import Idealize.ShloMosaic.Init

@[expose] public section

noncomputable section

namespace Cert.Proof

open Idealize.ShloMosaic Idealize.SL.Sem Cert.Kernel

theorem reference_frame : quiescent_ReferenceIdeal (hReferenceIdeal := Cert.ReferenceIdeal.Gen.facts) := fun m ρ _ =>
  (θ_run Cert.ReferenceIdeal.defs _ _).mono (fun r h => ⟨fun c => (h c).2.2.2.2,
    Idealize.ShloMosaic.sem_eq_zero_of_no_sems (by decide) r.2⟩) (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Joined.preFacts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, Cert.Reference2Ideal.Hand.frame,
  fun m ρ _ => Cert.Kernel3.Gen.frame m ρ, fun m ρ _ => Cert.Kernel3Ideal.Gen.frame m ρ, Cert.Reference3Ideal.Hand.frame,
  fun m ρ _ => Cert.Kernel4.Gen.frame m ρ, fun m ρ _ => Cert.Kernel4Ideal.Gen.frame m ρ, Cert.Reference4Ideal.Hand.frame,
  fun m ρ _ => Cert.Kernel5.Gen.frame m ρ, fun m ρ _ => Cert.Kernel5Ideal.Gen.frame m ρ, Cert.Reference5Ideal.Hand.frame,
  fun m ρ _ => Cert.Kernel6.Gen.frame m ρ, fun m ρ _ => Cert.Kernel6Ideal.Gen.frame m ρ, Cert.Reference6Ideal.Hand.frame,
  fun m ρ _ => Cert.Kernel7.Gen.frame m ρ, fun m ρ _ => Cert.Kernel7Ideal.Gen.frame m ρ, Cert.Reference7Ideal.Hand.frame,
  fun m ρ _ => Cert.Kernel8.Gen.frame m ρ, fun m ρ _ => Cert.Kernel8Ideal.Gen.frame m ρ, Cert.Reference8Ideal.Hand.frame,
  fun m ρ _ => Cert.Kernel9.Gen.frame m ρ, fun m ρ _ => Cert.Kernel9Ideal.Gen.frame m ρ, Cert.Reference9Ideal.Hand.frame,
  fun m ρ _ => Cert.Kernel10.Gen.frame m ρ, fun m ρ _ => Cert.Kernel10Ideal.Gen.frame m ρ, Cert.Reference10Ideal.Hand.frame,
  fun m ρ _ => Cert.Kernel11.Gen.frame m ρ, fun m ρ _ => Cert.Kernel11Ideal.Gen.frame m ρ, Cert.Reference11Ideal.Hand.frame,
  fun m ρ _ => Cert.Kernel12.Gen.frame m ρ, fun m ρ _ => Cert.Kernel12Ideal.Gen.frame m ρ, Cert.Reference12Ideal.Hand.frame,
  fun m ρ _ => Cert.Kernel13.Gen.frame m ρ, fun m ρ _ => Cert.Kernel13Ideal.Gen.frame m ρ, Cert.Reference13Ideal.Hand.frame,
  fun m ρ _ => Cert.Kernel14.Gen.frame m ρ, fun m ρ _ => Cert.Kernel14Ideal.Gen.frame m ρ, Cert.Reference14Ideal.Hand.frame,
  fun m ρ _ => Cert.Kernel15.Gen.frame m ρ, fun m ρ _ => Cert.Kernel15Ideal.Gen.frame m ρ, Cert.Reference15Ideal.Hand.frame,
  fun m ρ _ => Cert.Kernel16.Gen.frame m ρ, fun m ρ _ => Cert.Kernel16Ideal.Gen.frame m ρ, Cert.Reference16Ideal.Hand.frame,
  fun m ρ _ => Cert.Kernel17.Gen.frame m ρ, fun m ρ _ => Cert.Kernel17Ideal.Gen.frame m ρ, Cert.Reference17Ideal.Hand.frame,
  fun m ρ _ => Cert.Kernel18.Gen.frame m ρ, fun m ρ _ => Cert.Kernel18Ideal.Gen.frame m ρ, Cert.Reference18Ideal.Hand.frame,
  fun m ρ _ => Cert.Kernel19.Gen.frame m ρ, fun m ρ _ => Cert.Kernel19Ideal.Gen.frame m ρ, Cert.Reference19Ideal.Hand.frame,
  fun m ρ _ => Cert.Kernel20.Gen.frame m ρ, fun m ρ _ => Cert.Kernel20Ideal.Gen.frame m ρ, Cert.Reference20Ideal.Hand.frame,
  fun m ρ _ => Cert.Kernel21.Gen.frame m ρ, fun m ρ _ => Cert.Kernel21Ideal.Gen.frame m ρ, Cert.Reference21Ideal.Hand.frame,
  fun m ρ _ => Cert.Kernel22.Gen.frame m ρ, fun m ρ _ => Cert.Kernel22Ideal.Gen.frame m ρ, Cert.Reference22Ideal.Hand.frame,
  fun m ρ _ => Cert.Kernel23.Gen.frame m ρ, fun m ρ _ => Cert.Kernel23Ideal.Gen.frame m ρ, Cert.Reference23Ideal.Hand.frame,
  fun m ρ _ => Cert.Kernel24.Gen.frame m ρ, fun m ρ _ => Cert.Kernel24Ideal.Gen.frame m ρ, Cert.Reference24Ideal.Hand.frame,
  fun m ρ _ => Cert.Kernel25.Gen.frame m ρ, fun m ρ _ => Cert.Kernel25Ideal.Gen.frame m ρ, Cert.Reference25Ideal.Hand.frame,
  fun m ρ _ => Cert.Kernel26.Gen.frame m ρ, fun m ρ _ => Cert.Kernel26Ideal.Gen.frame m ρ, Cert.Reference26Ideal.Hand.frame,
  fun m ρ _ => Cert.Kernel27.Gen.frame m ρ, fun m ρ _ => Cert.Kernel27Ideal.Gen.frame m ρ, Cert.Reference27Ideal.Hand.frame,
  fun m ρ _ => Cert.Kernel28.Gen.frame m ρ, fun m ρ _ => Cert.Kernel28Ideal.Gen.frame m ρ, Cert.Reference28Ideal.Hand.frame,
  fun m ρ _ => Cert.Kernel29.Gen.frame m ρ, fun m ρ _ => Cert.Kernel29Ideal.Gen.frame m ρ, Cert.Reference29Ideal.Hand.frame,
  IdealRules.named_const.statement Cert.KernelIdeal.κ "mask" .f32 0xF149F2CA#32 ⊥ rfl,
  Cert.Joined.algebraic,
  trivial, Cert.Reference2Ideal.Hand.algebraic,
  trivial, Cert.Reference3Ideal.Hand.algebraic,
  trivial, Cert.Reference4Ideal.Hand.algebraic,
  trivial, Cert.Reference5Ideal.Hand.algebraic,
  trivial, Cert.Reference6Ideal.Hand.algebraic,
  trivial, Cert.Reference7Ideal.Hand.algebraic,
  trivial, Cert.Reference8Ideal.Hand.algebraic,
  trivial, Cert.Reference9Ideal.Hand.algebraic,
  trivial, Cert.Reference10Ideal.Hand.algebraic,
  trivial, Cert.Reference11Ideal.Hand.algebraic,
  trivial, Cert.Reference12Ideal.Hand.algebraic,
  trivial, Cert.Reference13Ideal.Hand.algebraic,
  trivial, Cert.Reference14Ideal.Hand.algebraic,
  trivial, Cert.Reference15Ideal.Hand.algebraic,
  trivial, Cert.Reference16Ideal.Hand.algebraic,
  trivial, Cert.Reference17Ideal.Hand.algebraic,
  trivial, Cert.Reference18Ideal.Hand.algebraic,
  trivial, Cert.Reference19Ideal.Hand.algebraic,
  trivial, Cert.Reference20Ideal.Hand.algebraic,
  trivial, Cert.Reference21Ideal.Hand.algebraic,
  trivial, Cert.Reference22Ideal.Hand.algebraic,
  IdealRules.named_const.statement Cert.Kernel23Ideal.κ "mask" .f32 0xF149F2CA#32 ⊥ rfl, Cert.Reference23Ideal.Hand.algebraic,
  trivial, Cert.Reference24Ideal.Hand.algebraic,
  trivial, Cert.Reference25Ideal.Hand.algebraic,
  trivial, Cert.Reference26Ideal.Hand.algebraic,
  trivial, Cert.Reference27Ideal.Hand.algebraic,
  trivial, Cert.Reference28Ideal.Hand.algebraic,
  trivial, Cert.Reference29Ideal.Hand.algebraic⟩

end Cert.Proof

end
